-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up [hPre_up_experts : Cert.Pre_up_experts.Facts] (m : (ℓ : Loc Cert.Up.nD Cert.Up.τ Cert.Up.sig) → Buf (Elt Bits) ℓ) : Prop :=
  ∀ c : Dev Cert.Up.nD,
    (Cert.Pre_up_experts.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3))) = (fun _ => 1#1)

def Pre_UpIdeal [hPre_up_experts : Cert.Pre_up_experts.Facts] (m : (ℓ : Loc Cert.UpIdeal.nD Cert.UpIdeal.τ Cert.UpIdeal.sig) → Buf (Elt Ideal) ℓ) : Prop :=
  ∀ c : Dev Cert.UpIdeal.nD,
    (Cert.Pre_up_experts.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))) = (fun _ => 1#1)

def Pre_UpReferenceIdeal [hPre_up_experts : Cert.Pre_up_experts.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_up_experts.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3))) = (fun _ => 1#1)

def Pre_Down [hPre_down_experts : Cert.Pre_down_experts.Facts] (m : (ℓ : Loc Cert.Down.nD Cert.Down.τ Cert.Down.sig) → Buf (Elt Bits) ℓ) : Prop :=
  ∀ c : Dev Cert.Down.nD,
    (Cert.Pre_down_experts.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2))) = (fun _ => 1#1)

def Pre_DownIdeal [hPre_down_experts : Cert.Pre_down_experts.Facts] (m : (ℓ : Loc Cert.DownIdeal.nD Cert.DownIdeal.τ Cert.DownIdeal.sig) → Buf (Elt Ideal) ℓ) : Prop :=
  ∀ c : Dev Cert.DownIdeal.nD,
    (Cert.Pre_down_experts.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))) = (fun _ => 1#1)

def Pre_DownReferenceIdeal [hPre_down_experts : Cert.Pre_down_experts.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_down_experts.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedReferenceIdeal (m : (ℓ : Loc Cert.MixedReferenceIdeal.nD Cert.MixedReferenceIdeal.τ Cert.MixedReferenceIdeal.sig) → Buf (Elt Ideal) ℓ) : Prop :=
  True

def Pre_Fall (m : (ℓ : Loc Cert.Fall.nD Cert.Fall.τ Cert.Fall.sig) → Buf (Elt Bits) ℓ) : Prop :=
  True

def Pre_FallIdeal (m : (ℓ : Loc Cert.FallIdeal.nD Cert.FallIdeal.τ Cert.FallIdeal.sig) → Buf (Elt Ideal) ℓ) : Prop :=
  True

def Pre_FallReferenceIdeal (m : (ℓ : Loc Cert.FallReferenceIdeal.nD Cert.FallReferenceIdeal.τ Cert.FallReferenceIdeal.sig) → Buf (Elt Ideal) ℓ) : Prop :=
  True

def Pre_Rise (m : (ℓ : Loc Cert.Rise.nD Cert.Rise.τ Cert.Rise.sig) → Buf (Elt Bits) ℓ) : Prop :=
  True

def Pre_RiseIdeal (m : (ℓ : Loc Cert.RiseIdeal.nD Cert.RiseIdeal.τ Cert.RiseIdeal.sig) → Buf (Elt Ideal) ℓ) : Prop :=
  True

def Pre_RiseReferenceIdeal (m : (ℓ : Loc Cert.RiseReferenceIdeal.nD Cert.RiseReferenceIdeal.τ Cert.RiseReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallIdeal_finite_norm [hPre_finite_norm : Cert.Pre_finite_norm.Facts] (m : (ℓ : Loc Cert.SmallIdeal.nD Cert.SmallIdeal.τ Cert.SmallIdeal.sig) → Buf (Elt Ideal) ℓ) : Prop :=
  ∀ c : Dev Cert.SmallIdeal.nD,
    (Cert.Pre_finite_norm.fn (F := Ideal) (m ((c.tc : Thread Cert.SmallIdeal.nD Cert.SmallIdeal.τ).loc Cert.SmallIdeal.main_arg0)) (m ((c.tc : Thread Cert.SmallIdeal.nD Cert.SmallIdeal.τ).loc Cert.SmallIdeal.main_arg1)) (m ((c.tc : Thread Cert.SmallIdeal.nD Cert.SmallIdeal.τ).loc Cert.SmallIdeal.main_arg2))) = (fun _ => 1#1)

def Pre_SmallReferenceIdeal (m : (ℓ : Loc Cert.SmallReferenceIdeal.nD Cert.SmallReferenceIdeal.τ Cert.SmallReferenceIdeal.sig) → Buf (Elt Ideal) ℓ) : Prop :=
  True

def Pre_SmallReferenceIdeal_finite_norm [hPre_finite_norm : Cert.Pre_finite_norm.Facts] (m : (ℓ : Loc Cert.SmallReferenceIdeal.nD Cert.SmallReferenceIdeal.τ Cert.SmallReferenceIdeal.sig) → Buf (Elt Ideal) ℓ) : Prop :=
  ∀ c : Dev Cert.SmallReferenceIdeal.nD,
    (Cert.Pre_finite_norm.fn (F := Ideal) (m ((c.tc : Thread Cert.SmallReferenceIdeal.nD Cert.SmallReferenceIdeal.τ).loc Cert.SmallReferenceIdeal.main_arg0)) (m ((c.tc : Thread Cert.SmallReferenceIdeal.nD Cert.SmallReferenceIdeal.τ).loc Cert.SmallReferenceIdeal.main_arg1)) (m ((c.tc : Thread Cert.SmallReferenceIdeal.nD Cert.SmallReferenceIdeal.τ).loc Cert.SmallReferenceIdeal.main_arg2))) = (fun _ => 1#1)

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetIdeal_finite_logits [hPre_finite_logits : Cert.Pre_finite_logits.Facts] (m : (ℓ : Loc Cert.ForgetIdeal.nD Cert.ForgetIdeal.τ Cert.ForgetIdeal.sig) → Buf (Elt Ideal) ℓ) : Prop :=
  ∀ c : Dev Cert.ForgetIdeal.nD,
    (Cert.Pre_finite_logits.fn (F := Ideal) (m ((c.tc : Thread Cert.ForgetIdeal.nD Cert.ForgetIdeal.τ).loc Cert.ForgetIdeal.main_arg0)) (m ((c.tc : Thread Cert.ForgetIdeal.nD Cert.ForgetIdeal.τ).loc Cert.ForgetIdeal.main_arg1))) = (fun _ => 1#1)

def Pre_ForgetReferenceIdeal (m : (ℓ : Loc Cert.ForgetReferenceIdeal.nD Cert.ForgetReferenceIdeal.τ Cert.ForgetReferenceIdeal.sig) → Buf (Elt Ideal) ℓ) : Prop :=
  True

def Pre_ForgetReferenceIdeal_finite_logits [hPre_finite_logits : Cert.Pre_finite_logits.Facts] (m : (ℓ : Loc Cert.ForgetReferenceIdeal.nD Cert.ForgetReferenceIdeal.τ Cert.ForgetReferenceIdeal.sig) → Buf (Elt Ideal) ℓ) : Prop :=
  ∀ c : Dev Cert.ForgetReferenceIdeal.nD,
    (Cert.Pre_finite_logits.fn (F := Ideal) (m ((c.tc : Thread Cert.ForgetReferenceIdeal.nD Cert.ForgetReferenceIdeal.τ).loc Cert.ForgetReferenceIdeal.main_arg0)) (m ((c.tc : Thread Cert.ForgetReferenceIdeal.nD Cert.ForgetReferenceIdeal.τ).loc Cert.ForgetReferenceIdeal.main_arg1))) = (fun _ => 1#1)

def Pre_Decay (m : (ℓ : Loc Cert.Decay.nD Cert.Decay.τ Cert.Decay.sig) → Buf (Elt Bits) ℓ) : Prop :=
  True

def Pre_DecayIdeal (m : (ℓ : Loc Cert.DecayIdeal.nD Cert.DecayIdeal.τ Cert.DecayIdeal.sig) → Buf (Elt Ideal) ℓ) : Prop :=
  True

def Pre_DecayIdeal_finite_logits [hPre_finite_logits : Cert.Pre_finite_logits.Facts] (m : (ℓ : Loc Cert.DecayIdeal.nD Cert.DecayIdeal.τ Cert.DecayIdeal.sig) → Buf (Elt Ideal) ℓ) : Prop :=
  ∀ c : Dev Cert.DecayIdeal.nD,
    (Cert.Pre_finite_logits.fn (F := Ideal) (m ((c.tc : Thread Cert.DecayIdeal.nD Cert.DecayIdeal.τ).loc Cert.DecayIdeal.main_arg0)) (m ((c.tc : Thread Cert.DecayIdeal.nD Cert.DecayIdeal.τ).loc Cert.DecayIdeal.main_arg1))) = (fun _ => 1#1)

def Pre_DecayReferenceIdeal (m : (ℓ : Loc Cert.DecayReferenceIdeal.nD Cert.DecayReferenceIdeal.τ Cert.DecayReferenceIdeal.sig) → Buf (Elt Ideal) ℓ) : Prop :=
  True

def Pre_DecayReferenceIdeal_finite_logits [hPre_finite_logits : Cert.Pre_finite_logits.Facts] (m : (ℓ : Loc Cert.DecayReferenceIdeal.nD Cert.DecayReferenceIdeal.τ Cert.DecayReferenceIdeal.sig) → Buf (Elt Ideal) ℓ) : Prop :=
  ∀ c : Dev Cert.DecayReferenceIdeal.nD,
    (Cert.Pre_finite_logits.fn (F := Ideal) (m ((c.tc : Thread Cert.DecayReferenceIdeal.nD Cert.DecayReferenceIdeal.τ).loc Cert.DecayReferenceIdeal.main_arg0)) (m ((c.tc : Thread Cert.DecayReferenceIdeal.nD Cert.DecayReferenceIdeal.τ).loc Cert.DecayReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] [hPre_up_experts : Cert.Pre_up_experts.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] [hPre_up_experts : Cert.Pre_up_experts.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] [hPre_up_experts : Cert.Pre_up_experts.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_Down [hDown : Cert.Down.Facts] [hPre_down_experts : Cert.Pre_down_experts.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] [hPre_down_experts : Cert.Pre_down_experts.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] [hPre_down_experts : Cert.Pre_down_experts.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2))
      ∧ r.2.sem = fun _ => 0)

def quiescent_MixedReferenceIdeal [hMixedReferenceIdeal : Cert.MixedReferenceIdeal.Facts] : Prop :=
  ∀ (m : (ℓ : Loc Cert.MixedReferenceIdeal.nD Cert.MixedReferenceIdeal.τ Cert.MixedReferenceIdeal.sig) → Buf (Elt Ideal) ℓ) (g : Dev Cert.MixedReferenceIdeal.nD → PrngReg), Pre_MixedReferenceIdeal m →
    θ_run (Cert.MixedReferenceIdeal.defs (F := Ideal)) (onTc (τ := Cert.MixedReferenceIdeal.τ) (Cert.MixedReferenceIdeal.main (F := Ideal))) ⟨m, fun _ => 0, g⟩ (fun r => (∀ c : Dev Cert.MixedReferenceIdeal.nD,
      r.2.mem ((c.tc : Thread Cert.MixedReferenceIdeal.nD Cert.MixedReferenceIdeal.τ).loc Cert.MixedReferenceIdeal.main_arg0) = m ((c.tc : Thread Cert.MixedReferenceIdeal.nD Cert.MixedReferenceIdeal.τ).loc Cert.MixedReferenceIdeal.main_arg0)
      ∧ r.2.mem ((c.tc : Thread Cert.MixedReferenceIdeal.nD Cert.MixedReferenceIdeal.τ).loc Cert.MixedReferenceIdeal.main_arg1) = m ((c.tc : Thread Cert.MixedReferenceIdeal.nD Cert.MixedReferenceIdeal.τ).loc Cert.MixedReferenceIdeal.main_arg1)
      ∧ r.2.mem ((c.tc : Thread Cert.MixedReferenceIdeal.nD Cert.MixedReferenceIdeal.τ).loc Cert.MixedReferenceIdeal.main_arg2) = m ((c.tc : Thread Cert.MixedReferenceIdeal.nD Cert.MixedReferenceIdeal.τ).loc Cert.MixedReferenceIdeal.main_arg2))
      ∧ r.2.sem = fun _ => 0)

def quiescent_Fall [hFall : Cert.Fall.Facts] : Prop :=
  ∀ (m : (ℓ : Loc Cert.Fall.nD Cert.Fall.τ Cert.Fall.sig) → Buf (Elt Bits) ℓ) (g : Dev Cert.Fall.nD → PrngReg), Pre_Fall m →
    θ_run (Cert.Fall.defs (F := Bits)) (onTc (τ := Cert.Fall.τ) (Cert.Fall.main (F := Bits))) ⟨m, fun _ => 0, g⟩ (fun r => (∀ c : Dev Cert.Fall.nD,
      r.2.mem ((c.tc : Thread Cert.Fall.nD Cert.Fall.τ).loc Cert.Fall.main_arg0) = m ((c.tc : Thread Cert.Fall.nD Cert.Fall.τ).loc Cert.Fall.main_arg0)
      ∧ r.2.mem ((c.tc : Thread Cert.Fall.nD Cert.Fall.τ).loc Cert.Fall.main_arg1) = m ((c.tc : Thread Cert.Fall.nD Cert.Fall.τ).loc Cert.Fall.main_arg1)
      ∧ r.2.mem ((c.tc : Thread Cert.Fall.nD Cert.Fall.τ).loc Cert.Fall.main_arg2) = m ((c.tc : Thread Cert.Fall.nD Cert.Fall.τ).loc Cert.Fall.main_arg2))
      ∧ r.2.sem = fun _ => 0)

def quiescent_FallIdeal [hFallIdeal : Cert.FallIdeal.Facts] : Prop :=
  ∀ (m : (ℓ : Loc Cert.FallIdeal.nD Cert.FallIdeal.τ Cert.FallIdeal.sig) → Buf (Elt Ideal) ℓ) (g : Dev Cert.FallIdeal.nD → PrngReg), Pre_FallIdeal m →
    θ_run (Cert.FallIdeal.defs (F := Ideal)) (onTc (τ := Cert.FallIdeal.τ) (Cert.FallIdeal.main (F := Ideal))) ⟨m, fun _ => 0, g⟩ (fun r => (∀ c : Dev Cert.FallIdeal.nD,
      r.2.mem ((c.tc : Thread Cert.FallIdeal.nD Cert.FallIdeal.τ).loc Cert.FallIdeal.main_arg0) = m ((c.tc : Thread Cert.FallIdeal.nD Cert.FallIdeal.τ).loc Cert.FallIdeal.main_arg0)
      ∧ r.2.mem ((c.tc : Thread Cert.FallIdeal.nD Cert.FallIdeal.τ).loc Cert.FallIdeal.main_arg1) = m ((c.tc : Thread Cert.FallIdeal.nD Cert.FallIdeal.τ).loc Cert.FallIdeal.main_arg1)
      ∧ r.2.mem ((c.tc : Thread Cert.FallIdeal.nD Cert.FallIdeal.τ).loc Cert.FallIdeal.main_arg2) = m ((c.tc : Thread Cert.FallIdeal.nD Cert.FallIdeal.τ).loc Cert.FallIdeal.main_arg2))
      ∧ r.2.sem = fun _ => 0)

def quiescent_FallReferenceIdeal [hFallReferenceIdeal : Cert.FallReferenceIdeal.Facts] : Prop :=
  ∀ (m : (ℓ : Loc Cert.FallReferenceIdeal.nD Cert.FallReferenceIdeal.τ Cert.FallReferenceIdeal.sig) → Buf (Elt Ideal) ℓ) (g : Dev Cert.FallReferenceIdeal.nD → PrngReg), Pre_FallReferenceIdeal m →
    θ_run (Cert.FallReferenceIdeal.defs (F := Ideal)) (onTc (τ := Cert.FallReferenceIdeal.τ) (Cert.FallReferenceIdeal.main (F := Ideal))) ⟨m, fun _ => 0, g⟩ (fun r => (∀ c : Dev Cert.FallReferenceIdeal.nD,
      r.2.mem ((c.tc : Thread Cert.FallReferenceIdeal.nD Cert.FallReferenceIdeal.τ).loc Cert.FallReferenceIdeal.main_arg0) = m ((c.tc : Thread Cert.FallReferenceIdeal.nD Cert.FallReferenceIdeal.τ).loc Cert.FallReferenceIdeal.main_arg0)
      ∧ r.2.mem ((c.tc : Thread Cert.FallReferenceIdeal.nD Cert.FallReferenceIdeal.τ).loc Cert.FallReferenceIdeal.main_arg1) = m ((c.tc : Thread Cert.FallReferenceIdeal.nD Cert.FallReferenceIdeal.τ).loc Cert.FallReferenceIdeal.main_arg1)
      ∧ r.2.mem ((c.tc : Thread Cert.FallReferenceIdeal.nD Cert.FallReferenceIdeal.τ).loc Cert.FallReferenceIdeal.main_arg2) = m ((c.tc : Thread Cert.FallReferenceIdeal.nD Cert.FallReferenceIdeal.τ).loc Cert.FallReferenceIdeal.main_arg2))
      ∧ r.2.sem = fun _ => 0)

def quiescent_Rise [hRise : Cert.Rise.Facts] : Prop :=
  ∀ (m : (ℓ : Loc Cert.Rise.nD Cert.Rise.τ Cert.Rise.sig) → Buf (Elt Bits) ℓ) (g : Dev Cert.Rise.nD → PrngReg), Pre_Rise m →
    θ_run (Cert.Rise.defs (F := Bits)) (onTc (τ := Cert.Rise.τ) (Cert.Rise.main (F := Bits))) ⟨m, fun _ => 0, g⟩ (fun r => (∀ c : Dev Cert.Rise.nD,
      r.2.mem ((c.tc : Thread Cert.Rise.nD Cert.Rise.τ).loc Cert.Rise.main_arg0) = m ((c.tc : Thread Cert.Rise.nD Cert.Rise.τ).loc Cert.Rise.main_arg0)
      ∧ r.2.mem ((c.tc : Thread Cert.Rise.nD Cert.Rise.τ).loc Cert.Rise.main_arg1) = m ((c.tc : Thread Cert.Rise.nD Cert.Rise.τ).loc Cert.Rise.main_arg1)
      ∧ r.2.mem ((c.tc : Thread Cert.Rise.nD Cert.Rise.τ).loc Cert.Rise.main_arg2) = m ((c.tc : Thread Cert.Rise.nD Cert.Rise.τ).loc Cert.Rise.main_arg2))
      ∧ r.2.sem = fun _ => 0)

def quiescent_RiseIdeal [hRiseIdeal : Cert.RiseIdeal.Facts] : Prop :=
  ∀ (m : (ℓ : Loc Cert.RiseIdeal.nD Cert.RiseIdeal.τ Cert.RiseIdeal.sig) → Buf (Elt Ideal) ℓ) (g : Dev Cert.RiseIdeal.nD → PrngReg), Pre_RiseIdeal m →
    θ_run (Cert.RiseIdeal.defs (F := Ideal)) (onTc (τ := Cert.RiseIdeal.τ) (Cert.RiseIdeal.main (F := Ideal))) ⟨m, fun _ => 0, g⟩ (fun r => (∀ c : Dev Cert.RiseIdeal.nD,
      r.2.mem ((c.tc : Thread Cert.RiseIdeal.nD Cert.RiseIdeal.τ).loc Cert.RiseIdeal.main_arg0) = m ((c.tc : Thread Cert.RiseIdeal.nD Cert.RiseIdeal.τ).loc Cert.RiseIdeal.main_arg0)
      ∧ r.2.mem ((c.tc : Thread Cert.RiseIdeal.nD Cert.RiseIdeal.τ).loc Cert.RiseIdeal.main_arg1) = m ((c.tc : Thread Cert.RiseIdeal.nD Cert.RiseIdeal.τ).loc Cert.RiseIdeal.main_arg1)
      ∧ r.2.mem ((c.tc : Thread Cert.RiseIdeal.nD Cert.RiseIdeal.τ).loc Cert.RiseIdeal.main_arg2) = m ((c.tc : Thread Cert.RiseIdeal.nD Cert.RiseIdeal.τ).loc Cert.RiseIdeal.main_arg2))
      ∧ r.2.sem = fun _ => 0)

def quiescent_RiseReferenceIdeal [hRiseReferenceIdeal : Cert.RiseReferenceIdeal.Facts] : Prop :=
  ∀ (m : (ℓ : Loc Cert.RiseReferenceIdeal.nD Cert.RiseReferenceIdeal.τ Cert.RiseReferenceIdeal.sig) → Buf (Elt Ideal) ℓ) (g : Dev Cert.RiseReferenceIdeal.nD → PrngReg), Pre_RiseReferenceIdeal m →
    θ_run (Cert.RiseReferenceIdeal.defs (F := Ideal)) (onTc (τ := Cert.RiseReferenceIdeal.τ) (Cert.RiseReferenceIdeal.main (F := Ideal))) ⟨m, fun _ => 0, g⟩ (fun r => (∀ c : Dev Cert.RiseReferenceIdeal.nD,
      r.2.mem ((c.tc : Thread Cert.RiseReferenceIdeal.nD Cert.RiseReferenceIdeal.τ).loc Cert.RiseReferenceIdeal.main_arg0) = m ((c.tc : Thread Cert.RiseReferenceIdeal.nD Cert.RiseReferenceIdeal.τ).loc Cert.RiseReferenceIdeal.main_arg0)
      ∧ r.2.mem ((c.tc : Thread Cert.RiseReferenceIdeal.nD Cert.RiseReferenceIdeal.τ).loc Cert.RiseReferenceIdeal.main_arg1) = m ((c.tc : Thread Cert.RiseReferenceIdeal.nD Cert.RiseReferenceIdeal.τ).loc Cert.RiseReferenceIdeal.main_arg1)
      ∧ r.2.mem ((c.tc : Thread Cert.RiseReferenceIdeal.nD Cert.RiseReferenceIdeal.τ).loc Cert.RiseReferenceIdeal.main_arg2) = m ((c.tc : Thread Cert.RiseReferenceIdeal.nD Cert.RiseReferenceIdeal.τ).loc Cert.RiseReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ r.2.sem = fun _ => 0)

def quiescent_SmallIdeal_pre_finite_norm [hSmallIdeal : Cert.SmallIdeal.Facts] [hPre_finite_norm : Cert.Pre_finite_norm.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal_finite_norm m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2))
      ∧ r.2.sem = fun _ => 0)

def quiescent_SmallReferenceIdeal_pre_finite_norm [hSmallReferenceIdeal : Cert.SmallReferenceIdeal.Facts] [hPre_finite_norm : Cert.Pre_finite_norm.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal_finite_norm m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ r.2.sem = fun _ => 0)

def quiescent_ForgetIdeal_pre_finite_logits [hForgetIdeal : Cert.ForgetIdeal.Facts] [hPre_finite_logits : Cert.Pre_finite_logits.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal_finite_logits m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ r.2.sem = fun _ => 0)

def quiescent_ForgetReferenceIdeal [hForgetReferenceIdeal : Cert.ForgetReferenceIdeal.Facts] : Prop :=
  ∀ (m : (ℓ : Loc Cert.ForgetReferenceIdeal.nD Cert.ForgetReferenceIdeal.τ Cert.ForgetReferenceIdeal.sig) → Buf (Elt Ideal) ℓ) (g : Dev Cert.ForgetReferenceIdeal.nD → PrngReg), Pre_ForgetReferenceIdeal m →
    θ_run (Cert.ForgetReferenceIdeal.defs (F := Ideal)) (onTc (τ := Cert.ForgetReferenceIdeal.τ) (Cert.ForgetReferenceIdeal.main (F := Ideal))) ⟨m, fun _ => 0, g⟩ (fun r => (∀ c : Dev Cert.ForgetReferenceIdeal.nD,
      r.2.mem ((c.tc : Thread Cert.ForgetReferenceIdeal.nD Cert.ForgetReferenceIdeal.τ).loc Cert.ForgetReferenceIdeal.main_arg0) = m ((c.tc : Thread Cert.ForgetReferenceIdeal.nD Cert.ForgetReferenceIdeal.τ).loc Cert.ForgetReferenceIdeal.main_arg0)
      ∧ r.2.mem ((c.tc : Thread Cert.ForgetReferenceIdeal.nD Cert.ForgetReferenceIdeal.τ).loc Cert.ForgetReferenceIdeal.main_arg1) = m ((c.tc : Thread Cert.ForgetReferenceIdeal.nD Cert.ForgetReferenceIdeal.τ).loc Cert.ForgetReferenceIdeal.main_arg1))
      ∧ r.2.sem = fun _ => 0)

def quiescent_ForgetReferenceIdeal_pre_finite_logits [hForgetReferenceIdeal : Cert.ForgetReferenceIdeal.Facts] [hPre_finite_logits : Cert.Pre_finite_logits.Facts] : Prop :=
  ∀ (m : (ℓ : Loc Cert.ForgetReferenceIdeal.nD Cert.ForgetReferenceIdeal.τ Cert.ForgetReferenceIdeal.sig) → Buf (Elt Ideal) ℓ) (g : Dev Cert.ForgetReferenceIdeal.nD → PrngReg), Pre_ForgetReferenceIdeal_finite_logits m →
    θ_run (Cert.ForgetReferenceIdeal.defs (F := Ideal)) (onTc (τ := Cert.ForgetReferenceIdeal.τ) (Cert.ForgetReferenceIdeal.main (F := Ideal))) ⟨m, fun _ => 0, g⟩ (fun r => (∀ c : Dev Cert.ForgetReferenceIdeal.nD,
      r.2.mem ((c.tc : Thread Cert.ForgetReferenceIdeal.nD Cert.ForgetReferenceIdeal.τ).loc Cert.ForgetReferenceIdeal.main_arg0) = m ((c.tc : Thread Cert.ForgetReferenceIdeal.nD Cert.ForgetReferenceIdeal.τ).loc Cert.ForgetReferenceIdeal.main_arg0)
      ∧ r.2.mem ((c.tc : Thread Cert.ForgetReferenceIdeal.nD Cert.ForgetReferenceIdeal.τ).loc Cert.ForgetReferenceIdeal.main_arg1) = m ((c.tc : Thread Cert.ForgetReferenceIdeal.nD Cert.ForgetReferenceIdeal.τ).loc Cert.ForgetReferenceIdeal.main_arg1))
      ∧ r.2.sem = fun _ => 0)

def quiescent_Decay [hDecay : Cert.Decay.Facts] : Prop :=
  ∀ (m : (ℓ : Loc Cert.Decay.nD Cert.Decay.τ Cert.Decay.sig) → Buf (Elt Bits) ℓ) (g : Dev Cert.Decay.nD → PrngReg), Pre_Decay m →
    θ_run (Cert.Decay.defs (F := Bits)) (onTc (τ := Cert.Decay.τ) (Cert.Decay.main (F := Bits))) ⟨m, fun _ => 0, g⟩ (fun r => (∀ c : Dev Cert.Decay.nD,
      r.2.mem ((c.tc : Thread Cert.Decay.nD Cert.Decay.τ).loc Cert.Decay.main_arg0) = m ((c.tc : Thread Cert.Decay.nD Cert.Decay.τ).loc Cert.Decay.main_arg0)
      ∧ r.2.mem ((c.tc : Thread Cert.Decay.nD Cert.Decay.τ).loc Cert.Decay.main_arg1) = m ((c.tc : Thread Cert.Decay.nD Cert.Decay.τ).loc Cert.Decay.main_arg1))
      ∧ r.2.sem = fun _ => 0)

def quiescent_DecayIdeal [hDecayIdeal : Cert.DecayIdeal.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
      ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1))
      ∧ r.2.sem = fun _ => 0)

def quiescent_DecayIdeal_pre_finite_logits [hDecayIdeal : Cert.DecayIdeal.Facts] [hPre_finite_logits : Cert.Pre_finite_logits.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal_finite_logits m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
      ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1))
      ∧ r.2.sem = fun _ => 0)

def quiescent_DecayReferenceIdeal [hDecayReferenceIdeal : Cert.DecayReferenceIdeal.Facts] : Prop :=
  ∀ (m : (ℓ : Loc Cert.DecayReferenceIdeal.nD Cert.DecayReferenceIdeal.τ Cert.DecayReferenceIdeal.sig) → Buf (Elt Ideal) ℓ) (g : Dev Cert.DecayReferenceIdeal.nD → PrngReg), Pre_DecayReferenceIdeal m →
    θ_run (Cert.DecayReferenceIdeal.defs (F := Ideal)) (onTc (τ := Cert.DecayReferenceIdeal.τ) (Cert.DecayReferenceIdeal.main (F := Ideal))) ⟨m, fun _ => 0, g⟩ (fun r => (∀ c : Dev Cert.DecayReferenceIdeal.nD,
      r.2.mem ((c.tc : Thread Cert.DecayReferenceIdeal.nD Cert.DecayReferenceIdeal.τ).loc Cert.DecayReferenceIdeal.main_arg0) = m ((c.tc : Thread Cert.DecayReferenceIdeal.nD Cert.DecayReferenceIdeal.τ).loc Cert.DecayReferenceIdeal.main_arg0)
      ∧ r.2.mem ((c.tc : Thread Cert.DecayReferenceIdeal.nD Cert.DecayReferenceIdeal.τ).loc Cert.DecayReferenceIdeal.main_arg1) = m ((c.tc : Thread Cert.DecayReferenceIdeal.nD Cert.DecayReferenceIdeal.τ).loc Cert.DecayReferenceIdeal.main_arg1))
      ∧ r.2.sem = fun _ => 0)

def quiescent_DecayReferenceIdeal_pre_finite_logits [hDecayReferenceIdeal : Cert.DecayReferenceIdeal.Facts] [hPre_finite_logits : Cert.Pre_finite_logits.Facts] : Prop :=
  ∀ (m : (ℓ : Loc Cert.DecayReferenceIdeal.nD Cert.DecayReferenceIdeal.τ Cert.DecayReferenceIdeal.sig) → Buf (Elt Ideal) ℓ) (g : Dev Cert.DecayReferenceIdeal.nD → PrngReg), Pre_DecayReferenceIdeal_finite_logits m →
    θ_run (Cert.DecayReferenceIdeal.defs (F := Ideal)) (onTc (τ := Cert.DecayReferenceIdeal.τ) (Cert.DecayReferenceIdeal.main (F := Ideal))) ⟨m, fun _ => 0, g⟩ (fun r => (∀ c : Dev Cert.DecayReferenceIdeal.nD,
      r.2.mem ((c.tc : Thread Cert.DecayReferenceIdeal.nD Cert.DecayReferenceIdeal.τ).loc Cert.DecayReferenceIdeal.main_arg0) = m ((c.tc : Thread Cert.DecayReferenceIdeal.nD Cert.DecayReferenceIdeal.τ).loc Cert.DecayReferenceIdeal.main_arg0)
      ∧ r.2.mem ((c.tc : Thread Cert.DecayReferenceIdeal.nD Cert.DecayReferenceIdeal.τ).loc Cert.DecayReferenceIdeal.main_arg1) = m ((c.tc : Thread Cert.DecayReferenceIdeal.nD Cert.DecayReferenceIdeal.τ).loc Cert.DecayReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpReferenceIdeal [hUpIdeal : Cert.UpIdeal.Facts] [hUpReferenceIdeal : Cert.UpReferenceIdeal.Facts] [hPre_up_experts : Cert.Pre_up_experts.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v108) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_Down_DownIdeal : Prop :=
  True

def algebraic_DownIdeal_DownReferenceIdeal [hDownIdeal : Cert.DownIdeal.Facts] [hDownReferenceIdeal : Cert.DownReferenceIdeal.Facts] [hPre_down_experts : Cert.Pre_down_experts.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v67) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v4) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Mixed_MixedIdeal : Prop :=
  True

def algebraic_MixedIdeal_MixedReferenceIdeal [hMixedIdeal : Cert.MixedIdeal.Facts] [hMixedReferenceIdeal : Cert.MixedReferenceIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedReferenceIdeal.nD Cert.MixedReferenceIdeal.τ Cert.MixedReferenceIdeal.sig) → Buf (Elt Ideal) ℓ) (g' : Dev Cert.MixedReferenceIdeal.nD → PrngReg), Pre_MixedIdeal m →
    (∀ c : Dev Cert.MixedIdeal.nD,
      m' ((c.tc : Thread Cert.MixedReferenceIdeal.nD Cert.MixedReferenceIdeal.τ).loc Cert.MixedReferenceIdeal.main_arg0) = m ((c.tc : Thread Cert.MixedIdeal.nD Cert.MixedIdeal.τ).loc Cert.MixedIdeal.main_arg0)
      ∧ m' ((c.tc : Thread Cert.MixedReferenceIdeal.nD Cert.MixedReferenceIdeal.τ).loc Cert.MixedReferenceIdeal.main_arg1) = m ((c.tc : Thread Cert.MixedIdeal.nD Cert.MixedIdeal.τ).loc Cert.MixedIdeal.main_arg1)
      ∧ m' ((c.tc : Thread Cert.MixedReferenceIdeal.nD Cert.MixedReferenceIdeal.τ).loc Cert.MixedReferenceIdeal.main_arg2) = m ((c.tc : Thread Cert.MixedIdeal.nD Cert.MixedIdeal.τ).loc Cert.MixedIdeal.main_arg2)) →
    ∃ (v0 : (c : Dev Cert.MixedIdeal.nD) → Buf (Elt Ideal) ((c.tc : Thread Cert.MixedIdeal.nD Cert.MixedIdeal.τ).loc Cert.MixedIdeal.main_v0)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v0) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2))
      ∧ θ_run (Cert.MixedReferenceIdeal.defs (F := Ideal)) (onTc (τ := Cert.MixedReferenceIdeal.τ) (Cert.MixedReferenceIdeal.main (F := Ideal))) ⟨m', fun _ => 0, g'⟩ (fun r => ∀ c : Dev Cert.MixedReferenceIdeal.nD,
          r.2.mem ((c.tc : Thread Cert.MixedReferenceIdeal.nD Cert.MixedReferenceIdeal.τ).loc Cert.MixedReferenceIdeal.main_v4) = v0 c
          ∧ r.2.mem ((c.tc : Thread Cert.MixedReferenceIdeal.nD Cert.MixedReferenceIdeal.τ).loc Cert.MixedReferenceIdeal.main_arg0) = m' ((c.tc : Thread Cert.MixedReferenceIdeal.nD Cert.MixedReferenceIdeal.τ).loc Cert.MixedReferenceIdeal.main_arg0)
          ∧ r.2.mem ((c.tc : Thread Cert.MixedReferenceIdeal.nD Cert.MixedReferenceIdeal.τ).loc Cert.MixedReferenceIdeal.main_arg1) = m' ((c.tc : Thread Cert.MixedReferenceIdeal.nD Cert.MixedReferenceIdeal.τ).loc Cert.MixedReferenceIdeal.main_arg1)
          ∧ r.2.mem ((c.tc : Thread Cert.MixedReferenceIdeal.nD Cert.MixedReferenceIdeal.τ).loc Cert.MixedReferenceIdeal.main_arg2) = m' ((c.tc : Thread Cert.MixedReferenceIdeal.nD Cert.MixedReferenceIdeal.τ).loc Cert.MixedReferenceIdeal.main_arg2))

def preserves_Fall_FallIdeal : Prop :=
  True

def algebraic_FallIdeal_FallReferenceIdeal [hFallIdeal : Cert.FallIdeal.Facts] [hFallReferenceIdeal : Cert.FallReferenceIdeal.Facts] : Prop :=
  ∀ (m : (ℓ : Loc Cert.FallIdeal.nD Cert.FallIdeal.τ Cert.FallIdeal.sig) → Buf (Elt Ideal) ℓ) (g : Dev Cert.FallIdeal.nD → PrngReg)
    (m' : (ℓ : Loc Cert.FallReferenceIdeal.nD Cert.FallReferenceIdeal.τ Cert.FallReferenceIdeal.sig) → Buf (Elt Ideal) ℓ) (g' : Dev Cert.FallReferenceIdeal.nD → PrngReg), Pre_FallIdeal m →
    (∀ c : Dev Cert.FallIdeal.nD,
      m' ((c.tc : Thread Cert.FallReferenceIdeal.nD Cert.FallReferenceIdeal.τ).loc Cert.FallReferenceIdeal.main_arg0) = m ((c.tc : Thread Cert.FallIdeal.nD Cert.FallIdeal.τ).loc Cert.FallIdeal.main_arg0)
      ∧ m' ((c.tc : Thread Cert.FallReferenceIdeal.nD Cert.FallReferenceIdeal.τ).loc Cert.FallReferenceIdeal.main_arg1) = m ((c.tc : Thread Cert.FallIdeal.nD Cert.FallIdeal.τ).loc Cert.FallIdeal.main_arg1)
      ∧ m' ((c.tc : Thread Cert.FallReferenceIdeal.nD Cert.FallReferenceIdeal.τ).loc Cert.FallReferenceIdeal.main_arg2) = m ((c.tc : Thread Cert.FallIdeal.nD Cert.FallIdeal.τ).loc Cert.FallIdeal.main_arg2)) →
    ∃ (v0 : (c : Dev Cert.FallIdeal.nD) → Buf (Elt Ideal) ((c.tc : Thread Cert.FallIdeal.nD Cert.FallIdeal.τ).loc Cert.FallIdeal.main_v0)),
      θ_run (Cert.FallIdeal.defs (F := Ideal)) (onTc (τ := Cert.FallIdeal.τ) (Cert.FallIdeal.main (F := Ideal))) ⟨m, fun _ => 0, g⟩ (fun r => ∀ c : Dev Cert.FallIdeal.nD,
          r.2.mem ((c.tc : Thread Cert.FallIdeal.nD Cert.FallIdeal.τ).loc Cert.FallIdeal.main_v0) = v0 c
          ∧ r.2.mem ((c.tc : Thread Cert.FallIdeal.nD Cert.FallIdeal.τ).loc Cert.FallIdeal.main_arg0) = m ((c.tc : Thread Cert.FallIdeal.nD Cert.FallIdeal.τ).loc Cert.FallIdeal.main_arg0)
          ∧ r.2.mem ((c.tc : Thread Cert.FallIdeal.nD Cert.FallIdeal.τ).loc Cert.FallIdeal.main_arg1) = m ((c.tc : Thread Cert.FallIdeal.nD Cert.FallIdeal.τ).loc Cert.FallIdeal.main_arg1)
          ∧ r.2.mem ((c.tc : Thread Cert.FallIdeal.nD Cert.FallIdeal.τ).loc Cert.FallIdeal.main_arg2) = m ((c.tc : Thread Cert.FallIdeal.nD Cert.FallIdeal.τ).loc Cert.FallIdeal.main_arg2))
      ∧ θ_run (Cert.FallReferenceIdeal.defs (F := Ideal)) (onTc (τ := Cert.FallReferenceIdeal.τ) (Cert.FallReferenceIdeal.main (F := Ideal))) ⟨m', fun _ => 0, g'⟩ (fun r => ∀ c : Dev Cert.FallReferenceIdeal.nD,
          r.2.mem ((c.tc : Thread Cert.FallReferenceIdeal.nD Cert.FallReferenceIdeal.τ).loc Cert.FallReferenceIdeal.main_v4) = v0 c
          ∧ r.2.mem ((c.tc : Thread Cert.FallReferenceIdeal.nD Cert.FallReferenceIdeal.τ).loc Cert.FallReferenceIdeal.main_arg0) = m' ((c.tc : Thread Cert.FallReferenceIdeal.nD Cert.FallReferenceIdeal.τ).loc Cert.FallReferenceIdeal.main_arg0)
          ∧ r.2.mem ((c.tc : Thread Cert.FallReferenceIdeal.nD Cert.FallReferenceIdeal.τ).loc Cert.FallReferenceIdeal.main_arg1) = m' ((c.tc : Thread Cert.FallReferenceIdeal.nD Cert.FallReferenceIdeal.τ).loc Cert.FallReferenceIdeal.main_arg1)
          ∧ r.2.mem ((c.tc : Thread Cert.FallReferenceIdeal.nD Cert.FallReferenceIdeal.τ).loc Cert.FallReferenceIdeal.main_arg2) = m' ((c.tc : Thread Cert.FallReferenceIdeal.nD Cert.FallReferenceIdeal.τ).loc Cert.FallReferenceIdeal.main_arg2))

def preserves_Rise_RiseIdeal : Prop :=
  True

def algebraic_RiseIdeal_RiseReferenceIdeal [hRiseIdeal : Cert.RiseIdeal.Facts] [hRiseReferenceIdeal : Cert.RiseReferenceIdeal.Facts] : Prop :=
  ∀ (m : (ℓ : Loc Cert.RiseIdeal.nD Cert.RiseIdeal.τ Cert.RiseIdeal.sig) → Buf (Elt Ideal) ℓ) (g : Dev Cert.RiseIdeal.nD → PrngReg)
    (m' : (ℓ : Loc Cert.RiseReferenceIdeal.nD Cert.RiseReferenceIdeal.τ Cert.RiseReferenceIdeal.sig) → Buf (Elt Ideal) ℓ) (g' : Dev Cert.RiseReferenceIdeal.nD → PrngReg), Pre_RiseIdeal m →
    (∀ c : Dev Cert.RiseIdeal.nD,
      m' ((c.tc : Thread Cert.RiseReferenceIdeal.nD Cert.RiseReferenceIdeal.τ).loc Cert.RiseReferenceIdeal.main_arg0) = m ((c.tc : Thread Cert.RiseIdeal.nD Cert.RiseIdeal.τ).loc Cert.RiseIdeal.main_arg0)
      ∧ m' ((c.tc : Thread Cert.RiseReferenceIdeal.nD Cert.RiseReferenceIdeal.τ).loc Cert.RiseReferenceIdeal.main_arg1) = m ((c.tc : Thread Cert.RiseIdeal.nD Cert.RiseIdeal.τ).loc Cert.RiseIdeal.main_arg1)
      ∧ m' ((c.tc : Thread Cert.RiseReferenceIdeal.nD Cert.RiseReferenceIdeal.τ).loc Cert.RiseReferenceIdeal.main_arg2) = m ((c.tc : Thread Cert.RiseIdeal.nD Cert.RiseIdeal.τ).loc Cert.RiseIdeal.main_arg2)) →
    ∃ (v0 : (c : Dev Cert.RiseIdeal.nD) → Buf (Elt Ideal) ((c.tc : Thread Cert.RiseIdeal.nD Cert.RiseIdeal.τ).loc Cert.RiseIdeal.main_v0)),
      θ_run (Cert.RiseIdeal.defs (F := Ideal)) (onTc (τ := Cert.RiseIdeal.τ) (Cert.RiseIdeal.main (F := Ideal))) ⟨m, fun _ => 0, g⟩ (fun r => ∀ c : Dev Cert.RiseIdeal.nD,
          r.2.mem ((c.tc : Thread Cert.RiseIdeal.nD Cert.RiseIdeal.τ).loc Cert.RiseIdeal.main_v0) = v0 c
          ∧ r.2.mem ((c.tc : Thread Cert.RiseIdeal.nD Cert.RiseIdeal.τ).loc Cert.RiseIdeal.main_arg0) = m ((c.tc : Thread Cert.RiseIdeal.nD Cert.RiseIdeal.τ).loc Cert.RiseIdeal.main_arg0)
          ∧ r.2.mem ((c.tc : Thread Cert.RiseIdeal.nD Cert.RiseIdeal.τ).loc Cert.RiseIdeal.main_arg1) = m ((c.tc : Thread Cert.RiseIdeal.nD Cert.RiseIdeal.τ).loc Cert.RiseIdeal.main_arg1)
          ∧ r.2.mem ((c.tc : Thread Cert.RiseIdeal.nD Cert.RiseIdeal.τ).loc Cert.RiseIdeal.main_arg2) = m ((c.tc : Thread Cert.RiseIdeal.nD Cert.RiseIdeal.τ).loc Cert.RiseIdeal.main_arg2))
      ∧ θ_run (Cert.RiseReferenceIdeal.defs (F := Ideal)) (onTc (τ := Cert.RiseReferenceIdeal.τ) (Cert.RiseReferenceIdeal.main (F := Ideal))) ⟨m', fun _ => 0, g'⟩ (fun r => ∀ c : Dev Cert.RiseReferenceIdeal.nD,
          r.2.mem ((c.tc : Thread Cert.RiseReferenceIdeal.nD Cert.RiseReferenceIdeal.τ).loc Cert.RiseReferenceIdeal.main_v9) = v0 c
          ∧ r.2.mem ((c.tc : Thread Cert.RiseReferenceIdeal.nD Cert.RiseReferenceIdeal.τ).loc Cert.RiseReferenceIdeal.main_arg0) = m' ((c.tc : Thread Cert.RiseReferenceIdeal.nD Cert.RiseReferenceIdeal.τ).loc Cert.RiseReferenceIdeal.main_arg0)
          ∧ r.2.mem ((c.tc : Thread Cert.RiseReferenceIdeal.nD Cert.RiseReferenceIdeal.τ).loc Cert.RiseReferenceIdeal.main_arg1) = m' ((c.tc : Thread Cert.RiseReferenceIdeal.nD Cert.RiseReferenceIdeal.τ).loc Cert.RiseReferenceIdeal.main_arg1)
          ∧ r.2.mem ((c.tc : Thread Cert.RiseReferenceIdeal.nD Cert.RiseReferenceIdeal.τ).loc Cert.RiseReferenceIdeal.main_arg2) = m' ((c.tc : Thread Cert.RiseReferenceIdeal.nD Cert.RiseReferenceIdeal.τ).loc Cert.RiseReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v2_0)) (v1 : (c : Dev Cert.PrepIdeal.nD) → Buf (Elt Ideal) ((c.tc : Thread Cert.PrepIdeal.nD Cert.PrepIdeal.τ).loc Cert.PrepIdeal.main_v2_1)) (v2 : (c : Dev Cert.PrepIdeal.nD) → Buf (Elt Ideal) ((c.tc : Thread Cert.PrepIdeal.nD Cert.PrepIdeal.τ).loc Cert.PrepIdeal.main_v2_2)) (v3 : (c : Dev Cert.PrepIdeal.nD) → Buf (Elt Ideal) ((c.tc : Thread Cert.PrepIdeal.nD Cert.PrepIdeal.τ).loc Cert.PrepIdeal.main_v2_3)) (v4 : (c : Dev Cert.PrepIdeal.nD) → Buf (Elt Ideal) ((c.tc : Thread Cert.PrepIdeal.nD Cert.PrepIdeal.τ).loc Cert.PrepIdeal.main_v2_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v2_0) = v0 c
          ∧ r.2.mem ((c.tc : Thread Cert.PrepIdeal.nD Cert.PrepIdeal.τ).loc Cert.PrepIdeal.main_v2_1) = v1 c
          ∧ r.2.mem ((c.tc : Thread Cert.PrepIdeal.nD Cert.PrepIdeal.τ).loc Cert.PrepIdeal.main_v2_2) = v2 c
          ∧ r.2.mem ((c.tc : Thread Cert.PrepIdeal.nD Cert.PrepIdeal.τ).loc Cert.PrepIdeal.main_v2_3) = v3 c
          ∧ r.2.mem ((c.tc : Thread Cert.PrepIdeal.nD Cert.PrepIdeal.τ).loc Cert.PrepIdeal.main_v2_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v33) = v0 c
          ∧ r.2.mem ((c.tc : Thread Cert.PrepReferenceIdeal.nD Cert.PrepReferenceIdeal.τ).loc Cert.PrepReferenceIdeal.main_v15) = v1 c
          ∧ r.2.mem ((c.tc : Thread Cert.PrepReferenceIdeal.nD Cert.PrepReferenceIdeal.τ).loc Cert.PrepReferenceIdeal.main_v34) = v2 c
          ∧ r.2.mem ((c.tc : Thread Cert.PrepReferenceIdeal.nD Cert.PrepReferenceIdeal.τ).loc Cert.PrepReferenceIdeal.main_v16) = v3 c
          ∧ r.2.mem ((c.tc : Thread Cert.PrepReferenceIdeal.nD Cert.PrepReferenceIdeal.τ).loc Cert.PrepReferenceIdeal.main_v35) = v4 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)) →
    ∃ (v0 : (c : Dev Cert.TailIdeal.nD) → Buf (Elt Ideal) ((c.tc : Thread Cert.TailIdeal.nD Cert.TailIdeal.τ).loc Cert.TailIdeal.main_v2_0)) (v1 : (c : Dev Cert.TailIdeal.nD) → Buf (Elt Ideal) ((c.tc : Thread Cert.TailIdeal.nD Cert.TailIdeal.τ).loc Cert.TailIdeal.main_v2_1)) (v2 : (c : Dev Cert.TailIdeal.nD) → Buf (Elt Ideal) ((c.tc : Thread Cert.TailIdeal.nD Cert.TailIdeal.τ).loc Cert.TailIdeal.main_v2_2)) (v3 : (c : Dev Cert.TailIdeal.nD) → Buf (Elt Ideal) ((c.tc : Thread Cert.TailIdeal.nD Cert.TailIdeal.τ).loc Cert.TailIdeal.main_v2_3)) (v4 : (c : Dev Cert.TailIdeal.nD) → Buf (Elt Ideal) ((c.tc : Thread Cert.TailIdeal.nD Cert.TailIdeal.τ).loc Cert.TailIdeal.main_v2_4)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v2_0) = v0 c
          ∧ r.2.mem ((c.tc : Thread Cert.TailIdeal.nD Cert.TailIdeal.τ).loc Cert.TailIdeal.main_v2_1) = v1 c
          ∧ r.2.mem ((c.tc : Thread Cert.TailIdeal.nD Cert.TailIdeal.τ).loc Cert.TailIdeal.main_v2_2) = v2 c
          ∧ r.2.mem ((c.tc : Thread Cert.TailIdeal.nD Cert.TailIdeal.τ).loc Cert.TailIdeal.main_v2_3) = v3 c
          ∧ r.2.mem ((c.tc : Thread Cert.TailIdeal.nD Cert.TailIdeal.τ).loc Cert.TailIdeal.main_v2_4) = v4 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v32) = v0 c
          ∧ r.2.mem ((c.tc : Thread Cert.TailReferenceIdeal.nD Cert.TailReferenceIdeal.τ).loc Cert.TailReferenceIdeal.main_v15) = v1 c
          ∧ r.2.mem ((c.tc : Thread Cert.TailReferenceIdeal.nD Cert.TailReferenceIdeal.τ).loc Cert.TailReferenceIdeal.main_v15) = v2 c
          ∧ r.2.mem ((c.tc : Thread Cert.TailReferenceIdeal.nD Cert.TailReferenceIdeal.τ).loc Cert.TailReferenceIdeal.main_v16) = v3 c
          ∧ r.2.mem ((c.tc : Thread Cert.TailReferenceIdeal.nD Cert.TailReferenceIdeal.τ).loc Cert.TailReferenceIdeal.main_v16) = v4 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2))

def preserves_Small_SmallIdeal : Prop :=
  True

def algebraic_SmallIdeal_SmallReferenceIdeal_pre_finite_norm [hSmallIdeal : Cert.SmallIdeal.Facts] [hSmallReferenceIdeal : Cert.SmallReferenceIdeal.Facts] [hPre_finite_norm : Cert.Pre_finite_norm.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal_finite_norm m →
    (∀ c : Dev Cert.SmallIdeal.nD,
      m' ((c.tc : Thread Cert.SmallReferenceIdeal.nD Cert.SmallReferenceIdeal.τ).loc Cert.SmallReferenceIdeal.main_arg0) = m ((c.tc : Thread Cert.SmallIdeal.nD Cert.SmallIdeal.τ).loc Cert.SmallIdeal.main_arg0)
      ∧ m' ((c.tc : Thread Cert.SmallReferenceIdeal.nD Cert.SmallReferenceIdeal.τ).loc Cert.SmallReferenceIdeal.main_arg1) = m ((c.tc : Thread Cert.SmallIdeal.nD Cert.SmallIdeal.τ).loc Cert.SmallIdeal.main_arg1)
      ∧ m' ((c.tc : Thread Cert.SmallReferenceIdeal.nD Cert.SmallReferenceIdeal.τ).loc Cert.SmallReferenceIdeal.main_arg2) = m ((c.tc : Thread Cert.SmallIdeal.nD Cert.SmallIdeal.τ).loc Cert.SmallIdeal.main_arg2)) →
    ∃ (v0 : (c : Dev Cert.SmallIdeal.nD) → Buf (Elt Ideal) ((c.tc : Thread Cert.SmallIdeal.nD Cert.SmallIdeal.τ).loc Cert.SmallIdeal.main_v4_0)) (v1 : (c : Dev Cert.SmallIdeal.nD) → Buf (Elt Ideal) ((c.tc : Thread Cert.SmallIdeal.nD Cert.SmallIdeal.τ).loc Cert.SmallIdeal.main_v4_1)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v4_0) = v0 c
          ∧ r.2.mem ((c.tc : Thread Cert.SmallIdeal.nD Cert.SmallIdeal.τ).loc Cert.SmallIdeal.main_v4_1) = v1 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v13) = v0 c
          ∧ r.2.mem ((c.tc : Thread Cert.SmallReferenceIdeal.nD Cert.SmallReferenceIdeal.τ).loc Cert.SmallReferenceIdeal.main_v15) = v1 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2))

def preserves_Forget_ForgetIdeal : Prop :=
  True

def algebraic_ForgetIdeal_ForgetReferenceIdeal_pre_finite_logits [hForgetIdeal : Cert.ForgetIdeal.Facts] [hForgetReferenceIdeal : Cert.ForgetReferenceIdeal.Facts] [hPre_finite_logits : Cert.Pre_finite_logits.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetReferenceIdeal.nD Cert.ForgetReferenceIdeal.τ Cert.ForgetReferenceIdeal.sig) → Buf (Elt Ideal) ℓ) (g' : Dev Cert.ForgetReferenceIdeal.nD → PrngReg), Pre_ForgetIdeal_finite_logits m →
    (∀ c : Dev Cert.ForgetIdeal.nD,
      m' ((c.tc : Thread Cert.ForgetReferenceIdeal.nD Cert.ForgetReferenceIdeal.τ).loc Cert.ForgetReferenceIdeal.main_arg0) = m ((c.tc : Thread Cert.ForgetIdeal.nD Cert.ForgetIdeal.τ).loc Cert.ForgetIdeal.main_arg0)
      ∧ m' ((c.tc : Thread Cert.ForgetReferenceIdeal.nD Cert.ForgetReferenceIdeal.τ).loc Cert.ForgetReferenceIdeal.main_arg1) = m ((c.tc : Thread Cert.ForgetIdeal.nD Cert.ForgetIdeal.τ).loc Cert.ForgetIdeal.main_arg1)) →
    ∃ (v0 : (c : Dev Cert.ForgetIdeal.nD) → Buf (Elt Ideal) ((c.tc : Thread Cert.ForgetIdeal.nD Cert.ForgetIdeal.τ).loc Cert.ForgetIdeal.main_v5_0)) (v1 : (c : Dev Cert.ForgetIdeal.nD) → Buf (Elt Ideal) ((c.tc : Thread Cert.ForgetIdeal.nD Cert.ForgetIdeal.τ).loc Cert.ForgetIdeal.main_v5_1)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v5_0) = v0 c
          ∧ r.2.mem ((c.tc : Thread Cert.ForgetIdeal.nD Cert.ForgetIdeal.τ).loc Cert.ForgetIdeal.main_v5_1) = v1 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ θ_run (Cert.ForgetReferenceIdeal.defs (F := Ideal)) (onTc (τ := Cert.ForgetReferenceIdeal.τ) (Cert.ForgetReferenceIdeal.main (F := Ideal))) ⟨m', fun _ => 0, g'⟩ (fun r => ∀ c : Dev Cert.ForgetReferenceIdeal.nD,
          r.2.mem ((c.tc : Thread Cert.ForgetReferenceIdeal.nD Cert.ForgetReferenceIdeal.τ).loc Cert.ForgetReferenceIdeal.main_v4) = v0 c
          ∧ r.2.mem ((c.tc : Thread Cert.ForgetReferenceIdeal.nD Cert.ForgetReferenceIdeal.τ).loc Cert.ForgetReferenceIdeal.main_v16) = v1 c
          ∧ r.2.mem ((c.tc : Thread Cert.ForgetReferenceIdeal.nD Cert.ForgetReferenceIdeal.τ).loc Cert.ForgetReferenceIdeal.main_arg0) = m' ((c.tc : Thread Cert.ForgetReferenceIdeal.nD Cert.ForgetReferenceIdeal.τ).loc Cert.ForgetReferenceIdeal.main_arg0)
          ∧ r.2.mem ((c.tc : Thread Cert.ForgetReferenceIdeal.nD Cert.ForgetReferenceIdeal.τ).loc Cert.ForgetReferenceIdeal.main_arg1) = m' ((c.tc : Thread Cert.ForgetReferenceIdeal.nD Cert.ForgetReferenceIdeal.τ).loc Cert.ForgetReferenceIdeal.main_arg1))

def preserves_Decay_DecayIdeal : Prop :=
  True

def algebraic_DecayIdeal_DecayReferenceIdeal_pre_finite_logits [hDecayIdeal : Cert.DecayIdeal.Facts] [hDecayReferenceIdeal : Cert.DecayReferenceIdeal.Facts] [hPre_finite_logits : Cert.Pre_finite_logits.Facts] : Prop :=
  ∀ (m : (ℓ : Loc Cert.DecayIdeal.nD Cert.DecayIdeal.τ Cert.DecayIdeal.sig) → Buf (Elt Ideal) ℓ) (g : Dev Cert.DecayIdeal.nD → PrngReg)
    (m' : (ℓ : Loc Cert.DecayReferenceIdeal.nD Cert.DecayReferenceIdeal.τ Cert.DecayReferenceIdeal.sig) → Buf (Elt Ideal) ℓ) (g' : Dev Cert.DecayReferenceIdeal.nD → PrngReg), Pre_DecayIdeal_finite_logits m →
    (∀ c : Dev Cert.DecayIdeal.nD,
      m' ((c.tc : Thread Cert.DecayReferenceIdeal.nD Cert.DecayReferenceIdeal.τ).loc Cert.DecayReferenceIdeal.main_arg0) = m ((c.tc : Thread Cert.DecayIdeal.nD Cert.DecayIdeal.τ).loc Cert.DecayIdeal.main_arg0)
      ∧ m' ((c.tc : Thread Cert.DecayReferenceIdeal.nD Cert.DecayReferenceIdeal.τ).loc Cert.DecayReferenceIdeal.main_arg1) = m ((c.tc : Thread Cert.DecayIdeal.nD Cert.DecayIdeal.τ).loc Cert.DecayIdeal.main_arg1)) →
    ∃ (v0 : (c : Dev Cert.DecayIdeal.nD) → Buf (Elt Ideal) ((c.tc : Thread Cert.DecayIdeal.nD Cert.DecayIdeal.τ).loc Cert.DecayIdeal.main_v5_0)) (v1 : (c : Dev Cert.DecayIdeal.nD) → Buf (Elt Ideal) ((c.tc : Thread Cert.DecayIdeal.nD Cert.DecayIdeal.τ).loc Cert.DecayIdeal.main_v5_1)),
      θ_run (Cert.DecayIdeal.defs (F := Ideal)) (onTc (τ := Cert.DecayIdeal.τ) (Cert.DecayIdeal.main (F := Ideal))) ⟨m, fun _ => 0, g⟩ (fun r => ∀ c : Dev Cert.DecayIdeal.nD,
          r.2.mem ((c.tc : Thread Cert.DecayIdeal.nD Cert.DecayIdeal.τ).loc Cert.DecayIdeal.main_v5_0) = v0 c
          ∧ r.2.mem ((c.tc : Thread Cert.DecayIdeal.nD Cert.DecayIdeal.τ).loc Cert.DecayIdeal.main_v5_1) = v1 c
          ∧ r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
          ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1))
      ∧ θ_run (Cert.DecayReferenceIdeal.defs (F := Ideal)) (onTc (τ := Cert.DecayReferenceIdeal.τ) (Cert.DecayReferenceIdeal.main (F := Ideal))) ⟨m', fun _ => 0, g'⟩ (fun r => ∀ c : Dev Cert.DecayReferenceIdeal.nD,
          r.2.mem ((c.tc : Thread Cert.DecayReferenceIdeal.nD Cert.DecayReferenceIdeal.τ).loc Cert.DecayReferenceIdeal.main_v4) = v0 c
          ∧ r.2.mem ((c.tc : Thread Cert.DecayReferenceIdeal.nD Cert.DecayReferenceIdeal.τ).loc Cert.DecayReferenceIdeal.main_v16) = v1 c
          ∧ r.2.mem ((c.tc : Thread Cert.DecayReferenceIdeal.nD Cert.DecayReferenceIdeal.τ).loc Cert.DecayReferenceIdeal.main_arg0) = m' ((c.tc : Thread Cert.DecayReferenceIdeal.nD Cert.DecayReferenceIdeal.τ).loc Cert.DecayReferenceIdeal.main_arg0)
          ∧ r.2.mem ((c.tc : Thread Cert.DecayReferenceIdeal.nD Cert.DecayReferenceIdeal.τ).loc Cert.DecayReferenceIdeal.main_arg1) = m' ((c.tc : Thread Cert.DecayReferenceIdeal.nD Cert.DecayReferenceIdeal.τ).loc Cert.DecayReferenceIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hIn : Cert.In.Facts) (hInIdeal : Cert.InIdeal.Facts) (hInReferenceIdeal : Cert.InReferenceIdeal.Facts) (hMixed : Cert.Mixed.Facts) (hMixedIdeal : Cert.MixedIdeal.Facts) (hMixedReferenceIdeal : Cert.MixedReferenceIdeal.Facts) (hFall : Cert.Fall.Facts) (hFallIdeal : Cert.FallIdeal.Facts) (hFallReferenceIdeal : Cert.FallReferenceIdeal.Facts) (hRise : Cert.Rise.Facts) (hRiseIdeal : Cert.RiseIdeal.Facts) (hRiseReferenceIdeal : Cert.RiseReferenceIdeal.Facts) (hNorm : Cert.Norm.Facts) (hNormIdeal : Cert.NormIdeal.Facts) (hNormReferenceIdeal : Cert.NormReferenceIdeal.Facts) (hPrep : Cert.Prep.Facts) (hPrepIdeal : Cert.PrepIdeal.Facts) (hPrepReferenceIdeal : Cert.PrepReferenceIdeal.Facts) (hTail : Cert.Tail.Facts) (hTailIdeal : Cert.TailIdeal.Facts) (hTailReferenceIdeal : Cert.TailReferenceIdeal.Facts) (hSmall : Cert.Small.Facts) (hSmallIdeal : Cert.SmallIdeal.Facts) (hSmallReferenceIdeal : Cert.SmallReferenceIdeal.Facts) (hForget : Cert.Forget.Facts) (hForgetIdeal : Cert.ForgetIdeal.Facts) (hForgetReferenceIdeal : Cert.ForgetReferenceIdeal.Facts) (hDecay : Cert.Decay.Facts) (hDecayIdeal : Cert.DecayIdeal.Facts) (hDecayReferenceIdeal : Cert.DecayReferenceIdeal.Facts) (hPre_finite : Cert.Pre_finite.Facts) (hPre_up_experts : Cert.Pre_up_experts.Facts) (hPre_down_experts : Cert.Pre_down_experts.Facts) (hPre_finite_norm : Cert.Pre_finite_norm.Facts) (hPre_finite_logits : Cert.Pre_finite_logits.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp) (hPre_up_experts := hPre_up_experts)
    ∧ quiescent_UpIdeal (hUpIdeal := hUpIdeal) (hPre_up_experts := hPre_up_experts)
    ∧ quiescent_UpReferenceIdeal (hUpReferenceIdeal := hUpReferenceIdeal) (hPre_up_experts := hPre_up_experts)
    ∧ quiescent_Down (hDown := hDown) (hPre_down_experts := hPre_down_experts)
    ∧ quiescent_DownIdeal (hDownIdeal := hDownIdeal) (hPre_down_experts := hPre_down_experts)
    ∧ quiescent_DownReferenceIdeal (hDownReferenceIdeal := hDownReferenceIdeal) (hPre_down_experts := hPre_down_experts)
    ∧ quiescent_In (hIn := hIn)
    ∧ quiescent_InIdeal (hInIdeal := hInIdeal)
    ∧ quiescent_InReferenceIdeal (hInReferenceIdeal := hInReferenceIdeal)
    ∧ quiescent_Mixed (hMixed := hMixed)
    ∧ quiescent_MixedIdeal (hMixedIdeal := hMixedIdeal)
    ∧ quiescent_MixedReferenceIdeal (hMixedReferenceIdeal := hMixedReferenceIdeal)
    ∧ quiescent_Fall (hFall := hFall)
    ∧ quiescent_FallIdeal (hFallIdeal := hFallIdeal)
    ∧ quiescent_FallReferenceIdeal (hFallReferenceIdeal := hFallReferenceIdeal)
    ∧ quiescent_Rise (hRise := hRise)
    ∧ quiescent_RiseIdeal (hRiseIdeal := hRiseIdeal)
    ∧ quiescent_RiseReferenceIdeal (hRiseReferenceIdeal := hRiseReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_Tail (hTail := hTail)
    ∧ quiescent_TailIdeal (hTailIdeal := hTailIdeal)
    ∧ quiescent_TailReferenceIdeal (hTailReferenceIdeal := hTailReferenceIdeal)
    ∧ quiescent_Small (hSmall := hSmall)
    ∧ quiescent_SmallIdeal (hSmallIdeal := hSmallIdeal)
    ∧ quiescent_SmallIdeal_pre_finite_norm (hSmallIdeal := hSmallIdeal) (hPre_finite_norm := hPre_finite_norm)
    ∧ quiescent_SmallReferenceIdeal (hSmallReferenceIdeal := hSmallReferenceIdeal)
    ∧ quiescent_SmallReferenceIdeal_pre_finite_norm (hSmallReferenceIdeal := hSmallReferenceIdeal) (hPre_finite_norm := hPre_finite_norm)
    ∧ quiescent_Forget (hForget := hForget)
    ∧ quiescent_ForgetIdeal (hForgetIdeal := hForgetIdeal)
    ∧ quiescent_ForgetIdeal_pre_finite_logits (hForgetIdeal := hForgetIdeal) (hPre_finite_logits := hPre_finite_logits)
    ∧ quiescent_ForgetReferenceIdeal (hForgetReferenceIdeal := hForgetReferenceIdeal)
    ∧ quiescent_ForgetReferenceIdeal_pre_finite_logits (hForgetReferenceIdeal := hForgetReferenceIdeal) (hPre_finite_logits := hPre_finite_logits)
    ∧ quiescent_Decay (hDecay := hDecay)
    ∧ quiescent_DecayIdeal (hDecayIdeal := hDecayIdeal)
    ∧ quiescent_DecayIdeal_pre_finite_logits (hDecayIdeal := hDecayIdeal) (hPre_finite_logits := hPre_finite_logits)
    ∧ quiescent_DecayReferenceIdeal (hDecayReferenceIdeal := hDecayReferenceIdeal)
    ∧ quiescent_DecayReferenceIdeal_pre_finite_logits (hDecayReferenceIdeal := hDecayReferenceIdeal) (hPre_finite_logits := hPre_finite_logits)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal) (hPre_up_experts := hPre_up_experts)
    ∧ preserves_Down_DownIdeal
    ∧ algebraic_DownIdeal_DownReferenceIdeal (hDownIdeal := hDownIdeal) (hDownReferenceIdeal := hDownReferenceIdeal) (hPre_down_experts := hPre_down_experts)
    ∧ preserves_In_InIdeal
    ∧ algebraic_InIdeal_InReferenceIdeal (hInIdeal := hInIdeal) (hInReferenceIdeal := hInReferenceIdeal)
    ∧ preserves_Mixed_MixedIdeal
    ∧ algebraic_MixedIdeal_MixedReferenceIdeal (hMixedIdeal := hMixedIdeal) (hMixedReferenceIdeal := hMixedReferenceIdeal)
    ∧ preserves_Fall_FallIdeal
    ∧ algebraic_FallIdeal_FallReferenceIdeal (hFallIdeal := hFallIdeal) (hFallReferenceIdeal := hFallReferenceIdeal)
    ∧ preserves_Rise_RiseIdeal
    ∧ algebraic_RiseIdeal_RiseReferenceIdeal (hRiseIdeal := hRiseIdeal) (hRiseReferenceIdeal := hRiseReferenceIdeal)
    ∧ preserves_Norm_NormIdeal
    ∧ algebraic_NormIdeal_NormReferenceIdeal (hNormIdeal := hNormIdeal) (hNormReferenceIdeal := hNormReferenceIdeal)
    ∧ preserves_Prep_PrepIdeal
    ∧ algebraic_PrepIdeal_PrepReferenceIdeal (hPrepIdeal := hPrepIdeal) (hPrepReferenceIdeal := hPrepReferenceIdeal)
    ∧ preserves_Tail_TailIdeal
    ∧ algebraic_TailIdeal_TailReferenceIdeal (hTailIdeal := hTailIdeal) (hTailReferenceIdeal := hTailReferenceIdeal)
    ∧ preserves_Small_SmallIdeal
    ∧ algebraic_SmallIdeal_SmallReferenceIdeal_pre_finite_norm (hSmallIdeal := hSmallIdeal) (hSmallReferenceIdeal := hSmallReferenceIdeal) (hPre_finite_norm := hPre_finite_norm)
    ∧ preserves_Forget_ForgetIdeal
    ∧ algebraic_ForgetIdeal_ForgetReferenceIdeal_pre_finite_logits (hForgetIdeal := hForgetIdeal) (hForgetReferenceIdeal := hForgetReferenceIdeal) (hPre_finite_logits := hPre_finite_logits)
    ∧ preserves_Decay_DecayIdeal
    ∧ algebraic_DecayIdeal_DecayReferenceIdeal_pre_finite_logits (hDecayIdeal := hDecayIdeal) (hDecayReferenceIdeal := hDecayReferenceIdeal) (hPre_finite_logits := hPre_finite_logits)
-- ==== Pre_down_experts.lean ====
abbrev S18688x7168 : Shape := ⟨2, ![18688, 7168]⟩
abbrev S128 : Shape := ⟨1, ![128]⟩
abbrev S2x8x7168x2048 : Shape := ⟨4, ![2, 8, 7168, 2048]⟩
abbrev S127 : Shape := ⟨1, ![127]⟩
abbrev S_ : Shape := ⟨0, ![]⟩

class Facts : Prop where
  slices_S128_S127_0 : S128.Slices ![0] S127
  bcast_S_S127 : S_.BroadcastsInDim S127 (![] : Fin 0 → Fin S127.rank)
  reducesTo_S127_S_d0 : S127.ReducesTo [0] S_
  h_S_ : 0 < S_.numel

variable [Facts]

def fn {F : FTy → Type} [FloatOps F] (main_arg0 : FVec F S18688x7168 .bf16) (main_arg1 : IVec S128 32) (main_arg2 : FVec F S2x8x7168x2048 .f32) : IVec S_ 1 :=
  let main_v0 : IVec S127 32 := (extractStridedSlice S127 ![0] · slices_S128_S127_0) main_arg1
  let main_c : IVec S_ 32 := constantI S_ 32 0#32
  let main_v1 : IVec S127 32 := broadcastInDim S127 ![] bcast_S_S127 main_c
  let main_v2 : IVec S127 1 := cmpi .sge main_v0 main_v1
  let main_c_0 : IVec S_ 1 := constantI S_ 1 1#1
  let main_v3 : IVec S_ 1 := (fun x v => Host.reduce IntOp.andi x v reducesTo_S127_S_d0 h_S_) main_v2 main_c_0
  let main_v4 : IVec S127 32 := (extractStridedSlice S127 ![0] · slices_S128_S127_0) main_arg1
  let main_c_1 : IVec S_ 32 := constantI S_ 32 8#32
  let main_v5 : IVec S127 32 := broadcastInDim S127 ![] bcast_S_S127 main_c_1
  let main_v6 : IVec S127 1 := cmpi .slt main_v4 main_v5
  let main_c_2 : IVec S_ 1 := constantI S_ 1 1#1
  let main_v7 : IVec S_ 1 := (fun x v => Host.reduce IntOp.andi x v reducesTo_S127_S_d0 h_S_) main_v6 main_c_2
  let main_v8 : IVec S_ 1 := andi main_v3 main_v7
  main_v8
-- ==== Pre_finite.lean ====
abbrev S8192x1024 : Shape := ⟨2, ![8192, 1024]⟩
abbrev S8192x8 : Shape := ⟨2, ![8192, 8]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn {F : FTy → Type} [FloatOps F] (main_arg0 : FVec F S8192x1024 .bf16) (main_arg1 : FVec F S8192x1024 .bf16) (main_arg2 : FVec F S8192x1024 .bf16) (main_arg3 : FVec F S8192x8 .f32) : IVec S_ 1 :=
  let main_v0 : FVec F S8192x1024 .f32 := (extf .f32 · bitsLt_bf16_f32) main_arg0
  let main_v1 : FVec F S8192x1024 .f32 := (extf .f32 · bitsLt_bf16_f32) main_arg1
  let main_v2 : FVec F S8192x1024 .f32 := Host.absf main_v0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S8192x1024 .f32 := Host.absf main_v1
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v5 main_v9
  let main_v11 : FVec F S8192x8 .f32 := Host.absf main_arg3
  let main_cst_2 : FVec F S_ .f32 := constant S_ .f32 0x7F800000#32
  let main_v12 : FVec F S8192x8 .f32 := broadcastInDim S8192x8 ![] bcast_S_S8192x8 main_cst_2
  let main_v13 : IVec S8192x8 1 := cmpf .olt main_v11 main_v12
  let main_c_3 : IVec S_ 1 := constantI S_ 1 1#1
  let main_v14 : IVec S_ 1 := (fun x v => Host.reduce IntOp.andi x v reducesTo_S8192x8_S_d0_1 h_S_) main_v13 main_c_3
  let main_v15 : IVec S_ 1 := andi main_v10 main_v14
  main_v15
-- ==== Pre_finite_logits.lean ====
abbrev S8256x128 : Shape := ⟨2, ![8256, 128]⟩
abbrev S8 : Shape := ⟨1, ![8]⟩
abbrev S_ : Shape := ⟨0, ![]⟩

class Facts : Prop where
  bcast_S_S8256x128 : S_.BroadcastsInDim S8256x128 (![] : Fin 0 → Fin S8256x128.rank)
  reducesTo_S8256x128_S_d0_1 : S8256x128.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8256x128 .f32) (main_arg1 : FVec F S8 .f32) : IVec S_ 1 :=
  let main_v0 : FVec F S8256x128 .f32 := Host.absf main_arg0
  let main_cst : FVec F S_ .f32 := constant S_ .f32 0x7F800000#32
  let main_v1 : FVec F S8256x128 .f32 := broadcastInDim S8256x128 ![] bcast_S_S8256x128 main_cst
  let main_v2 : IVec S8256x128 1 := cmpf .olt main_v0 main_v1
  let main_c : IVec S_ 1 := constantI S_ 1 1#1
  let main_v3 : IVec S_ 1 := (fun x v => Host.reduce IntOp.andi x v reducesTo_S8256x128_S_d0_1 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Pre_finite_norm.lean ====
abbrev S8256x2048 : Shape := ⟨2, ![8256, 2048]⟩
abbrev S2048 : Shape := ⟨1, ![2048]⟩
abbrev S2048x8 : Shape := ⟨2, ![2048, 8]⟩
abbrev S_ : Shape := ⟨0, ![]⟩

class Facts : Prop where
  bcast_S_S8256x2048 : S_.BroadcastsInDim S8256x2048 (![] : Fin 0 → Fin S8256x2048.rank)
  reducesTo_S8256x2048_S_d0_1 : S8256x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x8 : S_.BroadcastsInDim S2048x8 (![] : Fin 0 → Fin S2048x8.rank)
  reducesTo_S2048x8_S_d0_1 : S2048x8.ReducesTo [0, 1] S_

variable [Facts]

def fn {F : FTy → Type} [FloatOps F] (main_arg0 : FVec F S8256x2048 .f32) (main_arg1 : FVec F S2048 .f32) (main_arg2 : FVec F S2048x8 .f32) : IVec S_ 1 :=
  let main_v0 : FVec F S8256x2048 .f32 := Host.absf main_arg0
  let main_cst : FVec F S_ .f32 := constant S_ .f32 0x7F800000#32
  let main_v1 : FVec F S8256x2048 .f32 := broadcastInDim S8256x2048 ![] bcast_S_S8256x2048 main_cst
  let main_v2 : IVec S8256x2048 1 := cmpf .olt main_v0 main_v1
  let main_c : IVec S_ 1 := constantI S_ 1 1#1
  let main_v3 : IVec S_ 1 := (fun x v => Host.reduce IntOp.andi x v reducesTo_S8256x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  main_v13
-- ==== Pre_up_experts.lean ====
abbrev S18688x2048 : Shape := ⟨2, ![18688, 2048]⟩
abbrev S128 : Shape := ⟨1, ![128]⟩
abbrev S2x8x2048x7168 : Shape := ⟨4, ![2, 8, 2048, 7168]⟩
abbrev S127 : Shape := ⟨1, ![127]⟩
abbrev S_ : Shape := ⟨0, ![]⟩

class Facts : Prop where
  slices_S128_S127_0 : S128.Slices ![0] S127
  bcast_S_S127 : S_.BroadcastsInDim S127 (![] : Fin 0 → Fin S127.rank)
  reducesTo_S127_S_d0 : S127.ReducesTo [0] S_
  h_S_ : 0 < S_.numel

variable [Facts]

def fn {F : FTy → Type} [FloatOps F] (main_arg0 : FVec F S18688x2048 .bf16) (main_arg1 : IVec S128 32) (main_arg2 : FVec F S2x8x2048x7168 .f32) (main_arg3 : FVec F S2x8x2048x7168 .f32) : IVec S_ 1 :=
  let main_v0 : IVec S127 32 := (extractStridedSlice S127 ![0] · slices_S128_S127_0) main_arg1
  let main_c : IVec S_ 32 := constantI S_ 32 0#32
  let main_v1 : IVec S127 32 := broadcastInDim S127 ![] bcast_S_S127 main_c
  let main_v2 : IVec S127 1 := cmpi .sge main_v0 main_v1
  let main_c_0 : IVec S_ 1 := constantI S_ 1 1#1
  let main_v3 : IVec S_ 1 := (fun x v => Host.reduce IntOp.andi x v reducesTo_S127_S_d0 h_S_) main_v2 main_c_0
  let main_v4 : IVec S127 32 := (extractStridedSlice S127 ![0] · slices_S128_S127_0) main_arg1
  let main_c_1 : IVec S_ 32 := constantI S_ 32 8#32
  let main_v5 : IVec S127 32 := broadcastInDim S127 ![] bcast_S_S127 main_c_1
  let main_v6 : IVec S127 1 := cmpi .slt main_v4 main_v5
  let main_c_2 : IVec S_ 1 := constantI S_ 1 1#1
  let main_v7 : IVec S_ 1 := (fun x v => Host.reduce IntOp.andi x v reducesTo_S127_S_d0 h_S_) main_v6 main_c_2
  let main_v8 : IVec S_ 1 := andi main_v3 main_v7
  main_v8
-- ==== Kernel.lean ====
abbrev S8192x1024 : Shape := ⟨2, ![8192, 1024]⟩
abbrev S8192x8 : Shape := ⟨2, ![8192, 8]⟩
abbrev S4x2048x8 : Shape := ⟨3, ![4, 2048, 8]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S512x128 : Shape := ⟨2, ![512, 128]⟩
abbrev S1x1x512x1 : Shape := ⟨4, ![1, 1, 512, 1]⟩
abbrev S1x1x1x512 : Shape := ⟨4, ![1, 1, 1, 512]⟩
abbrev S512x1 : Shape := ⟨2, ![512, 1]⟩
abbrev S512x512 : Shape := ⟨2, ![512, 512]⟩
abbrev S1x512 : Shape := ⟨2, ![1, 512]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x8, .f32⟩
  | .hbm, ⟨4, _⟩ => ⟨S4x2048x8, .f32⟩
  | .hbm, ⟨5, _⟩ => ⟨S4x8x2048, .f32⟩
  | .hbm, ⟨6, _⟩ => ⟨S4x8x2048x1, .f32⟩
  | .hbm, ⟨7, _⟩ => ⟨S4x8x1x2048, .f32⟩
  | .hbm, ⟨8, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x1x512x1, .f32⟩
  | .local _ .vmem, ⟨7, _⟩ => ⟨S1x1x512x1, .f32⟩
  | .local _ .vmem, ⟨8, _⟩ => ⟨S1x1x1x512, .f32⟩
  | .local _ .vmem, ⟨9, _⟩ => ⟨S1x1x1x512, .f32⟩
  | .local _ .vmem, ⟨10, _⟩ => ⟨S512x128, .bf16⟩
  | .local _ .vmem, ⟨11, _⟩ => ⟨S512x128, .bf16⟩
  | .local _ .vmem, ⟨12, _⟩ => ⟨S512x1, .f32⟩
  | .local _ .vmem, ⟨13, _⟩ => ⟨S512x1, .f32⟩
  | .local _ .vmem, ⟨14, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![4, 8, 4, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let c512_i32 : BitVec 32 := 512#32
  let v1 : BitVec 32 := Scalar.muli arg2 c512_i32
  let c512_i32_0 : BitVec 32 := 512#32
  let v2 : BitVec 32 := Scalar.addi v1 c512_i32_0
  let c1_i32 : BitVec 32 := 1#32
  let v3 : BitVec 32 := Scalar.subi v2 c1_i32
  let c512_i32_1 : BitVec 32 := 512#32
  let v4 : BitVec 32 := Scalar.divsi v3 c512_i32_1
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let v21 : BitVec 32 := Scalar.minsi arg3 v20
  let v22 : BitVec 32 := Scalar.addi v0 v21
  let c0_i32_7 : BitVec 32 := 0#32
  ![v22.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let c512_i32 : BitVec 32 := 512#32
  let v1 : BitVec 32 := Scalar.muli arg2 c512_i32
  let c512_i32_0 : BitVec 32 := 512#32
  let v2 : BitVec 32 := Scalar.addi v1 c512_i32_0
  let c1_i32 : BitVec 32 := 1#32
  let v3 : BitVec 32 := Scalar.subi v2 c1_i32
  let c512_i32_1 : BitVec 32 := 512#32
  let v4 : BitVec 32 := Scalar.divsi v3 c512_i32_1
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let v21 : BitVec 32 := Scalar.minsi arg3 v20
  let v22 : BitVec 32 := Scalar.addi v0 v21
  let c0_i32_7 : BitVec 32 := 0#32
  ![v22.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c512_i32 : BitVec 32 := 512#32
  let v0 : BitVec 32 := Scalar.muli arg2 c512_i32
  let c512_i32_0 : BitVec 32 := 512#32
  let v1 : BitVec 32 := Scalar.addi v0 c512_i32_0
  let c1_i32 : BitVec 32 := 1#32
  let v2 : BitVec 32 := Scalar.subi v1 c1_i32
  let c512_i32_1 : BitVec 32 := 512#32
  let v3 : BitVec 32 := Scalar.divsi v2 c512_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let v20 : BitVec 32 := Scalar.minsi arg3 v19
  let c0_i32_7 : BitVec 32 := 0#32
  let c0_i32_8 : BitVec 32 := 0#32
  ![arg0.toNat, arg1.toNat, c0_i32_7.toNat, v20.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== ReferenceIdeal.lean ====
abbrev S8192x1024 : Shape := ⟨2, ![8192, 1024]⟩
abbrev S8192x8 : Shape := ⟨2, ![8192, 8]⟩
abbrev S4x2048x8x128 : Shape := ⟨4, ![4, 2048, 8, 128]⟩
abbrev S4x2048x8 : Shape := ⟨3, ![4, 2048, 8]⟩
abbrev S4x8x2048 : Shape := ⟨3, ![4, 8, 2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x128x2048 : Shape := ⟨4, ![4, 8, 128, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x8, .f32⟩
  | .hbm, ⟨4, _⟩ => ⟨S8192x1024, .f32⟩
  | .hbm, ⟨5, _⟩ => ⟨S4x2048x8x128, .f32⟩
  | .hbm, ⟨6, _⟩ => ⟨S8192x1024, .f32⟩
  | .hbm, ⟨7, _⟩ => ⟨S4x2048x8x128, .f32⟩
  | .hbm, ⟨8, _⟩ => ⟨S8192x1024, .f32⟩
  | .hbm, ⟨9, _⟩ => ⟨S4x2048x8x128, .f32⟩
  | .hbm, ⟨10, _⟩ => ⟨S4x2048x8, .f32⟩
  | .hbm, ⟨11, _⟩ => ⟨S4x8x2048, .f32⟩
  | .hbm, ⟨12, _⟩ => ⟨S4x8x2048x2048, .f32⟩
  | .hbm, ⟨13, _⟩ => ⟨S_, .f32⟩
  | .hbm, ⟨14, _⟩ => ⟨S4x8x2048x2048, .f32⟩
  | .hbm, ⟨15, _⟩ => ⟨S4x8x2048x2048, .f32⟩
  | .hbm, ⟨16, _⟩ => ⟨S4x8x2048x1, .f32⟩
  | .hbm, ⟨17, _⟩ => ⟨S4x8x1x2048, .f32⟩
  | .hbm, ⟨18, _⟩ => ⟨S4x8x2048x2048, .f32⟩
  | .hbm, ⟨19, _⟩ => ⟨S4x8x2048x2048, .f32⟩
  | .hbm, ⟨20, _⟩ => ⟨S4x8x2048x2048, .f32⟩
  | .hbm, ⟨21, _⟩ => ⟨S4x8x2048x2048, .f32⟩
  | .hbm, ⟨22, _⟩ => ⟨S2048, .i32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S4x8x2048x2048, .i1⟩
  | .hbm, ⟨31, _⟩ => ⟨S4x8x2048x2048, .f32⟩
  | .hbm, ⟨32, _⟩ => ⟨S4x8x2048x2048, .f32⟩
  | .hbm, ⟨33, _⟩ => ⟨S_, .f32⟩
  | .hbm, ⟨34, _⟩ => ⟨S4x8x2048, .f32⟩
  | .hbm, ⟨35, _⟩ => ⟨S_, .f32⟩
  | .hbm, ⟨36, _⟩ => ⟨S4x8x2048, .f32⟩
  | .hbm, ⟨37, _⟩ => ⟨S4x8x2048, .f32⟩
  | .hbm, ⟨38, _⟩ => ⟨S4x8x2048x1, .f32⟩
  | .hbm, ⟨39, _⟩ => ⟨S4x8x2048x2048, .f32⟩
  | .hbm, ⟨40, _⟩ => ⟨S4x8x2048x2048, .f32⟩
  | .hbm, ⟨41, _⟩ => ⟨S4x8x2048x2048, .f32⟩
  | .hbm, ⟨42, _⟩ => ⟨S_, .f32⟩
  | .hbm, ⟨43, _⟩ => ⟨S4x8x2048, .f32⟩
  | .hbm, ⟨44, _⟩ => ⟨S4x8x2048x1, .f32⟩
  | .hbm, ⟨45, _⟩ => ⟨S4x8x2048x2048, .f32⟩
  | .hbm, ⟨46, _⟩ => ⟨S4x8x2048x2048, .f32⟩
  | .hbm, ⟨47, _⟩ => ⟨S4x8x128x2048, .f32⟩
  | .hbm, ⟨48, _⟩ => ⟨S4x2048x8x128, .f32⟩
  | .hbm, ⟨49, _⟩ => ⟨S8192x1024, .f32⟩
  | .hbm, ⟨50, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Up.lean ====
abbrev S18688x2048 : Shape := ⟨2, ![18688, 2048]⟩
abbrev S128 : Shape := ⟨1, ![128]⟩
abbrev S2x8x2048x7168 : Shape := ⟨4, ![2, 8, 2048, 7168]⟩
abbrev S18688x7168 : Shape := ⟨2, ![18688, 7168]⟩
abbrev S256x2048 : Shape := ⟨2, ![256, 2048]⟩
abbrev S1x1x2048x1024 : Shape := ⟨4, ![1, 1, 2048, 1024]⟩
abbrev S1 : Shape := ⟨1, ![1]⟩
abbrev S256x1024 : Shape := ⟨2, ![256, 1024]⟩
abbrev S2048x1024 : Shape := ⟨2, ![2048, 1024]⟩

abbrev nBuf : Space → Nat
  | .hbm => 4
  | .vmem => 10
  | .smem => 1
  | _ => 0

abbrev bufTy : (tb : Table) → Fin (tcTables nBuf tb) → BufTy
  | .hbm, ⟨0, _⟩ => ⟨S18688x2048, .bf16⟩
  | .hbm, ⟨1, _⟩ => ⟨S2x8x2048x7168, .f32⟩
  | .hbm, ⟨2, _⟩ => ⟨S2x8x2048x7168, .f32⟩
  | .hbm, ⟨3, _⟩ => ⟨S18688x7168, .bf16⟩
  | .local _ .vmem, ⟨0, _⟩ => ⟨S256x2048, .bf16⟩
  | .local _ .vmem, ⟨1, _⟩ => ⟨S256x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x2048x1024, .f32⟩
  | .local _ .vmem, ⟨5, _⟩ => ⟨S1x1x2048x1024, .f32⟩
  | .local _ .vmem, ⟨6, _⟩ => ⟨S256x1024, .bf16⟩
  | .local _ .vmem, ⟨7, _⟩ => ⟨S256x1024, .bf16⟩
  | .local _ .vmem, ⟨8, _⟩ => ⟨S2048x1024, .bf16⟩
  | .local _ .vmem, ⟨9, _⟩ => ⟨S2048x1024, .bf16⟩
  | .local _ .smem, ⟨0, _⟩ => ⟨S128, .i32⟩
  | _, _ => ⟨S18688x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 73], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S18688x2048 : Shape := ⟨2, ![18688, 2048]⟩
abbrev S128 : Shape := ⟨1, ![128]⟩
abbrev S2x8x2048x7168 : Shape := ⟨4, ![2, 8, 2048, 7168]⟩
abbrev S73 : Shape := ⟨1, ![73]⟩
abbrev S1 : Shape := ⟨1, ![1]⟩
abbrev S_ : Shape := ⟨0, ![]⟩
abbrev S73x1 : Shape := ⟨2, ![73, 1]⟩
abbrev S73x256 : Shape := ⟨2, ![73, 256]⟩
abbrev S18688x1 : Shape := ⟨2, ![18688, 1]⟩
abbrev S18688x7168 : Shape := ⟨2, ![18688, 7168]⟩
abbrev S1x1x2048x7168 : Shape := ⟨4, ![1, 1, 2048, 7168]⟩
abbrev S2048x7168 : Shape := ⟨2, ![2048, 7168]⟩

abbrev nBuf : Space → Nat
  | .hbm => 221
  | .vmem => 0
  | .smem => 0
  | _ => 0

abbrev hbmTy0_0 (i : Nat) : BufTy := match i % 128 with
  | 0 => ⟨S18688x2048, .bf16⟩
  | 1 => ⟨S128, .i32⟩
  | 2 => ⟨S2x8x2048x7168, .f32⟩
  | 3 => ⟨S2x8x2048x7168, .f32⟩
  | 4 => ⟨S18688x2048, .f32⟩
  | 5 => ⟨S73, .i32⟩
  | 6 => ⟨S1, .i32⟩
  | 7 => ⟨S_, .i32⟩
  | 8 => ⟨S73, .i32⟩
  | 9 => ⟨S73, .i1⟩
  | 10 => ⟨S73, .i32⟩
  | 11 => ⟨S_, .i32⟩
  | 12 => ⟨S_, .i32⟩
  | 13 => ⟨S73, .i32⟩
  | 14 => ⟨S73, .i32⟩
  | 15 => ⟨S73x1, .i32⟩
  | 16 => ⟨S73x256, .i32⟩
  | 17 => ⟨S18688x1, .i32⟩
  | 18 => ⟨S_, .f32⟩
  | 19 => ⟨S18688x7168, .f32⟩
  | 20 => ⟨S_, .i32⟩
  | 21 => ⟨S18688x1, .i32⟩
  | 22 => ⟨S18688x1, .i1⟩
  | 23 => ⟨S1x1x2048x7168, .f32⟩
  | 24 => ⟨S2048x7168, .f32⟩
  | 25 => ⟨S18688x7168, .f32⟩
  | 26 => ⟨S18688x7168, .f32⟩
  | 27 => ⟨S18688x7168, .f32⟩
  | 28 => ⟨S_, .f32⟩
  | 29 => ⟨S18688x7168, .f32⟩
  | 30 => ⟨S18688x7168, .f32⟩
  | 31 => ⟨S_, .f32⟩
  | 32 => ⟨S18688x7168, .f32⟩
  | 33 => ⟨S18688x7168, .f32⟩
  | 34 => ⟨S18688x7168, .f32⟩
  | 35 => ⟨S1x1x2048x7168, .f32⟩
  | 36 => ⟨S2048x7168, .f32⟩
  | 37 => ⟨S18688x7168, .f32⟩
  | 38 => ⟨S18688x7168, .f32⟩
  | 39 => ⟨S_, .f32⟩
  | 40 => ⟨S_, .f32⟩
  | 41 => ⟨S18688x7168, .i1⟩
  | 42 => ⟨S18688x7168, .f32⟩
  | 43 => ⟨S18688x7168, .f32⟩
  | 44 => ⟨S18688x7168, .f32⟩
  | 45 => ⟨S_, .i32⟩
  | 46 => ⟨S18688x1, .i32⟩
  | 47 => ⟨S18688x1, .i1⟩
  | 48 => ⟨S1x1x2048x7168, .f32⟩
  | 49 => ⟨S2048x7168, .f32⟩
  | 50 => ⟨S18688x7168, .f32⟩
  | 51 => ⟨S18688x7168, .f32⟩
  | 52 => ⟨S18688x7168, .f32⟩
  | 53 => ⟨S_, .f32⟩
  | 54 => ⟨S18688x7168, .f32⟩
  | 55 => ⟨S18688x7168, .f32⟩
  | 56 => ⟨S_, .f32⟩
  | 57 => ⟨S18688x7168, .f32⟩
  | 58 => ⟨S18688x7168, .f32⟩
  | 59 => ⟨S18688x7168, .f32⟩
  | 60 => ⟨S1x1x2048x7168, .f32⟩
  | 61 => ⟨S2048x7168, .f32⟩
  | 62 => ⟨S18688x7168, .f32⟩
  | 63 => ⟨S18688x7168, .f32⟩
  | 64 => ⟨S_, .f32⟩
  | 65 => ⟨S_, .f32⟩
  | 66 => ⟨S18688x7168, .i1⟩
  | 67 => ⟨S18688x7168, .f32⟩
  | 68 => ⟨S18688x7168, .f32⟩
  | 69 => ⟨S18688x7168, .f32⟩
  | 70 => ⟨S_, .i32⟩
  | 71 => ⟨S18688x1, .i32⟩
  | 72 => ⟨S18688x1, .i1⟩
  | 73 => ⟨S1x1x2048x7168, .f32⟩
  | 74 => ⟨S2048x7168, .f32⟩
  | 75 => ⟨S18688x7168, .f32⟩
  | 76 => ⟨S18688x7168, .f32⟩
  | 77 => ⟨S18688x7168, .f32⟩
  | 78 => ⟨S_, .f32⟩
  | 79 => ⟨S18688x7168, .f32⟩
  | 80 => ⟨S18688x7168, .f32⟩
  | 81 => ⟨S_, .f32⟩
  | 82 => ⟨S18688x7168, .f32⟩
  | 83 => ⟨S18688x7168, .f32⟩
  | 84 => ⟨S18688x7168, .f32⟩
  | 85 => ⟨S1x1x2048x7168, .f32⟩
  | 86 => ⟨S2048x7168, .f32⟩
  | 87 => ⟨S18688x7168, .f32⟩
  | 88 => ⟨S18688x7168, .f32⟩
  | 89 => ⟨S_, .f32⟩
  | 90 => ⟨S_, .f32⟩
  | 91 => ⟨S18688x7168, .i1⟩
  | 92 => ⟨S18688x7168, .f32⟩
  | 93 => ⟨S18688x7168, .f32⟩
  | 94 => ⟨S18688x7168, .f32⟩
  | 95 => ⟨S_, .i32⟩
  | 96 => ⟨S18688x1, .i32⟩
  | 97 => ⟨S18688x1, .i1⟩
  | 98 => ⟨S1x1x2048x7168, .f32⟩
  | 99 => ⟨S2048x7168, .f32⟩
  | 100 => ⟨S18688x7168, .f32⟩
  | 101 => ⟨S18688x7168, .f32⟩
  | 102 => ⟨S18688x7168, .f32⟩
  | 103 => ⟨S_, .f32⟩
  | 104 => ⟨S18688x7168, .f32⟩
  | 105 => ⟨S18688x7168, .f32⟩
  | 106 => ⟨S_, .f32⟩
  | 107 => ⟨S18688x7168, .f32⟩
  | 108 => ⟨S18688x7168, .f32⟩
  | 109 => ⟨S18688x7168, .f32⟩
  | 110 => ⟨S1x1x2048x7168, .f32⟩
  | 111 => ⟨S2048x7168, .f32⟩
  | 112 => ⟨S18688x7168, .f32⟩
  | 113 => ⟨S18688x7168, .f32⟩
  | 114 => ⟨S_, .f32⟩
  | 115 => ⟨S_, .f32⟩
  | 116 => ⟨S18688x7168, .i1⟩
  | 117 => ⟨S18688x7168, .f32⟩
  | 118 => ⟨S18688x7168, .f32⟩
  | 119 => ⟨S18688x7168, .f32⟩
  | 120 => ⟨S_, .i32⟩
  | 121 => ⟨S18688x1, .i32⟩
  | 122 => ⟨S18688x1, .i1⟩
  | 123 => ⟨S1x1x2048x7168, .f32⟩
  | 124 => ⟨S2048x7168, .f32⟩
  | 125 => ⟨S18688x7168, .f32⟩
  | 126 => ⟨S18688x7168, .f32⟩
  | 127 => ⟨S18688x7168, .f32⟩
  | _ => ⟨S18688x2048, .bf16⟩

abbrev hbmTy0_1 (i : Nat) : BufTy := match i % 128 with
  | 0 => ⟨S_, .f32⟩
  | 1 => ⟨S18688x7168, .f32⟩
  | 2 => ⟨S18688x7168, .f32⟩
  | 3 => ⟨S_, .f32⟩
  | 4 => ⟨S18688x7168, .f32⟩
  | 5 => ⟨S18688x7168, .f32⟩
  | 6 => ⟨S18688x7168, .f32⟩
  | 7 => ⟨S1x1x2048x7168, .f32⟩
  | 8 => ⟨S2048x7168, .f32⟩
  | 9 => ⟨S18688x7168, .f32⟩
  | 10 => ⟨S18688x7168, .f32⟩
  | 11 => ⟨S_, .f32⟩
  | 12 => ⟨S_, .f32⟩
  | 13 => ⟨S18688x7168, .i1⟩
  | 14 => ⟨S18688x7168, .f32⟩
  | 15 => ⟨S18688x7168, .f32⟩
  | 16 => ⟨S18688x7168, .f32⟩
  | 17 => ⟨S_, .i32⟩
  | 18 => ⟨S18688x1, .i32⟩
  | 19 => ⟨S18688x1, .i1⟩
  | 20 => ⟨S1x1x2048x7168, .f32⟩
  | 21 => ⟨S2048x7168, .f32⟩
  | 22 => ⟨S18688x7168, .f32⟩
  | 23 => ⟨S18688x7168, .f32⟩
  | 24 => ⟨S18688x7168, .f32⟩
  | 25 => ⟨S_, .f32⟩
  | 26 => ⟨S18688x7168, .f32⟩
  | 27 => ⟨S18688x7168, .f32⟩
  | 28 => ⟨S_, .f32⟩
  | 29 => ⟨S18688x7168, .f32⟩
  | 30 => ⟨S18688x7168, .f32⟩
  | 31 => ⟨S18688x7168, .f32⟩
  | 32 => ⟨S1x1x2048x7168, .f32⟩
  | 33 => ⟨S2048x7168, .f32⟩
  | 34 => ⟨S18688x7168, .f32⟩
  | 35 => ⟨S18688x7168, .f32⟩
  | 36 => ⟨S_, .f32⟩
  | 37 => ⟨S_, .f32⟩
  | 38 => ⟨S18688x7168, .i1⟩
  | 39 => ⟨S18688x7168, .f32⟩
  | 40 => ⟨S18688x7168, .f32⟩
  | 41 => ⟨S18688x7168, .f32⟩
  | 42 => ⟨S_, .i32⟩
  | 43 => ⟨S18688x1, .i32⟩
  | 44 => ⟨S18688x1, .i1⟩
  | 45 => ⟨S1x1x2048x7168, .f32⟩
  | 46 => ⟨S2048x7168, .f32⟩
  | 47 => ⟨S18688x7168, .f32⟩
  | 48 => ⟨S18688x7168, .f32⟩
  | 49 => ⟨S18688x7168, .f32⟩
  | 50 => ⟨S_, .f32⟩
  | 51 => ⟨S18688x7168, .f32⟩
  | 52 => ⟨S18688x7168, .f32⟩
  | 53 => ⟨S_, .f32⟩
  | 54 => ⟨S18688x7168, .f32⟩
  | 55 => ⟨S18688x7168, .f32⟩
  | 56 => ⟨S18688x7168, .f32⟩
  | 57 => ⟨S1x1x2048x7168, .f32⟩
  | 58 => ⟨S2048x7168, .f32⟩
  | 59 => ⟨S18688x7168, .f32⟩
  | 60 => ⟨S18688x7168, .f32⟩
  | 61 => ⟨S_, .f32⟩
  | 62 => ⟨S_, .f32⟩
  | 63 => ⟨S18688x7168, .i1⟩
  | 64 => ⟨S18688x7168, .f32⟩
  | 65 => ⟨S18688x7168, .f32⟩
  | 66 => ⟨S18688x7168, .f32⟩
  | 67 => ⟨S_, .i32⟩
  | 68 => ⟨S18688x1, .i32⟩
  | 69 => ⟨S18688x1, .i1⟩
  | 70 => ⟨S1x1x2048x7168, .f32⟩
  | 71 => ⟨S2048x7168, .f32⟩
  | 72 => ⟨S18688x7168, .f32⟩
  | 73 => ⟨S18688x7168, .f32⟩
  | 74 => ⟨S18688x7168, .f32⟩
  | 75 => ⟨S_, .f32⟩
  | 76 => ⟨S18688x7168, .f32⟩
  | 77 => ⟨S18688x7168, .f32⟩
  | 78 => ⟨S_, .f32⟩
  | 79 => ⟨S18688x7168, .f32⟩
  | 80 => ⟨S18688x7168, .f32⟩
  | 81 => ⟨S18688x7168, .f32⟩
  | 82 => ⟨S1x1x2048x7168, .f32⟩
  | 83 => ⟨S2048x7168, .f32⟩
  | 84 => ⟨S18688x7168, .f32⟩
  | 85 => ⟨S18688x7168, .f32⟩
  | 86 => ⟨S_, .f32⟩
  | 87 => ⟨S_, .f32⟩
  | 88 => ⟨S18688x7168, .i1⟩
  | 89 => ⟨S18688x7168, .f32⟩
  | 90 => ⟨S18688x7168, .f32⟩
  | 91 => ⟨S18688x7168, .f32⟩
  | 92 => ⟨S18688x7168, .bf16⟩
  | _ => ⟨S18688x2048, .bf16⟩

abbrev hbmTy (i : Nat) : BufTy := match i / 128 with
  | 0 => hbmTy0_0 i
  | 1 => hbmTy0_1 i
  | _ => ⟨S18688x2048, .bf16⟩

abbrev bufTy : (tb : Table) → Fin (tcTables nBuf tb) → BufTy
  | .hbm, ⟨i, _⟩ => hbmTy i
  | _, _ => ⟨S18688x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call3_v0 : Ref sig .tc := ⟨.hbm, 51, rfl⟩
abbrev main_call3_v1 : Ref sig .tc := ⟨.hbm, 52, rfl⟩
abbrev main_call3_cst : Ref sig .tc := ⟨.hbm, 53, rfl⟩
abbrev main_call3_v2 : Ref sig .tc := ⟨.hbm, 54, rfl⟩
abbrev main_call3_v3 : Ref sig .tc := ⟨.hbm, 55, rfl⟩
abbrev main_call3_cst_0 : Ref sig .tc := ⟨.hbm, 56, rfl⟩
abbrev main_call3_v4 : Ref sig .tc := ⟨.hbm, 57, rfl⟩
abbrev main_call3_v5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_3 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v34 : Ref sig .tc := ⟨.hbm, 68, rfl⟩
abbrev main_v35 : Ref sig .tc := ⟨.hbm, 69, rfl⟩
abbrev main_c_4 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_call5_v0 : Ref sig .tc := ⟨.hbm, 76, rfl⟩
abbrev main_call5_v1 : Ref sig .tc := ⟨.hbm, 77, rfl⟩
abbrev main_call5_cst : Ref sig .tc := ⟨.hbm, 78, rfl⟩
abbrev main_call5_v2 : Ref sig .tc := ⟨.hbm, 79, rfl⟩
abbrev main_call5_v3 : Ref sig .tc := ⟨.hbm, 80, rfl⟩
abbrev main_call5_cst_0 : Ref sig .tc := ⟨.hbm, 81, rfl⟩
abbrev main_call5_v4 : Ref sig .tc := ⟨.hbm, 82, rfl⟩
abbrev main_call5_v5 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_5 : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_v46 : Ref sig .tc := ⟨.hbm, 93, rfl⟩
abbrev main_v47 : Ref sig .tc := ⟨.hbm, 94, rfl⟩
abbrev main_c_6 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_call7_v0 : Ref sig .tc := ⟨.hbm, 101, rfl⟩
abbrev main_call7_v1 : Ref sig .tc := ⟨.hbm, 102, rfl⟩
abbrev main_call7_cst : Ref sig .tc := ⟨.hbm, 103, rfl⟩
abbrev main_call7_v2 : Ref sig .tc := ⟨.hbm, 104, rfl⟩
abbrev main_call7_v3 : Ref sig .tc := ⟨.hbm, 105, rfl⟩
abbrev main_call7_cst_0 : Ref sig .tc := ⟨.hbm, 106, rfl⟩
abbrev main_call7_v4 : Ref sig .tc := ⟨.hbm, 107, rfl⟩
abbrev main_call7_v5 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_7 : Ref sig .tc := ⟨.hbm, 114, rfl⟩
abbrev main_call8_v0 : Ref sig .tc := ⟨.hbm, 115, rfl⟩
abbrev main_call8_v1 : Ref sig .tc := ⟨.hbm, 116, rfl⟩
abbrev main_call8_v2 : Ref sig .tc := ⟨.hbm, 117, rfl⟩
abbrev main_v58 : Ref sig .tc := ⟨.hbm, 118, rfl⟩
abbrev main_v59 : Ref sig .tc := ⟨.hbm, 119, rfl⟩
abbrev main_c_8 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_call9_v0 : Ref sig .tc := ⟨.hbm, 126, rfl⟩
abbrev main_call9_v1 : Ref sig .tc := ⟨.hbm, 127, rfl⟩
abbrev main_call9_cst : Ref sig .tc := ⟨.hbm, 128, rfl⟩
abbrev main_call9_v2 : Ref sig .tc := ⟨.hbm, 129, rfl⟩
abbrev main_call9_v3 : Ref sig .tc := ⟨.hbm, 130, rfl⟩
abbrev main_call9_cst_0 : Ref sig .tc := ⟨.hbm, 131, rfl⟩
abbrev main_call9_v4 : Ref sig .tc := ⟨.hbm, 132, rfl⟩
abbrev main_call9_v5 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_cst_9 : Ref sig .tc := ⟨.hbm, 139, rfl⟩
abbrev main_call10_v0 : Ref sig .tc := ⟨.hbm, 140, rfl⟩
abbrev main_call10_v1 : Ref sig .tc := ⟨.hbm, 141, rfl⟩
abbrev main_call10_v2 : Ref sig .tc := ⟨.hbm, 142, rfl⟩
abbrev main_v70 : Ref sig .tc := ⟨.hbm, 143, rfl⟩
abbrev main_v71 : Ref sig .tc := ⟨.hbm, 144, rfl⟩
abbrev main_c_10 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_call11_v0 : Ref sig .tc := ⟨.hbm, 151, rfl⟩
abbrev main_call11_v1 : Ref sig .tc := ⟨.hbm, 152, rfl⟩
abbrev main_call11_cst : Ref sig .tc := ⟨.hbm, 153, rfl⟩
abbrev main_call11_v2 : Ref sig .tc := ⟨.hbm, 154, rfl⟩
abbrev main_call11_v3 : Ref sig .tc := ⟨.hbm, 155, rfl⟩
abbrev main_call11_cst_0 : Ref sig .tc := ⟨.hbm, 156, rfl⟩
abbrev main_call11_v4 : Ref sig .tc := ⟨.hbm, 157, rfl⟩
abbrev main_call11_v5 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_cst_11 : Ref sig .tc := ⟨.hbm, 164, rfl⟩
abbrev main_call12_v0 : Ref sig .tc := ⟨.hbm, 165, rfl⟩
abbrev main_call12_v1 : Ref sig .tc := ⟨.hbm, 166, rfl⟩
abbrev main_call12_v2 : Ref sig .tc := ⟨.hbm, 167, rfl⟩
abbrev main_v82 : Ref sig .tc := ⟨.hbm, 168, rfl⟩
abbrev main_v83 : Ref sig .tc := ⟨.hbm, 169, rfl⟩
abbrev main_c_12 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_call13_v0 : Ref sig .tc := ⟨.hbm, 176, rfl⟩
abbrev main_call13_v1 : Ref sig .tc := ⟨.hbm, 177, rfl⟩
abbrev main_call13_cst : Ref sig .tc := ⟨.hbm, 178, rfl⟩
abbrev main_call13_v2 : Ref sig .tc := ⟨.hbm, 179, rfl⟩
abbrev main_call13_v3 : Ref sig .tc := ⟨.hbm, 180, rfl⟩
abbrev main_call13_cst_0 : Ref sig .tc := ⟨.hbm, 181, rfl⟩
abbrev main_call13_v4 : Ref sig .tc := ⟨.hbm, 182, rfl⟩
abbrev main_call13_v5 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_cst_13 : Ref sig .tc := ⟨.hbm, 189, rfl⟩
abbrev main_call14_v0 : Ref sig .tc := ⟨.hbm, 190, rfl⟩
abbrev main_call14_v1 : Ref sig .tc := ⟨.hbm, 191, rfl⟩
abbrev main_call14_v2 : Ref sig .tc := ⟨.hbm, 192, rfl⟩
abbrev main_v94 : Ref sig .tc := ⟨.hbm, 193, rfl⟩
abbrev main_v95 : Ref sig .tc := ⟨.hbm, 194, rfl⟩
abbrev main_c_14 : Ref sig .tc := ⟨.hbm, 195, rfl⟩
abbrev main_v96 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_call15_v0 : Ref sig .tc := ⟨.hbm, 201, rfl⟩
abbrev main_call15_v1 : Ref sig .tc := ⟨.hbm, 202, rfl⟩
abbrev main_call15_cst : Ref sig .tc := ⟨.hbm, 203, rfl⟩
abbrev main_call15_v2 : Ref sig .tc := ⟨.hbm, 204, rfl⟩
abbrev main_call15_v3 : Ref sig .tc := ⟨.hbm, 205, rfl⟩
abbrev main_call15_cst_0 : Ref sig .tc := ⟨.hbm, 206, rfl⟩
abbrev main_call15_v4 : Ref sig .tc := ⟨.hbm, 207, rfl⟩
abbrev main_call15_v5 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_cst_15 : Ref sig .tc := ⟨.hbm, 214, rfl⟩
abbrev main_call16_v0 : Ref sig .tc := ⟨.hbm, 215, rfl⟩
abbrev main_call16_v1 : Ref sig .tc := ⟨.hbm, 216, rfl⟩
abbrev main_call16_v2 : Ref sig .tc := ⟨.hbm, 217, rfl⟩
abbrev main_v106 : Ref sig .tc := ⟨.hbm, 218, rfl⟩
abbrev main_v107 : Ref sig .tc := ⟨.hbm, 219, rfl⟩
abbrev main_v108 : Ref sig .tc := ⟨.hbm, 220, rfl⟩

abbrev nD : Nat := 1
abbrev τ : Topo := Topo.v7x

variable {F : FTy → Type} [FloatOps F]
-- ==== Down.lean ====
abbrev S18688x7168 : Shape := ⟨2, ![18688, 7168]⟩
abbrev S128 : Shape := ⟨1, ![128]⟩
abbrev S2x8x7168x2048 : Shape := ⟨4, ![2, 8, 7168, 2048]⟩
abbrev S18688x2048 : Shape := ⟨2, ![18688, 2048]⟩
abbrev S256x7168 : Shape := ⟨2, ![256, 7168]⟩
abbrev S1x1x7168x512 : Shape := ⟨4, ![1, 1, 7168, 512]⟩
abbrev S1 : Shape := ⟨1, ![1]⟩
abbrev S256x512 : Shape := ⟨2, ![256, 512]⟩
abbrev S7168x512 : Shape := ⟨2, ![7168, 512]⟩

abbrev nBuf : Space → Nat
  | .hbm => 3
  | .vmem => 7
  | .smem => 1
  | _ => 0

abbrev bufTy : (tb : Table) → Fin (tcTables nBuf tb) → BufTy
  | .hbm, ⟨0, _⟩ => ⟨S18688x7168, .bf16⟩
  | .hbm, ⟨1, _⟩ => ⟨S2x8x7168x2048, .f32⟩
  | .hbm, ⟨2, _⟩ => ⟨S18688x2048, .f32⟩
  | .local _ .vmem, ⟨0, _⟩ => ⟨S256x7168, .bf16⟩
  | .local _ .vmem, ⟨1, _⟩ => ⟨S256x7168, .bf16⟩
  | .local _ .vmem, ⟨2, _⟩ => ⟨S1x1x7168x512, .f32⟩
  | .local _ .vmem, ⟨3, _⟩ => ⟨S1x1x7168x512, .f32⟩
  | .local _ .vmem, ⟨4, _⟩ => ⟨S256x512, .f32⟩
  | .local _ .vmem, ⟨5, _⟩ => ⟨S256x512, .f32⟩
  | .local _ .vmem, ⟨6, _⟩ => ⟨S7168x512, .bf16⟩
  | .local _ .smem, ⟨0, _⟩ => ⟨S128, .i32⟩
  | _, _ => ⟨S18688x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 73], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S18688x7168 : Shape := ⟨2, ![18688, 7168]⟩
abbrev S128 : Shape := ⟨1, ![128]⟩
abbrev S2x8x7168x2048 : Shape := ⟨4, ![2, 8, 7168, 2048]⟩
abbrev S73 : Shape := ⟨1, ![73]⟩
abbrev S1 : Shape := ⟨1, ![1]⟩
abbrev S_ : Shape := ⟨0, ![]⟩
abbrev S73x1 : Shape := ⟨2, ![73, 1]⟩
abbrev S73x256 : Shape := ⟨2, ![73, 256]⟩
abbrev S18688x1 : Shape := ⟨2, ![18688, 1]⟩
abbrev S18688x2048 : Shape := ⟨2, ![18688, 2048]⟩
abbrev S1x1x7168x2048 : Shape := ⟨4, ![1, 1, 7168, 2048]⟩
abbrev S7168x2048 : Shape := ⟨2, ![7168, 2048]⟩

abbrev nBuf : Space → Nat
  | .hbm => 115
  | .vmem => 0
  | .smem => 0
  | _ => 0

abbrev bufTy : (tb : Table) → Fin (tcTables nBuf tb) → BufTy
  | .hbm, ⟨0, _⟩ => ⟨S18688x7168, .bf16⟩
  | .hbm, ⟨1, _⟩ => ⟨S128, .i32⟩
  | .hbm, ⟨2, _⟩ => ⟨S2x8x7168x2048, .f32⟩
  | .hbm, ⟨3, _⟩ => ⟨S18688x7168, .f32⟩
  | .hbm, ⟨4, _⟩ => ⟨S73, .i32⟩
  | .hbm, ⟨5, _⟩ => ⟨S1, .i32⟩
  | .hbm, ⟨6, _⟩ => ⟨S_, .i32⟩
  | .hbm, ⟨7, _⟩ => ⟨S73, .i32⟩
  | .hbm, ⟨8, _⟩ => ⟨S73, .i1⟩
  | .hbm, ⟨9, _⟩ => ⟨S73, .i32⟩
  | .hbm, ⟨10, _⟩ => ⟨S_, .i32⟩
  | .hbm, ⟨11, _⟩ => ⟨S_, .i32⟩
  | .hbm, ⟨12, _⟩ => ⟨S73, .i32⟩
  | .hbm, ⟨13, _⟩ => ⟨S73, .i32⟩
  | .hbm, ⟨14, _⟩ => ⟨S73x1, .i32⟩
  | .hbm, ⟨15, _⟩ => ⟨S73x256, .i32⟩
  | .hbm, ⟨16, _⟩ => ⟨S18688x1, .i32⟩
  | .hbm, ⟨17, _⟩ => ⟨S_, .f32⟩
  | .hbm, ⟨18, _⟩ => ⟨S18688x2048, .f32⟩
  | .hbm, ⟨19, _⟩ => ⟨S_, .i32⟩
  | .hbm, ⟨20, _⟩ => ⟨S18688x1, .i32⟩
  | .hbm, ⟨21, _⟩ => ⟨S18688x1, .i1⟩
  | .hbm, ⟨22, _⟩ => ⟨S1x1x7168x2048, .f32⟩
  | .hbm, ⟨23, _⟩ => ⟨S7168x2048, .f32⟩
  | .hbm, ⟨24, _⟩ => ⟨S18688x2048, .f32⟩
  | .hbm, ⟨25, _⟩ => ⟨S_, .f32⟩
  | .hbm, ⟨26, _⟩ => ⟨S_, .f32⟩
  | .hbm, ⟨27, _⟩ => ⟨S18688x2048, .i1⟩
  | .hbm, ⟨28, _⟩ => ⟨S18688x2048, .f32⟩
  | .hbm, ⟨29, _⟩ => ⟨S18688x2048, .f32⟩
  | .hbm, ⟨30, _⟩ => ⟨S18688x2048, .f32⟩
  | .hbm, ⟨31, _⟩ => ⟨S_, .i32⟩
  | .hbm, ⟨32, _⟩ => ⟨S18688x1, .i32⟩
  | .hbm, ⟨33, _⟩ => ⟨S18688x1, .i1⟩
  | .hbm, ⟨34, _⟩ => ⟨S1x1x7168x2048, .f32⟩
  | .hbm, ⟨35, _⟩ => ⟨S7168x2048, .f32⟩
  | .hbm, ⟨36, _⟩ => ⟨S18688x2048, .f32⟩
  | .hbm, ⟨37, _⟩ => ⟨S_, .f32⟩
  | .hbm, ⟨38, _⟩ => ⟨S_, .f32⟩
  | .hbm, ⟨39, _⟩ => ⟨S18688x2048, .i1⟩
  | .hbm, ⟨40, _⟩ => ⟨S18688x2048, .f32⟩
  | .hbm, ⟨41, _⟩ => ⟨S18688x2048, .f32⟩
  | .hbm, ⟨42, _⟩ => ⟨S18688x2048, .f32⟩
  | .hbm, ⟨43, _⟩ => ⟨S_, .i32⟩
  | .hbm, ⟨44, _⟩ => ⟨S18688x1, .i32⟩
  | .hbm, ⟨45, _⟩ => ⟨S18688x1, .i1⟩
  | .hbm, ⟨46, _⟩ => ⟨S1x1x7168x2048, .f32⟩
  | .hbm, ⟨47, _⟩ => ⟨S7168x2048, .f32⟩
  | .hbm, ⟨48, _⟩ => ⟨S18688x2048, .f32⟩
  | .hbm, ⟨49, _⟩ => ⟨S_, .f32⟩
  | .hbm, ⟨50, _⟩ => ⟨S_, .f32⟩
  | .hbm, ⟨51, _⟩ => ⟨S18688x2048, .i1⟩
  | .hbm, ⟨52, _⟩ => ⟨S18688x2048, .f32⟩
  | .hbm, ⟨53, _⟩ => ⟨S18688x2048, .f32⟩
  | .hbm, ⟨54, _⟩ => ⟨S18688x2048, .f32⟩
  | .hbm, ⟨55, _⟩ => ⟨S_, .i32⟩
  | .hbm, ⟨56, _⟩ => ⟨S18688x1, .i32⟩
  | .hbm, ⟨57, _⟩ => ⟨S18688x1, .i1⟩
  | .hbm, ⟨58, _⟩ => ⟨S1x1x7168x2048, .f32⟩
  | .hbm, ⟨59, _⟩ => ⟨S7168x2048, .f32⟩
  | .hbm, ⟨60, _⟩ => ⟨S18688x2048, .f32⟩
  | .hbm, ⟨61, _⟩ => ⟨S_, .f32⟩
  | .hbm, ⟨62, _⟩ => ⟨S_, .f32⟩
  | .hbm, ⟨63, _⟩ => ⟨S18688x2048, .i1⟩
  | .hbm, ⟨64, _⟩ => ⟨S18688x2048, .f32⟩
  | .hbm, ⟨65, _⟩ => ⟨S18688x2048, .f32⟩
  | .hbm, ⟨66, _⟩ => ⟨S18688x2048, .f32⟩
  | .hbm, ⟨67, _⟩ => ⟨S_, .i32⟩
  | .hbm, ⟨68, _⟩ => ⟨S18688x1, .i32⟩
  | .hbm, ⟨69, _⟩ => ⟨S18688x1, .i1⟩
  | .hbm, ⟨70, _⟩ => ⟨S1x1x7168x2048, .f32⟩
  | .hbm, ⟨71, _⟩ => ⟨S7168x2048, .f32⟩
  | .hbm, ⟨72, _⟩ => ⟨S18688x2048, .f32⟩
  | .hbm, ⟨73, _⟩ => ⟨S_, .f32⟩
  | .hbm, ⟨74, _⟩ => ⟨S_, .f32⟩
  | .hbm, ⟨75, _⟩ => ⟨S18688x2048, .i1⟩
  | .hbm, ⟨76, _⟩ => ⟨S18688x2048, .f32⟩
  | .hbm, ⟨77, _⟩ => ⟨S18688x2048, .f32⟩
  | .hbm, ⟨78, _⟩ => ⟨S18688x2048, .f32⟩
  | .hbm, ⟨79, _⟩ => ⟨S_, .i32⟩
  | .hbm, ⟨80, _⟩ => ⟨S18688x1, .i32⟩
  | .hbm, ⟨81, _⟩ => ⟨S18688x1, .i1⟩
  | .hbm, ⟨82, _⟩ => ⟨S1x1x7168x2048, .f32⟩
  | .hbm, ⟨83, _⟩ => ⟨S7168x2048, .f32⟩
  | .hbm, ⟨84, _⟩ => ⟨S18688x2048, .f32⟩
  | .hbm, ⟨85, _⟩ => ⟨S_, .f32⟩
  | .hbm, ⟨86, _⟩ => ⟨S_, .f32⟩
  | .hbm, ⟨87, _⟩ => ⟨S18688x2048, .i1⟩
  | .hbm, ⟨88, _⟩ => ⟨S18688x2048, .f32⟩
  | .hbm, ⟨89, _⟩ => ⟨S18688x2048, .f32⟩
  | .hbm, ⟨90, _⟩ => ⟨S18688x2048, .f32⟩
  | .hbm, ⟨91, _⟩ => ⟨S_, .i32⟩
  | .hbm, ⟨92, _⟩ => ⟨S18688x1, .i32⟩
  | .hbm, ⟨93, _⟩ => ⟨S18688x1, .i1⟩
  | .hbm, ⟨94, _⟩ => ⟨S1x1x7168x2048, .f32⟩
  | .hbm, ⟨95, _⟩ => ⟨S7168x2048, .f32⟩
  | .hbm, ⟨96, _⟩ => ⟨S18688x2048, .f32⟩
  | .hbm, ⟨97, _⟩ => ⟨S_, .f32⟩
  | .hbm, ⟨98, _⟩ => ⟨S_, .f32⟩
  | .hbm, ⟨99, _⟩ => ⟨S18688x2048, .i1⟩
  | .hbm, ⟨100, _⟩ => ⟨S18688x2048, .f32⟩
  | .hbm, ⟨101, _⟩ => ⟨S18688x2048, .f32⟩
  | .hbm, ⟨102, _⟩ => ⟨S18688x2048, .f32⟩
  | .hbm, ⟨103, _⟩ => ⟨S_, .i32⟩
  | .hbm, ⟨104, _⟩ => ⟨S18688x1, .i32⟩
  | .hbm, ⟨105, _⟩ => ⟨S18688x1, .i1⟩
  | .hbm, ⟨106, _⟩ => ⟨S1x1x7168x2048, .f32⟩
  | .hbm, ⟨107, _⟩ => ⟨S7168x2048, .f32⟩
  | .hbm, ⟨108, _⟩ => ⟨S18688x2048, .f32⟩
  | .hbm, ⟨109, _⟩ => ⟨S_, .f32⟩
  | .hbm, ⟨110, _⟩ => ⟨S_, .f32⟩
  | .hbm, ⟨111, _⟩ => ⟨S18688x2048, .i1⟩
  | .hbm, ⟨112, _⟩ => ⟨S18688x2048, .f32⟩
  | .hbm, ⟨113, _⟩ => ⟨S18688x2048, .f32⟩
  | .hbm, ⟨114, _⟩ => ⟨S18688x2048, .f32⟩
  | _, _ => ⟨S18688x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_v45 : Ref sig .tc := ⟨.hbm, 77, rfl⟩
abbrev main_v46 : Ref sig .tc := ⟨.hbm, 78, rfl⟩
abbrev main_c_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_11 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_v52 : Ref sig .tc := ⟨.hbm, 89, rfl⟩
abbrev main_v53 : Ref sig .tc := ⟨.hbm, 90, rfl⟩
abbrev main_c_12 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_13 : Ref sig .tc := ⟨.hbm, 97, rfl⟩
abbrev main_call7_v0 : Ref sig .tc := ⟨.hbm, 98, rfl⟩
abbrev main_call7_v1 : Ref sig .tc := ⟨.hbm, 99, rfl⟩
abbrev main_call7_v2 : Ref sig .tc := ⟨.hbm, 100, rfl⟩
abbrev main_v59 : Ref sig .tc := ⟨.hbm, 101, rfl⟩
abbrev main_v60 : Ref sig .tc := ⟨.hbm, 102, rfl⟩
abbrev main_c_14 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_15 : Ref sig .tc := ⟨.hbm, 109, rfl⟩
abbrev main_call8_v0 : Ref sig .tc := ⟨.hbm, 110, rfl⟩
abbrev main_call8_v1 : Ref sig .tc := ⟨.hbm, 111, rfl⟩
abbrev main_call8_v2 : Ref sig .tc := ⟨.hbm, 112, rfl⟩
abbrev main_v66 : Ref sig .tc := ⟨.hbm, 113, rfl⟩
abbrev main_v67 : Ref sig .tc := ⟨.hbm, 114, rfl⟩

abbrev nD : Nat := 1
abbrev τ : Topo := Topo.v7x

variable {F : FTy → Type} [FloatOps F]
-- ==== In.lean ====
abbrev S8256x2048 : Shape := ⟨2, ![8256, 2048]⟩
abbrev S4x2048x6920 : Shape := ⟨3, ![4, 2048, 6920]⟩
abbrev S8256x6912 : Shape := ⟨2, ![8256, 6912]⟩
abbrev S688x2048 : Shape := ⟨2, ![688, 2048]⟩
abbrev S1x2048x768 : Shape := ⟨3, ![1, 2048, 768]⟩
abbrev S688x768 : Shape := ⟨2, ![688, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8256x2048, .bf16⟩
  | .hbm, ⟨1, _⟩ => ⟨S4x2048x6920, .f32⟩
  | .hbm, ⟨2, _⟩ => ⟨S8256x6912, .f32⟩
  | .local _ .vmem, ⟨0, _⟩ => ⟨S688x2048, .bf16⟩
  | .local _ .vmem, ⟨1, _⟩ => ⟨S688x2048, .bf16⟩
  | .local _ .vmem, ⟨2, _⟩ => ⟨S1x2048x768, .f32⟩
  | .local _ .vmem, ⟨3, _⟩ => ⟨S1x2048x768, .f32⟩
  | .local _ .vmem, ⟨4, _⟩ => ⟨S688x768, .f32⟩
  | .local _ .vmem, ⟨5, _⟩ => ⟨S688x768, .f32⟩
  | .local _ .vmem, ⟨6, _⟩ => ⟨S2048x768, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InReferenceIdeal.lean ====
abbrev S8256x2048 : Shape := ⟨2, ![8256, 2048]⟩
abbrev S4x2048x6920 : Shape := ⟨3, ![4, 2048, 6920]⟩
abbrev S1x2048x6920 : Shape := ⟨3, ![1, 2048, 6920]⟩
abbrev S2048x6920 : Shape := ⟨2, ![2048, 6920]⟩
abbrev S2048x6912 : Shape := ⟨2, ![2048, 6912]⟩
abbrev S8256x6912 : Shape := ⟨2, ![8256, 6912]⟩

abbrev nBuf : Space → Nat
  | .hbm => 7
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S4x2048x6920, .f32⟩
  | .hbm, ⟨2, _⟩ => ⟨S8256x2048, .f32⟩
  | .hbm, ⟨3, _⟩ => ⟨S1x2048x6920, .f32⟩
  | .hbm, ⟨4, _⟩ => ⟨S2048x6920, .f32⟩
  | .hbm, ⟨5, _⟩ => ⟨S2048x6912, .f32⟩
  | .hbm, ⟨6, _⟩ => ⟨S8256x6912, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mixed.lean ====
abbrev S8256x2048 : Shape := ⟨2, ![8256, 2048]⟩
abbrev S4x2048x2048 : Shape := ⟨3, ![4, 2048, 2048]⟩
abbrev S688x2048 : Shape := ⟨2, ![688, 2048]⟩
abbrev S1x2048x512 : Shape := ⟨3, ![1, 2048, 512]⟩
abbrev S688x512 : Shape := ⟨2, ![688, 512]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S8256x2048, .bf16⟩
  | .hbm, ⟨1, _⟩ => ⟨S4x2048x2048, .f32⟩
  | .hbm, ⟨2, _⟩ => ⟨S8256x2048, .f32⟩
  | .hbm, ⟨3, _⟩ => ⟨S8256x2048, .f32⟩
  | .local _ .vmem, ⟨0, _⟩ => ⟨S688x2048, .bf16⟩
  | .local _ .vmem, ⟨1, _⟩ => ⟨S688x2048, .bf16⟩
  | .local _ .vmem, ⟨2, _⟩ => ⟨S1x2048x512, .f32⟩
  | .local _ .vmem, ⟨3, _⟩ => ⟨S1x2048x512, .f32⟩
  | .local _ .vmem, ⟨4, _⟩ => ⟨S688x512, .f32⟩
  | .local _ .vmem, ⟨5, _⟩ => ⟨S688x512, .f32⟩
  | .local _ .vmem, ⟨6, _⟩ => ⟨S688x512, .f32⟩
  | .local _ .vmem, ⟨7, _⟩ => ⟨S688x512, .f32⟩
  | .local _ .vmem, ⟨8, _⟩ => ⟨S2048x512, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixedReferenceIdeal.lean ====
abbrev S8256x2048 : Shape := ⟨2, ![8256, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S4x2048x2048, .f32⟩
  | .hbm, ⟨2, _⟩ => ⟨S8256x2048, .f32⟩
  | .hbm, ⟨3, _⟩ => ⟨S8256x2048, .f32⟩
  | .hbm, ⟨4, _⟩ => ⟨S1x2048x2048, .f32⟩
  | .hbm, ⟨5, _⟩ => ⟨S2048x2048, .f32⟩
  | .hbm, ⟨6, _⟩ => ⟨S8256x2048, .f32⟩
  | .hbm, ⟨7, _⟩ => ⟨S8256x2048, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Fall.lean ====
abbrev S8256x5504 : Shape := ⟨2, ![8256, 5504]⟩
abbrev S2x5504x2048 : Shape := ⟨3, ![2, 5504, 2048]⟩
abbrev S8256x2048 : Shape := ⟨2, ![8256, 2048]⟩
abbrev S688x5504 : Shape := ⟨2, ![688, 5504]⟩
abbrev S1x5504x512 : Shape := ⟨3, ![1, 5504, 512]⟩
abbrev S688x512 : Shape := ⟨2, ![688, 512]⟩
abbrev S5504x512 : Shape := ⟨2, ![5504, 512]⟩

abbrev nBuf : Space → Nat
  | .hbm => 4
  | .vmem => 9
  | .smem => 0
  | _ => 0

abbrev bufTy : (tb : Table) → Fin (tcTables nBuf tb) → BufTy
  | .hbm, ⟨0, _⟩ => ⟨S8256x5504, .bf16⟩
  | .hbm, ⟨1, _⟩ => ⟨S2x5504x2048, .f32⟩
  | .hbm, ⟨2, _⟩ => ⟨S8256x2048, .f32⟩
  | .hbm, ⟨3, _⟩ => ⟨S8256x2048, .f32⟩
  | .local _ .vmem, ⟨0, _⟩ => ⟨S688x5504, .bf16⟩
  | .local _ .vmem, ⟨1, _⟩ => ⟨S688x5504, .bf16⟩
  | .local _ .vmem, ⟨2, _⟩ => ⟨S1x5504x512, .f32⟩
  | .local _ .vmem, ⟨3, _⟩ => ⟨S1x5504x512, .f32⟩
  | .local _ .vmem, ⟨4, _⟩ => ⟨S688x512, .f32⟩
  | .local _ .vmem, ⟨5, _⟩ => ⟨S688x512, .f32⟩
  | .local _ .vmem, ⟨6, _⟩ => ⟨S688x512, .f32⟩
  | .local _ .vmem, ⟨7, _⟩ => ⟨S688x512, .f32⟩
  | .local _ .vmem, ⟨8, _⟩ => ⟨S5504x512, .bf16⟩
  | _, _ => ⟨S8256x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5504x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FallReferenceIdeal.lean ====
abbrev S8256x5504 : Shape := ⟨2, ![8256, 5504]⟩
abbrev S2x5504x2048 : Shape := ⟨3, ![2, 5504, 2048]⟩
abbrev S8256x2048 : Shape := ⟨2, ![8256, 2048]⟩
abbrev S1x5504x2048 : Shape := ⟨3, ![1, 5504, 2048]⟩
abbrev S5504x2048 : Shape := ⟨2, ![5504, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8256x5504, .bf16⟩
  | .hbm, ⟨1, _⟩ => ⟨S2x5504x2048, .f32⟩
  | .hbm, ⟨2, _⟩ => ⟨S8256x2048, .f32⟩
  | .hbm, ⟨3, _⟩ => ⟨S8256x5504, .f32⟩
  | .hbm, ⟨4, _⟩ => ⟨S1x5504x2048, .f32⟩
  | .hbm, ⟨5, _⟩ => ⟨S5504x2048, .f32⟩
  | .hbm, ⟨6, _⟩ => ⟨S8256x2048, .f32⟩
  | .hbm, ⟨7, _⟩ => ⟨S8256x2048, .f32⟩
  | _, _ => ⟨S8256x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Rise.lean ====
abbrev S8256x2048 : Shape := ⟨2, ![8256, 2048]⟩
abbrev S2x2048x5504 : Shape := ⟨3, ![2, 2048, 5504]⟩
abbrev S8256x5504 : Shape := ⟨2, ![8256, 5504]⟩
abbrev S688x2048 : Shape := ⟨2, ![688, 2048]⟩
abbrev S1x2048x512 : Shape := ⟨3, ![1, 2048, 512]⟩
abbrev S688x512 : Shape := ⟨2, ![688, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8256x2048, .bf16⟩
  | .hbm, ⟨1, _⟩ => ⟨S2x2048x5504, .f32⟩
  | .hbm, ⟨2, _⟩ => ⟨S2x2048x5504, .f32⟩
  | .hbm, ⟨3, _⟩ => ⟨S8256x5504, .bf16⟩
  | .local _ .vmem, ⟨0, _⟩ => ⟨S688x2048, .bf16⟩
  | .local _ .vmem, ⟨1, _⟩ => ⟨S688x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S688x512, .bf16⟩
  | .local _ .vmem, ⟨7, _⟩ => ⟨S688x512, .bf16⟩
  | .local _ .vmem, ⟨8, _⟩ => ⟨S2048x512, .bf16⟩
  | .local _ .vmem, ⟨9, _⟩ => ⟨S2048x512, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S688x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RiseReferenceIdeal.lean ====
abbrev S8256x2048 : Shape := ⟨2, ![8256, 2048]⟩
abbrev S2x2048x5504 : Shape := ⟨3, ![2, 2048, 5504]⟩
abbrev S1x2048x5504 : Shape := ⟨3, ![1, 2048, 5504]⟩
abbrev S2048x5504 : Shape := ⟨2, ![2048, 5504]⟩
abbrev S8256x5504 : Shape := ⟨2, ![8256, 5504]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S2x2048x5504, .f32⟩
  | .hbm, ⟨2, _⟩ => ⟨S2x2048x5504, .f32⟩
  | .hbm, ⟨3, _⟩ => ⟨S8256x2048, .f32⟩
  | .hbm, ⟨4, _⟩ => ⟨S1x2048x5504, .f32⟩
  | .hbm, ⟨5, _⟩ => ⟨S2048x5504, .f32⟩
  | .hbm, ⟨6, _⟩ => ⟨S8256x5504, .f32⟩
  | .hbm, ⟨7, _⟩ => ⟨S8256x5504, .f32⟩
  | .hbm, ⟨8, _⟩ => ⟨S8256x5504, .f32⟩
  | .hbm, ⟨9, _⟩ => ⟨S_, .f32⟩
  | .hbm, ⟨10, _⟩ => ⟨S8256x5504, .f32⟩
  | .hbm, ⟨11, _⟩ => ⟨S8256x5504, .f32⟩
  | .hbm, ⟨12, _⟩ => ⟨S_, .f32⟩
  | .hbm, ⟨13, _⟩ => ⟨S8256x5504, .f32⟩
  | .hbm, ⟨14, _⟩ => ⟨S8256x5504, .f32⟩
  | .hbm, ⟨15, _⟩ => ⟨S8256x5504, .f32⟩
  | .hbm, ⟨16, _⟩ => ⟨S1x2048x5504, .f32⟩
  | .hbm, ⟨17, _⟩ => ⟨S2048x5504, .f32⟩
  | .hbm, ⟨18, _⟩ => ⟨S8256x5504, .f32⟩
  | .hbm, ⟨19, _⟩ => ⟨S8256x5504, .f32⟩
  | .hbm, ⟨20, _⟩ => ⟨S8256x5504, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Norm.lean ====
abbrev S8256x2048 : Shape := ⟨2, ![8256, 2048]⟩
abbrev S2048 : Shape := ⟨1, ![2048]⟩
abbrev S1x2048 : Shape := ⟨2, ![1, 2048]⟩
abbrev S688x2048 : Shape := ⟨2, ![688, 2048]⟩
abbrev S688 : Shape := ⟨1, ![688]⟩
abbrev S688x1 : Shape := ⟨2, ![688, 1]⟩

abbrev nBuf : Space → Nat
  | .hbm => 4
  | .vmem => 5
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S1x2048, .f32⟩
  | .hbm, ⟨3, _⟩ => ⟨S8256x2048, .bf16⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S688x2048, .bf16⟩
  | .local _ .vmem, ⟨4, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8256x2048 : Shape := ⟨2, ![8256, 2048]⟩
abbrev S2048 : Shape := ⟨1, ![2048]⟩
abbrev S_ : Shape := ⟨0, ![]⟩
abbrev S8256 : Shape := ⟨1, ![8256]⟩
abbrev S8256x1 : Shape := ⟨2, ![8256, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S8256x2048, .f32⟩
  | .hbm, ⟨3, _⟩ => ⟨S_, .f32⟩
  | .hbm, ⟨4, _⟩ => ⟨S8256, .f32⟩
  | .hbm, ⟨5, _⟩ => ⟨S8256x1, .f32⟩
  | .hbm, ⟨6, _⟩ => ⟨S_, .f32⟩
  | .hbm, ⟨7, _⟩ => ⟨S8256x1, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S8256x1, .f32⟩
  | .hbm, ⟨13, _⟩ => ⟨S8256x2048, .f32⟩
  | .hbm, ⟨14, _⟩ => ⟨S8256x2048, .f32⟩
  | .hbm, ⟨15, _⟩ => ⟨S1x2048, .f32⟩
  | .hbm, ⟨16, _⟩ => ⟨S8256x2048, .f32⟩
  | .hbm, ⟨17, _⟩ => ⟨S8256x2048, .f32⟩
  | .hbm, ⟨18, _⟩ => ⟨S8256x2048, .bf16⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Prep.lean ====
abbrev S8256x6912 : Shape := ⟨2, ![8256, 6912]⟩
abbrev S128 : Shape := ⟨1, ![128]⟩
abbrev S1x128 : Shape := ⟨2, ![1, 128]⟩
abbrev S8192x1024 : Shape := ⟨2, ![8192, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 18
  | .smem => 0
  | _ => 0

abbrev bufTy : (tb : Table) → Fin (tcTables nBuf tb) → BufTy
  | .hbm, ⟨0, _⟩ => ⟨S8256x6912, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .bf16⟩
  | .local _ .vmem, ⟨13, _⟩ => ⟨S1024x128, .bf16⟩
  | .local _ .vmem, ⟨14, _⟩ => ⟨S1024x128, .f32⟩
  | .local _ .vmem, ⟨15, _⟩ => ⟨S1024x128, .f32⟩
  | .local _ .vmem, ⟨16, _⟩ => ⟨S1024x128, .bf16⟩
  | .local _ .vmem, ⟨17, _⟩ => ⟨S1024x128, .bf16⟩
  | _, _ => ⟨S8256x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c30_i32 : BitVec 32 := 30#32
  let v1 : BitVec 32 := Scalar.addi c30_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c38_i32 : BitVec 32 := 38#32
  let v1 : BitVec 32 := Scalar.addi c38_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c46_i32 : BitVec 32 := 46#32
  let v1 : BitVec 32 := Scalar.addi c46_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PrepReferenceIdeal.lean ====
abbrev S8256x6912 : Shape := ⟨2, ![8256, 6912]⟩
abbrev S128 : Shape := ⟨1, ![128]⟩
abbrev S8192x1024 : Shape := ⟨2, ![8192, 1024]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 45
  | .vmem => 0
  | .smem => 0
  | _ => 0

abbrev bufTy : (tb : Table) → Fin (tcTables nBuf tb) → BufTy
  | .hbm, ⟨0, _⟩ => ⟨S8256x6912, .f32⟩
  | .hbm, ⟨1, _⟩ => ⟨S128, .f32⟩
  | .hbm, ⟨2, _⟩ => ⟨S128, .f32⟩
  | .hbm, ⟨3, _⟩ => ⟨S8192x1024, .f32⟩
  | .hbm, ⟨4, _⟩ => ⟨S8192x8x128, .f32⟩
  | .hbm, ⟨5, _⟩ => ⟨S8192x8x128, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x128, .f32⟩
  | .hbm, ⟨17, _⟩ => ⟨S8192x8x128, .f32⟩
  | .hbm, ⟨18, _⟩ => ⟨S1x1x128, .f32⟩
  | .hbm, ⟨19, _⟩ => ⟨S8192x8x128, .f32⟩
  | .hbm, ⟨20, _⟩ => ⟨S8192x8x128, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x8x128, .f32⟩
  | .hbm, ⟨25, _⟩ => ⟨S8192x8x128, .f32⟩
  | .hbm, ⟨26, _⟩ => ⟨S_, .f32⟩
  | .hbm, ⟨27, _⟩ => ⟨S8192x8, .f32⟩
  | .hbm, ⟨28, _⟩ => ⟨S8192x8x1, .f32⟩
  | .hbm, ⟨29, _⟩ => ⟨S_, .f32⟩
  | .hbm, ⟨30, _⟩ => ⟨S8192x8x1, .f32⟩
  | .hbm, ⟨31, _⟩ => ⟨S8192x8x1, .f32⟩
  | .hbm, ⟨32, _⟩ => ⟨S_, .f32⟩
  | .hbm, ⟨33, _⟩ => ⟨S8192x8x1, .f32⟩
  | .hbm, ⟨34, _⟩ => ⟨S8192x8x1, .f32⟩
  | .hbm, ⟨35, _⟩ => ⟨S8192x8x1, .f32⟩
  | .hbm, ⟨36, _⟩ => ⟨S8192x8x128, .f32⟩
  | .hbm, ⟨37, _⟩ => ⟨S8192x8x128, .f32⟩
  | .hbm, ⟨38, _⟩ => ⟨S1x1x128, .f32⟩
  | .hbm, ⟨39, _⟩ => ⟨S8192x8x128, .f32⟩
  | .hbm, ⟨40, _⟩ => ⟨S8192x8x128, .f32⟩
  | .hbm, ⟨41, _⟩ => ⟨S8192x1024, .f32⟩
  | .hbm, ⟨42, _⟩ => ⟨S8192x1024, .bf16⟩
  | .hbm, ⟨43, _⟩ => ⟨S8192x1024, .bf16⟩
  | .hbm, ⟨44, _⟩ => ⟨S8192x1024, .bf16⟩
  | _, _ => ⟨S8256x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Tail.lean ====
abbrev S8256x6912 : Shape := ⟨2, ![8256, 6912]⟩
abbrev S128 : Shape := ⟨1, ![128]⟩
abbrev S1x128 : Shape := ⟨2, ![1, 128]⟩
abbrev S64x1024 : Shape := ⟨2, ![64, 1024]⟩
abbrev S64x128 : Shape := ⟨2, ![64, 128]⟩
abbrev S64 : Shape := ⟨1, ![64]⟩
abbrev S64x1 : Shape := ⟨2, ![64, 1]⟩

abbrev nBuf : Space → Nat
  | .hbm => 10
  | .vmem => 18
  | .smem => 0
  | _ => 0

abbrev bufTy : (tb : Table) → Fin (tcTables nBuf tb) → BufTy
  | .hbm, ⟨0, _⟩ => ⟨S8256x6912, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S64x1024, .f32⟩
  | .hbm, ⟨6, _⟩ => ⟨S64x1024, .f32⟩
  | .hbm, ⟨7, _⟩ => ⟨S64x1024, .f32⟩
  | .hbm, ⟨8, _⟩ => ⟨S64x1024, .f32⟩
  | .hbm, ⟨9, _⟩ => ⟨S64x1024, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S1x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | _, _ => ⟨S8256x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c30_i32 : BitVec 32 := 30#32
  let v1 : BitVec 32 := Scalar.addi c30_i32 arg1
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c38_i32 : BitVec 32 := 38#32
  let v1 : BitVec 32 := Scalar.addi c38_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c46_i32 : BitVec 32 := 46#32
  let v1 : BitVec 32 := Scalar.addi c46_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== TailReferenceIdeal.lean ====
abbrev S8256x6912 : Shape := ⟨2, ![8256, 6912]⟩
abbrev S128 : Shape := ⟨1, ![128]⟩
abbrev S64x1024 : Shape := ⟨2, ![64, 1024]⟩
abbrev S64x8x128 : Shape := ⟨3, ![64, 8, 128]⟩
abbrev S_ : Shape := ⟨0, ![]⟩
abbrev S64x8 : Shape := ⟨2, ![64, 8]⟩
abbrev S64x8x1 : Shape := ⟨3, ![64, 8, 1]⟩
abbrev S1x1x128 : Shape := ⟨3, ![1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S8256x6912, .f32⟩
  | .hbm, ⟨1, _⟩ => ⟨S128, .f32⟩
  | .hbm, ⟨2, _⟩ => ⟨S128, .f32⟩
  | .hbm, ⟨3, _⟩ => ⟨S64x1024, .f32⟩
  | .hbm, ⟨4, _⟩ => ⟨S64x8x128, .f32⟩
  | .hbm, ⟨5, _⟩ => ⟨S64x8x128, .f32⟩
  | .hbm, ⟨6, _⟩ => ⟨S_, .f32⟩
  | .hbm, ⟨7, _⟩ => ⟨S64x8, .f32⟩
  | .hbm, ⟨8, _⟩ => ⟨S64x8x1, .f32⟩
  | .hbm, ⟨9, _⟩ => ⟨S_, .f32⟩
  | .hbm, ⟨10, _⟩ => ⟨S64x8x1, .f32⟩
  | .hbm, ⟨11, _⟩ => ⟨S64x8x1, .f32⟩
  | .hbm, ⟨12, _⟩ => ⟨S_, .f32⟩
  | .hbm, ⟨13, _⟩ => ⟨S64x8x1, .f32⟩
  | .hbm, ⟨14, _⟩ => ⟨S64x8x1, .f32⟩
  | .hbm, ⟨15, _⟩ => ⟨S64x8x1, .f32⟩
  | .hbm, ⟨16, _⟩ => ⟨S64x8x128, .f32⟩
  | .hbm, ⟨17, _⟩ => ⟨S64x8x128, .f32⟩
  | .hbm, ⟨18, _⟩ => ⟨S1x1x128, .f32⟩
  | .hbm, ⟨19, _⟩ => ⟨S64x8x128, .f32⟩
  | .hbm, ⟨20, _⟩ => ⟨S64x8x128, .f32⟩
  | .hbm, ⟨21, _⟩ => ⟨S64x1024, .f32⟩
  | .hbm, ⟨22, _⟩ => ⟨S64x1024, .f32⟩
  | .hbm, ⟨23, _⟩ => ⟨S64x1024, .f32⟩
  | .hbm, ⟨24, _⟩ => ⟨S64x8x128, .f32⟩
  | .hbm, ⟨25, _⟩ => ⟨S64x8x128, .f32⟩
  | .hbm, ⟨26, _⟩ => ⟨S_, .f32⟩
  | .hbm, ⟨27, _⟩ => ⟨S64x8, .f32⟩
  | .hbm, ⟨28, _⟩ => ⟨S64x8x1, .f32⟩
  | .hbm, ⟨29, _⟩ => ⟨S_, .f32⟩
  | .hbm, ⟨30, _⟩ => ⟨S64x8x1, .f32⟩
  | .hbm, ⟨31, _⟩ => ⟨S64x8x1, .f32⟩
  | .hbm, ⟨32, _⟩ => ⟨S_, .f32⟩
  | .hbm, ⟨33, _⟩ => ⟨S64x8x1, .f32⟩
  | .hbm, ⟨34, _⟩ => ⟨S64x8x1, .f32⟩
  | .hbm, ⟨35, _⟩ => ⟨S64x8x1, .f32⟩
  | .hbm, ⟨36, _⟩ => ⟨S64x8x128, .f32⟩
  | .hbm, ⟨37, _⟩ => ⟨S64x8x128, .f32⟩
  | .hbm, ⟨38, _⟩ => ⟨S1x1x128, .f32⟩
  | .hbm, ⟨39, _⟩ => ⟨S64x8x128, .f32⟩
  | .hbm, ⟨40, _⟩ => ⟨S64x8x128, .f32⟩
  | .hbm, ⟨41, _⟩ => ⟨S64x1024, .f32⟩
  | _, _ => ⟨S8256x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Small.lean ====
abbrev S8256x2048 : Shape := ⟨2, ![8256, 2048]⟩
abbrev S2048 : Shape := ⟨1, ![2048]⟩
abbrev S2048x8 : Shape := ⟨2, ![2048, 8]⟩
abbrev S1x2048 : Shape := ⟨2, ![1, 2048]⟩
abbrev S_ : Shape := ⟨0, ![]⟩
abbrev S2048x128 : Shape := ⟨2, ![2048, 128]⟩
abbrev S1 : Shape := ⟨1, ![1]⟩
abbrev S8256x128 : Shape := ⟨2, ![8256, 128]⟩
abbrev S688x2048 : Shape := ⟨2, ![688, 2048]⟩
abbrev S688x128 : Shape := ⟨2, ![688, 128]⟩
abbrev S688 : Shape := ⟨1, ![688]⟩
abbrev S688x1 : Shape := ⟨2, ![688, 1]⟩

abbrev nBuf : Space → Nat
  | .hbm => 11
  | .vmem => 8
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x8, .f32⟩
  | .hbm, ⟨3, _⟩ => ⟨S1x2048, .f32⟩
  | .hbm, ⟨4, _⟩ => ⟨S_, .f32⟩
  | .hbm, ⟨5, _⟩ => ⟨S2048x128, .f32⟩
  | .hbm, ⟨6, _⟩ => ⟨S_, .i32⟩
  | .hbm, ⟨7, _⟩ => ⟨S1, .i32⟩
  | .hbm, ⟨8, _⟩ => ⟨S2048x128, .f32⟩
  | .hbm, ⟨9, _⟩ => ⟨S8256x2048, .bf16⟩
  | .hbm, ⟨10, _⟩ => ⟨S8256x128, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x128, .f32⟩
  | .local _ .vmem, ⟨4, _⟩ => ⟨S688x2048, .bf16⟩
  | .local _ .vmem, ⟨5, _⟩ => ⟨S688x2048, .bf16⟩
  | .local _ .vmem, ⟨6, _⟩ => ⟨S688x128, .f32⟩
  | .local _ .vmem, ⟨7, _⟩ => ⟨S688x128, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SmallReferenceIdeal.lean ====
abbrev S8256x2048 : Shape := ⟨2, ![8256, 2048]⟩
abbrev S2048 : Shape := ⟨1, ![2048]⟩
abbrev S2048x8 : Shape := ⟨2, ![2048, 8]⟩
abbrev S_ : Shape := ⟨0, ![]⟩
abbrev S8256 : Shape := ⟨1, ![8256]⟩
abbrev S8256x1 : Shape := ⟨2, ![8256, 1]⟩
abbrev S1x2048 : Shape := ⟨2, ![1, 2048]⟩
abbrev S2048x128 : Shape := ⟨2, ![2048, 128]⟩
abbrev S8256x128 : Shape := ⟨2, ![8256, 128]⟩

abbrev nBuf : Space → Nat
  | .hbm => 24
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x8, .f32⟩
  | .hbm, ⟨3, _⟩ => ⟨S8256x2048, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x2048, .f32⟩
  | .hbm, ⟨15, _⟩ => ⟨S8256x2048, .f32⟩
  | .hbm, ⟨16, _⟩ => ⟨S1x2048, .f32⟩
  | .hbm, ⟨17, _⟩ => ⟨S8256x2048, .f32⟩
  | .hbm, ⟨18, _⟩ => ⟨S8256x2048, .f32⟩
  | .hbm, ⟨19, _⟩ => ⟨S8256x2048, .bf16⟩
  | .hbm, ⟨20, _⟩ => ⟨S_, .i32⟩
  | .hbm, ⟨21, _⟩ => ⟨S_, .f32⟩
  | .hbm, ⟨22, _⟩ => ⟨S2048x128, .f32⟩
  | .hbm, ⟨23, _⟩ => ⟨S8256x128, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Forget.lean ====
abbrev S8256x128 : Shape := ⟨2, ![8256, 128]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S64x8 : Shape := ⟨2, ![64, 8]⟩
abbrev S8x128 : Shape := ⟨2, ![8, 128]⟩
abbrev S8x8 : Shape := ⟨2, ![8, 8]⟩

abbrev nBuf : Space → Nat
  | .hbm => 12
  | .vmem => 8
  | .smem => 0
  | _ => 0

abbrev bufTy : (tb : Table) → Fin (tcTables nBuf tb) → BufTy
  | .hbm, ⟨0, _⟩ => ⟨S8256x128, .f32⟩
  | .hbm, ⟨1, _⟩ => ⟨S8, .f32⟩
  | .hbm, ⟨2, _⟩ => ⟨S_, .f32⟩
  | .hbm, ⟨3, _⟩ => ⟨S1x128, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S1x128, .f32⟩
  | .hbm, ⟨10, _⟩ => ⟨S64x8, .f32⟩
  | .hbm, ⟨11, _⟩ => ⟨S64x8, .f32⟩
  | .local _ .vmem, ⟨0, _⟩ => ⟨S8x128, .f32⟩
  | .local _ .vmem, ⟨1, _⟩ => ⟨S8x128, .f32⟩
  | .local _ .vmem, ⟨2, _⟩ => ⟨S1x128, .f32⟩
  | .local _ .vmem, ⟨3, _⟩ => ⟨S8x8, .f32⟩
  | .local _ .vmem, ⟨4, _⟩ => ⟨S8x8, .f32⟩
  | .local _ .vmem, ⟨5, _⟩ => ⟨S8x8, .f32⟩
  | .local _ .vmem, ⟨6, _⟩ => ⟨S8x8, .f32⟩
  | .local _ .vmem, ⟨7, _⟩ => ⟨S1x128, .f32⟩
  | _, _ => ⟨S8256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ForgetReferenceIdeal.lean ====
abbrev S8256x128 : Shape := ⟨2, ![8256, 128]⟩
abbrev S8 : Shape := ⟨1, ![8]⟩
abbrev S64x8 : Shape := ⟨2, ![64, 8]⟩
abbrev S1x8 : Shape := ⟨2, ![1, 8]⟩
abbrev S_ : Shape := ⟨0, ![]⟩
abbrev S8x1 : Shape := ⟨2, ![8, 1]⟩
abbrev S8x8 : Shape := ⟨2, ![8, 8]⟩
abbrev S1x8x8x1 : Shape := ⟨4, ![1, 8, 8, 1]⟩
abbrev S8x1x8x8 : Shape := ⟨4, ![8, 1, 8, 8]⟩
abbrev S8x8x8x8 : Shape := ⟨4, ![8, 8, 8, 8]⟩
abbrev S8x8x8 : Shape := ⟨3, ![8, 8, 8]⟩

abbrev nBuf : Space → Nat
  | .hbm => 40
  | .vmem => 0
  | .smem => 0
  | _ => 0

abbrev bufTy : (tb : Table) → Fin (tcTables nBuf tb) → BufTy
  | .hbm, ⟨0, _⟩ => ⟨S8256x128, .f32⟩
  | .hbm, ⟨1, _⟩ => ⟨S8, .f32⟩
  | .hbm, ⟨2, _⟩ => ⟨S64x8, .f32⟩
  | .hbm, ⟨3, _⟩ => ⟨S1x8, .f32⟩
  | .hbm, ⟨4, _⟩ => ⟨S64x8, .f32⟩
  | .hbm, ⟨5, _⟩ => ⟨S64x8, .f32⟩
  | .hbm, ⟨6, _⟩ => ⟨S64x8, .f32⟩
  | .hbm, ⟨7, _⟩ => ⟨S_, .f32⟩
  | .hbm, ⟨8, _⟩ => ⟨S64x8, .f32⟩
  | .hbm, ⟨9, _⟩ => ⟨S64x8, .f32⟩
  | .hbm, ⟨10, _⟩ => ⟨S64x8, .f32⟩
  | .hbm, ⟨11, _⟩ => ⟨S64x8, .f32⟩
  | .hbm, ⟨12, _⟩ => ⟨S64x8, .i1⟩
  | .hbm, ⟨13, _⟩ => ⟨S64x8, .f32⟩
  | .hbm, ⟨14, _⟩ => ⟨S64x8, .f32⟩
  | .hbm, ⟨15, _⟩ => ⟨S64x8, .f32⟩
  | .hbm, ⟨16, _⟩ => ⟨S64x8, .f32⟩
  | .hbm, ⟨17, _⟩ => ⟨S64x8, .f32⟩
  | .hbm, ⟨18, _⟩ => ⟨S64x8, .f32⟩
  | .hbm, ⟨19, _⟩ => ⟨S64x8, .f32⟩
  | .hbm, ⟨20, _⟩ => ⟨S64x8, .f32⟩
  | .hbm, ⟨21, _⟩ => ⟨S64x8, .f32⟩
  | .hbm, ⟨22, _⟩ => ⟨S8, .i32⟩
  | .hbm, ⟨23, _⟩ => ⟨S8x1, .i32⟩
  | .hbm, ⟨24, _⟩ => ⟨S8, .i32⟩
  | .hbm, ⟨25, _⟩ => ⟨S1x8, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S1x8x8x1, .i1⟩
  | .hbm, ⟨30, _⟩ => ⟨S8x1x8x8, .f32⟩
  | .hbm, ⟨31, _⟩ => ⟨S_, .f32⟩
  | .hbm, ⟨32, _⟩ => ⟨S_, .f32⟩
  | .hbm, ⟨33, _⟩ => ⟨S8x8x8x8, .i1⟩
  | .hbm, ⟨34, _⟩ => ⟨S8x8x8x8, .f32⟩
  | .hbm, ⟨35, _⟩ => ⟨S8x8x8x8, .f32⟩
  | .hbm, ⟨36, _⟩ => ⟨S8x8x8x8, .f32⟩
  | .hbm, ⟨37, _⟩ => ⟨S_, .f32⟩
  | .hbm, ⟨38, _⟩ => ⟨S8x8x8, .f32⟩
  | .hbm, ⟨39, _⟩ => ⟨S64x8, .f32⟩
  | _, _ => ⟨S8256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩

abbrev nD : Nat := 1
abbrev τ : Topo := Topo.v7x

variable {F : FTy → Type} [FloatOps F]
-- ==== Decay.lean ====
abbrev S8256x128 : Shape := ⟨2, ![8256, 128]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S8192x8 : Shape := ⟨2, ![8192, 8]⟩
abbrev S512x128 : Shape := ⟨2, ![512, 128]⟩
abbrev S512x8 : Shape := ⟨2, ![512, 8]⟩
abbrev S512x512 : Shape := ⟨2, ![512, 512]⟩

abbrev nBuf : Space → Nat
  | .hbm => 12
  | .vmem => 8
  | .smem => 0
  | _ => 0

abbrev bufTy : (tb : Table) → Fin (tcTables nBuf tb) → BufTy
  | .hbm, ⟨0, _⟩ => ⟨S8256x128, .f32⟩
  | .hbm, ⟨1, _⟩ => ⟨S8, .f32⟩
  | .hbm, ⟨2, _⟩ => ⟨S_, .f32⟩
  | .hbm, ⟨3, _⟩ => ⟨S1x128, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S1x128, .f32⟩
  | .hbm, ⟨10, _⟩ => ⟨S8192x8, .f32⟩
  | .hbm, ⟨11, _⟩ => ⟨S8192x8, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x8, .f32⟩
  | .local _ .vmem, ⟨4, _⟩ => ⟨S512x8, .f32⟩
  | .local _ .vmem, ⟨5, _⟩ => ⟨S512x8, .f32⟩
  | .local _ .vmem, ⟨6, _⟩ => ⟨S512x8, .f32⟩
  | .local _ .vmem, ⟨7, _⟩ => ⟨S1x128, .f32⟩
  | _, _ => ⟨S8256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DecayReferenceIdeal.lean ====
abbrev S8256x128 : Shape := ⟨2, ![8256, 128]⟩
abbrev S8 : Shape := ⟨1, ![8]⟩
abbrev S8192x8 : Shape := ⟨2, ![8192, 8]⟩
abbrev S1x8 : Shape := ⟨2, ![1, 8]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048x1 : Shape := ⟨4, ![1, 2048, 2048, 1]⟩
abbrev S4x1x2048x8 : Shape := ⟨4, ![4, 1, 2048, 8]⟩
abbrev S4x2048x2048x8 : Shape := ⟨4, ![4, 2048, 2048, 8]⟩
abbrev S4x2048x8 : Shape := ⟨3, ![4, 2048, 8]⟩

abbrev nBuf : Space → Nat
  | .hbm => 40
  | .vmem => 0
  | .smem => 0
  | _ => 0

abbrev bufTy : (tb : Table) → Fin (tcTables nBuf tb) → BufTy
  | .hbm, ⟨0, _⟩ => ⟨S8256x128, .f32⟩
  | .hbm, ⟨1, _⟩ => ⟨S8, .f32⟩
  | .hbm, ⟨2, _⟩ => ⟨S8192x8, .f32⟩
  | .hbm, ⟨3, _⟩ => ⟨S1x8, .f32⟩
  | .hbm, ⟨4, _⟩ => ⟨S8192x8, .f32⟩
  | .hbm, ⟨5, _⟩ => ⟨S8192x8, .f32⟩
  | .hbm, ⟨6, _⟩ => ⟨S8192x8, .f32⟩
  | .hbm, ⟨7, _⟩ => ⟨S_, .f32⟩
  | .hbm, ⟨8, _⟩ => ⟨S8192x8, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S8192x8, .i1⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S1x2048x2048x1, .i1⟩
  | .hbm, ⟨30, _⟩ => ⟨S4x1x2048x8, .f32⟩
  | .hbm, ⟨31, _⟩ => ⟨S_, .f32⟩
  | .hbm, ⟨32, _⟩ => ⟨S_, .f32⟩
  | .hbm, ⟨33, _⟩ => ⟨S4x2048x2048x8, .i1⟩
  | .hbm, ⟨34, _⟩ => ⟨S4x2048x2048x8, .f32⟩
  | .hbm, ⟨35, _⟩ => ⟨S4x2048x2048x8, .f32⟩
  | .hbm, ⟨36, _⟩ => ⟨S4x2048x2048x8, .f32⟩
  | .hbm, ⟨37, _⟩ => ⟨S_, .f32⟩
  | .hbm, ⟨38, _⟩ => ⟨S4x2048x8, .f32⟩
  | .hbm, ⟨39, _⟩ => ⟨S8192x8, .f32⟩
  | _, _ => ⟨S8256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩

abbrev nD : Nat := 1
abbrev τ : Topo := Topo.v7x

variable {F : FTy → Type} [FloatOps F]
-- ==== Proof.Softmax.lean ====
/-
  The mathematics of the attention's running softmax over the extended reals, without any program.

  A row's scores are a function `f : ℕ → EReal` of the key position and its values a function `v : ℕ → EReal`.
  `peak f n`, `mass f n` and `blend f v n` are what one keeps after the first `n` keys: their maximum, the sum of
  the exponentials taken relative to it, and the sum of the values weighted by them. `peak_add`, `mass_add`,
  `blend_add` say how a tile of `T` further keys changes the three, `softmax_blend` that their quotient is the
  softmax over all the keys applied to the values, when the keys left out have score `⊥`.
-/
module

public import Idealize.ShloMosaic.PureOps
public import Idealize.ShloMosaic.Lib.Pointwise

@[expose] public section

noncomputable section

namespace Cert.Softmax

open Idealize.ShloMosaic Finset

/-- The greatest of the first `n` scores. -/
def peak (f : ℕ → EReal) (n : ℕ) : EReal := (range n).sup f

/-- The sum of the exponentials of the first `n` scores, taken relative to their maximum. -/
def mass (f : ℕ → EReal) (n : ℕ) : EReal := ∑ s ∈ range n, Ideal.exp (f s - peak f n)

/-- The values of the first `n` keys, weighted by those exponentials. -/
def blend (f v : ℕ → EReal) (n : ℕ) : EReal := ∑ s ∈ range n, Ideal.exp (f s - peak f n) * v s

/-- The scores of a row: never `⊤`, and the first key is seen (its score is not `⊥`). -/
structure Scores (f : ℕ → EReal) : Prop where
  ne_top : ∀ s, f s ≠ ⊤
  first : f 0 ≠ ⊥

@[simp] theorem peak_zero (f : ℕ → EReal) : peak f 0 = ⊥ := rfl
@[simp] theorem mass_zero (f : ℕ → EReal) : mass f 0 = 0 := rfl
@[simp] theorem blend_zero (f v : ℕ → EReal) : blend f v 0 = 0 := rfl

/-- A fold of `max` over a finite type is the supremum joined to the starting value. -/
theorem fold_max_eq {T : ℕ} (b : EReal) (g : Fin T → EReal) : univ.fold max b g = max b (univ.sup g) := by
  have h : ∀ s : Finset (Fin T), s.fold max b g = max b (s.sup g) := by
    intro s
    induction s using Finset.induction_on with
    | empty => simp
    | insert a s ha ih => rw [Finset.fold_insert ha, ih, Finset.sup_insert, max_left_comm]
  exact h univ

/-- The maximum of `n + T` scores: the maximum of the first `n` and of the tile. -/
theorem peak_add (f : ℕ → EReal) (n T : ℕ) :
    peak f (n + T) = max (peak f n) (univ.sup fun k : Fin T => f (n + k)) := by
  apply le_antisymm
  · refine Finset.sup_le fun s hs => ?_
    rw [mem_range] at hs
    by_cases h : s < n
    · exact le_max_of_le_left (Finset.le_sup (f := f) (mem_range.2 h))
    · refine le_max_of_le_right ?_
      have := Finset.le_sup (f := fun k : Fin T => f (n + k)) (mem_univ (⟨s - n, by omega⟩ : Fin T))
      simpa [Nat.add_sub_cancel' (not_lt.1 h)] using this
  · refine max_le (Finset.sup_mono (range_subset_range.2 (Nat.le_add_right n T))) (Finset.sup_le fun k _ => ?_)
    exact Finset.le_sup (f := f) (mem_range.2 (Nat.add_lt_add_left k.isLt n))

/-- The maximum of at least one score is a real number. -/
theorem peak_real {f : ℕ → EReal} (hf : Scores f) {n : ℕ} (hn : 0 < n) : ∃ r : ℝ, peak f n = r := by
  have h1 : peak f n ≠ ⊤ := by
    have : peak f n < ⊤ := (Finset.sup_lt_iff (by simp)).2 fun s _ => lt_top_iff_ne_top.2 (hf.ne_top s)
    exact this.ne
  have h2 : peak f n ≠ ⊥ := fun h => hf.first (le_bot_iff.1 (h ▸ Finset.le_sup (f := f) (mem_range.2 hn)))
  exact ⟨(peak f n).toReal, (EReal.coe_toReal h1 h2).symm⟩

/-- The exponential of a score relative to a real number is a nonnegative real. -/
theorem exp_real {a : EReal} (ha : a ≠ ⊤) (c : ℝ) : ∃ r : ℝ, 0 ≤ r ∧ Ideal.exp (a - c) = r := by
  induction a using EReal.rec with
  | bot => exact ⟨0, le_refl _, by rw [EReal.bot_sub]; rfl⟩
  | top => exact absurd rfl ha
  | coe a => exact ⟨Real.exp (a - c), (Real.exp_pos _).le, by rw [← EReal.coe_sub]; rfl⟩

/-- Changing the number an exponential is taken relative to multiplies it by a constant. -/
theorem exp_shift {a : EReal} (ha : a ≠ ⊤) (b c : ℝ) :
    Ideal.exp ((b : EReal) - c) * Ideal.exp (a - b) = Ideal.exp (a - c) := by
  induction a using EReal.rec with
  | bot => rw [EReal.bot_sub, EReal.bot_sub, Ideal.exp_bot, mul_zero]
  | top => exact absurd rfl ha
  | coe a =>
    rw [← EReal.coe_sub, ← EReal.coe_sub, ← EReal.coe_sub, Ideal.exp_coe, Ideal.exp_coe, Ideal.exp_coe, ← EReal.coe_mul,
      ← Real.exp_add]
    congr 2; ring

/-- A nonnegative real multiple of a sum of extended reals is the sum of the multiples. -/
theorem coe_mul_sum {ι : Type*} (s : Finset ι) (g : ι → EReal) {r : ℝ} (hr : 0 ≤ r) :
    (r : EReal) * ∑ i ∈ s, g i = ∑ i ∈ s, (r : EReal) * g i := by
  classical
  induction s using Finset.induction_on with
  | empty => simp
  | insert a s ha ih =>
    rw [sum_insert ha, sum_insert ha, EReal.left_distrib_of_nonneg_of_ne_top (EReal.coe_nonneg.2 hr) (EReal.coe_ne_top r), ih]

/-- What a tile of `T` keys adds to the sum of the exponentials. -/
theorem mass_add {f : ℕ → EReal} (hf : Scores f) (n : ℕ) {T : ℕ} (hT : 0 < T) :
    Ideal.exp (peak f n - peak f (n + T)) * mass f n + ∑ k : Fin T, Ideal.exp (f (n + k) - peak f (n + T))
      = mass f (n + T) := by
  obtain ⟨c, hc⟩ := peak_real hf (n := n + T) (by omega)
  have e : Ideal.exp (peak f n - peak f (n + T)) * mass f n = ∑ s ∈ range n, Ideal.exp (f s - peak f (n + T)) := by
    rcases Nat.eq_zero_or_pos n with rfl | hn
    · simp
    · obtain ⟨b, hb⟩ := peak_real hf hn
      obtain ⟨r, hr, hr'⟩ := exp_real (EReal.coe_ne_top b) c
      unfold mass
      rw [hb, hc, hr', coe_mul_sum _ _ hr]
      exact sum_congr rfl fun s _ => by rw [← hr', exp_shift (hf.ne_top s)]
  rw [e, mass, sum_range_add, Finset.sum_range fun k => Ideal.exp (f (n + k) - peak f (n + T))]

/-- What a tile of `T` keys adds to the weighted values. -/
theorem blend_add {f : ℕ → EReal} (hf : Scores f) (v : ℕ → EReal) (n : ℕ) {T : ℕ} (hT : 0 < T) :
    Ideal.exp (peak f n - peak f (n + T)) * blend f v n + ∑ k : Fin T, Ideal.exp (f (n + k) - peak f (n + T)) * v (n + k)
      = blend f v (n + T) := by
  obtain ⟨c, hc⟩ := peak_real hf (n := n + T) (by omega)
  have e : Ideal.exp (peak f n - peak f (n + T)) * blend f v n
      = ∑ s ∈ range n, Ideal.exp (f s - peak f (n + T)) * v s := by
    rcases Nat.eq_zero_or_pos n with rfl | hn
    · simp
    · obtain ⟨b, hb⟩ := peak_real hf hn
      obtain ⟨r, hr, hr'⟩ := exp_real (EReal.coe_ne_top b) c
      unfold blend
      rw [hb, hc, hr', coe_mul_sum _ _ hr]
      exact sum_congr rfl fun s _ => by rw [← mul_assoc, ← hr', exp_shift (hf.ne_top s)]
  rw [e, blend, sum_range_add, Finset.sum_range fun k => Ideal.exp (f (n + k) - peak f (n + T)) * v (n + k)]

/-- The sum of the exponentials of at least one score is a positive real. -/
theorem mass_real {f : ℕ → EReal} (hf : Scores f) {n : ℕ} (hn : 0 < n) : ∃ r : ℝ, 0 < r ∧ mass f n = r := by
  obtain ⟨c, hc⟩ := peak_real hf hn
  choose g hg hg' using fun s => exp_real (hf.ne_top s) c
  refine ⟨∑ s ∈ range n, g s, ?_, ?_⟩
  · refine sum_pos' (fun s _ => hg s) ⟨0, mem_range.2 hn, ?_⟩
    refine (hg 0).lt_of_ne' fun h0 => ?_
    have h1 := hg' 0
    obtain ⟨a, ha⟩ : ∃ a : ℝ, f 0 = a := ⟨(f 0).toReal, (EReal.coe_toReal (hf.ne_top 0) hf.first).symm⟩
    rw [h0, ha, ← EReal.coe_sub, Ideal.exp_coe, EReal.coe_eq_coe_iff] at h1
    exact (Real.exp_pos _).ne' h1
  · unfold mass
    rw [hc, sum_congr rfl fun s _ => hg' s]
    exact (map_sum (⟨⟨Real.toEReal, EReal.coe_zero⟩, EReal.coe_add⟩ : ℝ →+ EReal) _ _).symm

/-- The softmax over `N` keys applied to the values is the quotient of the weighted values by the sum of the
    exponentials after the first `n` keys, when every key from the `n`-th on has score `⊥`. -/
theorem softmax_blend {f : ℕ → EReal} (hf : Scores f) (v : ℕ → EReal) {n N : ℕ} (hn : 0 < n) (hN : n ≤ N)
    (hbot : ∀ s, n ≤ s → f s = ⊥) :
    ∑ s : Fin N, v s * Ideal.div (Ideal.exp (f s - univ.sup fun k : Fin N => f k))
        (∑ l : Fin N, Ideal.exp (f l - univ.sup fun k : Fin N => f k))
      = Ideal.div (blend f v n) (mass f n) := by
  obtain ⟨T, rfl⟩ := Nat.exists_eq_add_of_le hN
  have hp : (univ.sup fun k : Fin (n + T) => f k) = peak f n := by
    have h0 := peak_add f 0 (n + T)
    simp only [zero_add, peak_zero, bot_le, sup_of_le_right] at h0
    rw [← h0, peak_add, max_eq_left]
    exact Finset.sup_le fun k _ => by rw [hbot _ (Nat.le_add_right n k)]; exact bot_le
  obtain ⟨c, hc⟩ := peak_real hf hn
  have hz : ∀ k, Ideal.exp (f (n + k) - peak f n) = 0 := fun k => by
    rw [hbot _ (Nat.le_add_right n k), EReal.bot_sub, Ideal.exp_bot]
  have hm : ∑ l : Fin (n + T), Ideal.exp (f l - peak f n) = mass f n := by
    rw [← Finset.sum_range fun l => Ideal.exp (f l - peak f n), sum_range_add]
    simp only [hz, sum_const_zero, add_zero]
    rfl
  obtain ⟨r, hr, hr'⟩ := mass_real hf hn
  rw [hp, hm, hr', Ideal.div_coe hr.ne', mul_comm, blend, coe_mul_sum _ _ (by positivity)]
  rw [← Finset.sum_range fun s => v s * Ideal.div (Ideal.exp (f s - peak f n)) (r : EReal), sum_range_add]
  simp only [hz, Ideal.div_coe hr.ne', zero_mul, mul_zero, sum_const_zero, add_zero]
  exact sum_congr rfl fun s _ => by ac_rfl

end Cert.Softmax

end
-- ==== Proof.Spec.lean ====
/-
  The attention as mathematics, over extended reals: the scores of one query against the keys of its sequence
  (`score`), the values they weigh (`val`), and the output they give (`attn`).
-/
module

public import proofs.«01_k».proof.Proof.Softmax
public import Idealize.ShloMosaic.Lib.Pointwise

@[expose] public section

noncomputable section

open Idealize.ShloMosaic Idealize.SL.Sem

namespace Cert.Attn

open Cert.Softmax

/-- The shape of the queries, keys, values and output: a row per sequence and position, a column per head and feature. -/
abbrev Wide : Shape := ⟨2, ![8192, 1024]⟩

/-- The shape of the cumulative log-forget values: a row per sequence and position, a column per head. -/
abbrev Slim : Shape := ⟨2, ![8192, 8]⟩

/-- The row of position `p` of sequence `b`. -/
def row (b : Fin 4) (p : Fin 2048) : Fin 8192 := ⟨b * 2048 + p, by have := b.isLt; have := p.isLt; omega⟩

/-- The column of feature `d` of head `h`. -/
def col (h : Fin 8) (d : Fin 128) : Fin 1024 := ⟨h * 128 + d, by have := h.isLt; have := d.isLt; omega⟩

/-- The factor the products are scaled by, `128 ^ (-1/2)` in single precision. -/
def scale : EReal := Ideal.ofBits .f32 0x3DB504F3#32

/-- The scale is a real number. -/
theorem scale_real : ∃ x : ℝ, scale = x := by
  refine ⟨11863283 * (2 ^ 27)⁻¹, ?_⟩
  rw [EReal.coe_mul]
  simp [scale, Ideal.ofBits, Ideal.ieee]

/-- A sum of reals, summed as extended reals. -/
theorem coe_sum {n : ℕ} (a : Fin n → ℝ) : ((∑ x, a x : ℝ) : EReal) = ∑ x, (a x : EReal) :=
  map_sum (⟨⟨Real.toEReal, EReal.coe_zero⟩, EReal.coe_add⟩ : ℝ →+ EReal) a Finset.univ

section

variable (Q K V : Wide.Idx → EReal) (C : Slim.Idx → EReal) (b : Fin 4) (h : Fin 8) (p : Fin 2048) (d : Fin 128)

/-- The score of the query at position `p` against the key at position `s`, when `s` isn't after `p`. -/
def logit (s : Fin 2048) : EReal :=
  (∑ x, Q (ix2 (row b p) (col h x)) * K (ix2 (row b s) (col h x))) * scale + (C (ix2 (row b p) h) - C (ix2 (row b s) h))

/-- The masked scores of a query, `⊥` after its position. -/
def score : ℕ → EReal := fun s => if hs : s < 2048 then if s ≤ p then logit Q K C b h p ⟨s, hs⟩ else ⊥ else ⊥

/-- A feature of the values of a sequence, by position. -/
def val : ℕ → EReal := fun s => if hs : s < 2048 then V (ix2 (row b ⟨s, hs⟩) (col h d)) else 0

/-- The masked scores at a position of the sequence. -/
theorem score_fin (s : Fin 2048) : score Q K C b h p s = if (s : ℕ) ≤ p then logit Q K C b h p s else ⊥ := by
  unfold score; rw [dif_pos s.isLt]

/-- The values at a position of the sequence. -/
theorem val_fin (s : Fin 2048) : val V b h d s = V (ix2 (row b s) (col h d)) := by
  unfold val; rw [dif_pos s.isLt]

/-- A score after the query's position is `⊥`. -/
theorem score_bot {s : ℕ} (hs : (p : ℕ) < s) : score Q K C b h p s = ⊥ := by
  unfold score
  split
  · rw [if_neg (by omega)]
  · rfl

/-- The output of the attention at a feature: the values weighed by the softmax of the scores. -/
def attn : EReal :=
  ∑ s : Fin 2048, val V b h d s
    * Ideal.div (Ideal.exp (score Q K C b h p s - Finset.univ.sup fun k : Fin 2048 => score Q K C b h p k))
        (∑ l : Fin 2048, Ideal.exp (score Q K C b h p l - Finset.univ.sup fun k : Fin 2048 => score Q K C b h p k))

end

/-- The scores of real queries, keys and log-forget values are none of them `⊤`, and the first isn't `⊥`. -/
theorem scores_of_real {Q K : Wide.Idx → EReal} {C : Slim.Idx → EReal} (hQ : ∀ i, ∃ x : ℝ, Q i = x)
    (hK : ∀ i, ∃ x : ℝ, K i = x) (hC : ∀ i, ∃ x : ℝ, C i = x) (b : Fin 4) (h : Fin 8) (p : Fin 2048) :
    Scores (score Q K C b h p) := by
  choose q hq using hQ
  choose k hk using hK
  choose c hc using hC
  obtain ⟨w, hw⟩ := scale_real
  have hl : ∀ s, ∃ x : ℝ, logit Q K C b h p s = x := fun s => by
    refine ⟨(∑ x, q (ix2 (row b p) (col h x)) * k (ix2 (row b s) (col h x))) * w
      + (c (ix2 (row b p) h) - c (ix2 (row b s) h)), ?_⟩
    unfold logit
    simp only [hq, hk, hc, hw, ← EReal.coe_mul]
    rw [← coe_sum]
    rfl
  constructor
  · intro s
    unfold score
    split
    · split
      · obtain ⟨x, hx⟩ := hl ⟨s, by assumption⟩
        rw [hx]; exact EReal.coe_ne_top x
      · exact bot_ne_top
    · exact bot_ne_top
  · unfold score
    rw [dif_pos (by decide), if_pos (Nat.zero_le _)]
    obtain ⟨x, hx⟩ := hl ⟨0, by decide⟩
    rw [hx]; exact EReal.coe_ne_bot x

/-- The output of the attention, from the scores up to any position past the query's. -/
theorem attn_eq {Q K V : Wide.Idx → EReal} {C : Slim.Idx → EReal} {b : Fin 4} {h : Fin 8} {p : Fin 2048}
    (hf : Scores (score Q K C b h p)) (d : Fin 128) {n : ℕ} (hn : (p : ℕ) < n) (hN : n ≤ 2048) :
    attn Q K V C b h p d
      = Ideal.div (blend (score Q K C b h p) (val V b h d) n) (mass (score Q K C b h p) n) :=
  softmax_blend hf (val V b h d) (by omega) hN fun s hs => score_bot Q K C b h p (by omega)

end Cert.Attn

end
-- ==== Proof.Blocks.lean ====
/-
  The blocks the attention's kernel loads at a grid point, read from its arguments.
-/
module

public import proofs.«01_k».proof.Proof.Gen.KernelIdeal.Frame
public import Idealize.ShloMosaic.Lib.Pipeline.ValueKit
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ) (c : Dev nD) (t : Fin cfg0.N)

/-- A grid point's number is below 512. -/
theorem point_lt : t.val < 512 := N_0 ▸ t.isLt

/-- The sequence of a grid point. -/
def seq : Fin 4 := ⟨t.val / 128, by have := point_lt t; omega⟩

/-- The head of a grid point. -/
def head : Fin 8 := ⟨t.val / 16 % 8, by omega⟩

/-- The tile of queries of a grid point. -/
def qtile : Fin 4 := ⟨t.val / 4 % 4, by omega⟩

/-- The tile of keys of a grid point. -/
def ktile : Fin 4 := ⟨t.val % 4, by omega⟩

/-- The position of a tile's row. -/
def pos (i : Fin 4) (r : Fin 512) : Fin 2048 := ⟨512 * i + r, by have := i.isLt; have := r.isLt; omega⟩

/-- The coordinates of a grid point that the kernel's body reads. -/
theorem coords_at : ∀ t : Fin cfg0.N, (grid0.coords t 2).val = t.val / 4 % 4 ∧ (grid0.coords t 3).val = t.val % 4 :=
  (by decide +kernel : ∀ t : Fin grid0.N, (grid0.coords t 2).val = t.val / 4 % 4 ∧ (grid0.coords t 3).val = t.val % 4)

/-- The block of queries of a grid point. -/
theorem index0 : ∀ t : Fin cfg0.N, win0_0.index t = ![t.val / 128 * 4 + t.val / 4 % 4, t.val / 16 % 8] :=
  (by decide +kernel : ∀ t : Fin grid0.N, win0_0.index t = ![t.val / 128 * 4 + t.val / 4 % 4, t.val / 16 % 8])

/-- The block of keys of a grid point that isn't past the queries' tile. -/
theorem index1 : ∀ t : Fin cfg0.N, t.val % 4 ≤ t.val / 4 % 4 → win0_1.index t = ![t.val / 128 * 4 + t.val % 4, t.val / 16 % 8] :=
  (by decide +kernel : ∀ t : Fin grid0.N, t.val % 4 ≤ t.val / 4 % 4 → win0_1.index t = ![t.val / 128 * 4 + t.val % 4, t.val / 16 % 8])

/-- The block of values of a grid point that isn't past the queries' tile. -/
theorem index2 : ∀ t : Fin cfg0.N, t.val % 4 ≤ t.val / 4 % 4 → win0_2.index t = ![t.val / 128 * 4 + t.val % 4, t.val / 16 % 8] :=
  (by decide +kernel : ∀ t : Fin grid0.N, t.val % 4 ≤ t.val / 4 % 4 → win0_2.index t = ![t.val / 128 * 4 + t.val % 4, t.val / 16 % 8])

/-- The block of the queries' log-forget values of a grid point. -/
theorem index3 : ∀ t : Fin cfg0.N, win0_3.index t = ![t.val / 128, t.val / 16 % 8, t.val / 4 % 4, 0] :=
  (by decide +kernel : ∀ t : Fin grid0.N, win0_3.index t = ![t.val / 128, t.val / 16 % 8, t.val / 4 % 4, 0])

/-- The block of the keys' log-forget values of a grid point that isn't past the queries' tile. -/
theorem index4 : ∀ t : Fin cfg0.N, t.val % 4 ≤ t.val / 4 % 4 → win0_4.index t = ![t.val / 128, t.val / 16 % 8, 0, t.val % 4] :=
  (by decide +kernel : ∀ t : Fin grid0.N, t.val % 4 ≤ t.val / 4 % 4 → win0_4.index t = ![t.val / 128, t.val / 16 % 8, 0, t.val % 4])

/-- The block of the output of a grid point. -/
theorem index5 : ∀ t : Fin cfg0.N, win0_5.index t = ![t.val / 128 * 4 + t.val / 4 % 4, t.val / 16 % 8] :=
  (by decide +kernel : ∀ t : Fin grid0.N, win0_5.index t = ![t.val / 128 * 4 + t.val / 4 % 4, t.val / 16 % 8])

/-- The queries a grid point loads. -/
theorem q_at (r : Fin 512) (x : Fin 128) : iblk m c 0 t (ix2 r x)
    = m ((c.tc : Thread nD τ).loc main_arg0) (ix2 (row (seq t) (pos (qtile t) r)) (col (head t) x)) := by
  unfold row col pos seq qtile head
  blk_ext [iblk, V, index0 t]

/-- The keys a grid point loads. -/
theorem k_at (hk : t.val % 4 ≤ t.val / 4 % 4) (s : Fin 512) (x : Fin 128) : iblk m c 1 t (ix2 s x)
    = m ((c.tc : Thread nD τ).loc main_arg1) (ix2 (row (seq t) (pos (ktile t) s)) (col (head t) x)) := by
  unfold row col pos seq ktile head
  blk_ext [iblk, V, index1 t hk]

/-- The values a grid point loads. -/
theorem v_at (hk : t.val % 4 ≤ t.val / 4 % 4) (s : Fin 512) (x : Fin 128) : iblk m c 2 t (ix2 s x)
    = m ((c.tc : Thread nD τ).loc main_arg2) (ix2 (row (seq t) (pos (ktile t) s)) (col (head t) x)) := by
  unfold row col pos seq ktile head
  blk_ext [iblk, V, index2 t hk]

/-- The cumulative log-forget values as the kernel reads them for the queries: a row per position. -/
def colForget (C : FVec Ideal S8192x8 .f32) : FVec Ideal S4x8x2048x1 .f32 :=
  shapeCast S4x8x2048x1 (transpose S4x8x2048 [0, 2, 1] (shapeCast S4x2048x8 C shapeCasts_S8192x8_S4x2048x8)
    transposes_S4x2048x8_S4x8x2048_0_2_1) shapeCasts_S4x8x2048_S4x8x2048x1

/-- The same for the keys: a column per position. -/
def rowForget (C : FVec Ideal S8192x8 .f32) : FVec Ideal S4x8x1x2048 .f32 :=
  shapeCast S4x8x1x2048 (colForget C) shapeCasts_S4x8x2048x1_S4x8x1x2048

/-- The first, read. -/
theorem colForget_at (C : FVec Ideal S8192x8 .f32) (b : Fin 4) (h : Fin 8) (p : Fin 2048) :
    colForget C (ix4 b h p 0) = C (ix2 (row b p) h) := by
  pointwise [colForget]
  rfl

/-- The second, read. -/
theorem rowForget_at (C : FVec Ideal S8192x8 .f32) (b : Fin 4) (h : Fin 8) (p : Fin 2048) :
    rowForget C (ix4 b h 0 p) = C (ix2 (row b p) h) := by
  pointwise [rowForget, colForget]
  rfl

/-- The place in its array of the queries' log-forget values. -/
theorem emb3 (r : Fin 512) : (win0_3.blk t).view.emb (ix4 0 0 r 0) = ix4 (seq t) (head t) (pos (qtile t) r) 0 := by
  unfold pos seq qtile head
  blk_ext [index3 t]

/-- The place in its array of the keys' log-forget values. -/
theorem emb4 (hk : t.val % 4 ≤ t.val / 4 % 4) (s : Fin 512) :
    (win0_4.blk t).view.emb (ix4 0 0 0 s) = ix4 (seq t) (head t) 0 (pos (ktile t) s) := by
  unfold pos seq ktile head
  blk_ext [index4 t hk]

/-- The queries' cumulative log-forget values a grid point loads. -/
theorem cq_at (r : Fin 512) : iblk m c 3 t (ix4 0 0 r 0)
    = m ((c.tc : Thread nD τ).loc main_arg3) (ix2 (row (seq t) (pos (qtile t) r)) (head t)) := by
  unfold iblk
  entry_read
  blk_simp [index3 t]
  rw [emb3]
  exact colForget_at _ _ _ _

/-- The keys' cumulative log-forget values a grid point loads. -/
theorem ck_at (hk : t.val % 4 ≤ t.val / 4 % 4) (s : Fin 512) : iblk m c 4 t (ix4 0 0 0 s)
    = m ((c.tc : Thread nD τ).loc main_arg3) (ix2 (row (seq t) (pos (ktile t) s)) (head t)) := by
  unfold iblk
  entry_read
  blk_simp [index4 t hk]
  rw [emb4 t hk]
  exact rowForget_at _ _ _ _

end Cert.KernelIdeal.Value

end
-- ==== Proof.Points.lean ====
/-
  What a grid point leaves in the kernel's scratch and in the output's block, from what the point before left: a first
  point of a row of tiles starts over (`max_A` and the like), one whose keys aren't all past the queries takes a step,
  any other leaves the scratch; the last writes the output (`out_last`).
-/
module

public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ) (c : Dev nD) (t : Fin cfg0.N)

/-- The maximum after a step, from the one before it. -/
def nextMax (mo : Vec Ideal S512x1 .f32) : Vec Ideal S512x1 .f32 :=
  k0_pay6 (k0_pay9 (BitVec.ofNat 32 (grid0.coords t 2)) (BitVec.ofNat 32 (grid0.coords t 3)) (iblk m c 0 t) (iblk m c 1 t)
    (iblk m c 3 t) (iblk m c 4 t) mo)

/-- The sum after a step, from the maximum and sum before it. -/
def nextMass (mo l : Vec Ideal S512x1 .f32) : Vec Ideal S512x1 .f32 :=
  k0_pay4 (k0_pay12 (BitVec.ofNat 32 (grid0.coords t 2)) (BitVec.ofNat 32 (grid0.coords t 3)) (iblk m c 0 t) (iblk m c 1 t)
      (iblk m c 3 t) (iblk m c 4 t) mo l)
    (k0_pay13 (BitVec.ofNat 32 (grid0.coords t 2)) (BitVec.ofNat 32 (grid0.coords t 3)) (iblk m c 0 t) (iblk m c 1 t)
      (iblk m c 3 t) (iblk m c 4 t) mo)

/-- The weighted values after a step, from the maximum and weighted values before it. -/
def nextBlend (mo : Vec Ideal S512x1 .f32) (acc : Vec Ideal S512x128 .f32) : Vec Ideal S512x128 .f32 :=
  k0_pay5 (k0_pay10 (BitVec.ofNat 32 (grid0.coords t 2)) (BitVec.ofNat 32 (grid0.coords t 3)) (iblk m c 0 t) (iblk m c 1 t)
      (iblk m c 3 t) (iblk m c 4 t) mo)
    (k0_pay11 (BitVec.ofNat 32 (grid0.coords t 2)) (BitVec.ofNat 32 (grid0.coords t 3)) (iblk m c 0 t) (iblk m c 1 t)
      (iblk m c 3 t) (iblk m c 4 t) mo) acc (iblk m c 2 t)

variable {t}

/-- A first point starts the maximum over. -/
theorem max_first (h0 : t.val % 4 = 0) : (outsAt0 m c t.val t.isLt).2.1 = nextMax m c t (k0_pay1 (F := Ideal)) := by
  rw [outsAt0_A m c t h0 (by omega) (by omega)]; frame_out; rfl

/-- A first point starts the sum over. -/
theorem mass_first (h0 : t.val % 4 = 0) : (outsAt0 m c t.val t.isLt).2.2.1 = nextMass m c t (k0_pay1 (F := Ideal)) (k0_pay2 (F := Ideal)) := by
  rw [outsAt0_A m c t h0 (by omega) (by omega)]; frame_out; rfl

/-- A first point starts the weighted values over. -/
theorem blend_first (h0 : t.val % 4 = 0) : (outsAt0 m c t.val t.isLt).2.2.2 = nextBlend m c t (k0_pay1 (F := Ideal)) (k0_pay3 (F := Ideal)) := by
  rw [outsAt0_A m c t h0 (by omega) (by omega)]; frame_out; rfl

section Later

variable (h0 : ¬t.val % 4 = 0)

/-- There is a point before one that isn't a first. -/
theorem before_lt : t.val - 1 < cfg0.N := by have := t.isLt; omega

include h0

/-- A later point takes a step of the maximum. -/
theorem max_step (h1 : t.val % 4 ≤ t.val / 4 % 4) : (outsAt0 m c t.val t.isLt).2.1
    = nextMax m c t (outsAt0 m c (t.val - 1) before_lt).2.1 := by
  by_cases h2 : t.val % 4 = 3
  · rw [outsAt0_E m c t h0 h1 h2]; frame_out; simp only [(Memref.isWhole_whole _).read_unread]; rfl
  · rw [outsAt0_D m c t h0 h1 h2]; frame_out; simp only [(Memref.isWhole_whole _).read_unread]; rfl

/-- A later point takes a step of the sum. -/
theorem mass_later (h1 : t.val % 4 ≤ t.val / 4 % 4) : (outsAt0 m c t.val t.isLt).2.2.1
    = nextMass m c t (outsAt0 m c (t.val - 1) before_lt).2.1 (outsAt0 m c (t.val - 1) before_lt).2.2.1 := by
  by_cases h2 : t.val % 4 = 3
  · rw [outsAt0_E m c t h0 h1 h2]; frame_out; simp only [(Memref.isWhole_whole _).read_unread]; rfl
  · rw [outsAt0_D m c t h0 h1 h2]; frame_out; simp only [(Memref.isWhole_whole _).read_unread]; rfl

/-- A later point takes a step of the weighted values. -/
theorem blend_later (h1 : t.val % 4 ≤ t.val / 4 % 4) : (outsAt0 m c t.val t.isLt).2.2.2
    = nextBlend m c t (outsAt0 m c (t.val - 1) before_lt).2.1 (outsAt0 m c (t.val - 1) before_lt).2.2.2 := by
  by_cases h2 : t.val % 4 = 3
  · rw [outsAt0_E m c t h0 h1 h2]; frame_out; simp only [(Memref.isWhole_whole _).read_unread]; rfl
  · rw [outsAt0_D m c t h0 h1 h2]; frame_out; simp only [(Memref.isWhole_whole _).read_unread]; rfl

/-- A point past the queries leaves the scratch. -/
theorem rest_skip (h1 : ¬t.val % 4 ≤ t.val / 4 % 4) : (outsAt0 m c t.val t.isLt).2
    = (outsAt0 m c (t.val - 1) before_lt).2 := by
  by_cases h2 : t.val % 4 = 3
  · rw [outsAt0_C m c t h0 h1 h2]; unfold sout0_C_0 sout0_C_1 sout0_C_2; rfl
  · rw [outsAt0_B m c t h0 h1 h2]; unfold sout0_B_0 sout0_B_1 sout0_B_2; rfl

end Later

/-- The last point writes the weighted values over the sum. -/
theorem out_last (h2 : t.val % 4 = 3) : (outsAt0 m c t.val t.isLt).1
    = k0_pay7 (outsAt0 m c t.val t.isLt).2.2.2 (outsAt0 m c t.val t.isLt).2.2.1 := by
  by_cases h1 : t.val % 4 ≤ t.val / 4 % 4
  · rw [outsAt0_E m c t (by omega) h1 h2]; frame_out
  · rw [rest_skip m c (by omega) h1, outsAt0_C m c t (by omega) h1 h2]; frame_out; simp only [(Memref.isWhole_whole _).read_unread]

end Cert.KernelIdeal.Value

end
-- ==== Proof.Pay.lean ====
/-
  What one grid point of the attention computes, as functions of the vectors it loads: the scores of a query row
  against the tile's keys (`score_at`), and — given that the carried scratch holds the running maximum, sum and
  weighted values after `n` keys — that the point leaves them after `n + 512` keys.
-/
module

public import proofs.«01_k».proof.Proof.Softmax
public import proofs.«01_k».proof.Proof.Gen.KernelIdeal.Skeleton
public import Idealize.ShloMosaic.Lib.WordCmp

@[expose] public section

set_option maxRecDepth 16384

noncomputable section

open Idealize.ShloMosaic Idealize.ShloMosaic.TcCoe Idealize.SL.Sem

namespace Cert.KernelIdeal.Value

open Cert.KernelIdeal Cert.KernelIdeal.Gen Cert.Softmax

/-- The pattern of minus infinity denotes the least extended real. -/
theorem ofBits_neg_inf : Ideal.ofBits .f32 0xFF800000#32 = ⊥ := by simp [Ideal.ofBits, Ideal.ieee]

/-- The running maximum starts at `⊥`. -/
theorem peak_init (r : Fin 512) : k0_pay1 (F := Ideal) (ix2 r 0) = ⊥ := by
  pointwise [k0_pay1]; exact ofBits_neg_inf

/-- The running sum starts at zero. -/
theorem mass_init (r : Fin 512) : k0_pay2 (F := Ideal) (ix2 r 0) = 0 := by pointwise [k0_pay2]

/-- The running weighted values start at zero. -/
theorem blend_init (r : Fin 512) (d : Fin 128) : k0_pay3 (F := Ideal) (ix2 r d) = 0 := by pointwise [k0_pay3]

/-- What is written back: the weighted values over the sum. -/
theorem quotient_at (acc : Vec Ideal S512x128 .f32) (l : Vec Ideal S512x1 .f32) (r : Fin 512) (d : Fin 128) :
    k0_pay7 acc l (ix2 r d) = Ideal.div (acc (ix2 r d)) (l (ix2 r 0)) := by pointwise [k0_pay7]

section Step

variable (a2 a3 : BitVec 32) (q k : Vec Ideal S512x128 .bf16) (cq : Vec Ideal S1x1x512x1 .f32)
  (ck : Vec Ideal S1x1x1x512 .f32) (mo l : Vec Ideal S512x1 .f32) (acc : Vec Ideal S512x128 .f32)
  (vb : Vec Ideal S512x128 .bf16) (f v : ℕ → EReal) (n : ℕ) (r : Fin 512) (d : Fin 128)

/-- A point's new maximum at a row: the old one and the row's scores joined. -/
theorem newmax_at : k0_pay9 (F := Ideal) a2 a3 q k cq ck mo (ix2 r 0)
    = max (mo (ix2 r 0)) (Finset.univ.sup fun s : Fin 512 => k0_pay8 (F := Ideal) a2 a3 q k cq ck (ix2 r s)) := by
  pointwise [k0_pay9]
  rw [ofBits_neg_inf, fold_max_eq, max_eq_right bot_le]

variable {a2 a3 q k cq ck mo l acc vb f v n r d}

/-- The point leaves the maximum of the first `n + 512` scores. -/
theorem peak_step (hs : ∀ s : Fin 512, k0_pay8 (F := Ideal) a2 a3 q k cq ck (ix2 r s) = f (n + s))
    (hm : mo (ix2 r 0) = peak f n) : k0_pay9 (F := Ideal) a2 a3 q k cq ck mo (ix2 r 0) = peak f (n + 512) := by
  rw [newmax_at, hm, peak_add]
  simp only [hs]

/-- The maximum is stored as it is. -/
theorem peak_stored (x : FVec Ideal S512x1 .f32) : k0_pay6 x (ix2 r 0) = x (ix2 r 0) := by pointwise [k0_pay6]

/-- The point leaves the sum of the exponentials of the first `n + 512` scores. -/
theorem mass_step (hf : Scores f) (hs : ∀ s : Fin 512, k0_pay8 (F := Ideal) a2 a3 q k cq ck (ix2 r s) = f (n + s))
    (hm : mo (ix2 r 0) = peak f n) (hl : l (ix2 r 0) = mass f n) :
    k0_pay4 (k0_pay12 (F := Ideal) a2 a3 q k cq ck mo l) (k0_pay13 (F := Ideal) a2 a3 q k cq ck mo) (ix2 r 0)
      = mass f (n + 512) := by
  have h9 := peak_step hs hm
  rw [← mass_add hf n (by decide : 0 < 512)]
  pointwise [k0_pay4, k0_pay12, k0_pay13, k0_pay10, k0_pay11]
  simp only [h9, hs, hm, hl]

/-- The point leaves the weighted values of the first `n + 512` keys. -/
theorem blend_step (hf : Scores f) (hs : ∀ s : Fin 512, k0_pay8 (F := Ideal) a2 a3 q k cq ck (ix2 r s) = f (n + s))
    (hm : mo (ix2 r 0) = peak f n) (ha : acc (ix2 r d) = blend f v n) (hv : ∀ s : Fin 512, vb (ix2 s d) = v (n + s)) :
    k0_pay5 (k0_pay10 (F := Ideal) a2 a3 q k cq ck mo) (k0_pay11 (F := Ideal) a2 a3 q k cq ck mo) acc vb (ix2 r d)
      = blend f v (n + 512) := by
  have h9 := peak_step hs hm
  rw [← blend_add hf v n (by decide : 0 < 512)]
  pointwise [k0_pay5, k0_pay10, k0_pay11]
  simp only [h9, hs, hm, ha, hv]

end Step

/-- A score: the scaled product of the query with the key plus the difference of their cumulative log-forget values, at
    the positions not after the query's; `⊥` at the others. -/
theorem score_at (i j : Fin 4) (q k : Vec Ideal S512x128 .bf16) (cq : Vec Ideal S1x1x512x1 .f32)
    (ck : Vec Ideal S1x1x1x512 .f32) (r s : Fin 512) :
    k0_pay8 (F := Ideal) (BitVec.ofNat 32 i) (BitVec.ofNat 32 j) q k cq ck (ix2 r s)
      = if 512 * (j : ℕ) + s ≤ 512 * (i : ℕ) + r then
          (∑ x, q (ix2 r x) * k (ix2 s x)) * Ideal.ofBits .f32 0x3DB504F3#32 + (cq (ix4 0 0 r 0) - ck (ix4 0 0 0 s))
        else ⊥ := by
  pointwise [k0_pay8]
  have e : ∀ (a : Fin 4) (x : Fin 512), IntOp.addi (Scalar.muli (BitVec.ofNat 32 a) 512#32) (BitVec.ofNat 32 x)
      = BitVec.ofNat 32 (512 * (a : ℕ) + x) := fun a x =>
    (congrArg (IntOp.addi · _) (WordCmp.muli_ofNat _ _)).trans ((WordCmp.addi_ofNat _ _).trans (by rw [Nat.mul_comm]))
  rw [ofBits_neg_inf, e, e]
  have hi := i.isLt; have hj := j.isLt; have hr := r.isLt; have hs := s.isLt
  simp (disch := omega) only [hlo_ix]

end Cert.KernelIdeal.Value

end
-- ==== Proof.Value.lean ====
/-
  The value of the attention's kernel: after each grid point the scratch holds the running maximum, sum and weighted
  values of the scores met so far (`state`), so the array it leaves is the attention of its arguments (`array_at`).
-/
module

public import proofs.«01_k».proof.Proof.Points
public import proofs.«01_k».proof.Proof.Pay
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn Cert.Softmax

variable (m : (ℓ : Loc nD τ sig) → Buf (Elt Ideal) ℓ) (c : Dev nD)

/-- The queries. -/
abbrev queries : Wide.Idx → EReal := m ((c.tc : Thread nD τ).loc main_arg0)
/-- The keys. -/
abbrev keys : Wide.Idx → EReal := m ((c.tc : Thread nD τ).loc main_arg1)
/-- The values. -/
abbrev values : Wide.Idx → EReal := m ((c.tc : Thread nD τ).loc main_arg2)
/-- The cumulative log-forget values. -/
abbrev forgets : Slim.Idx → EReal := m ((c.tc : Thread nD τ).loc main_arg3)

/-- The scores of a row of a grid point's queries. -/
abbrev rowScore (t : Fin cfg0.N) (r : Fin 512) : ℕ → EReal :=
  score (queries m c) (keys m c) (forgets m c) (seq t) (head t) (pos (qtile t) r)

/-- A feature of the values of a grid point's sequence and head. -/
abbrev rowVal (t : Fin cfg0.N) (d : Fin 128) : ℕ → EReal := val (values m c) (seq t) (head t) d

/-- A grid point's scores are those of its rows at its tile of keys. -/
theorem tile_score (t : Fin cfg0.N) (h1 : t.val % 4 ≤ t.val / 4 % 4) (r s : Fin 512) :
    k0_pay8 (F := Ideal) (BitVec.ofNat 32 (grid0.coords t 2)) (BitVec.ofNat 32 (grid0.coords t 3)) (iblk m c 0 t) (iblk m c 1 t)
      (iblk m c 3 t) (iblk m c 4 t) (ix2 r s) = rowScore m c t r (512 * (t.val % 4) + s) := by
  rw [(coords_at t).1, (coords_at t).2]
  refine (score_at (qtile t) (ktile t) _ _ _ _ r s).trans ?_
  refine Eq.trans ?_ (score_fin _ _ _ _ _ _ (pos (ktile t) s)).symm
  refine if_congr Iff.rfl ?_ rfl
  unfold logit
  rw [cq_at, ck_at m c t h1]
  simp only [q_at, k_at m c t h1]
  rfl

/-- A grid point's values are those of its sequence at its tile of keys. -/
theorem tile_val (t : Fin cfg0.N) (h1 : t.val % 4 ≤ t.val / 4 % 4) (s : Fin 512) (d : Fin 128) :
    iblk m c 2 t (ix2 s d) = rowVal m c t d (512 * (t.val % 4) + s) :=
  (v_at m c t h1 s d).trans (val_fin _ _ _ _ (pos (ktile t) s)).symm

/-- How many keys of its row of tiles a grid point has met. -/
def met (n : ℕ) : ℕ := 512 * (min (n % 4) (n / 4 % 4) + 1)

/-- The scratch after a grid point holds the maximum, the sum and the weighted values of the scores met. -/
structure State (t : Fin cfg0.N) : Prop where
  /-- The running maximum. -/
  max : ∀ r, (outsAt0 m c t.val t.isLt).2.1 (ix2 r 0) = peak (rowScore m c t r) (met t)
  /-- The running sum. -/
  sum : ∀ r, (outsAt0 m c t.val t.isLt).2.2.1 (ix2 r 0) = mass (rowScore m c t r) (met t)
  /-- The running weighted values. -/
  weighted : ∀ r d, (outsAt0 m c t.val t.isLt).2.2.2 (ix2 r d) = blend (rowScore m c t r) (rowVal m c t d) (met t)

variable (hf : ∀ b h p, Scores (score (queries m c) (keys m c) (forgets m c) b h p))

include hf

/-- A step from the scratch of the keys before a tile to that of the keys up to its end. -/
theorem step_at {t : Fin cfg0.N} (h1 : t.val % 4 ≤ t.val / 4 % 4) {mo l : Vec Ideal S512x1 .f32} {acc : Vec Ideal S512x128 .f32}
    {r : Fin 512} {d : Fin 128} (hm : mo (ix2 r 0) = peak (rowScore m c t r) (512 * (t.val % 4)))
    (hl : l (ix2 r 0) = mass (rowScore m c t r) (512 * (t.val % 4)))
    (ha : acc (ix2 r d) = blend (rowScore m c t r) (rowVal m c t d) (512 * (t.val % 4))) :
    nextMax m c t mo (ix2 r 0) = peak (rowScore m c t r) (met t)
      ∧ nextMass m c t mo l (ix2 r 0) = mass (rowScore m c t r) (met t)
      ∧ nextBlend m c t mo acc (ix2 r d) = blend (rowScore m c t r) (rowVal m c t d) (met t) := by
  have e : met t = 512 * (t.val % 4) + 512 := by unfold met; omega
  rw [e]
  refine ⟨(peak_stored _).trans (peak_step (tile_score m c t h1 r) hm), mass_step (hf _ _ _) (tile_score m c t h1 r) hm hl,
    blend_step (hf _ _ _) (tile_score m c t h1 r) hm ha fun s => tile_val m c t h1 s d⟩

/-- The scratch after every grid point. -/
theorem state : ∀ (n : ℕ) (hn : n < cfg0.N), State m c ⟨n, hn⟩
  | n, hn => by
    by_cases h0 : n % 4 = 0
    · have h1 : n % 4 ≤ n / 4 % 4 := by omega
      have hs := fun r d => step_at m c hf (t := ⟨n, hn⟩) h1 (mo := k0_pay1 (F := Ideal)) (l := k0_pay2 (F := Ideal))
        (acc := k0_pay3 (F := Ideal)) (r := r) (d := d) ((peak_init r).trans (by dsimp only; rw [h0]; rfl))
        ((mass_init r).trans (by dsimp only; rw [h0]; simp [mass])) ((blend_init r d).trans (by dsimp only; rw [h0]; simp [blend]))
      exact ⟨fun r => (congrFun (max_first m c (t := ⟨n, hn⟩) h0) _).trans (hs r 0).1,
        fun r => (congrFun (mass_first m c (t := ⟨n, hn⟩) h0) _).trans (hs r 0).2.1,
        fun r d => (congrFun (blend_first m c (t := ⟨n, hn⟩) h0) _).trans (hs r d).2.2⟩
    · have hb := state (n - 1) (by omega)
      have hN : n < 512 := N_0 ▸ hn
      have e1 : seq ⟨n - 1, by omega⟩ = seq ⟨n, hn⟩ := Fin.ext (by simp only [seq]; omega)
      have e2 : head ⟨n - 1, by omega⟩ = head ⟨n, hn⟩ := Fin.ext (by simp only [head]; omega)
      have e3 : qtile ⟨n - 1, by omega⟩ = qtile ⟨n, hn⟩ := Fin.ext (by simp only [qtile]; omega)
      have hm := hb.max
      have hl := hb.sum
      have ha := hb.weighted
      unfold rowScore at hm hl ha
      unfold rowVal at ha
      rw [e1, e2, e3] at hm hl ha
      by_cases h1 : n % 4 ≤ n / 4 % 4
      · have e : met (n - 1) = 512 * (n % 4) := by unfold met; omega
        simp only [e] at hm hl ha
        have hs := fun r d => step_at m c hf (t := ⟨n, hn⟩) h1 (hm r) (hl r) (ha r d)
        exact ⟨fun r => (congrFun (max_step m c (t := ⟨n, hn⟩) h0 h1) _).trans (hs r 0).1,
          fun r => (congrFun (mass_later m c (t := ⟨n, hn⟩) h0 h1) _).trans (hs r 0).2.1,
          fun r d => (congrFun (blend_later m c (t := ⟨n, hn⟩) h0 h1) _).trans (hs r d).2.2⟩
      · have e : met (n - 1) = met n := by unfold met; omega
        simp only [e] at hm hl ha
        have hk := rest_skip m c (t := ⟨n, hn⟩) h0 h1
        exact ⟨fun r => (congrFun (congrArg (fun z => z.1) hk) _).trans (hm r),
          fun r => (congrFun (congrArg (fun z => z.2.1) hk) _).trans (hl r),
          fun r d => (congrFun (congrArg (fun z => z.2.2) hk) _).trans (ha r d)⟩

/-- The block a last point writes is the attention's output at its rows. -/
theorem block_at {t : Fin cfg0.N} (h2 : t.val % 4 = 3) (r : Fin 512) (d : Fin 128) :
    (outsAt0 m c t.val t.isLt).1 (ix2 r d)
      = attn (queries m c) (keys m c) (values m c) (forgets m c) (seq t) (head t) (pos (qtile t) r) d := by
  have hs := state m c hf t.val t.isLt
  have h3 : met t = 512 * (t.val / 4 % 4) + 512 := by unfold met; omega
  rw [out_last m c h2, quotient_at, hs.weighted, hs.sum]
  refine (attn_eq (hf _ _ _) d ?_ ?_).symm
  · have := r.isLt; rw [h3]; simp only [pos, qtile]; omega
  · rw [h3]; omega

/-- The attention's output as an array. -/
def attnArray (Q K V : Wide.Idx → EReal) (C : Slim.Idx → EReal) : Wide.Idx → EReal := fun i =>
  attn Q K V C ⟨(i 0).val / 2048, by have : (i 0).val < 8192 := (i 0).isLt; omega⟩
    ⟨(i 1).val / 128, by have : (i 1).val < 1024 := (i 1).isLt; omega⟩
    ⟨(i 0).val % 2048, by omega⟩ ⟨(i 1).val % 128, by omega⟩

omit hf in
/-- The array, read at the row of a position and the column of a feature. -/
theorem attnArray_at (Q K V : Wide.Idx → EReal) (C : Slim.Idx → EReal) (b : Fin 4) (h : Fin 8) (p : Fin 2048) (d : Fin 128) :
    attnArray Q K V C (ix2 (row b p) (col h d)) = attn Q K V C b h p d := by
  have hp := p.isLt
  have hd := d.isLt
  have e1 : (row b p : ℕ) / 2048 = b := by unfold row; dsimp only; omega
  have e2 : (row b p : ℕ) % 2048 = p := by unfold row; dsimp only; omega
  have e3 : (col h d : ℕ) / 128 = h := by unfold col; dsimp only; omega
  have e4 : (col h d : ℕ) % 128 = d := by unfold col; dsimp only; omega
  show attn Q K V C ⟨(row b p : ℕ) / 2048, _⟩ ⟨(col h d : ℕ) / 128, _⟩ ⟨(row b p : ℕ) % 2048, _⟩ ⟨(col h d : ℕ) % 128, _⟩ = _
  simp only [e1, e2, e3, e4]

omit hf in
/-- Every index is the row of a position and the column of a feature. -/
theorem wide_cases (i : Wide.Idx) : ∃ b h p d, i = ix2 (row b p) (col h d) := by
  idx_vars i
  have h0 := i0.isLt
  have h1 := i1.isLt
  refine ⟨⟨i0 / 2048, by omega⟩, ⟨i1 / 128, by omega⟩, ⟨i0 % 2048, by omega⟩, ⟨i1 % 128, by omega⟩, ?_⟩
  congr 1 <;> refine Fin.ext ?_
  · unfold row; dsimp only; omega
  · unfold col; dsimp only; omega

omit hf in
/-- The place in its array of the output's block. -/
theorem emb5 (t : Fin cfg0.N) (r : Fin 512) (d : Fin 128) :
    (win0_5.blk t).view.emb (ix2 r d) = ix2 (row (seq t) (pos (qtile t) r)) (col (head t) d) := by
  unfold row col pos seq qtile head
  blk_ext [index5 t]

/-- The array the kernel leaves is the attention of its arguments. -/
theorem array_eq : (dats m 0 c).arrAt 5 cfg0.N = attnArray (queries m c) (keys m c) (values m c) (forgets m c) := by
  refine (dats m 0 c).arrAt_eq_of_covers 5 _ (by decide +kernel) fun t hf' y => ?_
  have h2 := (flush0_5 t).mp hf'
  idx_vars y
  blk_simp [index5 t]
  rw [after0_5]
  rw [emb5]
  exact (block_at m c hf h2 y0 y1).trans (attnArray_at _ _ _ _ _ _ _ _).symm

end Cert.KernelIdeal.Value

end
-- ==== Proof.Ref.lean ====
/-
  The reference read at an index: its result is the attention of Spec.lean (`res_at`).
-/
module

public import proofs.«01_k».proof.Proof.Gen.ReferenceIdeal.Run
public import proofs.«01_k».proof.Proof.Spec
public import Idealize.ShloMosaic.Lib.WordCmp

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Softmax Cert.Attn

variable (m : (ℓ : Loc nD τ sig) → Buf (Elt Ideal) ℓ)

/-- The reference's masked scores, over its arguments. -/
def scores (Q K : FVec Ideal S8192x1024 .bf16) (C : FVec Ideal S8192x8 .f32) : FVec Ideal S4x8x2048x2048 .f32 :=
  select (broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (addf (mulf (Host.dotGeneral dot_S4x2048x8x128_S4x2048x8x128_S4x8x2048x2048_3_3_1_1_02_02 none (shapeCast _ (extf .f32 Q bitsLt_bf16_f32) shapeCasts_S8192x1024_S4x2048x8x128) (shapeCast _ (extf .f32 K bitsLt_bf16_f32) shapeCasts_S8192x1024_S4x2048x8x128)) (broadcastInDim S4x8x2048x2048 ![] bcast_S_S4x8x2048x2048 (constant S_ .f32 0x3DB504F3#32))) (subf (broadcastInDim S4x8x2048x2048 ![0, 1, 2, 3] bcast_S4x8x2048x1_S4x8x2048x2048_0_1_2_3 (broadcastInDim S4x8x2048x1 ![0, 1, 2] bcast_S4x8x2048_S4x8x2048x1_0_1_2 (transpose S4x8x2048 [0, 2, 1] (shapeCast _ C shapeCasts_S8192x8_S4x2048x8) transposes_S4x2048x8_S4x8x2048_0_2_1))) (broadcastInDim S4x8x2048x2048 ![0, 1, 2, 3] bcast_S4x8x1x2048_S4x8x2048x2048_0_1_2_3 (broadcastInDim S4x8x1x2048 ![0, 1, 3] bcast_S4x8x2048_S4x8x1x2048_0_1_3 (transpose S4x8x2048 [0, 2, 1] (shapeCast _ C shapeCasts_S8192x8_S4x2048x8) transposes_S4x2048x8_S4x8x2048_0_2_1))))) (broadcastInDim S4x8x2048x2048 ![] bcast_S_S4x8x2048x2048 (id (constant S_ .f32 0xFF800000#32)))

/-- The greatest score of a row. -/
def rowmax (X : FVec Ideal S4x8x2048x2048 .f32) : FVec Ideal S4x8x2048 .f32 :=
  maximumf (broadcastInDim S4x8x2048 ![] bcast_S_S4x8x2048 (constant S_ .f32 0xFF800000#32)) (Host.reduce FloatOps.maximumf X (constant S_ .f32 0xFF800000#32) reducesTo_S4x8x2048x2048_S4x8x2048_d3 h_S_)

/-- The exponentials of the scores relative to their row's greatest one. -/
def expo (X : FVec Ideal S4x8x2048x2048 .f32) (M : FVec Ideal S4x8x2048 .f32) : FVec Ideal S4x8x2048x2048 .f32 :=
  Host.exp (subf X (broadcastInDim S4x8x2048x2048 ![0, 1, 2, 3] bcast_S4x8x2048x1_S4x8x2048x2048_0_1_2_3 (broadcastInDim S4x8x2048x1 ![0, 1, 2] bcast_S4x8x2048_S4x8x2048x1_0_1_2 M)))

/-- The exponentials over their row's sum. -/
def normed (E : FVec Ideal S4x8x2048x2048 .f32) : FVec Ideal S4x8x2048x2048 .f32 :=
  Host.divf E (broadcastInDim S4x8x2048x2048 ![0, 1, 2, 3] bcast_S4x8x2048x1_S4x8x2048x2048_0_1_2_3 (broadcastInDim S4x8x2048x1 ![0, 1, 2] bcast_S4x8x2048_S4x8x2048x1_0_1_2 (Host.reduceAdd E (constant S_ .f32 0x00000000#32) reducesTo_S4x8x2048x2048_S4x8x2048_d3 h_S_)))

/-- The values weighted by the probabilities. -/
def mixed (V : FVec Ideal S8192x1024 .bf16) (P : FVec Ideal S4x8x2048x2048 .f32) : FVec Ideal S8192x1024 .bf16 :=
  truncf .bf16 (shapeCast _ (transpose S4x2048x8x128 [0, 3, 1, 2] (Host.dotGeneral dot_S4x2048x8x128_S4x8x2048x2048_S4x8x128x2048_1_3_3_2_02_01 none (shapeCast _ (extf .f32 V bitsLt_bf16_f32) shapeCasts_S8192x1024_S4x2048x8x128) P) transposes_S4x8x128x2048_S4x2048x8x128_0_3_1_2) shapeCasts_S4x2048x8x128_S8192x1024) bitsLt_bf16_f32

/-- The reference's result is these five, composed. -/
theorem res_eq (c : Dev nD) : res_main_v38 m c = mixed (m ((c.tc : Thread nD τ).loc main_arg2))
    (normed (expo (scores (m ((c.tc : Thread nD τ).loc main_arg0)) (m ((c.tc : Thread nD τ).loc main_arg1)) (m ((c.tc : Thread nD τ).loc main_arg3))) (rowmax (scores (m ((c.tc : Thread nD τ).loc main_arg0)) (m ((c.tc : Thread nD τ).loc main_arg1)) (m ((c.tc : Thread nD τ).loc main_arg3)))))) := rfl

/-- The pattern of minus infinity denotes the least extended real. -/
theorem ofBits_neg_inf : Ideal.ofBits .f32 0xFF800000#32 = ⊥ := by simp [Ideal.ofBits, Ideal.ieee]

/-- A host maximum over the last of four axes. -/
theorem hostMax_at {A B N M : ℕ} (X : FVec Ideal ⟨4, ![A, B, N, M]⟩ .f32) (c : FVec Ideal ⟨0, ![]⟩ .f32)
    (h : (⟨4, ![A, B, N, M]⟩ : Shape).ReducesTo [3] ⟨3, ![A, B, N]⟩) (hu) (a : Fin A) (b : Fin B) (p : Fin N) :
    Host.reduce (u := ⟨0, ![]⟩) FloatOps.maximumf X c h hu (ix3 a b p)
      = max (c ix0) (Finset.univ.sup fun s : Fin M => X (ix4 a b p s)) := by
  refine (Host.reduce_eq_fold (α := EReal) _ X c h hu _).trans ?_
  refine (Shape.ReducesTo.fold_fiber_r4_a3 h (ix3 a b p) _ _ X).trans ?_
  refine (fold_max_eq _ _).trans ?_
  exact congrArg (fun z => max (c z) _) (funext fun x => x.elim0)

/-- The maximum of two arrays at an index. -/
theorem max_at (Y Z : FVec Ideal S4x8x2048 .f32) (i : S4x8x2048.Idx) : maximumf Y Z i = max (Y i) (Z i) := rfl

/-- The greatest score of a row, read. -/
theorem rowmax_at (X : FVec Ideal S4x8x2048x2048 .f32) (b : Fin 4) (h : Fin 8) (p : Fin 2048) :
    rowmax X (ix3 b h p) = Finset.univ.sup fun s : Fin 2048 => X (ix4 b h p s) := by
  refine (max_at _ _ _).trans ?_
  refine (congrArg _ (hostMax_at X _ _ _ b h p)).trans ?_
  refine (congrArg₂ max (?_ : _ = ⊥) (congrArg₂ max (?_ : _ = ⊥) rfl)).trans ?_
  · exact ofBits_neg_inf
  · exact ofBits_neg_inf
  · rw [max_eq_right bot_le, max_eq_right bot_le]

/-- The masked scores, read. -/
theorem scores_at (Q K : FVec Ideal S8192x1024 .bf16) (C : FVec Ideal S8192x8 .f32) (b : Fin 4) (h : Fin 8) (p s : Fin 2048) :
    scores Q K C (ix4 b h p s) = score Q K C b h p s := by
  have hp := p.isLt
  have hs := s.isLt
  rw [score_fin]
  pointwise [scores]
  simp (disch := omega) only [hlo_ix]
  exact if_congr Iff.rfl rfl ofBits_neg_inf

/-- The exponentials, read. -/
theorem expo_at (X : FVec Ideal S4x8x2048x2048 .f32) (M : FVec Ideal S4x8x2048 .f32) (b : Fin 4) (h : Fin 8) (p s : Fin 2048) :
    expo X M (ix4 b h p s) = Ideal.exp (X (ix4 b h p s) - M (ix3 b h p)) := by
  pointwise [expo]

/-- The probabilities, read. -/
theorem normed_at (E : FVec Ideal S4x8x2048x2048 .f32) (b : Fin 4) (h : Fin 8) (p s : Fin 2048) :
    normed E (ix4 b h p s) = Ideal.div (E (ix4 b h p s)) (∑ l, E (ix4 b h p l)) := by
  pointwise [normed]

/-- The weighted values, read at the row of a position and the column of a feature. -/
theorem mixed_at (V : FVec Ideal S8192x1024 .bf16) (P : FVec Ideal S4x8x2048x2048 .f32) (b : Fin 4) (h : Fin 8) (p : Fin 2048)
    (d : Fin 128) : mixed V P (ix2 (row b p) (col h d)) = ∑ s : Fin 2048, V (ix2 (row b s) (col h d)) * P (ix4 b h p s) := by
  have hp := p.isLt
  have hd := d.isLt
  pointwise [mixed]
  have e1 : (row b p : ℕ) / 2048 = b := by unfold row; dsimp only; omega
  have e2 : (row b p : ℕ) % 2048 = p := by unfold row; dsimp only; omega
  have e3 : (col h d : ℕ) / 128 = h := by unfold col; dsimp only; omega
  simp only [e1, e2, e3]
  rfl

/-- The five composed, read at the row of a position and the column of a feature: the attention's output there. -/
theorem composed_at (Q K V : FVec Ideal S8192x1024 .bf16) (C : FVec Ideal S8192x8 .f32) (b : Fin 4) (h : Fin 8) (p : Fin 2048)
    (d : Fin 128) : mixed V (normed (expo (scores Q K C) (rowmax (scores Q K C)))) (ix2 (row b p) (col h d))
      = attn Q K V C b h p d := by
  rw [mixed_at]
  refine Finset.sum_congr rfl fun s _ => ?_
  rw [val_fin]
  refine congrArg _ ?_
  simp only [normed_at, expo_at, rowmax_at, scores_at]

/-- The reference's result is the attention's output. -/
theorem res_at (c : Dev nD) (b : Fin 4) (h : Fin 8) (p : Fin 2048) (d : Fin 128) :
    res_main_v38 m c (ix2 (row b p) (col h d)) = attn (m ((c.tc : Thread nD τ).loc main_arg0))
      (m ((c.tc : Thread nD τ).loc main_arg1)) (m ((c.tc : Thread nD τ).loc main_arg2))
      (m ((c.tc : Thread nD τ).loc main_arg3)) b h p d :=
  (congrFun (res_eq m c) _).trans (composed_at _ _ _ _ b h p d)

end Cert.ReferenceIdeal.Value

end
-- ==== Proof.Finite.lean ====
/-
  What the precondition says: the queries, keys and cumulative log-forget values are real numbers (`real_of_finite`).
-/
module

public import proofs.«01_k».proof.Defs
public import proofs.«01_k».proof.Proof.Gen.Pre_finite
public import proofs.«01_k».proof.Proof.Gen.KernelIdeal
public import proofs.«01_k».proof.Proof.Spec
public import Idealize.ShloMosaic.Lib.ReduceAll

@[expose] public section

noncomputable section

open Idealize.ShloMosaic Idealize.SL.Sem

namespace Cert.Attn

/-- An extended real whose absolute value is less than plus infinity is a real number. -/
theorem real_of_abs_lt (x : EReal) (h : Ideal.cmp .olt (max x (-x)) (Ideal.ofBits .f32 0x7F800000#32) = 1#1) :
    ∃ y : ℝ, x = y := by
  have htop : Ideal.ofBits .f32 0x7F800000#32 = ⊤ := by simp [Ideal.ofBits, Ideal.ieee]
  rw [htop] at h
  induction x using EReal.rec with
  | bot => simp [Ideal.cmp] at h
  | coe y => exact ⟨y, rfl⟩
  | top => simp [Ideal.cmp] at h

/-- An array of real numbers. -/
def Reals (s : Shape) (X : s.Idx → EReal) : Prop := ∀ i, ∃ x : ℝ, X i = x

/-- Under the precondition the queries, keys and cumulative log-forget values are real numbers. -/
theorem real_of_finite (m : (ℓ : Loc Cert.KernelIdeal.nD Cert.KernelIdeal.τ Cert.KernelIdeal.sig) → Buf (Elt Ideal) ℓ)
    (h : @Cert.Pre_KernelIdeal_finite Cert.Pre_finite.Gen.facts m) (c : Dev Cert.KernelIdeal.nD) :
    Reals Wide (m ((c.tc : Thread Cert.KernelIdeal.nD Cert.KernelIdeal.τ).loc Cert.KernelIdeal.main_arg0))
    ∧ Reals Wide (m ((c.tc : Thread Cert.KernelIdeal.nD Cert.KernelIdeal.τ).loc Cert.KernelIdeal.main_arg1))
    ∧ Reals Slim (m ((c.tc : Thread Cert.KernelIdeal.nD Cert.KernelIdeal.τ).loc Cert.KernelIdeal.main_arg3)) := by
  have e := congrFun (h c) ix0
  obtain ⟨e1, e3⟩ := IntOp.andi_eq_one.mp e
  obtain ⟨e1, e2⟩ := IntOp.andi_eq_one.mp e1
  haveI : Subsingleton (Cert.Pre_finite.S_ : Shape).Idx := ⟨fun a b => funext fun k => k.elim0⟩
  exact ⟨fun i => real_of_abs_lt _ (Host.reduce_andi_all _ _ _ _ _ e1 i), fun i => real_of_abs_lt _ (Host.reduce_andi_all _ _ _ _ _ e2 i),
    fun i => real_of_abs_lt _ (Host.reduce_andi_all _ _ _ _ _ e3 i)⟩

end Cert.Attn

end
-- ==== Proof.UpFrame.lean ====
/-
  The grouped up-projection at any table of experts below eight: the pipeline, the blocks its
  grid points load (`a_at`, `w1_at`, `w2_at`), which of them stay (`kept1`, `kept2`), and its data (`dats`).
-/
module

public import proofs.«01_k».proof.Proof.UpTable
public import Idealize.ShloMosaic.Lib.Pipeline.ValueKit
public import Idealize.ShloMosaic.Lib.Pointwise
public import Idealize.ShloMosaic.Lib.Pipeline.Kit

@[expose] public section

set_option maxRecDepth 16384

noncomputable section

namespace Cert.Up.Tab

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The pipeline at a table -/

/-- The words of the tiles name one of the eight experts. -/
def Experts (T : S128.Idx → BitVec 32) : Prop := ∀ (n : ℕ) (h : n < 73), (word T n (by omega)).toNat < 8

set_option backward.proofsInPublic true in
/-- The table as the pipeline's contents. -/
def tbl (T : S128.Idx → BitVec 32) : pre0.Contents (Elt Bits) := fun | ⟨0, _⟩ => T | ⟨_ + 1, h⟩ => absurd h (by simp)

/-- The tile's expert, as a number. -/
def expert (T : S128.Idx → BitVec 32) (i : grid0.Coords) : ℕ := (word T (i 1).val (by have := tile_lt i; omega)).toNat

/-- A tile's word, as the index maps read it. -/
theorem tbl_at (T : S128.Idx → BitVec 32) (i : grid0.Coords) :
    ((tbl T).at 0 (Rect.unit (s := S128) (k0_off1 i) S1.size (k0_off1_inb i)) numel1_S1 : BitVec 32)
      = word T (i 1).val (by have := tile_lt i; omega) := by
  refine congrArg T (funext fun a => Fin.ext ?_)
  match a with
  | ⟨0, _⟩ => show k0_off1 i 0 + 1 * 0 = (i 1).val; rw [off1_eq]; omega

/-- A column's number is below 7. -/
theorem col_lt (i : grid0.Coords) : (i 0).val < 7 := (i 0).isLt

/-- The block of weights of a grid point: the tile's expert and the column. -/
theorem map1 (T : S128.Idx → BitVec 32) (i : grid0.Coords) :
    cc0_transform_1 k0_off1_inb numel1_S1 (tbl T) i = ![0, expert T i, 0, (i 0).val] := by
  have h := col_lt i
  have e : (BitVec.ofNat 32 (i 0).val).toNat = (i 0).val := by rw [BitVec.toNat_ofNat]; omega
  show ![_, ((tbl T).at 0 (Rect.unit (s := S128) (k0_off1 i) S1.size (k0_off1_inb i)) numel1_S1 : BitVec 32).toNat, _, (BitVec.ofNat 32 (i 0).val).toNat] = _
  rw [tbl_at, e]
  rfl

/-- The same for the second weights. -/
theorem map2 (T : S128.Idx → BitVec 32) (i : grid0.Coords) :
    cc0_transform_2 k0_off1_inb numel1_S1 (tbl T) i = ![0, expert T i, 0, (i 0).val] := map1 T i

/-- A block of an expert below eight lies inside the weights. -/
theorem inside (e n : ℕ) (he : e < 8) (hn : n < 7) :
    ∀ a, ((![0, e, 0, n] : Fin 4 → ℕ) a + 1) * S1x1x2048x1024.size a ≤ S2x8x2048x7168.size a := by
  intro a
  match a with
  | ⟨0, _⟩ => show (0 + 1) * 1 ≤ 2; omega
  | ⟨1, _⟩ => show (e + 1) * 1 ≤ 8; omega
  | ⟨2, _⟩ => show (0 + 1) * 2048 ≤ 2048; omega
  | ⟨3, _⟩ => show (n + 1) * 1024 ≤ 7168; omega

/-- Every block the pipeline moves lies inside its array. -/
theorem tbl_ok (T : S128.Idx → BitVec 32) (hT : Experts T) : ok0 (F := Bits) (tbl T) :=
  ⟨fun i => ⟨by rw [map1]; exact inside _ _ (hT _ (tile_lt i)) (col_lt i), .inl rfl⟩,
    fun i => ⟨by rw [map2]; exact inside _ _ (hT _ (tile_lt i)) (col_lt i), .inl rfl⟩⟩

variable (T : S128.Idx → BitVec 32) (hT : Experts T)

/-- The table as admissible contents. -/
def adm : (pcfg0 (F := Bits)).Adm := ⟨tbl T, tbl_ok T hT⟩

/-- The pipeline at the table. -/
abbrev cfgT : Pipeline.Cfg sig Λ₀ := cfg0 (F := Bits) (adm T hT)

/-- The program's pipelines at the table. -/
abbrev pcs : Fin 1 → Pipeline.Cfg sig Λ₀ := Pipeline.pin (pcfgs (F := Bits)) fun _ => adm T hT

variable (m : (ℓ : Loc nD τ sig) → Buf (Elt Bits) ℓ) (ρ : Dev nD → PrngReg)

/-- A grid point's coordinates. -/
abbrev crd (t : Fin (cfgT T hT).N) : grid0.Coords := (cfgT T hT).grid.coords t

/-- The staging buffer of the tile's rows at a grid point. -/
abbrev ms0 (t : Fin (cfgT T hT).N) : Memref sig .tc .vmem S256x2048 .bf16 := spec0_0.stage ((cfgT T hT).slots t (0 : Fin 4))
/-- It is a whole buffer. -/
abbrev hs0 (t : Fin (cfgT T hT).N) : (ms0 T hT t).IsWhole := hstage0_0 (((cfgT T hT).slots t (0 : Fin 4)).cast nbuf0_0)
/-- The staging buffer of the first weights at a grid point. -/
abbrev ms1 (t : Fin (cfgT T hT).N) : Memref sig .tc .vmem S1x1x2048x1024 .f32 := spec0_1.stage ((cfgT T hT).slots t (1 : Fin 4))
/-- It is a whole buffer. -/
abbrev hs1 (t : Fin (cfgT T hT).N) : (ms1 T hT t).IsWhole := hstage0_1 (((cfgT T hT).slots t (1 : Fin 4)).cast nbuf0_1)
/-- The staging buffer of the second weights at a grid point. -/
abbrev ms2 (t : Fin (cfgT T hT).N) : Memref sig .tc .vmem S1x1x2048x1024 .f32 := spec0_2.stage ((cfgT T hT).slots t (2 : Fin 4))
/-- It is a whole buffer. -/
abbrev hs2 (t : Fin (cfgT T hT).N) : (ms2 T hT t).IsWhole := hstage0_2 (((cfgT T hT).slots t (2 : Fin 4)).cast nbuf0_2)
/-- The staging buffer of the output at a grid point. -/
abbrev ms3 (t : Fin (cfgT T hT).N) : Memref sig .tc .vmem S256x1024 .bf16 := spec0_3.stage ((cfgT T hT).slots t (3 : Fin 4))
/-- It is a whole buffer. -/
abbrev hs3 (t : Fin (cfgT T hT).N) : (ms3 T hT t).IsWhole := hstage0_3 (((cfgT T hT).slots t (3 : Fin 4)).cast nbuf0_3)

/-- A window's block at a grid point, read off its array at launch. -/
def iblk (c : Dev nD) (w : Fin (cfgT T hT).W) (t : Fin (cfgT T hT).N) : (((cfgT T hT).win w).xblock (crd T hT t)).Idx → Elt Bits ((cfgT T hT).win w).elt :=
  (((cfgT T hT).win w).blk t).view.read (Elt Bits) (m (((cfgT T hT).win w).arr.view.loc (c : Thread nD τ)))

/-! ## The schedule -/

/-- A grid point's column and tile. -/
theorem coords_at : ∀ t : Fin grid0.N, (grid0.coords t 0).val = t.val / 73 ∧ (grid0.coords t 1).val = t.val % 73 := by decide +kernel

/-- The output's block is written back at every grid point. -/
theorem flush3 (t : Fin (cfgT T hT).N) : ((cfgT T hT).win (3 : Fin 4)).flush t = true :=
  (by decide +kernel : ∀ t : Fin grid0.N, Pipeline.Window.flushOf grid0 true cc0_transform_3 t = true) t

/-- The body writes the output's block at every grid point. -/
theorem idle3 (i : grid0.Coords) : (cfgT T hT).idle (3 : Fin 4) i = false := by
  have hl := live_iff i ((tbl T).atD 0 ![127])
  have hd := dead_iff i ((tbl T).atD 0 ![127])
  show (!(k0_cond2 i ((tbl T).atD 0 ![127]) == 1#1) && !(k0_cond3 i ((tbl T).atD 0 ![127]) == 1#1)) = false
  by_cases h : k0_cond2 i ((tbl T).atD 0 ![127]) = 1#1
  · rw [h]; rfl
  · rw [hd.mpr (fun h' => h (hl.mpr h'))]; simp

/-- The block of the first weights of a grid point. -/
theorem index1 (t : Fin (cfgT T hT).N) : ((pcfg0 (F := Bits)).win (adm T hT) 1).index t = ![0, expert T (crd T hT t), 0, (crd T hT t 0).val] :=
  map1 T (crd T hT t)

/-- The block of the second weights of a grid point. -/
theorem index2 (t : Fin (cfgT T hT).N) : ((pcfg0 (F := Bits)).win (adm T hT) 2).index t = ![0, expert T (crd T hT t), 0, (crd T hT t 0).val] :=
  map2 T (crd T hT t)

/-- The block of rows of a grid point. -/
theorem index0 (t : Fin (cfgT T hT).N) : ((pcfg0 (F := Bits)).win (adm T hT) 0).index t = ![(crd T hT t 1).val, 0] := by
  have h := tile_lt (crd T hT t)
  show ![(BitVec.ofNat 32 (crd T hT t 1).val).toNat, _] = _
  rw [BitVec.toNat_ofNat, Nat.mod_eq_of_lt (by omega)]
  rfl

/-- The block of the output of a grid point. -/
theorem index3 (t : Fin (cfgT T hT).N) : ((pcfg0 (F := Bits)).win (adm T hT) 3).index t = ![(crd T hT t 1).val, (crd T hT t 0).val] := by
  have h := tile_lt (crd T hT t)
  have h' := col_lt (crd T hT t)
  show ![(BitVec.ofNat 32 (crd T hT t 1).val).toNat, (BitVec.ofNat 32 (crd T hT t 0).val).toNat] = _
  rw [BitVec.toNat_ofNat, BitVec.toNat_ofNat, Nat.mod_eq_of_lt (by omega), Nat.mod_eq_of_lt (by omega)]

/-- The first weights a grid point loads. -/
theorem w1_at (c : Dev nD) (t : Fin (cfgT T hT).N) (x y : Fin 1) (r : Fin 2048) (d : Fin 1024) : iblk T hT m c 1 t (ix4 x y r d)
    = m ((c.tc : Thread nD τ).loc main_arg2) (ix4 (0 : Fin 2) (⟨expert T (crd T hT t), hT _ (tile_lt _)⟩ : Fin 8) r (⟨1024 * (crd T hT t 0).val + d, by have := col_lt (crd T hT t); have := d.isLt; omega⟩ : Fin 7168)) := by
  blk_ext [iblk]
  · exact congrFun (index1 T hT t) 0
  · exact congrFun (index1 T hT t) 1
  · exact (congrArg (fun z : ℕ => z * 2048 + r.val) (congrFun (index1 T hT t) 2)).trans (by show 0 * 2048 + r.val = r.val; omega)
  · exact (congrArg (fun z : ℕ => z * 1024 + d.val) (congrFun (index1 T hT t) 3)).trans
      (by show (crd T hT t 0).val * 1024 + d.val = 1024 * (crd T hT t 0).val + d.val; omega)

/-- The second weights a grid point loads. -/
theorem w2_at (c : Dev nD) (t : Fin (cfgT T hT).N) (x y : Fin 1) (r : Fin 2048) (d : Fin 1024) : iblk T hT m c 2 t (ix4 x y r d)
    = m ((c.tc : Thread nD τ).loc main_arg3) (ix4 (0 : Fin 2) (⟨expert T (crd T hT t), hT _ (tile_lt _)⟩ : Fin 8) r (⟨1024 * (crd T hT t 0).val + d, by have := col_lt (crd T hT t); have := d.isLt; omega⟩ : Fin 7168)) := by
  blk_ext [iblk]
  · exact congrFun (index2 T hT t) 0
  · exact congrFun (index2 T hT t) 1
  · exact (congrArg (fun z : ℕ => z * 2048 + r.val) (congrFun (index2 T hT t) 2)).trans (by show 0 * 2048 + r.val = r.val; omega)
  · exact (congrArg (fun z : ℕ => z * 1024 + d.val) (congrFun (index2 T hT t) 3)).trans
      (by show (crd T hT t 0).val * 1024 + d.val = 1024 * (crd T hT t 0).val + d.val; omega)

/-- The rows a grid point loads. -/
theorem a_at (c : Dev nD) (t : Fin (cfgT T hT).N) (r : Fin 256) (d : Fin 2048) : iblk T hT m c 0 t (ix2 r d)
    = m ((c.tc : Thread nD τ).loc main_arg0) (ix2 (⟨256 * (crd T hT t 1).val + r, by have := tile_lt (crd T hT t); have := r.isLt; omega⟩ : Fin 18688) d) := by
  blk_ext [iblk]
  · exact (congrArg (fun z : ℕ => z * 256 + r.val) (congrFun (index0 T hT t) 0)).trans
      (by show (crd T hT t 1).val * 256 + r.val = 256 * (crd T hT t 1).val + r.val; omega)
  · exact (congrArg (fun z : ℕ => z * 2048 + d.val) (congrFun (index0 T hT t) 1)).trans (by show 0 * 2048 + d.val = d.val; omega)

/-- A grid point that doesn't start over isn't the first, and the point before has its column and its expert. -/
theorem kept (t : Fin (cfgT T hT).N) (h : ¬ Starts (crd T hT t) T) :
    ∃ h0 : t.val ≠ 0, (crd T hT ⟨t.val - 1, by omega⟩ 0).val = (crd T hT t 0).val
      ∧ expert T (crd T hT ⟨t.val - 1, by omega⟩) = expert T (crd T hT t) := by
  have hp : t.val - 1 < (cfgT T hT).N := lt_of_le_of_lt (Nat.sub_le _ _) t.isLt
  have e : (crd T hT t 0).val = t.val / 73 ∧ (crd T hT t 1).val = t.val % 73 := coords_at t
  have hs : (crd T hT t 1).val ≠ 0 := fun h1 => h (.inl h1)
  have h0 : t.val ≠ 0 := fun h0 => hs (by rw [e.2, h0])
  have e' : (crd T hT ⟨t.val - 1, hp⟩ 0).val = (t.val - 1) / 73 ∧ (crd T hT ⟨t.val - 1, hp⟩ 1).val = (t.val - 1) % 73 :=
    coords_at ⟨t.val - 1, hp⟩
  have e1 : (crd T hT ⟨t.val - 1, hp⟩ 1).val = (crd T hT t 1).val - 1 := by
    rw [e'.2, e.2]
    rw [e.2] at hs
    clear e e' h h0
    generalize t.val = n at *
    omega
  refine ⟨h0, ?_, ?_⟩
  · rw [e'.1, e.1]
    rw [e.2] at hs
    clear e e' e1 h h0
    generalize t.val = n at *
    omega
  have hw : word T (crd T hT t 1).val (by have := tile_lt (crd T hT t); omega) = word T ((crd T hT t 1).val - 1) (by have := tile_lt (crd T hT t); omega) :=
    not_not.mp fun h1 => h (.inr h1)
  unfold expert
  rw [hw]
  simp only [e1]

/-- The first weights of a grid point that doesn't start over are those of the point before. -/
theorem kept1 (c : Dev nD) (t : Fin (cfgT T hT).N) (h : ¬ Starts (crd T hT t) T) :
    iblk T hT m c 1 t = iblk T hT m c 1 ⟨t.val - 1, by omega⟩ := by
  obtain ⟨h0, e0, e1⟩ := kept T hT t h
  refine funext fun (y : S1x1x2048x1024.Idx) => ?_
  idx_vars y
  rw [w1_at, w1_at]
  simp only [e0, e1]
  rfl

/-- The second weights of a grid point that doesn't start over are those of the point before. -/
theorem kept2 (c : Dev nD) (t : Fin (cfgT T hT).N) (h : ¬ Starts (crd T hT t) T) :
    iblk T hT m c 2 t = iblk T hT m c 2 ⟨t.val - 1, by omega⟩ := by
  obtain ⟨h0, e0, e1⟩ := kept T hT t h
  refine funext fun (y : S1x1x2048x1024.Idx) => ?_
  idx_vars y
  rw [w2_at, w2_at]
  simp only [e0, e1]
  rfl

/-! ## The pipeline's data -/

/-- The first weights a grid point's scratch holds. -/
def wgt0 (c : Dev nD) (t : Fin (cfgT T hT).N) : S2048x1024.Idx → Elt Bits .bf16 := k0_pay1 (iblk T hT m c (1 : Fin 4) t)

/-- The second weights a grid point's scratch holds. -/
def wgt1 (c : Dev nD) (t : Fin (cfgT T hT).N) : S2048x1024.Idx → Elt Bits .bf16 := k0_pay2 (iblk T hT m c (2 : Fin 4) t)

/-- What a grid point leaves in the output's block. -/
def left (c : Dev nD) (t : Fin (cfgT T hT).N) : S256x1024.Idx → Elt Bits .bf16 :=
  outBlk (crd T hT t) T (iblk T hT m c (0 : Fin 4) t) (wgt0 T hT m c t) (wgt1 T hT m c t)

/-- What holds before a grid point: past the first, the scratch holds the weights of the point before; the table is held. -/
def Phi (c : Dev nD) (t : Fin ((cfgT T hT).N + 1)) : sProp (MT nD τ sig Unit (Elt Bits) ℕ (UR sig nD τ) ℕ) :=
  iprop((∃ a, ⌜∀ h : t.val ≠ 0, a = wgt0 T hT m c ⟨t.val - 1, by omega⟩⌝ ∗ (scM0_0.view.loc (c : Thread nD τ) ↦{fullShare} a))
    ∗ (∃ a, ⌜∀ h : t.val ≠ 0, a = wgt1 T hT m c ⟨t.val - 1, by omega⟩⌝ ∗ (scM0_1.view.loc (c : Thread nD τ) ↦{fullShare} a))
    ∗ (tbM0_0.view.loc (c : Thread nD τ) ↦{fullShare.right} T))

/-- The pipeline's data on a core. -/
def dats (_ : Fin 1) (c : Dev nD) : Dat τ (Elt Bits) Unit ℕ (UR sig nD τ) ℕ (cfgT T hT) c where
  A w := m (((cfgT T hT).win w).arr.view.loc (c : Thread nD τ))
  after w t := match w with
    | ⟨0, _⟩ => iblk T hT m c (0 : Fin 4) t
    | ⟨1, _⟩ => iblk T hT m c (1 : Fin 4) t
    | ⟨2, _⟩ => iblk T hT m c (2 : Fin 4) t
    | ⟨3, _⟩ => left T hT m c t
  Φ t := Phi T hT m c t
  q _ := fullShare
  owed _ := 0

/-- The rows' block holds what was loaded. -/
theorem after0 (c : Dev nD) (t : Fin (cfgT T hT).N) : (dats T hT m 0 c).after (0 : Fin 4) t = iblk T hT m c (0 : Fin 4) t := rfl
/-- The first weights' block holds what was loaded. -/
theorem after1 (c : Dev nD) (t : Fin (cfgT T hT).N) : (dats T hT m 0 c).after (1 : Fin 4) t = iblk T hT m c (1 : Fin 4) t := rfl
/-- The second weights' block holds what was loaded. -/
theorem after2 (c : Dev nD) (t : Fin (cfgT T hT).N) : (dats T hT m 0 c).after (2 : Fin 4) t = iblk T hT m c (2 : Fin 4) t := rfl
/-- The output's block holds what the point leaves. -/
theorem after3 (c : Dev nD) (t : Fin (cfgT T hT).N) : (dats T hT m 0 c).after (3 : Fin 4) t = left T hT m c t := rfl

/-- The rows are loaded when the body runs. -/
theorem before0 (c : Dev nD) (t : Fin (cfgT T hT).N) (d) : (dats T hT m 0 c).before (0 : Fin 4) t d = iblk T hT m c (0 : Fin 4) t :=
  ((dats T hT m 0 c).before_in_eq_fetched (0 : Fin 4) rfl (fun _ => rfl) (fun _ _ _ => rfl) (fun t => by rw [after0]; unfold Dat.blockOf iblk; rfl) t d).trans
    (by unfold Dat.fetched Dat.blockOf iblk; rfl)

/-- The first weights are loaded when the body runs. -/
theorem before1 (c : Dev nD) (t : Fin (cfgT T hT).N) (d) : (dats T hT m 0 c).before (1 : Fin 4) t d = iblk T hT m c (1 : Fin 4) t :=
  ((dats T hT m 0 c).before_in_eq_fetched (1 : Fin 4) rfl (fun _ => rfl) (fun _ _ _ => rfl) (fun t => by rw [after1]; unfold Dat.blockOf iblk; rfl) t d).trans
    (by unfold Dat.fetched Dat.blockOf iblk; rfl)

/-- The second weights are loaded when the body runs. -/
theorem before2 (c : Dev nD) (t : Fin (cfgT T hT).N) (d) : (dats T hT m 0 c).before (2 : Fin 4) t d = iblk T hT m c (2 : Fin 4) t :=
  ((dats T hT m 0 c).before_in_eq_fetched (2 : Fin 4) rfl (fun _ => rfl) (fun _ _ _ => rfl) (fun t => by rw [after2]; unfold Dat.blockOf iblk; rfl) t d).trans
    (by unfold Dat.fetched Dat.blockOf iblk; rfl)

end Cert.Up.Tab

end
-- ==== Proof.UpSound.lean ====
/-
  The grouped up-projection at any table of experts below eight: the body meets its obligation at every grid point
  (`sound`), the launch, and the frame (`frame`, `run`).
-/
module

public import proofs.«01_k».proof.Proof.UpFrame
public import Idealize.ShloMosaic.Lib.Claim
public import Idealize.ShloMosaic.Adequacy
public import Idealize.ShloMosaic.Init

@[expose] public section

set_option maxRecDepth 16384

noncomputable section

namespace Cert.Up.Tab

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (T : S128.Idx → BitVec 32) (hT : Experts T)
variable (m : (ℓ : Loc nD τ sig) → Buf (Elt Bits) ℓ) (ρ : Dev nD → PrngReg)

/-! ## The body's obligation -/

/-- The body at a grid point, as the pipeline calls it. -/
abbrev bodyAt (t : Fin (cfgT T hT).N) : Prog (TpuEff nD τ sig (Elt Bits) Λ₀ .tc) PUnit :=
  cc0_moe_up (crd T hT t) (Memref.whole main_arg1) (Memref.isWhole_whole _) (ms0 T hT t) (hs0 T hT t) (ms1 T hT t) (hs1 T hT t) (ms2 T hT t) (hs2 T hT t) (ms3 T hT t) (hs3 T hT t) (Memref.whole cc0_scratch0) (Memref.isWhole_whole _) (Memref.whole cc0_scratch1) (Memref.isWhole_whole _)

/-- What is known before a point, at a point that isn't the first. -/
theorem before_point {α : Type} {N : ℕ} (f : Fin N → α) (t : Fin N) (a : α)
    (h : ∀ h : t.castSucc.val ≠ 0, a = f ⟨t.castSucc.val - 1, by omega⟩) (h0 : t.val ≠ 0) :
    a = f ⟨t.val - 1, lt_of_le_of_lt (Nat.sub_le _ _) t.isLt⟩ := h h0

/-- What is known after a point. -/
theorem after_point {α : Type} {N : ℕ} (f : Fin N → α) (t : Fin N) : ∀ h : t.succ.val ≠ 0, f t = f ⟨t.succ.val - 1, by omega⟩ := fun _ => rfl

/-- The first weights held at a grid point that doesn't start over are those held at the point before. -/
theorem wgt0_kept (c : Dev nD) (t : Fin (cfgT T hT).N) (h : ¬ Starts (crd T hT t) T) :
    wgt0 T hT m c t = wgt0 T hT m c ⟨t.val - 1, lt_of_le_of_lt (Nat.sub_le _ _) t.isLt⟩ := by
  unfold wgt0
  rw [kept1 T hT m c t h]

/-- The second weights held at a grid point that doesn't start over are those held at the point before. -/
theorem wgt1_kept (c : Dev nD) (t : Fin (cfgT T hT).N) (h : ¬ Starts (crd T hT t) T) :
    wgt1 T hT m c t = wgt1 T hT m c ⟨t.val - 1, lt_of_le_of_lt (Nat.sub_le _ _) t.isLt⟩ := by
  unfold wgt1
  rw [kept2 T hT m c t h]

set_option maxHeartbeats 400000 in
/-- The body meets its obligation at every grid point. -/
theorem sound (c : Dev nD) (t : Fin (cfgT T hT).N) :
    iprop((dats T hT m 0 c).Φ t.castSucc ∗ (dats T hT m 0 c).owesAt () t.castSucc
        ∗ (∃ d, owns (c : Thread nD τ) (ms0 T hT t) fullShare ((dats T hT m 0 c).before (0 : Fin 4) t d))
        ∗ (∃ d, owns (c : Thread nD τ) (ms1 T hT t) fullShare ((dats T hT m 0 c).before (1 : Fin 4) t d))
        ∗ (∃ d, owns (c : Thread nD τ) (ms2 T hT t) fullShare ((dats T hT m 0 c).before (2 : Fin 4) t d))
        ∗ (∃ d, owns (c : Thread nD τ) (ms3 T hT t) fullShare ((dats T hT m 0 c).before (3 : Fin 4) t d)))
      ⊢ wp frame (wpE (defs₀ (F := Bits)) Variants.none c none) Set.univ (bodyAt T hT t) fun _ =>
          iprop((dats T hT m 0 c).Φ t.succ ∗ (dats T hT m 0 c).owesAt () t.succ
            ∗ bigSep Finset.univ fun w : Fin (cfgT T hT).W =>
                match (cfgT T hT).idle w ((cfgT T hT).grid.coords t) with
                | true =>
                  match ((cfgT T hT).win w).flush t with
                  | false => iprop(∃ d, owns (c : Thread nD τ) (((cfgT T hT).win w).stage ((cfgT T hT).slots t w)) fullShare ((dats T hT m 0 c).before w t d))
                  | true => owns (c : Thread nD τ) (((cfgT T hT).win w).stage ((cfgT T hT).slots t w)) fullShare ((dats T hT m 0 c).after w t)
                | false => owns (c : Thread nD τ) (((cfgT T hT).win w).stage ((cfgT T hT).slots t w)) fullShare ((dats T hT m 0 c).after w t)) := by
  rw [bigSep_W0]
  rewrite [idle3 T hT ((cfgT T hT).grid.coords t)]
  simp only [before0, before1, before2, after0, after1, after2, after3]
  rewrite [show (dats T hT m 0 c).Φ t.succ = Phi T hT m c t.succ from rfl, show (dats T hT m 0 c).Φ t.castSucc = Phi T hT m c t.castSucc from rfl,
    show (dats T hT m 0 c).owesAt () t.succ = (dats T hT m 0 c).owesAt () t.castSucc from rfl]
  unfold Phi
  iintro ⟨⟨⟨%a0, %ha0, HS0⟩, ⟨%a1, %ha1, HS1⟩, HT0⟩, Ho, ⟨%d0, H0⟩, ⟨%d1, H1⟩, ⟨%d2, H2⟩, ⟨%d3, H3⟩⟩
  have hk : ¬ Starts (crd T hT t) T → a0 = wgt0 T hT m c t ∧ a1 = wgt1 T hT m c t := fun h =>
    ⟨(before_point (wgt0 T hT m c) t a0 ha0 (kept T hT t h).1).trans (wgt0_kept T hT m c t h).symm, (before_point (wgt1 T hT m c) t a1 ha1 (kept T hT t h).1).trans (wgt1_kept T hT m c t h).symm⟩
  iapply (body (crd T hT t) c (ms0 T hT t) (hs0 T hT t) (ms1 T hT t) (hs1 T hT t) (ms2 T hT t) (hs2 T hT t) (ms3 T hT t) (hs3 T hT t) T
    (iblk T hT m c (0 : Fin 4) t) (iblk T hT m c (1 : Fin 4) t) (iblk T hT m c (2 : Fin 4) t) a0 a1 (wgt0 T hT m c t) (wgt1 T hT m c t)
    (fun _ => ⟨rfl, rfl⟩) hk _)
  isplitl [H0]; · iapply rep_of_owns; iexact H0
  isplitl [H1]; · iapply rep_of_owns; iexact H1
  isplitl [H2]; · iapply rep_of_owns; iexact H2
  isplitl [HT0]; · iexact HT0
  isplitl [H3]; · iexists _; iexact H3
  isplitl [HS0]; · iexact HS0
  isplitl [HS1]; · iexact HS1
  iintro ⟨H0, H1, H2, HT0, H3, HS0, HS1⟩
  isplitl [HS0 HS1 HT0]
  · isplitl [HS0]
    · iexists _; isplitr; swap
      · iexact HS0
      · ipureintro; exact after_point (wgt0 T hT m c) t
    isplitl [HS1]
    · iexists _; isplitr; swap
      · iexact HS1
      · ipureintro; exact after_point (wgt1 T hT m c) t
    iexact HT0
  isplitl [Ho]; · iexact Ho
  isplitl [H0]
  · iapply owns_of_rep; iexact H0
  isplitl [H1]
  · iapply owns_of_rep; iexact H1
  isplitl [H2]
  · iapply owns_of_rep; iexact H2
  iexact H3

/-- The body's obligation, at every grid point. -/
theorem obligation (c : Dev nD) : BodyObligation (dats T hT m 0 c) (defs₀ (F := Bits)) Variants.none () Set.univ := fun t => by
  rw [bigSep_W0]
  exact sound T hT m c t

/-! ## The launch -/

/-- The rounds' first element. -/
def start : UR sig nD τ :=
  initOf (Pipeline.cells (pcs T hT) ((launch0 (F := Bits)).cellOf_inj fun _ => adm T hT))
    (Pipeline.launchToks (pcs T hT) ((launch0 (F := Bits)).cellOf_inj fun _ => adm T hT))

/-- Every window holds its array whole. -/
theorem whole_share (c : Dev nD) (w : Fin (cfgT T hT).W) : (dats T hT m 0 c).share w = fullShare := by
  unfold Dat.share
  split <;> rfl

/-- The table as the launch hands it over: half of the buffer, at the table's contents. -/
theorem held_table (c : Dev nD) : (Pipeline.prefHeld (Ix := Unit) (Name := ℕ) (U := UR sig nD τ) (Lvl := ℕ) pre0 c (fun _ => fullShare.right) (adm T hT).1
      : sProp (MT nD τ sig Unit (Elt Bits) ℕ (UR sig nD τ) ℕ))
    = iprop(((c : Thread nD τ).loc main_arg1) ↦{fullShare.right} T) := by
  unfold Pipeline.prefHeld
  rw [show (Finset.univ : Finset (Fin 1)) = {(0 : Fin 1)} from by decide, bigSep_singleton]
  rfl

/-- What holds before the first grid point, from the table and the scratch buffers at anything. -/
theorem Phi_first (c : Dev nD) :
    iprop(BI.emp ∗ Pipeline.prefHeld pre0 c (fun _ => fullShare.right) (adm T hT).1 ∗ Pipeline.scopedRest spec0 c) ⊢ (dats T hT m 0 c).Φ 0 := by
  rw [held_table, scopedRest0_eq, show (dats T hT m 0 c).Φ 0 = Phi T hT m c 0 from rfl]
  unfold Phi
  iintro ⟨-, HT0, ⟨%a0, HS0⟩, ⟨%a1, HS1⟩⟩
  isplitl [HS0]
  · iexists a0; isplitr; swap
    · iexact HS0
    · ipureintro; exact fun h => absurd rfl h
  isplitl [HS1]
  · iexists a1; isplitr; swap
    · iexact HS1
    · ipureintro; exact fun h => absurd rfl h
  iexact HT0

/-- After the last grid point the scratch buffers are given back. -/
theorem Phi_last (c : Dev nD) : (dats T hT m 0 c).Φ (Fin.last (cfgT T hT).N) ⊢ iprop(BI.emp ∗ Pipeline.scopedRest spec0 c) := by
  rw [scopedRest0_eq, show (dats T hT m 0 c).Φ (Fin.last (cfgT T hT).N) = Phi T hT m c (Fin.last _) from rfl]
  unfold Phi
  iintro ⟨⟨%a0, -, HS0⟩, ⟨%a1, -, HS1⟩, -⟩
  isplitr; · iempintro
  isplitl [HS0]
  · iexists a0; iexact HS0
  iexists a1; iexact HS1

/-- What a run ends in: every array at what the pipeline computes, the table as it was, every semaphore at zero. -/
def Ends (r : PUnit × MemSt nD τ sig (Elt Bits)) : Prop :=
  (∀ c : Dev nD, (∀ w : Fin (cfgT T hT).W, r.2.mem (((cfgT T hT).win w).arr.view.loc (c : Thread nD τ)) = (dats T hT m 0 c).arrAt w (cfgT T hT).N)
    ∧ ∀ j, r.2.mem ((c : Thread nD τ).loc (pre0.ref j)) = (adm T hT).1 j) ∧ r.2.sem = fun _ => 0

set_option backward.isDefEq.respectTransparency.types false in
set_option maxHeartbeats 4000000 in
/-- Every run from a memory whose table is `T` ends so. -/
theorem run (hm : ∀ c : Dev nD, m ((c.tc : Thread nD τ).loc main_arg1) = T) :
    θ_run (defs (F := Bits)) (onTc (τ := τ) (main (F := Bits))) (s₀ m ρ) (Ends T hT m) :=
  Pipeline.θ_run_region_noSem_pf_quiescent pcfgs (fun _ => adm T hT) (dats T hT m) () ((launch0 (F := Bits)).cellOf_inj fun _ => adm T hT) (0 : Fin 1)
    (launch0 (F := Bits)).win.to₀ (launch0 (F := Bits)).pre emb₁ defs₀ Variants.none m ρ main
    (hbody := fun c => (obligation T hT m c).loose) (hne := (launch0 (F := Bits)).block_pos)
    (harr := (launch0 (F := Bits)).arr_whole) (hstage := (launch0 (F := Bits)).stage_whole) (howed := fun _ _ => rfl)
    (u₀ := start T hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T hT) (dats T hT m) 0 (launch0 (F := Bits)).win.arr_inj c (launch0 (F := Bits)).arr_whole
      (whole_share T hT m c) _ _ fun _ => rfl)
    (hpf := fun c j => by fin_cases j; exact hm c)
    (X := fun _ => iprop(emp)) (Y := fun _ => iprop(emp)) (Z := fun _ => iprop(emp))
    (hX := fun c => by rw [unscopedRestP0_eq]; iintro -; isplitr <;> iempintro)
    (hin := Phi_first T hT m)
    (hout := Phi_last T hT m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every run from a memory whose table is `T` ends with the arguments as they were and every semaphore at zero. -/
theorem unharmed (hT : Experts T) (hm : ∀ c : Dev nD, m ((c.tc : Thread nD τ).loc main_arg1) = T) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 (0 : Fin 4)).trans ((dats T hT m 0 c).arrAt_in (0 : Fin 4) rfl _), ((h.1 c).2 0).trans (hm c).symm,
    ((h.1 c).1 (1 : Fin 4)).trans ((dats T hT m 0 c).arrAt_in (1 : Fin 4) rfl _), ((h.1 c).1 (2 : Fin 4)).trans ((dats T hT m 0 c).arrAt_in (2 : Fin 4) rfl _)⟩, h.2⟩)
    (run T hT m ρ hm)

end Cert.Up.Tab

end
-- ==== Proof.UpIdealTable.lean ====
/-
  The grouped up-projection at any table of experts: the words its control reads, the branch each grid point takes, and
  what the kernel's body leaves there in closed form (`body_live`, `body_dead`).
-/
module

public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Flash.Runs
public import Idealize.ShloMosaic.Lib.VecWindow
public import Idealize.ShloMosaic.Lib.Pipeline.Quiescent
public import Idealize.ShloMosaic.Lib.Pipeline.TableIdle
public import Idealize.ShloMosaic.Lib.Pipeline.FrameBody

@[expose] public section

set_option maxRecDepth 16384

noncomputable section

namespace Cert.UpIdeal.Tab

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The table's words -/

/-- The table's word `n`. -/
def word (T : S128.Idx → BitVec 32) (n : ℕ) (h : n < 128) : BitVec 32 := T fun | ⟨0, _⟩ => ⟨n, h⟩

/-- A load of one word of the table reads that word. -/
theorem read_word (T : S128.Idx → BitVec 32) (off : Fin 1 → ℕ) (inb : ∀ a, off a + S1.size a ≤ S128.size a)
    (hx : 0 < (Rect.unit (s := S128) off S1.size inb).toLoadRect.shape.numel) (h : off 0 < 128) :
    View.readAt (Elt Ideal) (tbM0_0).view (Rect.unit (s := S128) off S1.size inb).toLoadRect T (Shape.Idx.first hx) = word T (off 0) h := by
  rw [View.readAt_apply]
  refine congrArg T (funext fun a => Fin.ext ?_)
  match a with
  | ⟨0, _⟩ => show off 0 + 1 * 0 = off 0; omega

variable (i : grid0.Coords)

/-- A tile's number is below 73. -/
theorem tile_lt : (i 1).val < 73 := (i 1).isLt

/-- The first load of the body is of the tile's own word. -/
theorem off1_eq : k0_off1 i 0 = (i 1).val := by
  have h := tile_lt i
  show (BitVec.setWidth _ (BitVec.ofNat 32 (i 1).val)).toNat = _
  simp
  omega

/-- The second load of the body is of the word before it, or of the first. -/
theorem off2_eq : k0_off2 i 0 = (i 1).val - 1 :=
  (by decide +kernel : ∀ n : Fin 73, (Scalar.indexCast (Scalar.maxsi (Scalar.subi (BitVec.ofNat 32 n.val) 1#32) 0#32) : Index).toNat = n.val - 1) ⟨(i 1).val, tile_lt i⟩

/-- Whether a tile starts over: the first of its column, or one of another expert than the tile before. -/
def Starts (T : S128.Idx → BitVec 32) : Prop :=
  (i 1).val = 0 ∨ word T (i 1).val (by have := tile_lt i; omega) ≠ word T ((i 1).val - 1) (by have := tile_lt i; omega)

/-- Whether a tile is in use: its number is below the last word of the table. -/
def Live (T : S128.Idx → BitVec 32) : Prop := (BitVec.ofNat 32 (i 1).val).slt (word T 127 (by omega)) = true

instance (T : S128.Idx → BitVec 32) : Decidable (Live i T) := inferInstanceAs (Decidable (_ = _))
instance (T : S128.Idx → BitVec 32) : Decidable (Starts i T) := inferInstanceAs (Decidable (_ ∨ _))

/-- The word a one-bit word is extended to is nonzero exactly when the bit is set. -/
theorem ext_ne (b : BitVec 1) : Scalar.cmpi .ne (Scalar.extui b : BitVec 32) 0#32 = 1#1 ↔ b = 1#1 := by
  revert b; decide

/-- The body's test for starting over, of the words it reads. -/
theorem start_iff (n : ℕ) (hn : n < 73) (a b : BitVec 32) :
    Scalar.cmpi .ne (Scalar.extui (Scalar.ori (Scalar.cmpi .eq (BitVec.ofNat 32 n) 0#32) (Scalar.cmpi .ne a b)) : BitVec 32) 0#32 = 1#1 ↔ n = 0 ∨ a ≠ b := by
  rw [ext_ne]
  have h0 : (BitVec.ofNat 32 n == 0#32) = decide (n = 0) := by
    have : ∀ k : Fin 73, (BitVec.ofNat 32 k.val == 0#32) = decide (k.val = 0) := by decide
    exact this ⟨n, hn⟩
  show BitVec.ofBool (BitVec.ofNat 32 n == 0#32) ||| BitVec.ofBool (a != b) = 1#1 ↔ _
  rw [h0]
  by_cases h1 : n = 0 <;> by_cases h2 : a = b
  · subst h2; simp [h1]
  · rw [bne_iff_ne.mpr h2]; simp [h1]
  · subst h2; simp [h1]
  · rw [bne_iff_ne.mpr h2]; simp [h1, h2]

/-- The body's test for a tile in use. -/
theorem live_iff (w : BitVec 32) : k0_cond2 i w = 1#1 ↔ (BitVec.ofNat 32 (i 1).val).slt w = true := by
  unfold k0_cond2
  dsimp only
  rw [ext_ne]
  show BitVec.ofBool _ = 1#1 ↔ _
  cases (BitVec.ofNat 32 (i 1).val).slt w <;> simp

/-- The body's test for a tile out of use is the other way round. -/
theorem dead_iff (w : BitVec 32) : k0_cond3 i w = 1#1 ↔ ¬ (BitVec.ofNat 32 (i 1).val).slt w = true := by
  unfold k0_cond3
  dsimp only
  rw [ext_ne]
  show BitVec.ofBool (w.sle (BitVec.ofNat 32 (i 1).val)) = 1#1 ↔ _
  rw [BitVec.sle_eq_not_slt]
  cases (BitVec.ofNat 32 (i 1).val).slt w <;> simp

/-! ## The body -/

/-- What the body leaves in the output's block: the gated product of the tile with the weights held, or zeros. -/
def outBlk (T : S128.Idx → BitVec 32) (x0 : S256x2048.Idx → Elt Ideal .bf16) (w0 w1 : S2048x1024.Idx → Elt Ideal .bf16) : S256x1024.Idx → Elt Ideal .bf16 :=
  if Live i T then k0_pay3 x0 w0 w1 else k0_pay4 (F := Ideal)

/-- A store of a whole buffer leaves the payload. -/
theorem fill (b : Ref sig .tc) (f : b.ty.Contents (Elt Ideal)) (off : Fin b.ty.shape.rank → ℕ) (inb : ∀ a, off a + b.ty.shape.size a ≤ b.ty.shape.size a)
    (p : b.ty.shape.Idx → Elt Ideal b.ty.elt) : (View.whole b).writes (Elt Ideal) f [⟨Rect.unit off b.ty.shape.size inb, p⟩] = p :=
  (View.read_whole b _).symm.trans (View.read_writes_full (View.whole b) f inb p [])

/-- A load of a whole buffer after a store of it reads the payload. -/
theorem refill (b : Ref sig .tc) (off : Fin b.ty.shape.rank → ℕ) (inb inb' : ∀ a, off a + b.ty.shape.size a ≤ b.ty.shape.size a)
    (p : b.ty.shape.Idx → Elt Ideal b.ty.elt) :
    (View.whole b).readCov [⟨Rect.unit off b.ty.shape.size inb, p⟩] (Rect.unit off b.ty.shape.size inb').toLoadRect = p :=
  View.readCov_full (Val := Elt Ideal) (View.whole b) inb' inb p []

/-- A load of a whole buffer reads its contents. -/
theorem reload (b : Ref sig .tc) (f : b.ty.Contents (Elt Ideal)) (off : Fin b.ty.shape.rank → ℕ) (inb : ∀ a, off a + b.ty.shape.size a ≤ b.ty.shape.size a) :
    (View.whole b).readAt (Elt Ideal) (Rect.unit off b.ty.shape.size inb).toLoadRect f = f :=
  (View.readAt_full (View.whole b) f inb).trans (View.read_whole b f)

section paths

variable (c : Dev nD) (arg3 : Memref sig .tc .vmem S256x2048 .bf16) (harg3 : arg3.IsWhole)
  (arg4 : Memref sig .tc .vmem S1x1x2048x1024 .f32) (harg4 : arg4.IsWhole) (arg5 : Memref sig .tc .vmem S1x1x2048x1024 .f32) (harg5 : arg5.IsWhole)
  (arg6 : Memref sig .tc .vmem S256x1024 .bf16) (harg6 : arg6.IsWhole) (T : S128.Idx → BitVec 32)
  (x0 : S256x2048.Idx → Elt Ideal .bf16) (x1 x2 : S1x1x2048x1024.Idx → Elt Ideal .f32) (xa0 xa1 : S2048x1024.Idx → Elt Ideal .bf16)

/-- Where the body starts over in a tile in use, it leaves the point's own first weights. -/
theorem held0_A (h0 h2 h3) : (kernelRun0_A c i arg3 harg3 arg4 harg4 arg5 harg5 arg6 harg6 T x0 x1 x2 h0 h2 h3).2.1 = k0_pay1 x1 := by
  unfold kernelRun0_A
  dsimp only
  unfold kernelRun0_A.sl.HS0_1
  refine (fill cc0_scratch0 _ ![0, 0] _ _).trans ?_
  rw [View.readAt_rep_full]

/-- Where the body starts over in a tile in use, it leaves the point's own second weights. -/
theorem held1_A (h0 h2 h3) : (kernelRun0_A c i arg3 harg3 arg4 harg4 arg5 harg5 arg6 harg6 T x0 x1 x2 h0 h2 h3).2.2.1 = k0_pay2 x2 := by
  unfold kernelRun0_A
  dsimp only
  unfold kernelRun0_A.sl.HS1_1
  refine (fill cc0_scratch1 _ ![0, 0] _ _).trans ?_
  rw [View.readAt_rep_full]

/-- Where the body starts over in a tile in use, it writes the gated product with the point's own weights. -/
theorem wrote_A (h0 h2 h3) (f) : arg6.view.read (Elt Ideal) (arg6.view.writes (Elt Ideal) f (kernelRun0_A c i arg3 harg3 arg4 harg4 arg5 harg5 arg6 harg6 T x0 x1 x2 h0 h2 h3).1) = k0_pay3 x0 (k0_pay1 x1) (k0_pay2 x2) := by
  unfold kernelRun0_A
  dsimp only
  unfold kernelRun0_A.sl.HO3_1
  refine (View.read_writes_full (Val := Elt Ideal) arg6.view f _ _ _).trans ?_
  unfold kernelRun0_A.sl.v20 kernelRun0_A.sl.v24 kernelRun0_A.sl.HS0_1 kernelRun0_A.sl.HS1_1
  rw [View.readAt_rep_full, View.readAt_rep_full, View.readAt_rep_full]
  exact congrArg₂ (k0_pay3 x0) (refill cc0_scratch0 ![0, 0] _ _ _) (refill cc0_scratch1 ![0, 0] _ _ _)

/-- Where the body keeps the weights in a tile in use, it leaves the first weights it found. -/
theorem held0_B (h0 h2 h3) : (kernelRun0_B c i arg3 harg3 arg4 harg4 arg5 harg5 arg6 harg6 T x0 x1 x2 xa0 xa1 h0 h2 h3).2.1 = xa0 := by
  unfold kernelRun0_B
  rfl

/-- Where the body keeps the weights in a tile in use, it leaves the second weights it found. -/
theorem held1_B (h0 h2 h3) : (kernelRun0_B c i arg3 harg3 arg4 harg4 arg5 harg5 arg6 harg6 T x0 x1 x2 xa0 xa1 h0 h2 h3).2.2.1 = xa1 := by
  unfold kernelRun0_B
  rfl

/-- Where the body keeps the weights in a tile in use, it writes the gated product with the weights kept. -/
theorem wrote_B (h0 h2 h3) (f) : arg6.view.read (Elt Ideal) (arg6.view.writes (Elt Ideal) f (kernelRun0_B c i arg3 harg3 arg4 harg4 arg5 harg5 arg6 harg6 T x0 x1 x2 xa0 xa1 h0 h2 h3).1) = k0_pay3 x0 xa0 xa1 := by
  unfold kernelRun0_B
  dsimp only
  unfold kernelRun0_B.sl.HO3_1
  refine (View.read_writes_full (Val := Elt Ideal) arg6.view f _ _ _).trans ?_
  rw [View.readAt_rep_full]
  exact congrArg₂ (k0_pay3 x0) (reload cc0_scratch0 _ ![0, 0] _) (reload cc0_scratch1 _ ![0, 0] _)

/-- Where the body starts over in a tile out of use, it leaves the point's own first weights. -/
theorem held0_C (h0 h2 h3) : (kernelRun0_C c i arg3 harg3 arg4 harg4 arg5 harg5 arg6 harg6 T x0 x1 x2 h0 h2 h3).2.1 = k0_pay1 x1 := by
  unfold kernelRun0_C
  dsimp only
  unfold kernelRun0_C.sl.HS0_1
  refine (fill cc0_scratch0 _ ![0, 0] _ _).trans ?_
  rw [View.readAt_rep_full]

/-- Where the body starts over in a tile out of use, it leaves the point's own second weights. -/
theorem held1_C (h0 h2 h3) : (kernelRun0_C c i arg3 harg3 arg4 harg4 arg5 harg5 arg6 harg6 T x0 x1 x2 h0 h2 h3).2.2.1 = k0_pay2 x2 := by
  unfold kernelRun0_C
  dsimp only
  unfold kernelRun0_C.sl.HS1_1
  refine (fill cc0_scratch1 _ ![0, 0] _ _).trans ?_
  rw [View.readAt_rep_full]

/-- Where the body starts over in a tile out of use, it writes zeros. -/
theorem wrote_C (h0 h2 h3) (f) : arg6.view.read (Elt Ideal) (arg6.view.writes (Elt Ideal) f (kernelRun0_C c i arg3 harg3 arg4 harg4 arg5 harg5 arg6 harg6 T x0 x1 x2 h0 h2 h3).1) = k0_pay4 (F := Ideal) := by
  unfold kernelRun0_C
  dsimp only
  unfold kernelRun0_C.sl.HO3_1
  refine (View.read_writes_full (Val := Elt Ideal) arg6.view f _ _ _).trans ?_
  rfl

/-- Where the body keeps the weights in a tile out of use, it leaves the first weights it found. -/
theorem held0_D (h0 h2 h3) : (kernelRun0_D c i arg3 harg3 arg4 harg4 arg5 harg5 arg6 harg6 T x0 x1 x2 xa0 xa1 h0 h2 h3).2.1 = xa0 := by
  unfold kernelRun0_D
  rfl

/-- Where the body keeps the weights in a tile out of use, it leaves the second weights it found. -/
theorem held1_D (h0 h2 h3) : (kernelRun0_D c i arg3 harg3 arg4 harg4 arg5 harg5 arg6 harg6 T x0 x1 x2 xa0 xa1 h0 h2 h3).2.2.1 = xa1 := by
  unfold kernelRun0_D
  rfl

/-- Where the body keeps the weights in a tile out of use, it writes zeros. -/
theorem wrote_D (h0 h2 h3) (f) : arg6.view.read (Elt Ideal) (arg6.view.writes (Elt Ideal) f (kernelRun0_D c i arg3 harg3 arg4 harg4 arg5 harg5 arg6 harg6 T x0 x1 x2 xa0 xa1 h0 h2 h3).1) = k0_pay4 (F := Ideal) := by
  unfold kernelRun0_D
  dsimp only
  unfold kernelRun0_D.sl.HO3_1
  refine (View.read_writes_full (Val := Elt Ideal) arg6.view f _ _ _).trans ?_
  rfl

end paths

set_option maxHeartbeats 400000 in
/-- The body at a grid point, the tile's inputs at `x0`, `x1` and `x2`: it leaves the weights `w0` and `w1` in the scratch —
    those of the point where it starts over, those it found where it doesn't — and `outBlk` in the output's block. -/
theorem body (c : Dev nD) (arg3 : Memref sig .tc .vmem S256x2048 .bf16) (harg3 : arg3.IsWhole)
    (arg4 : Memref sig .tc .vmem S1x1x2048x1024 .f32) (harg4 : arg4.IsWhole) (arg5 : Memref sig .tc .vmem S1x1x2048x1024 .f32) (harg5 : arg5.IsWhole)
    (arg6 : Memref sig .tc .vmem S256x1024 .bf16) (harg6 : arg6.IsWhole) (T : S128.Idx → BitVec 32)
    (x0 : S256x2048.Idx → Elt Ideal .bf16) (x1 x2 : S1x1x2048x1024.Idx → Elt Ideal .f32) (xa0 xa1 w0 w1 : S2048x1024.Idx → Elt Ideal .bf16)
    (hstart : Starts i T → w0 = k0_pay1 x1 ∧ w1 = k0_pay2 x2) (hkeep : ¬ Starts i T → xa0 = w0 ∧ xa1 = w1)
    (K : PUnit → sProp (MT nD τ sig Unit (Elt Ideal) ℕ (UR sig nD τ) ℕ)) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (tbM0_0.view.loc (c : Thread nD τ) ↦{fullShare.right} T)
      ∗ (∃ d, owns (c : Thread nD τ) arg6 fullShare d)
      ∗ (scM0_0.view.loc (c : Thread nD τ) ↦{fullShare} xa0)
      ∗ (scM0_1.view.loc (c : Thread nD τ) ↦{fullShare} xa1)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM0_0.view.loc (c : Thread nD τ) ↦{fullShare.right} T)
          ∗ owns (c : Thread nD τ) arg6 fullShare (outBlk i T x0 w0 w1)
          ∗ (scM0_0.view.loc (c : Thread nD τ) ↦{fullShare} w0)
          ∗ (scM0_1.view.loc (c : Thread nD τ) ↦{fullShare} w1)) -∗ K ⟨⟩))
      ⊢ wp frame (wpE (defs₀ (F := Ideal)) Variants.none c none) Set.univ (cc0_moe_up i tbM0_0 (Memref.isWhole_whole _) arg3 harg3 arg4 harg4 arg5 harg5 arg6 harg6 scM0_0 (Memref.isWhole_whole _) scM0_1 (Memref.isWhole_whole _)) K := by
  have l1 : k0_off1 i 0 < 128 := by rw [off1_eq]; have := tile_lt i; omega
  have l2 : k0_off2 i 0 < 128 := by rw [off2_eq]; have := tile_lt i; omega
  have r1 := read_word T (k0_off1 i) (k0_off1_inb i) (numel1_S1.symm ▸ Nat.one_pos) l1
  have r2 := read_word T (k0_off2 i) (k0_off2_inb i) (numel1_S1.symm ▸ Nat.one_pos) l2
  have r3 := read_word T ![127] inb_S128_S1_127 (numel1_S1.symm ▸ Nat.one_pos) (by decide)
  have e1 : word T (k0_off1 i 0) l1 = word T (i 1).val (by have := tile_lt i; omega) := by simp only [off1_eq]
  have e2 : word T (k0_off2 i 0) l2 = word T ((i 1).val - 1) (by have := tile_lt i; omega) := by simp only [off2_eq]
  have hs := start_iff (i 1).val (tile_lt i) (word T (i 1).val (by have := tile_lt i; omega)) (word T ((i 1).val - 1) (by have := tile_lt i; omega))
  rw [← e1, ← e2, ← r1, ← r2] at hs
  have hs' : Starts i T ↔ _ := Iff.trans (by unfold Starts; rw [← e1, ← e2, ← r1, ← r2]) hs.symm
  have hl := live_iff i (word T 127 (by omega))
  have hd := dead_iff i (word T 127 (by omega))
  rw [show word T 127 (by omega) = word T ((![127] : Fin 1 → ℕ) 0) (by decide) from rfl, ← r3] at hl hd
  have hl' : Live i T ↔ _ := Iff.trans (by unfold Live; rw [show word T 127 (by omega) = word T ((![127] : Fin 1 → ℕ) 0) (by decide) from rfl, ← r3]) hl.symm
  have hd' : ¬ Live i T ↔ _ := Iff.trans (by unfold Live; rw [show word T 127 (by omega) = word T ((![127] : Fin 1 → ℕ) 0) (by decide) from rfl, ← r3]) hd.symm
  by_cases q0 : Starts i T
  · obtain ⟨ew0, ew1⟩ := hstart q0
    by_cases q1 : Live i T
    · have e0 := held0_A i c arg3 harg3 arg4 harg4 arg5 harg5 arg6 harg6 T x0 x1 x2 (hs'.mp q0) (hl'.mp q1) (fun h => hd'.mpr h q1)
      have e1 := held1_A i c arg3 harg3 arg4 harg4 arg5 harg5 arg6 harg6 T x0 x1 x2 (hs'.mp q0) (hl'.mp q1) (fun h => hd'.mpr h q1)
      have eO := wrote_A i c arg3 harg3 arg4 harg4 arg5 harg5 arg6 harg6 T x0 x1 x2 (hs'.mp q0) (hl'.mp q1) (fun h => hd'.mpr h q1)
      revert e0 e1 eO
      generalize kernelRun0_A c i arg3 harg3 arg4 harg4 arg5 harg5 arg6 harg6 T x0 x1 x2 (hs'.mp q0) (hl'.mp q1) (fun h => hd'.mpr h q1) = R
      obtain ⟨o0, o1, o2, k⟩ := R
      dsimp only
      intro e0 e1 eO
      subst e0 e1
      subst ew0 ew1
      have k := k xa0 xa1 K
      refine BIBase.Entails.trans ?_ k
      unfold outBlk owns
      rw [if_pos q1]
      iintro ⟨H0, H1, H2, HT, H3, HS0, HS1, Hk⟩
      isplitl [H0]; · iexact H0
      isplitl [H1]; · iexact H1
      isplitl [H2]; · iexact H2
      isplitl [HT]; · iexact HT
      isplitl [H3]; · iexact H3
      isplitl [HS0]; · iexact HS0
      isplitl [HS1]; · iexact HS1
      iintro ⟨H0, H1, H2, HT, ⟨%e3, H3⟩, HS0, HS1⟩
      iapply Hk
      isplitl [H0]; · iexact H0
      isplitl [H1]; · iexact H1
      isplitl [H2]; · iexact H2
      isplitl [HT]; · iexact HT
      isplitl [H3]
      · iexists _; isplitr; swap
        · iexact H3
        · ipureintro; exact eO e3
      isplitl [HS0]; · iexact HS0
      iexact HS1
    · have e0 := held0_C i c arg3 harg3 arg4 harg4 arg5 harg5 arg6 harg6 T x0 x1 x2 (hs'.mp q0) (fun h => q1 (hl'.mpr h)) (hd'.mp q1)
      have e1 := held1_C i c arg3 harg3 arg4 harg4 arg5 harg5 arg6 harg6 T x0 x1 x2 (hs'.mp q0) (fun h => q1 (hl'.mpr h)) (hd'.mp q1)
      have eO := wrote_C i c arg3 harg3 arg4 harg4 arg5 harg5 arg6 harg6 T x0 x1 x2 (hs'.mp q0) (fun h => q1 (hl'.mpr h)) (hd'.mp q1)
      revert e0 e1 eO
      generalize kernelRun0_C c i arg3 harg3 arg4 harg4 arg5 harg5 arg6 harg6 T x0 x1 x2 (hs'.mp q0) (fun h => q1 (hl'.mpr h)) (hd'.mp q1) = R
      obtain ⟨o0, o1, o2, k⟩ := R
      dsimp only
      intro e0 e1 eO
      subst e0 e1
      subst ew0 ew1
      have k := k xa0 xa1 K
      refine BIBase.Entails.trans ?_ k
      unfold outBlk owns
      rw [if_neg q1]
      iintro ⟨H0, H1, H2, HT, H3, HS0, HS1, Hk⟩
      isplitl [H0]; · iexact H0
      isplitl [H1]; · iexact H1
      isplitl [H2]; · iexact H2
      isplitl [HT]; · iexact HT
      isplitl [H3]; · iexact H3
      isplitl [HS0]; · iexact HS0
      isplitl [HS1]; · iexact HS1
      iintro ⟨H0, H1, H2, HT, ⟨%e3, H3⟩, HS0, HS1⟩
      iapply Hk
      isplitl [H0]; · iexact H0
      isplitl [H1]; · iexact H1
      isplitl [H2]; · iexact H2
      isplitl [HT]; · iexact HT
      isplitl [H3]
      · iexists _; isplitr; swap
        · iexact H3
        · ipureintro; exact eO e3
      isplitl [HS0]; · iexact HS0
      iexact HS1
  · obtain ⟨ew0, ew1⟩ := hkeep q0
    by_cases q1 : Live i T
    · have e0 := held0_B i c arg3 harg3 arg4 harg4 arg5 harg5 arg6 harg6 T x0 x1 x2 xa0 xa1 (fun h => q0 (hs'.mpr h)) (hl'.mp q1) (fun h => hd'.mpr h q1)
      have e1 := held1_B i c arg3 harg3 arg4 harg4 arg5 harg5 arg6 harg6 T x0 x1 x2 xa0 xa1 (fun h => q0 (hs'.mpr h)) (hl'.mp q1) (fun h => hd'.mpr h q1)
      have eO := wrote_B i c arg3 harg3 arg4 harg4 arg5 harg5 arg6 harg6 T x0 x1 x2 xa0 xa1 (fun h => q0 (hs'.mpr h)) (hl'.mp q1) (fun h => hd'.mpr h q1)
      revert e0 e1 eO
      generalize kernelRun0_B c i arg3 harg3 arg4 harg4 arg5 harg5 arg6 harg6 T x0 x1 x2 xa0 xa1 (fun h => q0 (hs'.mpr h)) (hl'.mp q1) (fun h => hd'.mpr h q1) = R
      obtain ⟨o0, o1, o2, k⟩ := R
      dsimp only
      intro e0 e1 eO
      subst e0 e1
      subst ew0 ew1
      have k := k K
      refine BIBase.Entails.trans ?_ k
      unfold outBlk owns
      rw [if_pos q1]
      iintro ⟨H0, H1, H2, HT, H3, HS0, HS1, Hk⟩
      isplitl [H0]; · iexact H0
      isplitl [H1]; · iexact H1
      isplitl [H2]; · iexact H2
      isplitl [HT]; · iexact HT
      isplitl [H3]; · iexact H3
      isplitl [HS0]; · iexact HS0
      isplitl [HS1]; · iexact HS1
      iintro ⟨H0, H1, H2, HT, ⟨%e3, H3⟩, HS0, HS1⟩
      iapply Hk
      isplitl [H0]; · iexact H0
      isplitl [H1]; · iexact H1
      isplitl [H2]; · iexact H2
      isplitl [HT]; · iexact HT
      isplitl [H3]
      · iexists _; isplitr; swap
        · iexact H3
        · ipureintro; exact eO e3
      isplitl [HS0]; · iexact HS0
      iexact HS1
    · have e0 := held0_D i c arg3 harg3 arg4 harg4 arg5 harg5 arg6 harg6 T x0 x1 x2 xa0 xa1 (fun h => q0 (hs'.mpr h)) (fun h => q1 (hl'.mpr h)) (hd'.mp q1)
      have e1 := held1_D i c arg3 harg3 arg4 harg4 arg5 harg5 arg6 harg6 T x0 x1 x2 xa0 xa1 (fun h => q0 (hs'.mpr h)) (fun h => q1 (hl'.mpr h)) (hd'.mp q1)
      have eO := wrote_D i c arg3 harg3 arg4 harg4 arg5 harg5 arg6 harg6 T x0 x1 x2 xa0 xa1 (fun h => q0 (hs'.mpr h)) (fun h => q1 (hl'.mpr h)) (hd'.mp q1)
      revert e0 e1 eO
      generalize kernelRun0_D c i arg3 harg3 arg4 harg4 arg5 harg5 arg6 harg6 T x0 x1 x2 xa0 xa1 (fun h => q0 (hs'.mpr h)) (fun h => q1 (hl'.mpr h)) (hd'.mp q1) = R
      obtain ⟨o0, o1, o2, k⟩ := R
      dsimp only
      intro e0 e1 eO
      subst e0 e1
      subst ew0 ew1
      have k := k K
      refine BIBase.Entails.trans ?_ k
      unfold outBlk owns
      rw [if_neg q1]
      iintro ⟨H0, H1, H2, HT, H3, HS0, HS1, Hk⟩
      isplitl [H0]; · iexact H0
      isplitl [H1]; · iexact H1
      isplitl [H2]; · iexact H2
      isplitl [HT]; · iexact HT
      isplitl [H3]; · iexact H3
      isplitl [HS0]; · iexact HS0
      isplitl [HS1]; · iexact HS1
      iintro ⟨H0, H1, H2, HT, ⟨%e3, H3⟩, HS0, HS1⟩
      iapply Hk
      isplitl [H0]; · iexact H0
      isplitl [H1]; · iexact H1
      isplitl [H2]; · iexact H2
      isplitl [HT]; · iexact HT
      isplitl [H3]
      · iexists _; isplitr; swap
        · iexact H3
        · ipureintro; exact eO e3
      isplitl [HS0]; · iexact HS0
      iexact HS1

end Cert.UpIdeal.Tab

end
-- ==== Proof.UpIdealFrame.lean ====
/-
  The grouped up-projection at any table of experts below eight: the pipeline, the blocks its
  grid points load (`a_at`, `w1_at`, `w2_at`), which of them stay (`kept1`, `kept2`), and its data (`dats`).
-/
module

public import proofs.«01_k».proof.Proof.UpIdealTable
public import Idealize.ShloMosaic.Lib.Pipeline.ValueKit
public import Idealize.ShloMosaic.Lib.Pointwise
public import Idealize.ShloMosaic.Lib.Pipeline.Kit

@[expose] public section

set_option maxRecDepth 16384

noncomputable section

namespace Cert.UpIdeal.Tab

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The pipeline at a table -/

/-- The words of the tiles name one of the eight experts. -/
def Experts (T : S128.Idx → BitVec 32) : Prop := ∀ (n : ℕ) (h : n < 73), (word T n (by omega)).toNat < 8

set_option backward.proofsInPublic true in
/-- The table as the pipeline's contents. -/
def tbl (T : S128.Idx → BitVec 32) : pre0.Contents (Elt Ideal) := fun | ⟨0, _⟩ => T | ⟨_ + 1, h⟩ => absurd h (by simp)

/-- The tile's expert, as a number. -/
def expert (T : S128.Idx → BitVec 32) (i : grid0.Coords) : ℕ := (word T (i 1).val (by have := tile_lt i; omega)).toNat

/-- A tile's word, as the index maps read it. -/
theorem tbl_at (T : S128.Idx → BitVec 32) (i : grid0.Coords) :
    ((tbl T).at 0 (Rect.unit (s := S128) (k0_off1 i) S1.size (k0_off1_inb i)) numel1_S1 : BitVec 32)
      = word T (i 1).val (by have := tile_lt i; omega) := by
  refine congrArg T (funext fun a => Fin.ext ?_)
  match a with
  | ⟨0, _⟩ => show k0_off1 i 0 + 1 * 0 = (i 1).val; rw [off1_eq]; omega

/-- A column's number is below 7. -/
theorem col_lt (i : grid0.Coords) : (i 0).val < 7 := (i 0).isLt

/-- The block of weights of a grid point: the tile's expert and the column. -/
theorem map1 (T : S128.Idx → BitVec 32) (i : grid0.Coords) :
    cc0_transform_1 k0_off1_inb numel1_S1 (tbl T) i = ![0, expert T i, 0, (i 0).val] := by
  have h := col_lt i
  have e : (BitVec.ofNat 32 (i 0).val).toNat = (i 0).val := by rw [BitVec.toNat_ofNat]; omega
  show ![_, ((tbl T).at 0 (Rect.unit (s := S128) (k0_off1 i) S1.size (k0_off1_inb i)) numel1_S1 : BitVec 32).toNat, _, (BitVec.ofNat 32 (i 0).val).toNat] = _
  rw [tbl_at, e]
  rfl

/-- The same for the second weights. -/
theorem map2 (T : S128.Idx → BitVec 32) (i : grid0.Coords) :
    cc0_transform_2 k0_off1_inb numel1_S1 (tbl T) i = ![0, expert T i, 0, (i 0).val] := map1 T i

/-- A block of an expert below eight lies inside the weights. -/
theorem inside (e n : ℕ) (he : e < 8) (hn : n < 7) :
    ∀ a, ((![0, e, 0, n] : Fin 4 → ℕ) a + 1) * S1x1x2048x1024.size a ≤ S2x8x2048x7168.size a := by
  intro a
  match a with
  | ⟨0, _⟩ => show (0 + 1) * 1 ≤ 2; omega
  | ⟨1, _⟩ => show (e + 1) * 1 ≤ 8; omega
  | ⟨2, _⟩ => show (0 + 1) * 2048 ≤ 2048; omega
  | ⟨3, _⟩ => show (n + 1) * 1024 ≤ 7168; omega

/-- Every block the pipeline moves lies inside its array. -/
theorem tbl_ok (T : S128.Idx → BitVec 32) (hT : Experts T) : ok0 (F := Ideal) (tbl T) :=
  ⟨fun i => ⟨by rw [map1]; exact inside _ _ (hT _ (tile_lt i)) (col_lt i), .inl rfl⟩,
    fun i => ⟨by rw [map2]; exact inside _ _ (hT _ (tile_lt i)) (col_lt i), .inl rfl⟩⟩

variable (T : S128.Idx → BitVec 32) (hT : Experts T)

/-- The table as admissible contents. -/
def adm : (pcfg0 (F := Ideal)).Adm := ⟨tbl T, tbl_ok T hT⟩

/-- The pipeline at the table. -/
abbrev cfgT : Pipeline.Cfg sig Λ₀ := cfg0 (F := Ideal) (adm T hT)

/-- The program's pipelines at the table. -/
abbrev pcs : Fin 1 → Pipeline.Cfg sig Λ₀ := Pipeline.pin (pcfgs (F := Ideal)) fun _ => adm T hT

variable (m : (ℓ : Loc nD τ sig) → Buf (Elt Ideal) ℓ) (ρ : Dev nD → PrngReg)

/-- A grid point's coordinates. -/
abbrev crd (t : Fin (cfgT T hT).N) : grid0.Coords := (cfgT T hT).grid.coords t

/-- The staging buffer of the tile's rows at a grid point. -/
abbrev ms0 (t : Fin (cfgT T hT).N) : Memref sig .tc .vmem S256x2048 .bf16 := spec0_0.stage ((cfgT T hT).slots t (0 : Fin 4))
/-- It is a whole buffer. -/
abbrev hs0 (t : Fin (cfgT T hT).N) : (ms0 T hT t).IsWhole := hstage0_0 (((cfgT T hT).slots t (0 : Fin 4)).cast nbuf0_0)
/-- The staging buffer of the first weights at a grid point. -/
abbrev ms1 (t : Fin (cfgT T hT).N) : Memref sig .tc .vmem S1x1x2048x1024 .f32 := spec0_1.stage ((cfgT T hT).slots t (1 : Fin 4))
/-- It is a whole buffer. -/
abbrev hs1 (t : Fin (cfgT T hT).N) : (ms1 T hT t).IsWhole := hstage0_1 (((cfgT T hT).slots t (1 : Fin 4)).cast nbuf0_1)
/-- The staging buffer of the second weights at a grid point. -/
abbrev ms2 (t : Fin (cfgT T hT).N) : Memref sig .tc .vmem S1x1x2048x1024 .f32 := spec0_2.stage ((cfgT T hT).slots t (2 : Fin 4))
/-- It is a whole buffer. -/
abbrev hs2 (t : Fin (cfgT T hT).N) : (ms2 T hT t).IsWhole := hstage0_2 (((cfgT T hT).slots t (2 : Fin 4)).cast nbuf0_2)
/-- The staging buffer of the output at a grid point. -/
abbrev ms3 (t : Fin (cfgT T hT).N) : Memref sig .tc .vmem S256x1024 .bf16 := spec0_3.stage ((cfgT T hT).slots t (3 : Fin 4))
/-- It is a whole buffer. -/
abbrev hs3 (t : Fin (cfgT T hT).N) : (ms3 T hT t).IsWhole := hstage0_3 (((cfgT T hT).slots t (3 : Fin 4)).cast nbuf0_3)

/-- A window's block at a grid point, read off its array at launch. -/
def iblk (c : Dev nD) (w : Fin (cfgT T hT).W) (t : Fin (cfgT T hT).N) : (((cfgT T hT).win w).xblock (crd T hT t)).Idx → Elt Ideal ((cfgT T hT).win w).elt :=
  (((cfgT T hT).win w).blk t).view.read (Elt Ideal) (m (((cfgT T hT).win w).arr.view.loc (c : Thread nD τ)))

/-! ## The schedule -/

/-- A grid point's column and tile. -/
theorem coords_at : ∀ t : Fin grid0.N, (grid0.coords t 0).val = t.val / 73 ∧ (grid0.coords t 1).val = t.val % 73 := by decide +kernel

/-- The output's block is written back at every grid point. -/
theorem flush3 (t : Fin (cfgT T hT).N) : ((cfgT T hT).win (3 : Fin 4)).flush t = true :=
  (by decide +kernel : ∀ t : Fin grid0.N, Pipeline.Window.flushOf grid0 true cc0_transform_3 t = true) t

/-- The body writes the output's block at every grid point. -/
theorem idle3 (i : grid0.Coords) : (cfgT T hT).idle (3 : Fin 4) i = false := by
  have hl := live_iff i ((tbl T).atD 0 ![127])
  have hd := dead_iff i ((tbl T).atD 0 ![127])
  show (!(k0_cond2 i ((tbl T).atD 0 ![127]) == 1#1) && !(k0_cond3 i ((tbl T).atD 0 ![127]) == 1#1)) = false
  by_cases h : k0_cond2 i ((tbl T).atD 0 ![127]) = 1#1
  · rw [h]; rfl
  · rw [hd.mpr (fun h' => h (hl.mpr h'))]; simp

/-- The block of the first weights of a grid point. -/
theorem index1 (t : Fin (cfgT T hT).N) : ((pcfg0 (F := Ideal)).win (adm T hT) 1).index t = ![0, expert T (crd T hT t), 0, (crd T hT t 0).val] :=
  map1 T (crd T hT t)

/-- The block of the second weights of a grid point. -/
theorem index2 (t : Fin (cfgT T hT).N) : ((pcfg0 (F := Ideal)).win (adm T hT) 2).index t = ![0, expert T (crd T hT t), 0, (crd T hT t 0).val] :=
  map2 T (crd T hT t)

/-- The block of rows of a grid point. -/
theorem index0 (t : Fin (cfgT T hT).N) : ((pcfg0 (F := Ideal)).win (adm T hT) 0).index t = ![(crd T hT t 1).val, 0] := by
  have h := tile_lt (crd T hT t)
  show ![(BitVec.ofNat 32 (crd T hT t 1).val).toNat, _] = _
  rw [BitVec.toNat_ofNat, Nat.mod_eq_of_lt (by omega)]
  rfl

/-- The block of the output of a grid point. -/
theorem index3 (t : Fin (cfgT T hT).N) : ((pcfg0 (F := Ideal)).win (adm T hT) 3).index t = ![(crd T hT t 1).val, (crd T hT t 0).val] := by
  have h := tile_lt (crd T hT t)
  have h' := col_lt (crd T hT t)
  show ![(BitVec.ofNat 32 (crd T hT t 1).val).toNat, (BitVec.ofNat 32 (crd T hT t 0).val).toNat] = _
  rw [BitVec.toNat_ofNat, BitVec.toNat_ofNat, Nat.mod_eq_of_lt (by omega), Nat.mod_eq_of_lt (by omega)]

/-- The first weights a grid point loads. -/
theorem w1_at (c : Dev nD) (t : Fin (cfgT T hT).N) (x y : Fin 1) (r : Fin 2048) (d : Fin 1024) : iblk T hT m c 1 t (ix4 x y r d)
    = m ((c.tc : Thread nD τ).loc main_arg2) (ix4 (0 : Fin 2) (⟨expert T (crd T hT t), hT _ (tile_lt _)⟩ : Fin 8) r (⟨1024 * (crd T hT t 0).val + d, by have := col_lt (crd T hT t); have := d.isLt; omega⟩ : Fin 7168)) := by
  blk_ext [iblk]
  · exact congrFun (index1 T hT t) 0
  · exact congrFun (index1 T hT t) 1
  · exact (congrArg (fun z : ℕ => z * 2048 + r.val) (congrFun (index1 T hT t) 2)).trans (by show 0 * 2048 + r.val = r.val; omega)
  · exact (congrArg (fun z : ℕ => z * 1024 + d.val) (congrFun (index1 T hT t) 3)).trans
      (by show (crd T hT t 0).val * 1024 + d.val = 1024 * (crd T hT t 0).val + d.val; omega)

/-- The second weights a grid point loads. -/
theorem w2_at (c : Dev nD) (t : Fin (cfgT T hT).N) (x y : Fin 1) (r : Fin 2048) (d : Fin 1024) : iblk T hT m c 2 t (ix4 x y r d)
    = m ((c.tc : Thread nD τ).loc main_arg3) (ix4 (0 : Fin 2) (⟨expert T (crd T hT t), hT _ (tile_lt _)⟩ : Fin 8) r (⟨1024 * (crd T hT t 0).val + d, by have := col_lt (crd T hT t); have := d.isLt; omega⟩ : Fin 7168)) := by
  blk_ext [iblk]
  · exact congrFun (index2 T hT t) 0
  · exact congrFun (index2 T hT t) 1
  · exact (congrArg (fun z : ℕ => z * 2048 + r.val) (congrFun (index2 T hT t) 2)).trans (by show 0 * 2048 + r.val = r.val; omega)
  · exact (congrArg (fun z : ℕ => z * 1024 + d.val) (congrFun (index2 T hT t) 3)).trans
      (by show (crd T hT t 0).val * 1024 + d.val = 1024 * (crd T hT t 0).val + d.val; omega)

/-- The rows a grid point loads. -/
theorem a_at (c : Dev nD) (t : Fin (cfgT T hT).N) (r : Fin 256) (d : Fin 2048) : iblk T hT m c 0 t (ix2 r d)
    = m ((c.tc : Thread nD τ).loc main_arg0) (ix2 (⟨256 * (crd T hT t 1).val + r, by have := tile_lt (crd T hT t); have := r.isLt; omega⟩ : Fin 18688) d) := by
  blk_ext [iblk]
  · exact (congrArg (fun z : ℕ => z * 256 + r.val) (congrFun (index0 T hT t) 0)).trans
      (by show (crd T hT t 1).val * 256 + r.val = 256 * (crd T hT t 1).val + r.val; omega)
  · exact (congrArg (fun z : ℕ => z * 2048 + d.val) (congrFun (index0 T hT t) 1)).trans (by show 0 * 2048 + d.val = d.val; omega)

/-- A grid point that doesn't start over isn't the first, and the point before has its column and its expert. -/
theorem kept (t : Fin (cfgT T hT).N) (h : ¬ Starts (crd T hT t) T) :
    ∃ h0 : t.val ≠ 0, (crd T hT ⟨t.val - 1, by omega⟩ 0).val = (crd T hT t 0).val
      ∧ expert T (crd T hT ⟨t.val - 1, by omega⟩) = expert T (crd T hT t) := by
  have hp : t.val - 1 < (cfgT T hT).N := lt_of_le_of_lt (Nat.sub_le _ _) t.isLt
  have e : (crd T hT t 0).val = t.val / 73 ∧ (crd T hT t 1).val = t.val % 73 := coords_at t
  have hs : (crd T hT t 1).val ≠ 0 := fun h1 => h (.inl h1)
  have h0 : t.val ≠ 0 := fun h0 => hs (by rw [e.2, h0])
  have e' : (crd T hT ⟨t.val - 1, hp⟩ 0).val = (t.val - 1) / 73 ∧ (crd T hT ⟨t.val - 1, hp⟩ 1).val = (t.val - 1) % 73 :=
    coords_at ⟨t.val - 1, hp⟩
  have e1 : (crd T hT ⟨t.val - 1, hp⟩ 1).val = (crd T hT t 1).val - 1 := by
    rw [e'.2, e.2]
    rw [e.2] at hs
    clear e e' h h0
    generalize t.val = n at *
    omega
  refine ⟨h0, ?_, ?_⟩
  · rw [e'.1, e.1]
    rw [e.2] at hs
    clear e e' e1 h h0
    generalize t.val = n at *
    omega
  have hw : word T (crd T hT t 1).val (by have := tile_lt (crd T hT t); omega) = word T ((crd T hT t 1).val - 1) (by have := tile_lt (crd T hT t); omega) :=
    not_not.mp fun h1 => h (.inr h1)
  unfold expert
  rw [hw]
  simp only [e1]

/-- The first weights of a grid point that doesn't start over are those of the point before. -/
theorem kept1 (c : Dev nD) (t : Fin (cfgT T hT).N) (h : ¬ Starts (crd T hT t) T) :
    iblk T hT m c 1 t = iblk T hT m c 1 ⟨t.val - 1, by omega⟩ := by
  obtain ⟨h0, e0, e1⟩ := kept T hT t h
  refine funext fun (y : S1x1x2048x1024.Idx) => ?_
  idx_vars y
  rw [w1_at, w1_at]
  simp only [e0, e1]
  rfl

/-- The second weights of a grid point that doesn't start over are those of the point before. -/
theorem kept2 (c : Dev nD) (t : Fin (cfgT T hT).N) (h : ¬ Starts (crd T hT t) T) :
    iblk T hT m c 2 t = iblk T hT m c 2 ⟨t.val - 1, by omega⟩ := by
  obtain ⟨h0, e0, e1⟩ := kept T hT t h
  refine funext fun (y : S1x1x2048x1024.Idx) => ?_
  idx_vars y
  rw [w2_at, w2_at]
  simp only [e0, e1]
  rfl

/-! ## The pipeline's data -/

/-- The first weights a grid point's scratch holds. -/
def wgt0 (c : Dev nD) (t : Fin (cfgT T hT).N) : S2048x1024.Idx → Elt Ideal .bf16 := k0_pay1 (iblk T hT m c (1 : Fin 4) t)

/-- The second weights a grid point's scratch holds. -/
def wgt1 (c : Dev nD) (t : Fin (cfgT T hT).N) : S2048x1024.Idx → Elt Ideal .bf16 := k0_pay2 (iblk T hT m c (2 : Fin 4) t)

/-- What a grid point leaves in the output's block. -/
def left (c : Dev nD) (t : Fin (cfgT T hT).N) : S256x1024.Idx → Elt Ideal .bf16 :=
  outBlk (crd T hT t) T (iblk T hT m c (0 : Fin 4) t) (wgt0 T hT m c t) (wgt1 T hT m c t)

/-- What holds before a grid point: past the first, the scratch holds the weights of the point before; the table is held. -/
def Phi (c : Dev nD) (t : Fin ((cfgT T hT).N + 1)) : sProp (MT nD τ sig Unit (Elt Ideal) ℕ (UR sig nD τ) ℕ) :=
  iprop((∃ a, ⌜∀ h : t.val ≠ 0, a = wgt0 T hT m c ⟨t.val - 1, by omega⟩⌝ ∗ (scM0_0.view.loc (c : Thread nD τ) ↦{fullShare} a))
    ∗ (∃ a, ⌜∀ h : t.val ≠ 0, a = wgt1 T hT m c ⟨t.val - 1, by omega⟩⌝ ∗ (scM0_1.view.loc (c : Thread nD τ) ↦{fullShare} a))
    ∗ (tbM0_0.view.loc (c : Thread nD τ) ↦{fullShare.right} T))

/-- The pipeline's data on a core. -/
def dats (_ : Fin 1) (c : Dev nD) : Dat τ (Elt Ideal) Unit ℕ (UR sig nD τ) ℕ (cfgT T hT) c where
  A w := m (((cfgT T hT).win w).arr.view.loc (c : Thread nD τ))
  after w t := match w with
    | ⟨0, _⟩ => iblk T hT m c (0 : Fin 4) t
    | ⟨1, _⟩ => iblk T hT m c (1 : Fin 4) t
    | ⟨2, _⟩ => iblk T hT m c (2 : Fin 4) t
    | ⟨3, _⟩ => left T hT m c t
  Φ t := Phi T hT m c t
  q _ := fullShare
  owed _ := 0

/-- The rows' block holds what was loaded. -/
theorem after0 (c : Dev nD) (t : Fin (cfgT T hT).N) : (dats T hT m 0 c).after (0 : Fin 4) t = iblk T hT m c (0 : Fin 4) t := rfl
/-- The first weights' block holds what was loaded. -/
theorem after1 (c : Dev nD) (t : Fin (cfgT T hT).N) : (dats T hT m 0 c).after (1 : Fin 4) t = iblk T hT m c (1 : Fin 4) t := rfl
/-- The second weights' block holds what was loaded. -/
theorem after2 (c : Dev nD) (t : Fin (cfgT T hT).N) : (dats T hT m 0 c).after (2 : Fin 4) t = iblk T hT m c (2 : Fin 4) t := rfl
/-- The output's block holds what the point leaves. -/
theorem after3 (c : Dev nD) (t : Fin (cfgT T hT).N) : (dats T hT m 0 c).after (3 : Fin 4) t = left T hT m c t := rfl

/-- The rows are loaded when the body runs. -/
theorem before0 (c : Dev nD) (t : Fin (cfgT T hT).N) (d) : (dats T hT m 0 c).before (0 : Fin 4) t d = iblk T hT m c (0 : Fin 4) t :=
  ((dats T hT m 0 c).before_in_eq_fetched (0 : Fin 4) rfl (fun _ => rfl) (fun _ _ _ => rfl) (fun t => by rw [after0]; unfold Dat.blockOf iblk; rfl) t d).trans
    (by unfold Dat.fetched Dat.blockOf iblk; rfl)

/-- The first weights are loaded when the body runs. -/
theorem before1 (c : Dev nD) (t : Fin (cfgT T hT).N) (d) : (dats T hT m 0 c).before (1 : Fin 4) t d = iblk T hT m c (1 : Fin 4) t :=
  ((dats T hT m 0 c).before_in_eq_fetched (1 : Fin 4) rfl (fun _ => rfl) (fun _ _ _ => rfl) (fun t => by rw [after1]; unfold Dat.blockOf iblk; rfl) t d).trans
    (by unfold Dat.fetched Dat.blockOf iblk; rfl)

/-- The second weights are loaded when the body runs. -/
theorem before2 (c : Dev nD) (t : Fin (cfgT T hT).N) (d) : (dats T hT m 0 c).before (2 : Fin 4) t d = iblk T hT m c (2 : Fin 4) t :=
  ((dats T hT m 0 c).before_in_eq_fetched (2 : Fin 4) rfl (fun _ => rfl) (fun _ _ _ => rfl) (fun t => by rw [after2]; unfold Dat.blockOf iblk; rfl) t d).trans
    (by unfold Dat.fetched Dat.blockOf iblk; rfl)

end Cert.UpIdeal.Tab

end
-- ==== Proof.UpIdealSound.lean ====
/-
  The grouped up-projection at any table of experts below eight: the body meets its obligation at every grid point
  (`sound`), the launch, and the frame (`frame`, `run`).
-/
module

public import proofs.«01_k».proof.Proof.UpIdealFrame
public import Idealize.ShloMosaic.Lib.Claim
public import Idealize.ShloMosaic.Adequacy
public import Idealize.ShloMosaic.Init

@[expose] public section

set_option maxRecDepth 16384

noncomputable section

namespace Cert.UpIdeal.Tab

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (T : S128.Idx → BitVec 32) (hT : Experts T)
variable (m : (ℓ : Loc nD τ sig) → Buf (Elt Ideal) ℓ) (ρ : Dev nD → PrngReg)

/-! ## The body's obligation -/

/-- The body at a grid point, as the pipeline calls it. -/
abbrev bodyAt (t : Fin (cfgT T hT).N) : Prog (TpuEff nD τ sig (Elt Ideal) Λ₀ .tc) PUnit :=
  cc0_moe_up (crd T hT t) (Memref.whole main_arg1) (Memref.isWhole_whole _) (ms0 T hT t) (hs0 T hT t) (ms1 T hT t) (hs1 T hT t) (ms2 T hT t) (hs2 T hT t) (ms3 T hT t) (hs3 T hT t) (Memref.whole cc0_scratch0) (Memref.isWhole_whole _) (Memref.whole cc0_scratch1) (Memref.isWhole_whole _)

/-- What is known before a point, at a point that isn't the first. -/
theorem before_point {α : Type} {N : ℕ} (f : Fin N → α) (t : Fin N) (a : α)
    (h : ∀ h : t.castSucc.val ≠ 0, a = f ⟨t.castSucc.val - 1, by omega⟩) (h0 : t.val ≠ 0) :
    a = f ⟨t.val - 1, lt_of_le_of_lt (Nat.sub_le _ _) t.isLt⟩ := h h0

/-- What is known after a point. -/
theorem after_point {α : Type} {N : ℕ} (f : Fin N → α) (t : Fin N) : ∀ h : t.succ.val ≠ 0, f t = f ⟨t.succ.val - 1, by omega⟩ := fun _ => rfl

/-- The first weights held at a grid point that doesn't start over are those held at the point before. -/
theorem wgt0_kept (c : Dev nD) (t : Fin (cfgT T hT).N) (h : ¬ Starts (crd T hT t) T) :
    wgt0 T hT m c t = wgt0 T hT m c ⟨t.val - 1, lt_of_le_of_lt (Nat.sub_le _ _) t.isLt⟩ := by
  unfold wgt0
  rw [kept1 T hT m c t h]

/-- The second weights held at a grid point that doesn't start over are those held at the point before. -/
theorem wgt1_kept (c : Dev nD) (t : Fin (cfgT T hT).N) (h : ¬ Starts (crd T hT t) T) :
    wgt1 T hT m c t = wgt1 T hT m c ⟨t.val - 1, lt_of_le_of_lt (Nat.sub_le _ _) t.isLt⟩ := by
  unfold wgt1
  rw [kept2 T hT m c t h]

set_option maxHeartbeats 400000 in
/-- The body meets its obligation at every grid point. -/
theorem sound (c : Dev nD) (t : Fin (cfgT T hT).N) :
    iprop((dats T hT m 0 c).Φ t.castSucc ∗ (dats T hT m 0 c).owesAt () t.castSucc
        ∗ (∃ d, owns (c : Thread nD τ) (ms0 T hT t) fullShare ((dats T hT m 0 c).before (0 : Fin 4) t d))
        ∗ (∃ d, owns (c : Thread nD τ) (ms1 T hT t) fullShare ((dats T hT m 0 c).before (1 : Fin 4) t d))
        ∗ (∃ d, owns (c : Thread nD τ) (ms2 T hT t) fullShare ((dats T hT m 0 c).before (2 : Fin 4) t d))
        ∗ (∃ d, owns (c : Thread nD τ) (ms3 T hT t) fullShare ((dats T hT m 0 c).before (3 : Fin 4) t d)))
      ⊢ wp frame (wpE (defs₀ (F := Ideal)) Variants.none c none) Set.univ (bodyAt T hT t) fun _ =>
          iprop((dats T hT m 0 c).Φ t.succ ∗ (dats T hT m 0 c).owesAt () t.succ
            ∗ bigSep Finset.univ fun w : Fin (cfgT T hT).W =>
                match (cfgT T hT).idle w ((cfgT T hT).grid.coords t) with
                | true =>
                  match ((cfgT T hT).win w).flush t with
                  | false => iprop(∃ d, owns (c : Thread nD τ) (((cfgT T hT).win w).stage ((cfgT T hT).slots t w)) fullShare ((dats T hT m 0 c).before w t d))
                  | true => owns (c : Thread nD τ) (((cfgT T hT).win w).stage ((cfgT T hT).slots t w)) fullShare ((dats T hT m 0 c).after w t)
                | false => owns (c : Thread nD τ) (((cfgT T hT).win w).stage ((cfgT T hT).slots t w)) fullShare ((dats T hT m 0 c).after w t)) := by
  rw [bigSep_W0]
  rewrite [idle3 T hT ((cfgT T hT).grid.coords t)]
  simp only [before0, before1, before2, after0, after1, after2, after3]
  rewrite [show (dats T hT m 0 c).Φ t.succ = Phi T hT m c t.succ from rfl, show (dats T hT m 0 c).Φ t.castSucc = Phi T hT m c t.castSucc from rfl,
    show (dats T hT m 0 c).owesAt () t.succ = (dats T hT m 0 c).owesAt () t.castSucc from rfl]
  unfold Phi
  iintro ⟨⟨⟨%a0, %ha0, HS0⟩, ⟨%a1, %ha1, HS1⟩, HT0⟩, Ho, ⟨%d0, H0⟩, ⟨%d1, H1⟩, ⟨%d2, H2⟩, ⟨%d3, H3⟩⟩
  have hk : ¬ Starts (crd T hT t) T → a0 = wgt0 T hT m c t ∧ a1 = wgt1 T hT m c t := fun h =>
    ⟨(before_point (wgt0 T hT m c) t a0 ha0 (kept T hT t h).1).trans (wgt0_kept T hT m c t h).symm, (before_point (wgt1 T hT m c) t a1 ha1 (kept T hT t h).1).trans (wgt1_kept T hT m c t h).symm⟩
  iapply (body (crd T hT t) c (ms0 T hT t) (hs0 T hT t) (ms1 T hT t) (hs1 T hT t) (ms2 T hT t) (hs2 T hT t) (ms3 T hT t) (hs3 T hT t) T
    (iblk T hT m c (0 : Fin 4) t) (iblk T hT m c (1 : Fin 4) t) (iblk T hT m c (2 : Fin 4) t) a0 a1 (wgt0 T hT m c t) (wgt1 T hT m c t)
    (fun _ => ⟨rfl, rfl⟩) hk _)
  isplitl [H0]; · iapply rep_of_owns; iexact H0
  isplitl [H1]; · iapply rep_of_owns; iexact H1
  isplitl [H2]; · iapply rep_of_owns; iexact H2
  isplitl [HT0]; · iexact HT0
  isplitl [H3]; · iexists _; iexact H3
  isplitl [HS0]; · iexact HS0
  isplitl [HS1]; · iexact HS1
  iintro ⟨H0, H1, H2, HT0, H3, HS0, HS1⟩
  isplitl [HS0 HS1 HT0]
  · isplitl [HS0]
    · iexists _; isplitr; swap
      · iexact HS0
      · ipureintro; exact after_point (wgt0 T hT m c) t
    isplitl [HS1]
    · iexists _; isplitr; swap
      · iexact HS1
      · ipureintro; exact after_point (wgt1 T hT m c) t
    iexact HT0
  isplitl [Ho]; · iexact Ho
  isplitl [H0]
  · iapply owns_of_rep; iexact H0
  isplitl [H1]
  · iapply owns_of_rep; iexact H1
  isplitl [H2]
  · iapply owns_of_rep; iexact H2
  iexact H3

/-- The body's obligation, at every grid point. -/
theorem obligation (c : Dev nD) : BodyObligation (dats T hT m 0 c) (defs₀ (F := Ideal)) Variants.none () Set.univ := fun t => by
  rw [bigSep_W0]
  exact sound T hT m c t

/-! ## The launch -/

/-- The rounds' first element. -/
def start : UR sig nD τ :=
  initOf (Pipeline.cells (pcs T hT) ((launch0 (F := Ideal)).cellOf_inj fun _ => adm T hT))
    (Pipeline.launchToks (pcs T hT) ((launch0 (F := Ideal)).cellOf_inj fun _ => adm T hT))

/-- Every window holds its array whole. -/
theorem whole_share (c : Dev nD) (w : Fin (cfgT T hT).W) : (dats T hT m 0 c).share w = fullShare := by
  unfold Dat.share
  split <;> rfl

/-- The table as the launch hands it over: half of the buffer, at the table's contents. -/
theorem held_table (c : Dev nD) : (Pipeline.prefHeld (Ix := Unit) (Name := ℕ) (U := UR sig nD τ) (Lvl := ℕ) pre0 c (fun _ => fullShare.right) (adm T hT).1
      : sProp (MT nD τ sig Unit (Elt Ideal) ℕ (UR sig nD τ) ℕ))
    = iprop(((c : Thread nD τ).loc main_arg1) ↦{fullShare.right} T) := by
  unfold Pipeline.prefHeld
  rw [show (Finset.univ : Finset (Fin 1)) = {(0 : Fin 1)} from by decide, bigSep_singleton]
  rfl

/-- What holds before the first grid point, from the table and the scratch buffers at anything. -/
theorem Phi_first (c : Dev nD) :
    iprop(BI.emp ∗ Pipeline.prefHeld pre0 c (fun _ => fullShare.right) (adm T hT).1 ∗ Pipeline.scopedRest spec0 c) ⊢ (dats T hT m 0 c).Φ 0 := by
  rw [held_table, scopedRest0_eq, show (dats T hT m 0 c).Φ 0 = Phi T hT m c 0 from rfl]
  unfold Phi
  iintro ⟨-, HT0, ⟨%a0, HS0⟩, ⟨%a1, HS1⟩⟩
  isplitl [HS0]
  · iexists a0; isplitr; swap
    · iexact HS0
    · ipureintro; exact fun h => absurd rfl h
  isplitl [HS1]
  · iexists a1; isplitr; swap
    · iexact HS1
    · ipureintro; exact fun h => absurd rfl h
  iexact HT0

/-- After the last grid point the scratch buffers are given back. -/
theorem Phi_last (c : Dev nD) : (dats T hT m 0 c).Φ (Fin.last (cfgT T hT).N) ⊢ iprop(BI.emp ∗ Pipeline.scopedRest spec0 c) := by
  rw [scopedRest0_eq, show (dats T hT m 0 c).Φ (Fin.last (cfgT T hT).N) = Phi T hT m c (Fin.last _) from rfl]
  unfold Phi
  iintro ⟨⟨%a0, -, HS0⟩, ⟨%a1, -, HS1⟩, -⟩
  isplitr; · iempintro
  isplitl [HS0]
  · iexists a0; iexact HS0
  iexists a1; iexact HS1

/-- What a run ends in: every array at what the pipeline computes, the table as it was, every semaphore at zero. -/
def Ends (r : PUnit × MemSt nD τ sig (Elt Ideal)) : Prop :=
  (∀ c : Dev nD, (∀ w : Fin (cfgT T hT).W, r.2.mem (((cfgT T hT).win w).arr.view.loc (c : Thread nD τ)) = (dats T hT m 0 c).arrAt w (cfgT T hT).N)
    ∧ ∀ j, r.2.mem ((c : Thread nD τ).loc (pre0.ref j)) = (adm T hT).1 j) ∧ r.2.sem = fun _ => 0

set_option backward.isDefEq.respectTransparency.types false in
set_option maxHeartbeats 4000000 in
/-- Every run from a memory whose table is `T` ends so. -/
theorem run (hm : ∀ c : Dev nD, m ((c.tc : Thread nD τ).loc main_arg1) = T) :
    θ_run (defs (F := Ideal)) (onTc (τ := τ) (main (F := Ideal))) (s₀ m ρ) (Ends T hT m) :=
  Pipeline.θ_run_region_noSem_pf_quiescent pcfgs (fun _ => adm T hT) (dats T hT m) () ((launch0 (F := Ideal)).cellOf_inj fun _ => adm T hT) (0 : Fin 1)
    (launch0 (F := Ideal)).win.to₀ (launch0 (F := Ideal)).pre emb₁ defs₀ Variants.none m ρ main
    (hbody := fun c => (obligation T hT m c).loose) (hne := (launch0 (F := Ideal)).block_pos)
    (harr := (launch0 (F := Ideal)).arr_whole) (hstage := (launch0 (F := Ideal)).stage_whole) (howed := fun _ _ => rfl)
    (u₀ := start T hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T hT) (dats T hT m) 0 (launch0 (F := Ideal)).win.arr_inj c (launch0 (F := Ideal)).arr_whole
      (whole_share T hT m c) _ _ fun _ => rfl)
    (hpf := fun c j => by fin_cases j; exact hm c)
    (X := fun _ => iprop(emp)) (Y := fun _ => iprop(emp)) (Z := fun _ => iprop(emp))
    (hX := fun c => by rw [unscopedRestP0_eq]; iintro -; isplitr <;> iempintro)
    (hin := Phi_first T hT m)
    (hout := Phi_last T hT m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every run from a memory whose table is `T` ends with the arguments as they were and every semaphore at zero. -/
theorem unharmed (hT : Experts T) (hm : ∀ c : Dev nD, m ((c.tc : Thread nD τ).loc main_arg1) = T) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 (0 : Fin 4)).trans ((dats T hT m 0 c).arrAt_in (0 : Fin 4) rfl _), ((h.1 c).2 0).trans (hm c).symm,
    ((h.1 c).1 (1 : Fin 4)).trans ((dats T hT m 0 c).arrAt_in (1 : Fin 4) rfl _), ((h.1 c).1 (2 : Fin 4)).trans ((dats T hT m 0 c).arrAt_in (2 : Fin 4) rfl _)⟩, h.2⟩)
    (run T hT m ρ hm)

end Cert.UpIdeal.Tab

end
-- ==== Proof.UpSpec.lean ====
/-
  The grouped up-projection's value: a row's tile names an expert of the table; if the tile is live, an entry of the
  result is the gated product of the row with that expert's two columns (`up`).
-/
module

public import Idealize.ShloMosaic.Lib.Pointwise

@[expose] public section

noncomputable section

open Idealize.ShloMosaic Idealize.SL.Sem

namespace Cert.Moe

/-- The rows. -/
abbrev Rows : Shape := ⟨2, ![18688, 2048]⟩
/-- The table. -/
abbrev Table : Shape := ⟨1, ![128]⟩
/-- The weights of every layer and expert. -/
abbrev Weights : Shape := ⟨4, ![2, 8, 2048, 7168]⟩

/-- A number times its logistic. -/
def silu (x : EReal) : EReal := x * Ideal.div 1 (1 + Ideal.exp (-x))

/-- A row times a column of an expert's weights. -/
def prod (A : Rows.Idx → EReal) (W : Weights.Idx → EReal) (e : Fin 8) (R : Fin 18688) (C : Fin 7168) : EReal :=
  ∑ d : Fin 2048, A (ix2 R d) * W (ix4 (0 : Fin 2) e d C)

/-- An expert's gated product. -/
def term (A : Rows.Idx → EReal) (W1 W3 : Weights.Idx → EReal) (e : Fin 8) (R : Fin 18688) (C : Fin 7168) : EReal :=
  silu (prod A W1 e R C) * prod A W3 e R C

/-- A row's tile. -/
def tile (R : Fin 18688) : Fin 128 := ⟨R.val / 256, by have := R.isLt; omega⟩

/-- A row's expert. -/
def chosen (T : Table.Idx → BitVec 32) (R : Fin 18688) : Fin 8 := Fin.ofNat 8 (T (ix1 (tile R))).toNat

/-- The grouped up-projection: the row's expert's gated product where the row's tile is live, else zero. -/
def up (T : Table.Idx → BitVec 32) (A : Rows.Idx → EReal) (W1 W3 : Weights.Idx → EReal) (R : Fin 18688) (C : Fin 7168) : EReal :=
  if (BitVec.ofNat 32 (tile R).val).slt (T (ix1 (127 : Fin 128))) = true then term A W1 W3 (chosen T R) R C else 0

end Cert.Moe

end
-- ==== Proof.UpValue.lean ====
/-
  The value of the up-projection's kernel: the array it leaves is the grouped up-projection of its arguments (`array_eq`).
-/
module

public import proofs.«01_k».proof.Proof.UpIdealFrame
public import proofs.«01_k».proof.Proof.UpSpec
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.UpIdeal.Tab

open Cert.UpIdeal Cert.UpIdeal.Gen Cert.Moe

/-- The first weights as the scratch keeps them, read. -/
theorem keep1_at (x : Vec Ideal S1x1x2048x1024 .f32) (r : Fin 2048) (d : Fin 1024) : k0_pay1 x (ix2 r d) = x (ix4 (0 : Fin 1) (0 : Fin 1) r d) := by
  pointwise [k0_pay1]

/-- The second weights as the scratch keeps them, read. -/
theorem keep2_at (x : Vec Ideal S1x1x2048x1024 .f32) (r : Fin 2048) (d : Fin 1024) : k0_pay2 x (ix2 r d) = x (ix4 (0 : Fin 1) (0 : Fin 1) r d) := by
  pointwise [k0_pay2]

/-- The block of a live tile, read. -/
theorem live_at (x : Vec Ideal S256x2048 .bf16) (w v : Vec Ideal S2048x1024 .bf16) (r : Fin 256) (d : Fin 1024) :
    k0_pay3 x w v (ix2 r d) = silu (∑ k : Fin 2048, x (ix2 r k) * w (ix2 k d)) * ∑ k : Fin 2048, x (ix2 r k) * v (ix2 k d) := by
  pointwise [k0_pay3]
  rfl

/-- The block of a tile that isn't live, read. -/
theorem dead_at (r : Fin 256) (d : Fin 1024) : k0_pay4 (F := Ideal) (ix2 r d) = 0 := by
  pointwise [k0_pay4]

variable (T : S128.Idx → BitVec 32) (hT : Experts T)
variable (m : (ℓ : Loc nD τ sig) → Buf (Elt Ideal) ℓ)

/-- A row of a grid point's tile. -/
def rowOf (t : Fin (cfgT T hT).N) (r : Fin 256) : Fin 18688 := ⟨256 * (crd T hT t 1).val + r.val, by have := tile_lt (crd T hT t); have := r.isLt; omega⟩

/-- A column of a grid point's tile. -/
def colOf (t : Fin (cfgT T hT).N) (d : Fin 1024) : Fin 7168 := ⟨1024 * (crd T hT t 0).val + d.val, by have := col_lt (crd T hT t); have := d.isLt; omega⟩

/-- The tile of a row of a grid point. -/
theorem tile_rowOf (t : Fin (cfgT T hT).N) (r : Fin 256) : (tile (rowOf T hT t r)).val = (crd T hT t 1).val := by
  have := r.isLt
  show (256 * (crd T hT t 1).val + r.val) / 256 = _
  generalize (crd T hT t 1).val = n
  omega

/-- The table's word of a row of a grid point. -/
theorem word_rowOf (t : Fin (cfgT T hT).N) (r : Fin 256) :
    T (ix1 (tile (rowOf T hT t r))) = word T (crd T hT t 1).val (by have := tile_lt (crd T hT t); omega) := by
  refine congrArg T (funext fun a => ?_)
  match a with
  | ⟨0, _⟩ => exact Fin.ext (tile_rowOf T hT t r)

/-- What a grid point leaves is the grouped up-projection of its tile. -/
theorem left_at (c : Dev nD) (t : Fin (cfgT T hT).N) (r : Fin 256) (d : Fin 1024) :
    left T hT m c t (ix2 r d) = up T (m ((c.tc : Thread nD τ).loc main_arg0)) (m ((c.tc : Thread nD τ).loc main_arg2))
      (m ((c.tc : Thread nD τ).loc main_arg3)) (rowOf T hT t r) (colOf T hT t d) := by
  unfold left outBlk up
  rw [tile_rowOf]
  have hl : Live (crd T hT t) T ↔ (BitVec.ofNat 32 (crd T hT t 1).val).slt (T (ix1 (127 : Fin 128))) = true := by
    unfold Live word
    refine Eq.to_iff (congrArg (fun w => (BitVec.ofNat 32 (crd T hT t 1).val).slt w = true) (congrArg T (funext fun a => ?_)))
    match a with
    | ⟨0, _⟩ => rfl
  by_cases h : Live (crd T hT t) T
  · rw [if_pos h, if_pos (hl.mp h), live_at]
    have e : (⟨expert T (crd T hT t), hT _ (tile_lt _)⟩ : Fin 8) = chosen T (rowOf T hT t r) := by
      refine Fin.ext ?_
      show expert T (crd T hT t) = (T (ix1 (tile (rowOf T hT t r)))).toNat % 8
      exact ((congrArg (fun w : BitVec 32 => w.toNat % 8) (word_rowOf T hT t r)).trans (Nat.mod_eq_of_lt (hT _ (tile_lt (crd T hT t))))).symm
    unfold term prod wgt0 wgt1
    rw [← e]
    refine congrArg₂ (fun x y => silu x * y) ?_ ?_
    · refine Finset.sum_congr rfl fun k _ => ?_
      rw [keep1_at, a_at, w1_at]
      rfl
    · refine Finset.sum_congr rfl fun k _ => ?_
      rw [keep2_at, a_at, w2_at]
      rfl
  · rw [if_neg h, if_neg (fun h' => h (hl.mpr h')), dead_at]

/-- The blocks written back cover the output. -/
theorem covers3 : ((cfgT T hT).win (3 : Fin 4)).Covers := by
  refine ⟨?_, fun β => ?_⟩
  · intro a
    match a with
    | ⟨0, _⟩ => show 0 < 256; omega
    | ⟨1, _⟩ => show 0 < 1024; omega
  · have h0 : (β (0 : Fin 2)).val < 73 := lt_of_lt_of_eq (β (0 : Fin 2)).isLt (show (18688 + 256 - 1) / 256 = 73 by norm_num)
    have h1 : (β (1 : Fin 2)).val < 7 := lt_of_lt_of_eq (β (1 : Fin 2)).isLt (show (7168 + 1024 - 1) / 1024 = 7 by norm_num)
    have hN : (β (1 : Fin 2)).val * 73 + (β (0 : Fin 2)).val < (cfgT T hT).N := by
      show _ < grid0.N
      rw [show grid0.N = 511 from N_0]
      omega
    have e := coords_at ⟨(β (1 : Fin 2)).val * 73 + (β (0 : Fin 2)).val, hN⟩
    refine ⟨⟨(β (1 : Fin 2)).val * 73 + (β (0 : Fin 2)).val, hN⟩, flush3 T hT _, fun a => ⟨(congrFun (index3 T hT _) a).trans ?_, .inl rfl⟩⟩
    match a with
    | ⟨0, _⟩ =>
      refine e.2.trans ?_
      show ((β (1 : Fin 2)).val * 73 + (β (0 : Fin 2)).val) % 73 = (β (0 : Fin 2)).val
      omega
    | ⟨1, _⟩ =>
      refine e.1.trans ?_
      show ((β (1 : Fin 2)).val * 73 + (β (0 : Fin 2)).val) / 73 = (β (1 : Fin 2)).val
      omega

/-- The grouped up-projection as an array. -/
def upArray (T : S128.Idx → BitVec 32) (A : Rows.Idx → EReal) (W1 W3 : Weights.Idx → EReal) : S18688x7168.Idx → EReal :=
  fun i => up T A W1 W3 (i 0) (i 1)

/-- The array read at a row and a column. -/
theorem upArray_at (A : Rows.Idx → EReal) (W1 W3 : Weights.Idx → EReal) (R : Fin 18688) (C : Fin 7168) :
    upArray T A W1 W3 (ix2 R C) = up T A W1 W3 R C := rfl

/-- The place in its array of the output's block. -/
theorem place3 (t : Fin (cfgT T hT).N) (r : Fin 256) (d : Fin 1024) :
    (((cfgT T hT).win (3 : Fin 4)).blk t).view.emb (ix2 r d) = ix2 (rowOf T hT t r) (colOf T hT t d) := by
  unfold rowOf colOf
  blk_ext []
  · exact (congrArg (fun z : ℕ => z * 256 + r.val) (congrFun (index3 T hT t) 0)).trans
      (by show (crd T hT t 1).val * 256 + r.val = 256 * (crd T hT t 1).val + r.val; omega)
  · exact (congrArg (fun z : ℕ => z * 1024 + d.val) (congrFun (index3 T hT t) 1)).trans
      (by show (crd T hT t 0).val * 1024 + d.val = 1024 * (crd T hT t 0).val + d.val; omega)

/-- The array the kernel leaves is the grouped up-projection of its arguments. -/
theorem array_eq (c : Dev nD) : (dats T hT m 0 c).arrAt (3 : Fin 4) (cfgT T hT).N = upArray T (m ((c.tc : Thread nD τ).loc main_arg0))
    (m ((c.tc : Thread nD τ).loc main_arg2)) (m ((c.tc : Thread nD τ).loc main_arg3)) := by
  refine (dats T hT m 0 c).arrAt_eq_of_covers (3 : Fin 4) _ (covers3 T hT) (fun t hf' (y : S256x1024.Idx) => ?_)
  idx_vars y
  rw [after3, place3]
  exact (left_at T hT m c t y0 y1)

end Cert.UpIdeal.Tab

end
-- ==== Proof.UpRef.lean ====
/-
  The up-projection's reference read at an index: its result is the grouped up-projection of UpSpec.lean (`res_at`).
-/
module

public import proofs.«01_k».proof.Proof.Gen.UpReferenceIdeal.Run
public import proofs.«01_k».proof.Proof.UpSpec
public import Idealize.ShloMosaic.Lib.WordCmp

@[expose] public section

set_option maxRecDepth 16384

noncomputable section

open Idealize.ShloMosaic Idealize.ShloMosaic.TcCoe Idealize.SL.Sem

namespace Cert.UpReferenceIdeal.Value

open Cert.UpReferenceIdeal Cert.UpReferenceIdeal.Gen Cert.Moe

variable (m : (ℓ : Loc nD τ sig) → Buf (Elt Ideal) ℓ)

/-- The experts of the rows: the table's word of a row's tile where the tile is live, else eight. -/
def experts (T : IVec S128 32) : IVec S18688x1 32 :=
  shapeCast _ (broadcastInDim S73x256 ![0, 1] bcast_S73x1_S73x256_0_1 (broadcastInDim S73x1 ![0] bcast_S73_S73x1_0 (select (cmpi .slt (iotaInDim S73 32 0) (broadcastInDim S73 ![] bcast_S_S73 (shapeCast _ (extractStridedSlice S1 ![127] T slices_S128_S1_127) shapeCasts_S1_S_))) (extractStridedSlice S73 ![0] T slices_S128_S73_0) (broadcastInDim S73 ![] bcast_S_S73 (id (constantI S_ 32 8#32)))))) shapeCasts_S73x256_S18688x1

/-- The rows times an expert's weights. -/
def product (A : FVec Ideal S18688x2048 .bf16) (W : FVec Ideal S2x8x2048x7168 .f32) (o : Fin 4 → ℕ) (ho : S2x8x2048x7168.Slices o S1x1x2048x7168) :
    FVec Ideal S18688x7168 .f32 :=
  Host.dotGeneral dot_S18688x2048_S2048x7168_S18688x7168_1_0_0_1_n_n none (extf .f32 A bitsLt_bf16_f32) (shapeCast _ (extractStridedSlice S1x1x2048x7168 o W ho) shapeCasts_S1x1x2048x7168_S2048x7168)

/-- An expert's part of the result. -/
def part (E : IVec S18688x1 32) (X Y : FVec Ideal S18688x7168 .f32) (k : BitVec 32) : FVec Ideal S18688x7168 .f32 :=
  select (broadcastInDim S18688x7168 ![0, 1] bcast_S18688x1_S18688x7168_0_1 (cmpi .eq E (broadcastInDim S18688x1 ![] bcast_S_S18688x1 (constantI S_ 32 k)))) (mulf (mulf X (Host.divf (broadcastInDim S18688x7168 ![] bcast_S_S18688x7168 (constant S_ .f32 0x3F800000#32)) (addf (broadcastInDim S18688x7168 ![] bcast_S_S18688x7168 (constant S_ .f32 0x3F800000#32)) (Host.exp (Host.negf X))))) Y) (broadcastInDim S18688x7168 ![] bcast_S_S18688x7168 (id (constant S_ .f32 0x00000000#32)))

/-- A choice by a comparison is a choice by what it says. -/
theorem choose_slt {α : Type} (x y : BitVec 32) (a b : α) :
    Scalar.select (IntOp.cmpi .slt x y) a b = if x.slt y = true then a else b := by
  show (if BitVec.ofBool (x.slt y) = 1#1 then a else b) = _
  exact if_congr (by cases x.slt y <;> decide) rfl rfl

/-- A choice by an equality is a choice by what it says. -/
theorem choose_eq {α : Type} (x y : BitVec 32) (a b : α) :
    Scalar.select (IntOp.cmpi .eq x y) a b = if x = y then a else b := by
  show (if BitVec.ofBool (x == y) = 1#1 then a else b) = _
  refine if_congr ?_ rfl rfl
  rw [← beq_iff_eq (a := x) (b := y)]
  generalize (x == y) = b
  revert b
  decide

/-- The pattern of zero denotes zero. -/
theorem zero_word : Ideal.ofBits .f32 0x00000000#32 = 0 := by simp [Ideal.ofBits, Ideal.ieee]

/-- The rows' experts, read. -/
theorem experts_at (T : IVec S128 32) (R : Fin 18688) : experts T (ix2 R (0 : Fin 1))
    = if (BitVec.ofNat 32 (tile R).val).slt (T (ix1 (127 : Fin 128))) = true then T (ix1 (tile R)) else 8#32 := by
  have hR := R.isLt
  pointwise [experts]
  exact choose_slt _ _ _ _

/-- A product, read. -/
theorem product_at (A : FVec Ideal S18688x2048 .bf16) (W : FVec Ideal S2x8x2048x7168 .f32) (e : Fin 8) (ho) (R : Fin 18688) (C : Fin 7168) :
    product A W ![0, e.val, 0, 0] ho (ix2 R C) = prod A W e R C := by
  pointwise [product]
  rfl

/-- An expert's part, read. -/
theorem part_at (E : IVec S18688x1 32) (X Y : FVec Ideal S18688x7168 .f32) (k : BitVec 32) (R : Fin 18688) (C : Fin 7168) :
    part E X Y k (ix2 R C) = if E (ix2 R (0 : Fin 1)) = k then silu (X (ix2 R C)) * Y (ix2 R C) else 0 := by
  pointwise [part]
  exact (choose_eq _ _ _ _).trans (if_congr Iff.rfl rfl zero_word)

/-- The reference's result over its arguments: the sum of the eight experts' parts. -/
def whole (A : FVec Ideal S18688x2048 .bf16) (T : IVec S128 32) (W1 W3 : FVec Ideal S2x8x2048x7168 .f32) : FVec Ideal S18688x7168 .bf16 :=
  truncf .bf16 (addf (addf (addf (addf (addf (addf (addf (addf (broadcastInDim S18688x7168 ![] bcast_S_S18688x7168 (constant S_ .f32 0x00000000#32))
    (part (experts T) (product A W1 ![0, 0, 0, 0] slices_S2x8x2048x7168_S1x1x2048x7168_0_0_0_0) (product A W3 ![0, 0, 0, 0] slices_S2x8x2048x7168_S1x1x2048x7168_0_0_0_0) 0#32))
    (part (experts T) (product A W1 ![0, 1, 0, 0] slices_S2x8x2048x7168_S1x1x2048x7168_0_1_0_0) (product A W3 ![0, 1, 0, 0] slices_S2x8x2048x7168_S1x1x2048x7168_0_1_0_0) 1#32))
    (part (experts T) (product A W1 ![0, 2, 0, 0] slices_S2x8x2048x7168_S1x1x2048x7168_0_2_0_0) (product A W3 ![0, 2, 0, 0] slices_S2x8x2048x7168_S1x1x2048x7168_0_2_0_0) 2#32))
    (part (experts T) (product A W1 ![0, 3, 0, 0] slices_S2x8x2048x7168_S1x1x2048x7168_0_3_0_0) (product A W3 ![0, 3, 0, 0] slices_S2x8x2048x7168_S1x1x2048x7168_0_3_0_0) 3#32))
    (part (experts T) (product A W1 ![0, 4, 0, 0] slices_S2x8x2048x7168_S1x1x2048x7168_0_4_0_0) (product A W3 ![0, 4, 0, 0] slices_S2x8x2048x7168_S1x1x2048x7168_0_4_0_0) 4#32))
    (part (experts T) (product A W1 ![0, 5, 0, 0] slices_S2x8x2048x7168_S1x1x2048x7168_0_5_0_0) (product A W3 ![0, 5, 0, 0] slices_S2x8x2048x7168_S1x1x2048x7168_0_5_0_0) 5#32))
    (part (experts T) (product A W1 ![0, 6, 0, 0] slices_S2x8x2048x7168_S1x1x2048x7168_0_6_0_0) (product A W3 ![0, 6, 0, 0] slices_S2x8x2048x7168_S1x1x2048x7168_0_6_0_0) 6#32))
    (part (experts T) (product A W1 ![0, 7, 0, 0] slices_S2x8x2048x7168_S1x1x2048x7168_0_7_0_0) (product A W3 ![0, 7, 0, 0] slices_S2x8x2048x7168_S1x1x2048x7168_0_7_0_0) 7#32)) bitsLt_bf16_f32

/-- An expert's part of the result at an index: its gated product where the row's tile is live and names it, else zero. -/
theorem expert_part (A : FVec Ideal S18688x2048 .bf16) (T : IVec S128 32) (W1 W3 : FVec Ideal S2x8x2048x7168 .f32)
    (hT : ∀ n (h : n < 73), (T (ix1 (⟨n, by omega⟩ : Fin 128))).toNat < 8) (R : Fin 18688) (C : Fin 7168) (e : Fin 8) (ho) :
    part (experts T) (product A W1 ![0, e.val, 0, 0] ho) (product A W3 ![0, e.val, 0, 0] ho) (BitVec.ofNat 32 e.val) (ix2 R C)
      = if (BitVec.ofNat 32 (tile R).val).slt (T (ix1 (127 : Fin 128))) = true ∧ chosen T R = e then term A W1 W3 e R C else 0 := by
  rw [part_at, product_at, product_at, experts_at]
  refine if_congr ?_ rfl rfl
  have he := e.isLt
  have hw : (T (ix1 (tile R))).toNat < 8 := hT (tile R).val (by have := R.isLt; unfold tile; dsimp only; omega)
  by_cases hl : (BitVec.ofNat 32 (tile R).val).slt (T (ix1 (127 : Fin 128))) = true
  · rw [if_pos hl]
    refine ⟨fun h => ⟨hl, Fin.ext ?_⟩, fun h => BitVec.eq_of_toNat_eq ?_⟩
    · show (T (ix1 (tile R))).toNat % 8 = e.val
      rw [h, BitVec.toNat_ofNat]
      omega
    · have h2 : (T (ix1 (tile R))).toNat % 8 = e.val := congrArg Fin.val h.2
      rw [BitVec.toNat_ofNat]
      omega
  · rw [if_neg hl]
    refine ⟨fun h => ?_, fun h => absurd h.1 hl⟩
    have h8 := congrArg BitVec.toNat h
    rw [BitVec.toNat_ofNat, BitVec.toNat_ofNat] at h8
    omega

/-- The sum of the experts' parts at an index, for experts below eight: the grouped up-projection. -/
theorem whole_at (A : FVec Ideal S18688x2048 .bf16) (T : IVec S128 32) (W1 W3 : FVec Ideal S2x8x2048x7168 .f32)
    (hT : ∀ n (h : n < 73), (T (ix1 (⟨n, by omega⟩ : Fin 128))).toNat < 8) (R : Fin 18688) (C : Fin 7168) :
    whole A T W1 W3 (ix2 R C) = up T A W1 W3 R C := by
  have q := expert_part A T W1 W3 hT R C
  pointwise [whole]
  refine (congrArg₂ (· + ·) (congrArg₂ (· + ·) (congrArg₂ (· + ·) (congrArg₂ (· + ·) (congrArg₂ (· + ·) (congrArg₂ (· + ·) (congrArg₂ (· + ·)
    (q (0 : Fin 8) _) (q (1 : Fin 8) _)) (q (2 : Fin 8) _)) (q (3 : Fin 8) _)) (q (4 : Fin 8) _)) (q (5 : Fin 8) _)) (q (6 : Fin 8) _)) (q (7 : Fin 8) _)).trans ?_
  unfold up
  by_cases hl : (BitVec.ofNat 32 (tile R).val).slt (T (ix1 (127 : Fin 128))) = true
  · rw [if_pos hl]
    generalize chosen T R = k
    fin_cases k <;> simp [hl]
  · rw [if_neg hl]
    simp [hl]

/-- Every run of the reference ends with the sum of the experts' parts, its arguments as they were. -/
theorem run_whole (ρ : Dev nD → PrngReg) :
    θ_run (defs (F := Ideal)) (onTc (τ := τ) (main (F := Ideal))) ⟨m, fun _ => 0, ρ⟩ fun r => ∀ c : Dev nD,
      r.2.mem ((c.tc : Thread nD τ).loc main_v108) = whole (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1, (h c).2⟩) (run m ρ)

end Cert.UpReferenceIdeal.Value

end
-- ==== Proof.UpPre.lean ====
/-
  What the up-projection's precondition says: the table's words before its last are experts, below eight (`experts_below`).
-/
module

public import proofs.«01_k».proof.Proof.Gen.Pre_up_experts
public import Idealize.ShloMosaic.Lib.ReduceAll
public import Idealize.ShloMosaic.Lib.Pointwise

@[expose] public section

noncomputable section

open Idealize.ShloMosaic Idealize.SL.Sem

namespace Cert.Moe

/-- A word that is at least zero and less than eight, both signed, is a number below eight. -/
theorem small_word (w : BitVec 32) (h0 : BitVec.sle 0#32 w = true) (h8 : BitVec.slt w 8#32 = true) : w.toNat < 8 := by
  have e0 : (0 : ℤ) ≤ w.toInt := by simpa [BitVec.sle] using h0
  have e8 : w.toInt < 8 := by simpa [BitVec.slt] using h8
  have e := BitVec.toInt_eq_toNat_cond w
  have := w.isLt
  split at e <;> omega

/-- A comparison that says one holds. -/
theorem of_bool {b : Bool} (h : BitVec.ofBool b = 1#1) : b = true := by
  revert h
  cases b <;> decide

/-- Under the precondition the table's words before its last are below eight. -/
theorem experts_below {F : FTy → Type} [FloatOps F] (a : FVec F Cert.Pre_up_experts.S18688x2048 .bf16) (te : IVec Cert.Pre_up_experts.S128 32)
    (w1 w3 : FVec F Cert.Pre_up_experts.S2x8x2048x7168 .f32)
    (h : @Cert.Pre_up_experts.fn Cert.Pre_up_experts.Gen.facts F _ a te w1 w3 = fun _ => 1#1) (n : ℕ) (hn : n < 127) :
    (te (ix1 (⟨n, by omega⟩ : Fin 128))).toNat < 8 := by
  obtain ⟨e1, e2⟩ := IntOp.andi_eq_one.mp (congrFun h ix0)
  haveI : Subsingleton (Cert.Pre_up_experts.S_ : Shape).Idx := ⟨fun a b => funext fun k => k.elim0⟩
  have i1 := Host.reduce_andi_all _ _ _ _ _ e1 (ix1 (⟨n, hn⟩ : Fin 127))
  have i2 := Host.reduce_andi_all _ _ _ _ _ e2 (ix1 (⟨n, hn⟩ : Fin 127))
  have e : extractStridedSlice Cert.Pre_up_experts.S127 ![0] te Cert.Pre_up_experts.Gen.facts.slices_S128_S127_0 (ix1 (⟨n, hn⟩ : Fin 127))
      = te (ix1 (⟨n, by omega⟩ : Fin 128)) := by
    pointwise []
  have j1 : BitVec.ofBool (BitVec.sle 0#32 (extractStridedSlice Cert.Pre_up_experts.S127 ![0] te Cert.Pre_up_experts.Gen.facts.slices_S128_S127_0 (ix1 (⟨n, hn⟩ : Fin 127)))) = 1#1 := i1
  have j2 : BitVec.ofBool (BitVec.slt (extractStridedSlice Cert.Pre_up_experts.S127 ![0] te Cert.Pre_up_experts.Gen.facts.slices_S128_S127_0 (ix1 (⟨n, hn⟩ : Fin 127))) 8#32) = 1#1 := i2
  rw [e] at j1 j2
  exact small_word _ (of_bool j1) (of_bool j2)

end Cert.Moe

end
-- ==== Proof.UpClaim.lean ====
/-
  The claims about the grouped up-projection: the frames of its programs (`frame_real`, `frame_ideal`, `frame_reference`)
  and the equality of its value with its reference's (`algebraic`).
-/
module

public import proofs.«01_k».proof.Defs
public import proofs.«01_k».proof.Proof.Gen.Up
public import proofs.«01_k».proof.Proof.Gen.UpIdeal
public import proofs.«01_k».proof.Proof.Gen.UpReferenceIdeal
public import proofs.«01_k».proof.Proof.UpSound
public import proofs.«01_k».proof.Proof.UpIdealSound
public import proofs.«01_k».proof.Proof.UpValue
public import proofs.«01_k».proof.Proof.UpRef
public import proofs.«01_k».proof.Proof.UpPre
public import Idealize.ShloMosaic.Lib.Quiescent

@[expose] public section

noncomputable section

namespace Cert.Moe

open Idealize.ShloMosaic Idealize.ShloMosaic.TcCoe Idealize.SL.Sem

attribute [local instance] Cert.Up.Gen.facts Cert.UpIdeal.Gen.facts Cert.UpReferenceIdeal.Gen.facts Cert.Pre_up_experts.Gen.facts

/-- A table whose words before its last are below eight names experts only. -/
theorem names_experts (T : Table.Idx → BitVec 32) (h : ∀ n (hn : n < 127), (T (ix1 (⟨n, by omega⟩ : Fin 128))).toNat < 8)
    (n : ℕ) (hn : n < 73) (i : Table.Idx) (hi : (i (0 : Fin 1)).val = n) : (T i).toNat < 8 := by
  have e : i = ix1 (⟨n, by omega⟩ : Fin 128) := funext fun a => by
    match a with
    | ⟨0, _⟩ => exact Fin.ext hi
  rw [e]
  exact h n (by omega)

/-- The real program runs and leaves its arguments. -/
theorem frame_real : Cert.quiescent_Up := fun m g hpre => by
  have hT : Cert.Up.Tab.Experts (m (((0 : Dev Cert.Up.nD).tc : Thread Cert.Up.nD Cert.Up.τ).loc Cert.Up.main_arg1)) :=
    fun n hn => names_experts _ (experts_below _ _ _ _ (hpre 0)) n hn _ rfl
  exact Cert.Up.Tab.unharmed _ m g hT fun c => by rw [Subsingleton.elim c 0]

/-- The idealized program runs and leaves its arguments. -/
theorem frame_ideal : Cert.quiescent_UpIdeal := fun m g hpre => by
  have hT : Cert.UpIdeal.Tab.Experts (m (((0 : Dev Cert.UpIdeal.nD).tc : Thread Cert.UpIdeal.nD Cert.UpIdeal.τ).loc Cert.UpIdeal.main_arg1)) :=
    fun n hn => names_experts _ (experts_below _ _ _ _ (hpre 0)) n hn _ rfl
  exact Cert.UpIdeal.Tab.unharmed _ m g hT fun c => by rw [Subsingleton.elim c 0]

/-- The reference runs and leaves its arguments. -/
theorem frame_reference : Cert.quiescent_UpReferenceIdeal := fun m g _ =>
  (θ_run _ _ _).mono (fun r h => ⟨fun c => (h c).2, sem_eq_zero_of_no_sems rfl r.2⟩) (Cert.UpReferenceIdeal.Value.run_whole m g)

/-- The kernel's result and the reference's are the grouped up-projection of the same arguments. -/
theorem algebraic : Cert.algebraic_UpIdeal_UpReferenceIdeal := fun m g m' g' hpre hagree => by
  have hT : Cert.UpIdeal.Tab.Experts (m (((0 : Dev Cert.UpIdeal.nD).tc : Thread Cert.UpIdeal.nD Cert.UpIdeal.τ).loc Cert.UpIdeal.main_arg1)) :=
    fun n hn => names_experts _ (experts_below _ _ _ _ (hpre 0)) n hn _ rfl
  have hm : ∀ c : Dev Cert.UpIdeal.nD, m ((c.tc : Thread Cert.UpIdeal.nD Cert.UpIdeal.τ).loc Cert.UpIdeal.main_arg1)
      = m (((0 : Dev Cert.UpIdeal.nD).tc : Thread Cert.UpIdeal.nD Cert.UpIdeal.τ).loc Cert.UpIdeal.main_arg1) := fun c => by rw [Subsingleton.elim c 0]
  refine ⟨fun c => Cert.UpIdeal.Tab.upArray (m ((c.tc : Thread Cert.UpIdeal.nD Cert.UpIdeal.τ).loc Cert.UpIdeal.main_arg1))
    (m ((c.tc : Thread Cert.UpIdeal.nD Cert.UpIdeal.τ).loc Cert.UpIdeal.main_arg0)) (m ((c.tc : Thread Cert.UpIdeal.nD Cert.UpIdeal.τ).loc Cert.UpIdeal.main_arg2))
    (m ((c.tc : Thread Cert.UpIdeal.nD Cert.UpIdeal.τ).loc Cert.UpIdeal.main_arg3)), ?_, ?_⟩
  · refine (θ_run _ _ _).mono (fun r h c => ?_) (Cert.UpIdeal.Tab.run _ hT m g hm)
    exact ⟨((h.1 c).1 (3 : Fin 4)).trans ((Cert.UpIdeal.Tab.array_eq _ hT m c).trans
        (congrArg (fun T => Cert.UpIdeal.Tab.upArray T _ _ _) (hm c).symm)),
      ((h.1 c).1 (0 : Fin 4)).trans ((Cert.UpIdeal.Tab.dats _ hT m 0 c).arrAt_in (0 : Fin 4) rfl _), ((h.1 c).2 0).trans (hm c).symm,
      ((h.1 c).1 (1 : Fin 4)).trans ((Cert.UpIdeal.Tab.dats _ hT m 0 c).arrAt_in (1 : Fin 4) rfl _),
      ((h.1 c).1 (2 : Fin 4)).trans ((Cert.UpIdeal.Tab.dats _ hT m 0 c).arrAt_in (2 : Fin 4) rfl _)⟩
  · refine (θ_run _ _ _).mono (fun r h c => ⟨(h c).1.trans ?_, (h c).2⟩) (Cert.UpReferenceIdeal.Value.run_whole m' g')
    rw [(hagree c).1, (hagree c).2.1, (hagree c).2.2.1, (hagree c).2.2.2]
    refine funext fun (y : Cert.UpReferenceIdeal.S18688x7168.Idx) => ?_
    idx_vars y
    exact Cert.UpReferenceIdeal.Value.whole_at _ _ _ _ (fun n hn => experts_below _ _ _ _ (hpre c) n (by omega)) y0 y1

end Cert.Moe

end
-- ==== Proof.DownTable.lean ====
/-
  The grouped down-projection at any table of experts: the words its control reads, the branch each grid point takes, and
  what the kernel's body leaves there in closed form (`body`).
-/
module

public import proofs.«01_k».proof.Proof.Gen.Down
public import proofs.«01_k».proof.Proof.Gen.Down.Skeleton
public import proofs.«01_k».proof.Proof.Gen.Down.Launch
public import proofs.«01_k».proof.Proof.Gen.Down.Flash.Runs
public import Idealize.ShloMosaic.Lib.VecWindow
public import Idealize.ShloMosaic.Lib.Pipeline.Quiescent
public import Idealize.ShloMosaic.Lib.Pipeline.TableIdle
public import Idealize.ShloMosaic.Lib.Pipeline.FrameBody

@[expose] public section

set_option maxRecDepth 16384

noncomputable section

namespace Cert.Down.Tab

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The table's words -/

/-- The table's word `n`. -/
def word (T : S128.Idx → BitVec 32) (n : ℕ) (h : n < 128) : BitVec 32 := T fun | ⟨0, _⟩ => ⟨n, h⟩

/-- A load of one word of the table reads that word. -/
theorem read_word (T : S128.Idx → BitVec 32) (off : Fin 1 → ℕ) (inb : ∀ a, off a + S1.size a ≤ S128.size a)
    (hx : 0 < (Rect.unit (s := S128) off S1.size inb).toLoadRect.shape.numel) (h : off 0 < 128) :
    View.readAt (Elt Bits) (tbM0_0).view (Rect.unit (s := S128) off S1.size inb).toLoadRect T (Shape.Idx.first hx) = word T (off 0) h := by
  rw [View.readAt_apply]
  refine congrArg T (funext fun a => Fin.ext ?_)
  match a with
  | ⟨0, _⟩ => show off 0 + 1 * 0 = off 0; omega

variable (i : grid0.Coords)

/-- A tile's number is below 73. -/
theorem tile_lt : (i 1).val < 73 := (i 1).isLt

/-- The first load of the body is of the tile's own word. -/
theorem off1_eq : k0_off1 i 0 = (i 1).val := by
  have h := tile_lt i
  show (BitVec.setWidth _ (BitVec.ofNat 32 (i 1).val)).toNat = _
  simp
  omega

/-- The second load of the body is of the word before it, or of the first. -/
theorem off2_eq : k0_off2 i 0 = (i 1).val - 1 :=
  (by decide +kernel : ∀ n : Fin 73, (Scalar.indexCast (Scalar.maxsi (Scalar.subi (BitVec.ofNat 32 n.val) 1#32) 0#32) : Index).toNat = n.val - 1) ⟨(i 1).val, tile_lt i⟩

/-- Whether a tile starts over: the first of its column, or one of another expert than the tile before. -/
def Starts (T : S128.Idx → BitVec 32) : Prop :=
  (i 1).val = 0 ∨ word T (i 1).val (by have := tile_lt i; omega) ≠ word T ((i 1).val - 1) (by have := tile_lt i; omega)

/-- Whether a tile is in use: its number is below the last word of the table. -/
def Live (T : S128.Idx → BitVec 32) : Prop := (BitVec.ofNat 32 (i 1).val).slt (word T 127 (by omega)) = true

instance (T : S128.Idx → BitVec 32) : Decidable (Live i T) := inferInstanceAs (Decidable (_ = _))
instance (T : S128.Idx → BitVec 32) : Decidable (Starts i T) := inferInstanceAs (Decidable (_ ∨ _))

/-- The word a one-bit word is extended to is nonzero exactly when the bit is set. -/
theorem ext_ne (b : BitVec 1) : Scalar.cmpi .ne (Scalar.extui b : BitVec 32) 0#32 = 1#1 ↔ b = 1#1 := by
  revert b; decide

/-- The body's test for starting over, of the words it reads. -/
theorem start_iff (n : ℕ) (hn : n < 73) (a b : BitVec 32) :
    Scalar.cmpi .ne (Scalar.extui (Scalar.ori (Scalar.cmpi .eq (BitVec.ofNat 32 n) 0#32) (Scalar.cmpi .ne a b)) : BitVec 32) 0#32 = 1#1 ↔ n = 0 ∨ a ≠ b := by
  rw [ext_ne]
  have h0 : (BitVec.ofNat 32 n == 0#32) = decide (n = 0) := by
    have : ∀ k : Fin 73, (BitVec.ofNat 32 k.val == 0#32) = decide (k.val = 0) := by decide
    exact this ⟨n, hn⟩
  show BitVec.ofBool (BitVec.ofNat 32 n == 0#32) ||| BitVec.ofBool (a != b) = 1#1 ↔ _
  rw [h0]
  by_cases h1 : n = 0 <;> by_cases h2 : a = b
  · subst h2; simp [h1]
  · rw [bne_iff_ne.mpr h2]; simp [h1]
  · subst h2; simp [h1]
  · rw [bne_iff_ne.mpr h2]; simp [h1, h2]

/-- The body's test for a tile in use. -/
theorem live_iff (w : BitVec 32) : k0_cond2 i w = 1#1 ↔ (BitVec.ofNat 32 (i 1).val).slt w = true := by
  unfold k0_cond2
  dsimp only
  rw [ext_ne]
  show BitVec.ofBool _ = 1#1 ↔ _
  cases (BitVec.ofNat 32 (i 1).val).slt w <;> simp

/-- The body's test for a tile out of use is the other way round. -/
theorem dead_iff (w : BitVec 32) : k0_cond3 i w = 1#1 ↔ ¬ (BitVec.ofNat 32 (i 1).val).slt w = true := by
  unfold k0_cond3
  dsimp only
  rw [ext_ne]
  show BitVec.ofBool (w.sle (BitVec.ofNat 32 (i 1).val)) = 1#1 ↔ _
  rw [BitVec.sle_eq_not_slt]
  cases (BitVec.ofNat 32 (i 1).val).slt w <;> simp

/-! ## The body -/

/-- What the body leaves in the output's block: the product of the tile with the weights held, or zeros. -/
def outBlk (T : S128.Idx → BitVec 32) (x0 : S256x7168.Idx → Elt Bits .bf16) (w0 : S7168x512.Idx → Elt Bits .bf16) : S256x512.Idx → Elt Bits .f32 :=
  if Live i T then k0_pay2 x0 w0 else k0_pay3 (F := Bits)

/-- A store of a whole buffer leaves the payload. -/
theorem fill (b : Ref sig .tc) (f : b.ty.Contents (Elt Bits)) (off : Fin b.ty.shape.rank → ℕ) (inb : ∀ a, off a + b.ty.shape.size a ≤ b.ty.shape.size a)
    (p : b.ty.shape.Idx → Elt Bits b.ty.elt) : (View.whole b).writes (Elt Bits) f [⟨Rect.unit off b.ty.shape.size inb, p⟩] = p :=
  (View.read_whole b _).symm.trans (View.read_writes_full (View.whole b) f inb p [])

/-- A load of a whole buffer after a store of it reads the payload. -/
theorem refill (b : Ref sig .tc) (off : Fin b.ty.shape.rank → ℕ) (inb inb' : ∀ a, off a + b.ty.shape.size a ≤ b.ty.shape.size a)
    (p : b.ty.shape.Idx → Elt Bits b.ty.elt) :
    (View.whole b).readCov [⟨Rect.unit off b.ty.shape.size inb, p⟩] (Rect.unit off b.ty.shape.size inb').toLoadRect = p :=
  View.readCov_full (Val := Elt Bits) (View.whole b) inb' inb p []

/-- A load of a whole buffer reads its contents. -/
theorem reload (b : Ref sig .tc) (f : b.ty.Contents (Elt Bits)) (off : Fin b.ty.shape.rank → ℕ) (inb : ∀ a, off a + b.ty.shape.size a ≤ b.ty.shape.size a) :
    (View.whole b).readAt (Elt Bits) (Rect.unit off b.ty.shape.size inb).toLoadRect f = f :=
  (View.readAt_full (View.whole b) f inb).trans (View.read_whole b f)

section paths

variable (c : Dev nD) (arg3 : Memref sig .tc .vmem S256x7168 .bf16) (harg3 : arg3.IsWhole)
  (arg4 : Memref sig .tc .vmem S1x1x7168x512 .f32) (harg4 : arg4.IsWhole)
  (arg5 : Memref sig .tc .vmem S256x512 .f32) (harg5 : arg5.IsWhole) (T : S128.Idx → BitVec 32)
  (x0 : S256x7168.Idx → Elt Bits .bf16) (x1 : S1x1x7168x512.Idx → Elt Bits .f32) (xa0 : S7168x512.Idx → Elt Bits .bf16)

/-- Where the body starts over in a tile in use, it leaves the point's own weights. -/
theorem held0_A (h0 h2 h3) : (kernelRun0_A c i arg3 harg3 arg4 harg4 arg5 harg5 T x0 x1 h0 h2 h3).2.1 = k0_pay1 x1 := by
  unfold kernelRun0_A
  dsimp only
  unfold kernelRun0_A.sl.HS0_1
  refine (fill cc0_scratch0 _ ![0, 0] _ _).trans ?_
  rw [View.readAt_rep_full]

/-- Where the body starts over in a tile in use, it writes the product with the point's own weights. -/
theorem wrote_A (h0 h2 h3) (f) : arg5.view.read (Elt Bits) (arg5.view.writes (Elt Bits) f (kernelRun0_A c i arg3 harg3 arg4 harg4 arg5 harg5 T x0 x1 h0 h2 h3).1) = k0_pay2 x0 (k0_pay1 x1) := by
  unfold kernelRun0_A
  dsimp only
  unfold kernelRun0_A.sl.HO2_1
  refine (View.read_writes_full (Val := Elt Bits) arg5.view f _ _ _).trans ?_
  unfold kernelRun0_A.sl.v20 kernelRun0_A.sl.HS0_1
  rw [View.readAt_rep_full, View.readAt_rep_full]
  exact congrArg (k0_pay2 x0) (refill cc0_scratch0 ![0, 0] _ _ _)

/-- Where the body keeps the weights in a tile in use, it leaves the weights it found. -/
theorem held0_B (h0 h2 h3) : (kernelRun0_B c i arg3 harg3 arg4 harg4 arg5 harg5 T x0 x1 xa0 h0 h2 h3).2.1 = xa0 := by
  unfold kernelRun0_B
  rfl

/-- Where the body keeps the weights in a tile in use, it writes the product with the weights kept. -/
theorem wrote_B (h0 h2 h3) (f) : arg5.view.read (Elt Bits) (arg5.view.writes (Elt Bits) f (kernelRun0_B c i arg3 harg3 arg4 harg4 arg5 harg5 T x0 x1 xa0 h0 h2 h3).1) = k0_pay2 x0 xa0 := by
  unfold kernelRun0_B
  dsimp only
  unfold kernelRun0_B.sl.HO2_1
  refine (View.read_writes_full (Val := Elt Bits) arg5.view f _ _ _).trans ?_
  rw [View.readAt_rep_full]
  exact congrArg (k0_pay2 x0) (reload cc0_scratch0 _ ![0, 0] _)

/-- Where the body starts over in a tile out of use, it leaves the point's own weights. -/
theorem held0_C (h0 h2 h3) : (kernelRun0_C c i arg3 harg3 arg4 harg4 arg5 harg5 T x0 x1 h0 h2 h3).2.1 = k0_pay1 x1 := by
  unfold kernelRun0_C
  dsimp only
  unfold kernelRun0_C.sl.HS0_1
  refine (fill cc0_scratch0 _ ![0, 0] _ _).trans ?_
  rw [View.readAt_rep_full]

/-- Where the body starts over in a tile out of use, it writes zeros. -/
theorem wrote_C (h0 h2 h3) (f) : arg5.view.read (Elt Bits) (arg5.view.writes (Elt Bits) f (kernelRun0_C c i arg3 harg3 arg4 harg4 arg5 harg5 T x0 x1 h0 h2 h3).1) = k0_pay3 (F := Bits) := by
  unfold kernelRun0_C
  dsimp only
  unfold kernelRun0_C.sl.HO2_1
  refine (View.read_writes_full (Val := Elt Bits) arg5.view f _ _ _).trans ?_
  rfl

/-- Where the body keeps the weights in a tile out of use, it leaves the weights it found. -/
theorem held0_D (h0 h2 h3) : (kernelRun0_D c i arg3 harg3 arg4 harg4 arg5 harg5 T x0 x1 xa0 h0 h2 h3).2.1 = xa0 := by
  unfold kernelRun0_D
  rfl

/-- Where the body keeps the weights in a tile out of use, it writes zeros. -/
theorem wrote_D (h0 h2 h3) (f) : arg5.view.read (Elt Bits) (arg5.view.writes (Elt Bits) f (kernelRun0_D c i arg3 harg3 arg4 harg4 arg5 harg5 T x0 x1 xa0 h0 h2 h3).1) = k0_pay3 (F := Bits) := by
  unfold kernelRun0_D
  dsimp only
  unfold kernelRun0_D.sl.HO2_1
  refine (View.read_writes_full (Val := Elt Bits) arg5.view f _ _ _).trans ?_
  rfl

end paths

set_option maxHeartbeats 400000 in
/-- The body at a grid point, the tile's inputs at `x0` and `x1`: it leaves the weights `w0` in the scratch —
    those of the point where it starts over, those it found where it doesn't — and `outBlk` in the output's block. -/
theorem body (c : Dev nD) (arg3 : Memref sig .tc .vmem S256x7168 .bf16) (harg3 : arg3.IsWhole)
    (arg4 : Memref sig .tc .vmem S1x1x7168x512 .f32) (harg4 : arg4.IsWhole)
    (arg5 : Memref sig .tc .vmem S256x512 .f32) (harg5 : arg5.IsWhole) (T : S128.Idx → BitVec 32)
    (x0 : S256x7168.Idx → Elt Bits .bf16) (x1 : S1x1x7168x512.Idx → Elt Bits .f32) (xa0 w0 : S7168x512.Idx → Elt Bits .bf16)
    (hstart : Starts i T → w0 = k0_pay1 x1) (hkeep : ¬ Starts i T → xa0 = w0)
    (K : PUnit → sProp (MT nD τ sig Unit (Elt Bits) ℕ (UR sig nD τ) ℕ)) :
    iprop((arg3.view.loc (c : Thread nD τ) ↦[arg3.view.set]{fullShare} arg3.view.rep x0)
      ∗ (arg4.view.loc (c : Thread nD τ) ↦[arg4.view.set]{fullShare} arg4.view.rep x1)
      ∗ (tbM0_0.view.loc (c : Thread nD τ) ↦{fullShare.right} T)
      ∗ (∃ d, owns (c : Thread nD τ) arg5 fullShare d)
      ∗ (scM0_0.view.loc (c : Thread nD τ) ↦{fullShare} xa0)
      ∗ (iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T)
          ∗ owns (c : Thread nD τ) arg5 fullShare (outBlk i T x0 w0)
          ∗ (scM0_0.view.loc (c : Thread nD τ) ↦{fullShare} w0)) -∗ K ⟨⟩))
      ⊢ wp frame (wpE (defs₀ (F := Bits)) Variants.none c none) Set.univ (cc0_moe_down i tbM0_0 (Memref.isWhole_whole _) arg3 harg3 arg4 harg4 arg5 harg5 scM0_0 (Memref.isWhole_whole _)) K := by
  have l1 : k0_off1 i 0 < 128 := by rw [off1_eq]; have := tile_lt i; omega
  have l2 : k0_off2 i 0 < 128 := by rw [off2_eq]; have := tile_lt i; omega
  have r1 := read_word T (k0_off1 i) (k0_off1_inb i) (numel1_S1.symm ▸ Nat.one_pos) l1
  have r2 := read_word T (k0_off2 i) (k0_off2_inb i) (numel1_S1.symm ▸ Nat.one_pos) l2
  have r3 := read_word T ![127] inb_S128_S1_127 (numel1_S1.symm ▸ Nat.one_pos) (by decide)
  have e1 : word T (k0_off1 i 0) l1 = word T (i 1).val (by have := tile_lt i; omega) := by simp only [off1_eq]
  have e2 : word T (k0_off2 i 0) l2 = word T ((i 1).val - 1) (by have := tile_lt i; omega) := by simp only [off2_eq]
  have hs := start_iff (i 1).val (tile_lt i) (word T (i 1).val (by have := tile_lt i; omega)) (word T ((i 1).val - 1) (by have := tile_lt i; omega))
  rw [← e1, ← e2, ← r1, ← r2] at hs
  have hs' : Starts i T ↔ _ := Iff.trans (by unfold Starts; rw [← e1, ← e2, ← r1, ← r2]) hs.symm
  have hl := live_iff i (word T 127 (by omega))
  have hd := dead_iff i (word T 127 (by omega))
  rw [show word T 127 (by omega) = word T ((![127] : Fin 1 → ℕ) 0) (by decide) from rfl, ← r3] at hl hd
  have hl' : Live i T ↔ _ := Iff.trans (by unfold Live; rw [show word T 127 (by omega) = word T ((![127] : Fin 1 → ℕ) 0) (by decide) from rfl, ← r3]) hl.symm
  have hd' : ¬ Live i T ↔ _ := Iff.trans (by unfold Live; rw [show word T 127 (by omega) = word T ((![127] : Fin 1 → ℕ) 0) (by decide) from rfl, ← r3]) hd.symm
  by_cases q0 : Starts i T
  · have ew0 := hstart q0
    by_cases q1 : Live i T
    · have e0 := held0_A i c arg3 harg3 arg4 harg4 arg5 harg5 T x0 x1 (hs'.mp q0) (hl'.mp q1) (fun h => hd'.mpr h q1)
      have eO := wrote_A i c arg3 harg3 arg4 harg4 arg5 harg5 T x0 x1 (hs'.mp q0) (hl'.mp q1) (fun h => hd'.mpr h q1)
      revert e0 eO
      generalize kernelRun0_A c i arg3 harg3 arg4 harg4 arg5 harg5 T x0 x1 (hs'.mp q0) (hl'.mp q1) (fun h => hd'.mpr h q1) = R
      obtain ⟨o0, o1, k⟩ := R
      dsimp only
      intro e0 eO
      subst e0
      subst ew0
      have k := k xa0 K
      refine BIBase.Entails.trans ?_ k
      unfold outBlk owns
      rw [if_pos q1]
      iintro ⟨H0, H1, HT, H3, HS0, Hk⟩
      isplitl [H0]; · iexact H0
      isplitl [H1]; · iexact H1
      isplitl [HT]; · iexact HT
      isplitl [H3]; · iexact H3
      isplitl [HS0]; · iexact HS0
      iintro ⟨H0, H1, HT, ⟨%e3, H3⟩, HS0⟩
      iapply Hk
      isplitl [H0]; · iexact H0
      isplitl [H1]; · iexact H1
      isplitl [HT]; · iexact HT
      isplitl [H3]
      · iexists _; isplitr; swap
        · iexact H3
        · ipureintro; exact eO e3
      iexact HS0
    · have e0 := held0_C i c arg3 harg3 arg4 harg4 arg5 harg5 T x0 x1 (hs'.mp q0) (fun h => q1 (hl'.mpr h)) (hd'.mp q1)
      have eO := wrote_C i c arg3 harg3 arg4 harg4 arg5 harg5 T x0 x1 (hs'.mp q0) (fun h => q1 (hl'.mpr h)) (hd'.mp q1)
      revert e0 eO
      generalize kernelRun0_C c i arg3 harg3 arg4 harg4 arg5 harg5 T x0 x1 (hs'.mp q0) (fun h => q1 (hl'.mpr h)) (hd'.mp q1) = R
      obtain ⟨o0, o1, k⟩ := R
      dsimp only
      intro e0 eO
      subst e0
      subst ew0
      have k := k xa0 K
      refine BIBase.Entails.trans ?_ k
      unfold outBlk owns
      rw [if_neg q1]
      iintro ⟨H0, H1, HT, H3, HS0, Hk⟩
      isplitl [H0]; · iexact H0
      isplitl [H1]; · iexact H1
      isplitl [HT]; · iexact HT
      isplitl [H3]; · iexact H3
      isplitl [HS0]; · iexact HS0
      iintro ⟨H0, H1, HT, ⟨%e3, H3⟩, HS0⟩
      iapply Hk
      isplitl [H0]; · iexact H0
      isplitl [H1]; · iexact H1
      isplitl [HT]; · iexact HT
      isplitl [H3]
      · iexists _; isplitr; swap
        · iexact H3
        · ipureintro; exact eO e3
      iexact HS0
  · have ew0 := hkeep q0
    by_cases q1 : Live i T
    · have e0 := held0_B i c arg3 harg3 arg4 harg4 arg5 harg5 T x0 x1 xa0 (fun h => q0 (hs'.mpr h)) (hl'.mp q1) (fun h => hd'.mpr h q1)
      have eO := wrote_B i c arg3 harg3 arg4 harg4 arg5 harg5 T x0 x1 xa0 (fun h => q0 (hs'.mpr h)) (hl'.mp q1) (fun h => hd'.mpr h q1)
      revert e0 eO
      generalize kernelRun0_B c i arg3 harg3 arg4 harg4 arg5 harg5 T x0 x1 xa0 (fun h => q0 (hs'.mpr h)) (hl'.mp q1) (fun h => hd'.mpr h q1) = R
      obtain ⟨o0, o1, k⟩ := R
      dsimp only
      intro e0 eO
      subst e0
      subst ew0
      have k := k K
      refine BIBase.Entails.trans ?_ k
      unfold outBlk owns
      rw [if_pos q1]
      iintro ⟨H0, H1, HT, H3, HS0, Hk⟩
      isplitl [H0]; · iexact H0
      isplitl [H1]; · iexact H1
      isplitl [HT]; · iexact HT
      isplitl [H3]; · iexact H3
      isplitl [HS0]; · iexact HS0
      iintro ⟨H0, H1, HT, ⟨%e3, H3⟩, HS0⟩
      iapply Hk
      isplitl [H0]; · iexact H0
      isplitl [H1]; · iexact H1
      isplitl [HT]; · iexact HT
      isplitl [H3]
      · iexists _; isplitr; swap
        · iexact H3
        · ipureintro; exact eO e3
      iexact HS0
    · have e0 := held0_D i c arg3 harg3 arg4 harg4 arg5 harg5 T x0 x1 xa0 (fun h => q0 (hs'.mpr h)) (fun h => q1 (hl'.mpr h)) (hd'.mp q1)
      have eO := wrote_D i c arg3 harg3 arg4 harg4 arg5 harg5 T x0 x1 xa0 (fun h => q0 (hs'.mpr h)) (fun h => q1 (hl'.mpr h)) (hd'.mp q1)
      revert e0 eO
      generalize kernelRun0_D c i arg3 harg3 arg4 harg4 arg5 harg5 T x0 x1 xa0 (fun h => q0 (hs'.mpr h)) (fun h => q1 (hl'.mpr h)) (hd'.mp q1) = R
      obtain ⟨o0, o1, k⟩ := R
      dsimp only
      intro e0 eO
      subst e0
      subst ew0
      have k := k K
      refine BIBase.Entails.trans ?_ k
      unfold outBlk owns
      rw [if_neg q1]
      iintro ⟨H0, H1, HT, H3, HS0, Hk⟩
      isplitl [H0]; · iexact H0
      isplitl [H1]; · iexact H1
      isplitl [HT]; · iexact HT
      isplitl [H3]; · iexact H3
      isplitl [HS0]; · iexact HS0
      iintro ⟨H0, H1, HT, ⟨%e3, H3⟩, HS0⟩
      iapply Hk
      isplitl [H0]; · iexact H0
      isplitl [H1]; · iexact H1
      isplitl [HT]; · iexact HT
      isplitl [H3]
      · iexists _; isplitr; swap
        · iexact H3
        · ipureintro; exact eO e3
      iexact HS0

end Cert.Down.Tab

end
-- ==== Proof.DownFrame.lean ====
/-
  The grouped down-projection at any table of experts below eight: the pipeline, the blocks its
  grid points load (`a_at`, `w1_at`), which of the weights stay (`kept1`), and its data (`dats`).
-/
module

public import proofs.«01_k».proof.Proof.DownTable
public import Idealize.ShloMosaic.Lib.Pipeline.ValueKit
public import Idealize.ShloMosaic.Lib.Pointwise
public import Idealize.ShloMosaic.Lib.Pipeline.Kit

@[expose] public section

set_option maxRecDepth 16384

noncomputable section

namespace Cert.Down.Tab

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The pipeline at a table -/

/-- The words of the tiles name one of the eight experts. -/
def Experts (T : S128.Idx → BitVec 32) : Prop := ∀ (n : ℕ) (h : n < 73), (word T n (by omega)).toNat < 8

set_option backward.proofsInPublic true in
/-- The table as the pipeline's contents. -/
def tbl (T : S128.Idx → BitVec 32) : pre0.Contents (Elt Bits) := fun | ⟨0, _⟩ => T | ⟨_ + 1, h⟩ => absurd h (by simp)

/-- The tile's expert, as a number. -/
def expert (T : S128.Idx → BitVec 32) (i : grid0.Coords) : ℕ := (word T (i 1).val (by have := tile_lt i; omega)).toNat

/-- A tile's word, as the index maps read it. -/
theorem tbl_at (T : S128.Idx → BitVec 32) (i : grid0.Coords) :
    ((tbl T).at 0 (Rect.unit (s := S128) (k0_off1 i) S1.size (k0_off1_inb i)) numel1_S1 : BitVec 32)
      = word T (i 1).val (by have := tile_lt i; omega) := by
  refine congrArg T (funext fun a => Fin.ext ?_)
  match a with
  | ⟨0, _⟩ => show k0_off1 i 0 + 1 * 0 = (i 1).val; rw [off1_eq]; omega

/-- A column's number is below 4. -/
theorem col_lt (i : grid0.Coords) : (i 0).val < 4 := (i 0).isLt

/-- The block of weights of a grid point: the tile's expert and the column. -/
theorem map1 (T : S128.Idx → BitVec 32) (i : grid0.Coords) :
    cc0_transform_1 k0_off1_inb numel1_S1 (tbl T) i = ![0, expert T i, 0, (i 0).val] := by
  have h := col_lt i
  have e : (BitVec.ofNat 32 (i 0).val).toNat = (i 0).val := by rw [BitVec.toNat_ofNat]; omega
  show ![_, ((tbl T).at 0 (Rect.unit (s := S128) (k0_off1 i) S1.size (k0_off1_inb i)) numel1_S1 : BitVec 32).toNat, _, (BitVec.ofNat 32 (i 0).val).toNat] = _
  rw [tbl_at, e]
  rfl

/-- A block of an expert below eight lies inside the weights. -/
theorem inside (e n : ℕ) (he : e < 8) (hn : n < 4) :
    ∀ a, ((![0, e, 0, n] : Fin 4 → ℕ) a + 1) * S1x1x7168x512.size a ≤ S2x8x7168x2048.size a := by
  intro a
  match a with
  | ⟨0, _⟩ => show (0 + 1) * 1 ≤ 2; omega
  | ⟨1, _⟩ => show (e + 1) * 1 ≤ 8; omega
  | ⟨2, _⟩ => show (0 + 1) * 7168 ≤ 7168; omega
  | ⟨3, _⟩ => show (n + 1) * 512 ≤ 2048; omega

/-- Every block the pipeline moves lies inside its array. -/
theorem tbl_ok (T : S128.Idx → BitVec 32) (hT : Experts T) : ok0 (F := Bits) (tbl T) :=
  fun i => ⟨by rw [map1]; exact inside _ _ (hT _ (tile_lt i)) (col_lt i), .inl rfl⟩

variable (T : S128.Idx → BitVec 32) (hT : Experts T)

/-- The table as admissible contents. -/
def adm : (pcfg0 (F := Bits)).Adm := ⟨tbl T, tbl_ok T hT⟩

/-- The pipeline at the table. -/
abbrev cfgT : Pipeline.Cfg sig Λ₀ := cfg0 (F := Bits) (adm T hT)

/-- The program's pipelines at the table. -/
abbrev pcs : Fin 1 → Pipeline.Cfg sig Λ₀ := Pipeline.pin (pcfgs (F := Bits)) fun _ => adm T hT

variable (m : (ℓ : Loc nD τ sig) → Buf (Elt Bits) ℓ) (ρ : Dev nD → PrngReg)

/-- A grid point's coordinates. -/
abbrev crd (t : Fin (cfgT T hT).N) : grid0.Coords := (cfgT T hT).grid.coords t

/-- The staging buffer of the tile's rows at a grid point. -/
abbrev ms0 (t : Fin (cfgT T hT).N) : Memref sig .tc .vmem S256x7168 .bf16 := spec0_0.stage ((cfgT T hT).slots t (0 : Fin 3))
/-- It is a whole buffer. -/
abbrev hs0 (t : Fin (cfgT T hT).N) : (ms0 T hT t).IsWhole := hstage0_0 (((cfgT T hT).slots t (0 : Fin 3)).cast nbuf0_0)
/-- The staging buffer of the weights at a grid point. -/
abbrev ms1 (t : Fin (cfgT T hT).N) : Memref sig .tc .vmem S1x1x7168x512 .f32 := spec0_1.stage ((cfgT T hT).slots t (1 : Fin 3))
/-- It is a whole buffer. -/
abbrev hs1 (t : Fin (cfgT T hT).N) : (ms1 T hT t).IsWhole := hstage0_1 (((cfgT T hT).slots t (1 : Fin 3)).cast nbuf0_1)
/-- The staging buffer of the output at a grid point. -/
abbrev ms2 (t : Fin (cfgT T hT).N) : Memref sig .tc .vmem S256x512 .f32 := spec0_2.stage ((cfgT T hT).slots t (2 : Fin 3))
/-- It is a whole buffer. -/
abbrev hs2 (t : Fin (cfgT T hT).N) : (ms2 T hT t).IsWhole := hstage0_2 (((cfgT T hT).slots t (2 : Fin 3)).cast nbuf0_2)

/-- A window's block at a grid point, read off its array at launch. -/
def iblk (c : Dev nD) (w : Fin (cfgT T hT).W) (t : Fin (cfgT T hT).N) : (((cfgT T hT).win w).xblock (crd T hT t)).Idx → Elt Bits ((cfgT T hT).win w).elt :=
  (((cfgT T hT).win w).blk t).view.read (Elt Bits) (m (((cfgT T hT).win w).arr.view.loc (c : Thread nD τ)))

/-! ## The schedule -/

/-- A grid point's column and tile. -/
theorem coords_at : ∀ t : Fin grid0.N, (grid0.coords t 0).val = t.val / 73 ∧ (grid0.coords t 1).val = t.val % 73 := by decide +kernel

/-- The output's block is written back at every grid point. -/
theorem flush2 (t : Fin (cfgT T hT).N) : ((cfgT T hT).win (2 : Fin 3)).flush t = true :=
  (by decide +kernel : ∀ t : Fin grid0.N, Pipeline.Window.flushOf grid0 true cc0_transform_2 t = true) t

/-- The body writes the output's block at every grid point. -/
theorem idle2 (i : grid0.Coords) : (cfgT T hT).idle (2 : Fin 3) i = false := by
  have hl := live_iff i ((tbl T).atD 0 ![127])
  have hd := dead_iff i ((tbl T).atD 0 ![127])
  show (!(k0_cond2 i ((tbl T).atD 0 ![127]) == 1#1) && !(k0_cond3 i ((tbl T).atD 0 ![127]) == 1#1)) = false
  by_cases h : k0_cond2 i ((tbl T).atD 0 ![127]) = 1#1
  · rw [h]; rfl
  · rw [hd.mpr (fun h' => h (hl.mpr h'))]; simp

/-- The block of the weights of a grid point. -/
theorem index1 (t : Fin (cfgT T hT).N) : ((pcfg0 (F := Bits)).win (adm T hT) 1).index t = ![0, expert T (crd T hT t), 0, (crd T hT t 0).val] :=
  map1 T (crd T hT t)

/-- The block of rows of a grid point. -/
theorem index0 (t : Fin (cfgT T hT).N) : ((pcfg0 (F := Bits)).win (adm T hT) 0).index t = ![(crd T hT t 1).val, 0] := by
  have h := tile_lt (crd T hT t)
  show ![(BitVec.ofNat 32 (crd T hT t 1).val).toNat, _] = _
  rw [BitVec.toNat_ofNat, Nat.mod_eq_of_lt (by omega)]
  rfl

/-- The block of the output of a grid point. -/
theorem index2 (t : Fin (cfgT T hT).N) : ((pcfg0 (F := Bits)).win (adm T hT) 2).index t = ![(crd T hT t 1).val, (crd T hT t 0).val] := by
  have h := tile_lt (crd T hT t)
  have h' := col_lt (crd T hT t)
  show ![(BitVec.ofNat 32 (crd T hT t 1).val).toNat, (BitVec.ofNat 32 (crd T hT t 0).val).toNat] = _
  rw [BitVec.toNat_ofNat, BitVec.toNat_ofNat, Nat.mod_eq_of_lt (by omega), Nat.mod_eq_of_lt (by omega)]

/-- The weights a grid point loads. -/
theorem w1_at (c : Dev nD) (t : Fin (cfgT T hT).N) (x y : Fin 1) (r : Fin 7168) (d : Fin 512) : iblk T hT m c 1 t (ix4 x y r d)
    = m ((c.tc : Thread nD τ).loc main_arg2) (ix4 (0 : Fin 2) (⟨expert T (crd T hT t), hT _ (tile_lt _)⟩ : Fin 8) r (⟨512 * (crd T hT t 0).val + d, by have := col_lt (crd T hT t); have := d.isLt; omega⟩ : Fin 2048)) := by
  blk_ext [iblk]
  · exact congrFun (index1 T hT t) 0
  · exact congrFun (index1 T hT t) 1
  · exact (congrArg (fun z : ℕ => z * 7168 + r.val) (congrFun (index1 T hT t) 2)).trans (by show 0 * 7168 + r.val = r.val; omega)
  · exact (congrArg (fun z : ℕ => z * 512 + d.val) (congrFun (index1 T hT t) 3)).trans
      (by show (crd T hT t 0).val * 512 + d.val = 512 * (crd T hT t 0).val + d.val; omega)

/-- The rows a grid point loads. -/
theorem a_at (c : Dev nD) (t : Fin (cfgT T hT).N) (r : Fin 256) (d : Fin 7168) : iblk T hT m c 0 t (ix2 r d)
    = m ((c.tc : Thread nD τ).loc main_arg0) (ix2 (⟨256 * (crd T hT t 1).val + r, by have := tile_lt (crd T hT t); have := r.isLt; omega⟩ : Fin 18688) d) := by
  blk_ext [iblk]
  · exact (congrArg (fun z : ℕ => z * 256 + r.val) (congrFun (index0 T hT t) 0)).trans
      (by show (crd T hT t 1).val * 256 + r.val = 256 * (crd T hT t 1).val + r.val; omega)
  · exact (congrArg (fun z : ℕ => z * 7168 + d.val) (congrFun (index0 T hT t) 1)).trans (by show 0 * 7168 + d.val = d.val; omega)

/-- A grid point that doesn't start over isn't the first, and the point before has its column and its expert. -/
theorem kept (t : Fin (cfgT T hT).N) (h : ¬ Starts (crd T hT t) T) :
    ∃ h0 : t.val ≠ 0, (crd T hT ⟨t.val - 1, by omega⟩ 0).val = (crd T hT t 0).val
      ∧ expert T (crd T hT ⟨t.val - 1, by omega⟩) = expert T (crd T hT t) := by
  have hp : t.val - 1 < (cfgT T hT).N := lt_of_le_of_lt (Nat.sub_le _ _) t.isLt
  have e : (crd T hT t 0).val = t.val / 73 ∧ (crd T hT t 1).val = t.val % 73 := coords_at t
  have hs : (crd T hT t 1).val ≠ 0 := fun h1 => h (.inl h1)
  have h0 : t.val ≠ 0 := fun h0 => hs (by rw [e.2, h0])
  have e' : (crd T hT ⟨t.val - 1, hp⟩ 0).val = (t.val - 1) / 73 ∧ (crd T hT ⟨t.val - 1, hp⟩ 1).val = (t.val - 1) % 73 :=
    coords_at ⟨t.val - 1, hp⟩
  have e1 : (crd T hT ⟨t.val - 1, hp⟩ 1).val = (crd T hT t 1).val - 1 := by
    rw [e'.2, e.2]
    rw [e.2] at hs
    clear e e' h h0
    generalize t.val = n at *
    omega
  refine ⟨h0, ?_, ?_⟩
  · rw [e'.1, e.1]
    rw [e.2] at hs
    clear e e' e1 h h0
    generalize t.val = n at *
    omega
  have hw : word T (crd T hT t 1).val (by have := tile_lt (crd T hT t); omega) = word T ((crd T hT t 1).val - 1) (by have := tile_lt (crd T hT t); omega) :=
    not_not.mp fun h1 => h (.inr h1)
  unfold expert
  rw [hw]
  simp only [e1]

/-- The weights of a grid point that doesn't start over are those of the point before. -/
theorem kept1 (c : Dev nD) (t : Fin (cfgT T hT).N) (h : ¬ Starts (crd T hT t) T) :
    iblk T hT m c 1 t = iblk T hT m c 1 ⟨t.val - 1, by omega⟩ := by
  obtain ⟨h0, e0, e1⟩ := kept T hT t h
  refine funext fun (y : S1x1x7168x512.Idx) => ?_
  idx_vars y
  rw [w1_at, w1_at]
  simp only [e0, e1]
  rfl

/-! ## The pipeline's data -/

/-- The weights a grid point's scratch holds. -/
def wgt0 (c : Dev nD) (t : Fin (cfgT T hT).N) : S7168x512.Idx → Elt Bits .bf16 := k0_pay1 (iblk T hT m c (1 : Fin 3) t)

/-- What a grid point leaves in the output's block. -/
def left (c : Dev nD) (t : Fin (cfgT T hT).N) : S256x512.Idx → Elt Bits .f32 :=
  outBlk (crd T hT t) T (iblk T hT m c (0 : Fin 3) t) (wgt0 T hT m c t)

/-- What holds before a grid point: past the first, the scratch holds the weights of the point before; the table is held. -/
def Phi (c : Dev nD) (t : Fin ((cfgT T hT).N + 1)) : sProp (MT nD τ sig Unit (Elt Bits) ℕ (UR sig nD τ) ℕ) :=
  iprop((∃ a, ⌜∀ h : t.val ≠ 0, a = wgt0 T hT m c ⟨t.val - 1, by omega⟩⌝ ∗ (scM0_0.view.loc (c : Thread nD τ) ↦{fullShare} a))
    ∗ (tbM0_0.view.loc (c : Thread nD τ) ↦{fullShare.right} T))

/-- The pipeline's data on a core. -/
def dats (_ : Fin 1) (c : Dev nD) : Dat τ (Elt Bits) Unit ℕ (UR sig nD τ) ℕ (cfgT T hT) c where
  A w := m (((cfgT T hT).win w).arr.view.loc (c : Thread nD τ))
  after w t := match w with
    | ⟨0, _⟩ => iblk T hT m c (0 : Fin 3) t
    | ⟨1, _⟩ => iblk T hT m c (1 : Fin 3) t
    | ⟨2, _⟩ => left T hT m c t
  Φ t := Phi T hT m c t
  q _ := fullShare
  owed _ := 0

/-- The rows' block holds what was loaded. -/
theorem after0 (c : Dev nD) (t : Fin (cfgT T hT).N) : (dats T hT m 0 c).after (0 : Fin 3) t = iblk T hT m c (0 : Fin 3) t := rfl
/-- The weights' block holds what was loaded. -/
theorem after1 (c : Dev nD) (t : Fin (cfgT T hT).N) : (dats T hT m 0 c).after (1 : Fin 3) t = iblk T hT m c (1 : Fin 3) t := rfl
/-- The output's block holds what the point leaves. -/
theorem after2 (c : Dev nD) (t : Fin (cfgT T hT).N) : (dats T hT m 0 c).after (2 : Fin 3) t = left T hT m c t := rfl

/-- The rows are loaded when the body runs. -/
theorem before0 (c : Dev nD) (t : Fin (cfgT T hT).N) (d) : (dats T hT m 0 c).before (0 : Fin 3) t d = iblk T hT m c (0 : Fin 3) t :=
  ((dats T hT m 0 c).before_in_eq_fetched (0 : Fin 3) rfl (fun _ => rfl) (fun _ _ _ => rfl) (fun t => by rw [after0]; unfold Dat.blockOf iblk; rfl) t d).trans
    (by unfold Dat.fetched Dat.blockOf iblk; rfl)

/-- The weights are loaded when the body runs. -/
theorem before1 (c : Dev nD) (t : Fin (cfgT T hT).N) (d) : (dats T hT m 0 c).before (1 : Fin 3) t d = iblk T hT m c (1 : Fin 3) t :=
  ((dats T hT m 0 c).before_in_eq_fetched (1 : Fin 3) rfl (fun _ => rfl) (fun _ _ _ => rfl) (fun t => by rw [after1]; unfold Dat.blockOf iblk; rfl) t d).trans
    (by unfold Dat.fetched Dat.blockOf iblk; rfl)

end Cert.Down.Tab

end
-- ==== Proof.DownSound.lean ====
/-
  The grouped down-projection at any table of experts below eight: the body meets its obligation at every grid point
  (`sound`), the launch, and the frame (`frame`, `run`).
-/
module

public import proofs.«01_k».proof.Proof.DownFrame
public import Idealize.ShloMosaic.Lib.Claim
public import Idealize.ShloMosaic.Adequacy
public import Idealize.ShloMosaic.Init

@[expose] public section

set_option maxRecDepth 16384

noncomputable section

namespace Cert.Down.Tab

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (T : S128.Idx → BitVec 32) (hT : Experts T)
variable (m : (ℓ : Loc nD τ sig) → Buf (Elt Bits) ℓ) (ρ : Dev nD → PrngReg)

/-! ## The body's obligation -/

/-- The body at a grid point, as the pipeline calls it. -/
abbrev bodyAt (t : Fin (cfgT T hT).N) : Prog (TpuEff nD τ sig (Elt Bits) Λ₀ .tc) PUnit :=
  cc0_moe_down (crd T hT t) (Memref.whole main_arg1) (Memref.isWhole_whole _) (ms0 T hT t) (hs0 T hT t) (ms1 T hT t) (hs1 T hT t) (ms2 T hT t) (hs2 T hT t) (Memref.whole cc0_scratch0) (Memref.isWhole_whole _)

/-- What is known before a point, at a point that isn't the first. -/
theorem before_point {α : Type} {N : ℕ} (f : Fin N → α) (t : Fin N) (a : α)
    (h : ∀ h : t.castSucc.val ≠ 0, a = f ⟨t.castSucc.val - 1, by omega⟩) (h0 : t.val ≠ 0) :
    a = f ⟨t.val - 1, lt_of_le_of_lt (Nat.sub_le _ _) t.isLt⟩ := h h0

/-- What is known after a point. -/
theorem after_point {α : Type} {N : ℕ} (f : Fin N → α) (t : Fin N) : ∀ h : t.succ.val ≠ 0, f t = f ⟨t.succ.val - 1, by omega⟩ := fun _ => rfl

/-- The weights held at a grid point that doesn't start over are those held at the point before. -/
theorem wgt0_kept (c : Dev nD) (t : Fin (cfgT T hT).N) (h : ¬ Starts (crd T hT t) T) :
    wgt0 T hT m c t = wgt0 T hT m c ⟨t.val - 1, lt_of_le_of_lt (Nat.sub_le _ _) t.isLt⟩ := by
  unfold wgt0
  rw [kept1 T hT m c t h]

set_option maxHeartbeats 400000 in
/-- The body meets its obligation at every grid point. -/
theorem sound (c : Dev nD) (t : Fin (cfgT T hT).N) :
    iprop((dats T hT m 0 c).Φ t.castSucc ∗ (dats T hT m 0 c).owesAt () t.castSucc
        ∗ (∃ d, owns (c : Thread nD τ) (ms0 T hT t) fullShare ((dats T hT m 0 c).before (0 : Fin 3) t d))
        ∗ (∃ d, owns (c : Thread nD τ) (ms1 T hT t) fullShare ((dats T hT m 0 c).before (1 : Fin 3) t d))
        ∗ (∃ d, owns (c : Thread nD τ) (ms2 T hT t) fullShare ((dats T hT m 0 c).before (2 : Fin 3) t d)))
      ⊢ wp frame (wpE (defs₀ (F := Bits)) Variants.none c none) Set.univ (bodyAt T hT t) fun _ =>
          iprop((dats T hT m 0 c).Φ t.succ ∗ (dats T hT m 0 c).owesAt () t.succ
            ∗ bigSep Finset.univ fun w : Fin (cfgT T hT).W =>
                match (cfgT T hT).idle w ((cfgT T hT).grid.coords t) with
                | true =>
                  match ((cfgT T hT).win w).flush t with
                  | false => iprop(∃ d, owns (c : Thread nD τ) (((cfgT T hT).win w).stage ((cfgT T hT).slots t w)) fullShare ((dats T hT m 0 c).before w t d))
                  | true => owns (c : Thread nD τ) (((cfgT T hT).win w).stage ((cfgT T hT).slots t w)) fullShare ((dats T hT m 0 c).after w t)
                | false => owns (c : Thread nD τ) (((cfgT T hT).win w).stage ((cfgT T hT).slots t w)) fullShare ((dats T hT m 0 c).after w t)) := by
  rw [bigSep_W0]
  rewrite [idle2 T hT ((cfgT T hT).grid.coords t)]
  simp only [before0, before1, after0, after1, after2]
  rewrite [show (dats T hT m 0 c).Φ t.succ = Phi T hT m c t.succ from rfl, show (dats T hT m 0 c).Φ t.castSucc = Phi T hT m c t.castSucc from rfl,
    show (dats T hT m 0 c).owesAt () t.succ = (dats T hT m 0 c).owesAt () t.castSucc from rfl]
  unfold Phi
  iintro ⟨⟨⟨%a0, %ha0, HS0⟩, HT0⟩, Ho, ⟨%d0, H0⟩, ⟨%d1, H1⟩, ⟨%d3, H3⟩⟩
  have hk : ¬ Starts (crd T hT t) T → a0 = wgt0 T hT m c t := fun h =>
    (before_point (wgt0 T hT m c) t a0 ha0 (kept T hT t h).1).trans (wgt0_kept T hT m c t h).symm
  iapply (body (crd T hT t) c (ms0 T hT t) (hs0 T hT t) (ms1 T hT t) (hs1 T hT t) (ms2 T hT t) (hs2 T hT t) T
    (iblk T hT m c (0 : Fin 3) t) (iblk T hT m c (1 : Fin 3) t) a0 (wgt0 T hT m c t)
    (fun _ => rfl) hk _)
  isplitl [H0]; · iapply rep_of_owns; iexact H0
  isplitl [H1]; · iapply rep_of_owns; iexact H1
  isplitl [HT0]; · iexact HT0
  isplitl [H3]; · iexists _; iexact H3
  isplitl [HS0]; · iexact HS0
  iintro ⟨H0, H1, HT0, H3, HS0⟩
  isplitl [HS0 HT0]
  · isplitl [HS0]
    · iexists _; isplitr; swap
      · iexact HS0
      · ipureintro; exact after_point (wgt0 T hT m c) t
    iexact HT0
  isplitl [Ho]; · iexact Ho
  isplitl [H0]
  · iapply owns_of_rep; iexact H0
  isplitl [H1]
  · iapply owns_of_rep; iexact H1
  iexact H3

/-- The body's obligation, at every grid point. -/
theorem obligation (c : Dev nD) : BodyObligation (dats T hT m 0 c) (defs₀ (F := Bits)) Variants.none () Set.univ := fun t => by
  rw [bigSep_W0]
  exact sound T hT m c t

/-! ## The launch -/

/-- The rounds' first element. -/
def start : UR sig nD τ :=
  initOf (Pipeline.cells (pcs T hT) ((launch0 (F := Bits)).cellOf_inj fun _ => adm T hT))
    (Pipeline.launchToks (pcs T hT) ((launch0 (F := Bits)).cellOf_inj fun _ => adm T hT))

/-- Every window holds its array whole. -/
theorem whole_share (c : Dev nD) (w : Fin (cfgT T hT).W) : (dats T hT m 0 c).share w = fullShare := by
  unfold Dat.share
  split <;> rfl

/-- The table as the launch hands it over: half of the buffer, at the table's contents. -/
theorem held_table (c : Dev nD) : (Pipeline.prefHeld (Ix := Unit) (Name := ℕ) (U := UR sig nD τ) (Lvl := ℕ) pre0 c (fun _ => fullShare.right) (adm T hT).1
      : sProp (MT nD τ sig Unit (Elt Bits) ℕ (UR sig nD τ) ℕ))
    = iprop(((c : Thread nD τ).loc main_arg1) ↦{fullShare.right} T) := by
  unfold Pipeline.prefHeld
  rw [show (Finset.univ : Finset (Fin 1)) = {(0 : Fin 1)} from by decide, bigSep_singleton]
  rfl

/-- What holds before the first grid point, from the table and the scratch buffers at anything. -/
theorem Phi_first (c : Dev nD) :
    iprop(BI.emp ∗ Pipeline.prefHeld pre0 c (fun _ => fullShare.right) (adm T hT).1 ∗ Pipeline.scopedRest spec0 c) ⊢ (dats T hT m 0 c).Φ 0 := by
  rw [held_table, scopedRest0_eq, show (dats T hT m 0 c).Φ 0 = Phi T hT m c 0 from rfl]
  unfold Phi
  iintro ⟨-, HT0, ⟨%a0, HS0⟩⟩
  isplitl [HS0]
  · iexists a0; isplitr; swap
    · iexact HS0
    · ipureintro; exact fun h => absurd rfl h
  iexact HT0

/-- After the last grid point the scratch buffers are given back. -/
theorem Phi_last (c : Dev nD) : (dats T hT m 0 c).Φ (Fin.last (cfgT T hT).N) ⊢ iprop(BI.emp ∗ Pipeline.scopedRest spec0 c) := by
  rw [scopedRest0_eq, show (dats T hT m 0 c).Φ (Fin.last (cfgT T hT).N) = Phi T hT m c (Fin.last _) from rfl]
  unfold Phi
  iintro ⟨⟨%a0, -, HS0⟩, -⟩
  isplitr; · iempintro
  iexists a0; iexact HS0

/-- What a run ends in: every array at what the pipeline computes, the table as it was, every semaphore at zero. -/
def Ends (r : PUnit × MemSt nD τ sig (Elt Bits)) : Prop :=
  (∀ c : Dev nD, (∀ w : Fin (cfgT T hT).W, r.2.mem (((cfgT T hT).win w).arr.view.loc (c : Thread nD τ)) = (dats T hT m 0 c).arrAt w (cfgT T hT).N)
    ∧ ∀ j, r.2.mem ((c : Thread nD τ).loc (pre0.ref j)) = (adm T hT).1 j) ∧ r.2.sem = fun _ => 0

set_option backward.isDefEq.respectTransparency.types false in
set_option maxHeartbeats 4000000 in
/-- Every run from a memory whose table is `T` ends so. -/
theorem run (hm : ∀ c : Dev nD, m ((c.tc : Thread nD τ).loc main_arg1) = T) :
    θ_run (defs (F := Bits)) (onTc (τ := τ) (main (F := Bits))) (s₀ m ρ) (Ends T hT m) :=
  Pipeline.θ_run_region_noSem_pf_quiescent pcfgs (fun _ => adm T hT) (dats T hT m) () ((launch0 (F := Bits)).cellOf_inj fun _ => adm T hT) (0 : Fin 1)
    (launch0 (F := Bits)).win.to₀ (launch0 (F := Bits)).pre emb₁ defs₀ Variants.none m ρ main
    (hbody := fun c => (obligation T hT m c).loose) (hne := (launch0 (F := Bits)).block_pos)
    (harr := (launch0 (F := Bits)).arr_whole) (hstage := (launch0 (F := Bits)).stage_whole) (howed := fun _ _ => rfl)
    (u₀ := start T hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T hT) (dats T hT m) 0 (launch0 (F := Bits)).win.arr_inj c (launch0 (F := Bits)).arr_whole
      (whole_share T hT m c) _ _ fun _ => rfl)
    (hpf := fun c j => by fin_cases j; exact hm c)
    (X := fun _ => iprop(emp)) (Y := fun _ => iprop(emp)) (Z := fun _ => iprop(emp))
    (hX := fun c => by rw [unscopedRestP0_eq]; iintro -; isplitr <;> iempintro)
    (hin := Phi_first T hT m)
    (hout := Phi_last T hT m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every run from a memory whose table is `T` ends with the arguments as they were and every semaphore at zero. -/
theorem unharmed (hT : Experts T) (hm : ∀ c : Dev nD, m ((c.tc : Thread nD τ).loc main_arg1) = T) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 (0 : Fin 3)).trans ((dats T hT m 0 c).arrAt_in (0 : Fin 3) rfl _), ((h.1 c).2 0).trans (hm c).symm,
    ((h.1 c).1 (1 : Fin 3)).trans ((dats T hT m 0 c).arrAt_in (1 : Fin 3) rfl _)⟩, h.2⟩)
    (run T hT m ρ hm)

end Cert.Down.Tab

end
-- ==== Proof.DownIdealTable.lean ====
/-
  The grouped down-projection at any table of experts: the words its control reads, the branch each grid point takes, and
  what the kernel's body leaves there in closed form (`body`).
-/
module

public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Flash.Runs
public import Idealize.ShloMosaic.Lib.VecWindow
public import Idealize.ShloMosaic.Lib.Pipeline.Quiescent
public import Idealize.ShloMosaic.Lib.Pipeline.TableIdle
public import Idealize.ShloMosaic.Lib.Pipeline.FrameBody

@[expose] public section

set_option maxRecDepth 16384

noncomputable section

namespace Cert.DownIdeal.Tab

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The table's words -/

/-- The table's word `n`. -/
def word (T : S128.Idx → BitVec 32) (n : ℕ) (h : n < 128) : BitVec 32 := T fun | ⟨0, _⟩ => ⟨n, h⟩

/-- A load of one word of the table reads that word. -/
theorem read_word (T : S128.Idx → BitVec 32) (off : Fin 1 → ℕ) (inb : ∀ a, off a + S1.size a ≤ S128.size a)
    (hx : 0 < (Rect.unit (s := S128) off S1.size inb).toLoadRect.shape.numel) (h : off 0 < 128) :
    View.readAt (Elt Ideal) (tbM0_0).view (Rect.unit (s := S128) off S1.size inb).toLoadRect T (Shape.Idx.first hx) = word T (off 0) h := by
  rw [View.readAt_apply]
  refine congrArg T (funext fun a => Fin.ext ?_)
  match a with
  | ⟨0, _⟩ => show off 0 + 1 * 0 = off 0; omega

variable (i : grid0.Coords)

/-- A tile's number is below 73. -/
theorem tile_lt : (i 1).val < 73 := (i 1).isLt

/-- The first load of the body is of the tile's own word. -/
theorem off1_eq : k0_off1 i 0 = (i 1).val := by
  have h := tile_lt i
  show (BitVec.setWidth _ (BitVec.ofNat 32 (i 1).val)).toNat = _
  simp
  omega

/-- The second load of the body is of the word before it, or of the first. -/
theorem off2_eq : k0_off2 i 0 = (i 1).val - 1 :=
  (by decide +kernel : ∀ n : Fin 73, (Scalar.indexCast (Scalar.maxsi (Scalar.subi (BitVec.ofNat 32 n.val) 1#32) 0#32) : Index).toNat = n.val - 1) ⟨(i 1).val, tile_lt i⟩

/-- Whether a tile starts over: the first of its column, or one of another expert than the tile before. -/
def Starts (T : S128.Idx → BitVec 32) : Prop :=
  (i 1).val = 0 ∨ word T (i 1).val (by have := tile_lt i; omega) ≠ word T ((i 1).val - 1) (by have := tile_lt i; omega)

/-- Whether a tile is in use: its number is below the last word of the table. -/
def Live (T : S128.Idx → BitVec 32) : Prop := (BitVec.ofNat 32 (i 1).val).slt (word T 127 (by omega)) = true

instance (T : S128.Idx → BitVec 32) : Decidable (Live i T) := inferInstanceAs (Decidable (_ = _))
instance (T : S128.Idx → BitVec 32) : Decidable (Starts i T) := inferInstanceAs (Decidable (_ ∨ _))

/-- The word a one-bit word is extended to is nonzero exactly when the bit is set. -/
theorem ext_ne (b : BitVec 1) : Scalar.cmpi .ne (Scalar.extui b : BitVec 32) 0#32 = 1#1 ↔ b = 1#1 := by
  revert b; decide

/-- The body's test for starting over, of the words it reads. -/
theorem start_iff (n : ℕ) (hn : n < 73) (a b : BitVec 32) :
    Scalar.cmpi .ne (Scalar.extui (Scalar.ori (Scalar.cmpi .eq (BitVec.ofNat 32 n) 0#32) (Scalar.cmpi .ne a b)) : BitVec 32) 0#32 = 1#1 ↔ n = 0 ∨ a ≠ b := by
  rw [ext_ne]
  have h0 : (BitVec.ofNat 32 n == 0#32) = decide (n = 0) := by
    have : ∀ k : Fin 73, (BitVec.ofNat 32 k.val == 0#32) = decide (k.val = 0) := by decide
    exact this ⟨n, hn⟩
  show BitVec.ofBool (BitVec.ofNat 32 n == 0#32) ||| BitVec.ofBool (a != b) = 1#1 ↔ _
  rw [h0]
  by_cases h1 : n = 0 <;> by_cases h2 : a = b
  · subst h2; simp [h1]
  · rw [bne_iff_ne.mpr h2]; simp [h1]
  · subst h2; simp [h1]
  · rw [bne_iff_ne.mpr h2]; simp [h1, h2]

/-- The body's test for a tile in use. -/
theorem live_iff (w : BitVec 32) : k0_cond2 i w = 1#1 ↔ (BitVec.ofNat 32 (i 1).val).slt w = true := by
  unfold k0_cond2
  dsimp only
  rw [ext_ne]
  show BitVec.ofBool _ = 1#1 ↔ _
  cases (BitVec.ofNat 32 (i 1).val).slt w <;> simp

/-- The body's test for a tile out of use is the other way round. -/
theorem dead_iff (w : BitVec 32) : k0_cond3 i w = 1#1 ↔ ¬ (BitVec.ofNat 32 (i 1).val).slt w = true := by
  unfold k0_cond3
  dsimp only
  rw [ext_ne]
  show BitVec.ofBool (w.sle (BitVec.ofNat 32 (i 1).val)) = 1#1 ↔ _
  rw [BitVec.sle_eq_not_slt]
  cases (BitVec.ofNat 32 (i 1).val).slt w <;> simp

/-! ## The body -/

/-- What the body leaves in the output's block: the product of the tile with the weights held, or zeros. -/
def outBlk (T : S128.Idx → BitVec 32) (x0 : S256x7168.Idx → Elt Ideal .bf16) (w0 : S7168x512.Idx → Elt Ideal .bf16) : S256x512.Idx → Elt Ideal .f32 :=
  if Live i T then k0_pay2 x0 w0 else k0_pay3 (F := Ideal)

/-- A store of a whole buffer leaves the payload. -/
theorem fill (b : Ref sig .tc) (f : b.ty.Contents (Elt Ideal)) (off : Fin b.ty.shape.rank → ℕ) (inb : ∀ a, off a + b.ty.shape.size a ≤ b.ty.shape.size a)
    (p : b.ty.shape.Idx → Elt Ideal b.ty.elt) : (View.whole b).writes (Elt Ideal) f [⟨Rect.unit off b.ty.shape.size inb, p⟩] = p :=
  (View.read_whole b _).symm.trans (View.read_writes_full (View.whole b) f inb p [])

/-- A load of a whole buffer after a store of it reads the payload. -/
theorem refill (b : Ref sig .tc) (off : Fin b.ty.shape.rank → ℕ) (inb inb' : ∀ a, off a + b.ty.shape.size a ≤ b.ty.shape.size a)
    (p : b.ty.shape.Idx → Elt Ideal b.ty.elt) :
    (View.whole b).readCov [⟨Rect.unit off b.ty.shape.size inb, p⟩] (Rect.unit off b.ty.shape.size inb').toLoadRect = p :=
  View.readCov_full (Val := Elt Ideal) (View.whole b) inb' inb p []

/-- A load of a whole buffer reads its contents. -/
theorem reload (b : Ref sig .tc) (f : b.ty.Contents (Elt Ideal)) (off : Fin b.ty.shape.rank → ℕ) (inb : ∀ a, off a + b.ty.shape.size a ≤ b.ty.shape.size a) :
    (View.whole b).readAt (Elt Ideal) (Rect.unit off b.ty.shape.size inb).toLoadRect f = f :=
  (View.readAt_full (View.whole b) f inb).trans (View.read_whole b f)

section paths

variable (c : Dev nD) (arg3 : Memref sig .tc .vmem S256x7168 .bf16) (harg3 : arg3.IsWhole)
  (arg4 : Memref sig .tc .vmem S1x1x7168x512 .f32) (harg4 : arg4.IsWhole)
  (arg5 : Memref sig .tc .vmem S256x512 .f32) (harg5 : arg5.IsWhole) (T : S128.Idx → BitVec 32)
  (x0 : S256x7168.Idx → Elt Ideal .bf16) (x1 : S1x1x7168x512.Idx → Elt Ideal .f32) (xa0 : S7168x512.Idx → Elt Ideal .bf16)

/-- Where the body starts over in a tile in use, it leaves the point's own weights. -/
theorem held0_A (h0 h2 h3) : (kernelRun0_A c i arg3 harg3 arg4 harg4 arg5 harg5 T x0 x1 h0 h2 h3).2.1 = k0_pay1 x1 := by
  unfold kernelRun0_A
  dsimp only
  unfold kernelRun0_A.sl.HS0_1
  refine (fill cc0_scratch0 _ ![0, 0] _ _).trans ?_
  rw [View.readAt_rep_full]

/-- Where the body starts over in a tile in use, it writes the product with the point's own weights. -/
theorem wrote_A (h0 h2 h3) (f) : arg5.view.read (Elt Ideal) (arg5.view.writes (Elt Ideal) f (kernelRun0_A c i arg3 harg3 arg4 harg4 arg5 harg5 T x0 x1 h0 h2 h3).1) = k0_pay2 x0 (k0_pay1 x1) := by
  unfold kernelRun0_A
  dsimp only
  unfold kernelRun0_A.sl.HO2_1
  refine (View.read_writes_full (Val := Elt Ideal) arg5.view f _ _ _).trans ?_
  unfold kernelRun0_A.sl.v20 kernelRun0_A.sl.HS0_1
  rw [View.readAt_rep_full, View.readAt_rep_full]
  exact congrArg (k0_pay2 x0) (refill cc0_scratch0 ![0, 0] _ _ _)

/-- Where the body keeps the weights in a tile in use, it leaves the weights it found. -/
theorem held0_B (h0 h2 h3) : (kernelRun0_B c i arg3 harg3 arg4 harg4 arg5 harg5 T x0 x1 xa0 h0 h2 h3).2.1 = xa0 := by
  unfold kernelRun0_B
  rfl

/-- Where the body keeps the weights in a tile in use, it writes the product with the weights kept. -/
theorem wrote_B (h0 h2 h3) (f) : arg5.view.read (Elt Ideal) (arg5.view.writes (Elt Ideal) f (kernelRun0_B c i arg3 harg3 arg4 harg4 arg5 harg5 T x0 x1 xa0 h0 h2 h3).1) = k0_pay2 x0 xa0 := by
  unfold kernelRun0_B
  dsimp only
  unfold kernelRun0_B.sl.HO2_1
  refine (View.read_writes_full (Val := Elt Ideal) arg5.view f _ _ _).trans ?_
  rw [View.readAt_rep_full]
  exact congrArg (k0_pay2 x0) (reload cc0_scratch0 _ ![0, 0] _)

/-- Where the body starts over in a tile out of use, it leaves the point's own weights. -/
theorem held0_C (h0 h2 h3) : (kernelRun0_C c i arg3 harg3 arg4 harg4 arg5 harg5 T x0 x1 h0 h2 h3).2.1 = k0_pay1 x1 := by
  unfold kernelRun0_C
  dsimp only
  unfold kernelRun0_C.sl.HS0_1
  refine (fill cc0_scratch0 _ ![0, 0] _ _).trans ?_
  rw [View.readAt_rep_full]

/-- Where the body starts over in a tile out of use, it writes zeros. -/
theorem wrote_C (h0 h2 h3) (f) : arg5.view.read (Elt Ideal) (arg5.view.writes (Elt Ideal) f (kernelRun0_C c i arg3 harg3 arg4 harg4 arg5 harg5 T x0 x1 h0 h2 h3).1) = k0_pay3 (F := Ideal) := by
  unfold kernelRun0_C
  dsimp only
  unfold kernelRun0_C.sl.HO2_1
  refine (View.read_writes_full (Val := Elt Ideal) arg5.view f _ _ _).trans ?_
  rfl

/-- Where the body keeps the weights in a tile out of use, it leaves the weights it found. -/
theorem held0_D (h0 h2 h3) : (kernelRun0_D c i arg3 harg3 arg4 harg4 arg5 harg5 T x0 x1 xa0 h0 h2 h3).2.1 = xa0 := by
  unfold kernelRun0_D
  rfl

/-- Where the body keeps the weights in a tile out of use, it writes zeros. -/
theorem wrote_D (h0 h2 h3) (f) : arg5.view.read (Elt Ideal) (arg5.view.writes (Elt Ideal) f (kernelRun0_D c i arg3 harg3 arg4 harg4 arg5 harg5 T x0 x1 xa0 h0 h2 h3).1) = k0_pay3 (F := Ideal) := by
  unfold kernelRun0_D
  dsimp only
  unfold kernelRun0_D.sl.HO2_1
  refine (View.read_writes_full (Val := Elt Ideal) arg5.view f _ _ _).trans ?_
  rfl

end paths

set_option maxHeartbeats 400000 in
/-- The body at a grid point, the tile's inputs at `x0` and `x1`: it leaves the weights `w0` in the scratch —
    those of the point where it starts over, those it found where it doesn't — and `outBlk` in the output's block. -/
theorem body (c : Dev nD) (arg3 : Memref sig .tc .vmem S256x7168 .bf16) (harg3 : arg3.IsWhole)
    (arg4 : Memref sig .tc .vmem S1x1x7168x512 .f32) (harg4 : arg4.IsWhole)
    (arg5 : Memref sig .tc .vmem S256x512 .f32) (harg5 : arg5.IsWhole) (T : S128.Idx → BitVec 32)
    (x0 : S256x7168.Idx → Elt Ideal .bf16) (x1 : S1x1x7168x512.Idx → Elt Ideal .f32) (xa0 w0 : S7168x512.Idx → Elt Ideal .bf16)
    (hstart : Starts i T → w0 = k0_pay1 x1) (hkeep : ¬ Starts i T → xa0 = w0)
    (K : PUnit → sProp (MT nD τ sig Unit (Elt Ideal) ℕ (UR sig nD τ) ℕ)) :
    iprop((arg3.view.loc (c : Thread nD τ) ↦[arg3.view.set]{fullShare} arg3.view.rep x0)
      ∗ (arg4.view.loc (c : Thread nD τ) ↦[arg4.view.set]{fullShare} arg4.view.rep x1)
      ∗ (tbM0_0.view.loc (c : Thread nD τ) ↦{fullShare.right} T)
      ∗ (∃ d, owns (c : Thread nD τ) arg5 fullShare d)
      ∗ (scM0_0.view.loc (c : Thread nD τ) ↦{fullShare} xa0)
      ∗ (iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T)
          ∗ owns (c : Thread nD τ) arg5 fullShare (outBlk i T x0 w0)
          ∗ (scM0_0.view.loc (c : Thread nD τ) ↦{fullShare} w0)) -∗ K ⟨⟩))
      ⊢ wp frame (wpE (defs₀ (F := Ideal)) Variants.none c none) Set.univ (cc0_moe_down i tbM0_0 (Memref.isWhole_whole _) arg3 harg3 arg4 harg4 arg5 harg5 scM0_0 (Memref.isWhole_whole _)) K := by
  have l1 : k0_off1 i 0 < 128 := by rw [off1_eq]; have := tile_lt i; omega
  have l2 : k0_off2 i 0 < 128 := by rw [off2_eq]; have := tile_lt i; omega
  have r1 := read_word T (k0_off1 i) (k0_off1_inb i) (numel1_S1.symm ▸ Nat.one_pos) l1
  have r2 := read_word T (k0_off2 i) (k0_off2_inb i) (numel1_S1.symm ▸ Nat.one_pos) l2
  have r3 := read_word T ![127] inb_S128_S1_127 (numel1_S1.symm ▸ Nat.one_pos) (by decide)
  have e1 : word T (k0_off1 i 0) l1 = word T (i 1).val (by have := tile_lt i; omega) := by simp only [off1_eq]
  have e2 : word T (k0_off2 i 0) l2 = word T ((i 1).val - 1) (by have := tile_lt i; omega) := by simp only [off2_eq]
  have hs := start_iff (i 1).val (tile_lt i) (word T (i 1).val (by have := tile_lt i; omega)) (word T ((i 1).val - 1) (by have := tile_lt i; omega))
  rw [← e1, ← e2, ← r1, ← r2] at hs
  have hs' : Starts i T ↔ _ := Iff.trans (by unfold Starts; rw [← e1, ← e2, ← r1, ← r2]) hs.symm
  have hl := live_iff i (word T 127 (by omega))
  have hd := dead_iff i (word T 127 (by omega))
  rw [show word T 127 (by omega) = word T ((![127] : Fin 1 → ℕ) 0) (by decide) from rfl, ← r3] at hl hd
  have hl' : Live i T ↔ _ := Iff.trans (by unfold Live; rw [show word T 127 (by omega) = word T ((![127] : Fin 1 → ℕ) 0) (by decide) from rfl, ← r3]) hl.symm
  have hd' : ¬ Live i T ↔ _ := Iff.trans (by unfold Live; rw [show word T 127 (by omega) = word T ((![127] : Fin 1 → ℕ) 0) (by decide) from rfl, ← r3]) hd.symm
  by_cases q0 : Starts i T
  · have ew0 := hstart q0
    by_cases q1 : Live i T
    · have e0 := held0_A i c arg3 harg3 arg4 harg4 arg5 harg5 T x0 x1 (hs'.mp q0) (hl'.mp q1) (fun h => hd'.mpr h q1)
      have eO := wrote_A i c arg3 harg3 arg4 harg4 arg5 harg5 T x0 x1 (hs'.mp q0) (hl'.mp q1) (fun h => hd'.mpr h q1)
      revert e0 eO
      generalize kernelRun0_A c i arg3 harg3 arg4 harg4 arg5 harg5 T x0 x1 (hs'.mp q0) (hl'.mp q1) (fun h => hd'.mpr h q1) = R
      obtain ⟨o0, o1, k⟩ := R
      dsimp only
      intro e0 eO
      subst e0
      subst ew0
      have k := k xa0 K
      refine BIBase.Entails.trans ?_ k
      unfold outBlk owns
      rw [if_pos q1]
      iintro ⟨H0, H1, HT, H3, HS0, Hk⟩
      isplitl [H0]; · iexact H0
      isplitl [H1]; · iexact H1
      isplitl [HT]; · iexact HT
      isplitl [H3]; · iexact H3
      isplitl [HS0]; · iexact HS0
      iintro ⟨H0, H1, HT, ⟨%e3, H3⟩, HS0⟩
      iapply Hk
      isplitl [H0]; · iexact H0
      isplitl [H1]; · iexact H1
      isplitl [HT]; · iexact HT
      isplitl [H3]
      · iexists _; isplitr; swap
        · iexact H3
        · ipureintro; exact eO e3
      iexact HS0
    · have e0 := held0_C i c arg3 harg3 arg4 harg4 arg5 harg5 T x0 x1 (hs'.mp q0) (fun h => q1 (hl'.mpr h)) (hd'.mp q1)
      have eO := wrote_C i c arg3 harg3 arg4 harg4 arg5 harg5 T x0 x1 (hs'.mp q0) (fun h => q1 (hl'.mpr h)) (hd'.mp q1)
      revert e0 eO
      generalize kernelRun0_C c i arg3 harg3 arg4 harg4 arg5 harg5 T x0 x1 (hs'.mp q0) (fun h => q1 (hl'.mpr h)) (hd'.mp q1) = R
      obtain ⟨o0, o1, k⟩ := R
      dsimp only
      intro e0 eO
      subst e0
      subst ew0
      have k := k xa0 K
      refine BIBase.Entails.trans ?_ k
      unfold outBlk owns
      rw [if_neg q1]
      iintro ⟨H0, H1, HT, H3, HS0, Hk⟩
      isplitl [H0]; · iexact H0
      isplitl [H1]; · iexact H1
      isplitl [HT]; · iexact HT
      isplitl [H3]; · iexact H3
      isplitl [HS0]; · iexact HS0
      iintro ⟨H0, H1, HT, ⟨%e3, H3⟩, HS0⟩
      iapply Hk
      isplitl [H0]; · iexact H0
      isplitl [H1]; · iexact H1
      isplitl [HT]; · iexact HT
      isplitl [H3]
      · iexists _; isplitr; swap
        · iexact H3
        · ipureintro; exact eO e3
      iexact HS0
  · have ew0 := hkeep q0
    by_cases q1 : Live i T
    · have e0 := held0_B i c arg3 harg3 arg4 harg4 arg5 harg5 T x0 x1 xa0 (fun h => q0 (hs'.mpr h)) (hl'.mp q1) (fun h => hd'.mpr h q1)
      have eO := wrote_B i c arg3 harg3 arg4 harg4 arg5 harg5 T x0 x1 xa0 (fun h => q0 (hs'.mpr h)) (hl'.mp q1) (fun h => hd'.mpr h q1)
      revert e0 eO
      generalize kernelRun0_B c i arg3 harg3 arg4 harg4 arg5 harg5 T x0 x1 xa0 (fun h => q0 (hs'.mpr h)) (hl'.mp q1) (fun h => hd'.mpr h q1) = R
      obtain ⟨o0, o1, k⟩ := R
      dsimp only
      intro e0 eO
      subst e0
      subst ew0
      have k := k K
      refine BIBase.Entails.trans ?_ k
      unfold outBlk owns
      rw [if_pos q1]
      iintro ⟨H0, H1, HT, H3, HS0, Hk⟩
      isplitl [H0]; · iexact H0
      isplitl [H1]; · iexact H1
      isplitl [HT]; · iexact HT
      isplitl [H3]; · iexact H3
      isplitl [HS0]; · iexact HS0
      iintro ⟨H0, H1, HT, ⟨%e3, H3⟩, HS0⟩
      iapply Hk
      isplitl [H0]; · iexact H0
      isplitl [H1]; · iexact H1
      isplitl [HT]; · iexact HT
      isplitl [H3]
      · iexists _; isplitr; swap
        · iexact H3
        · ipureintro; exact eO e3
      iexact HS0
    · have e0 := held0_D i c arg3 harg3 arg4 harg4 arg5 harg5 T x0 x1 xa0 (fun h => q0 (hs'.mpr h)) (fun h => q1 (hl'.mpr h)) (hd'.mp q1)
      have eO := wrote_D i c arg3 harg3 arg4 harg4 arg5 harg5 T x0 x1 xa0 (fun h => q0 (hs'.mpr h)) (fun h => q1 (hl'.mpr h)) (hd'.mp q1)
      revert e0 eO
      generalize kernelRun0_D c i arg3 harg3 arg4 harg4 arg5 harg5 T x0 x1 xa0 (fun h => q0 (hs'.mpr h)) (fun h => q1 (hl'.mpr h)) (hd'.mp q1) = R
      obtain ⟨o0, o1, k⟩ := R
      dsimp only
      intro e0 eO
      subst e0
      subst ew0
      have k := k K
      refine BIBase.Entails.trans ?_ k
      unfold outBlk owns
      rw [if_neg q1]
      iintro ⟨H0, H1, HT, H3, HS0, Hk⟩
      isplitl [H0]; · iexact H0
      isplitl [H1]; · iexact H1
      isplitl [HT]; · iexact HT
      isplitl [H3]; · iexact H3
      isplitl [HS0]; · iexact HS0
      iintro ⟨H0, H1, HT, ⟨%e3, H3⟩, HS0⟩
      iapply Hk
      isplitl [H0]; · iexact H0
      isplitl [H1]; · iexact H1
      isplitl [HT]; · iexact HT
      isplitl [H3]
      · iexists _; isplitr; swap
        · iexact H3
        · ipureintro; exact eO e3
      iexact HS0

end Cert.DownIdeal.Tab

end
-- ==== Proof.DownIdealFrame.lean ====
/-
  The grouped down-projection at any table of experts below eight: the pipeline, the blocks its
  grid points load (`a_at`, `w1_at`), which of the weights stay (`kept1`), and its data (`dats`).
-/
module

public import proofs.«01_k».proof.Proof.DownIdealTable
public import Idealize.ShloMosaic.Lib.Pipeline.ValueKit
public import Idealize.ShloMosaic.Lib.Pointwise
public import Idealize.ShloMosaic.Lib.Pipeline.Kit

@[expose] public section

set_option maxRecDepth 16384

noncomputable section

namespace Cert.DownIdeal.Tab

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The pipeline at a table -/

/-- The words of the tiles name one of the eight experts. -/
def Experts (T : S128.Idx → BitVec 32) : Prop := ∀ (n : ℕ) (h : n < 73), (word T n (by omega)).toNat < 8

set_option backward.proofsInPublic true in
/-- The table as the pipeline's contents. -/
def tbl (T : S128.Idx → BitVec 32) : pre0.Contents (Elt Ideal) := fun | ⟨0, _⟩ => T | ⟨_ + 1, h⟩ => absurd h (by simp)

/-- The tile's expert, as a number. -/
def expert (T : S128.Idx → BitVec 32) (i : grid0.Coords) : ℕ := (word T (i 1).val (by have := tile_lt i; omega)).toNat

/-- A tile's word, as the index maps read it. -/
theorem tbl_at (T : S128.Idx → BitVec 32) (i : grid0.Coords) :
    ((tbl T).at 0 (Rect.unit (s := S128) (k0_off1 i) S1.size (k0_off1_inb i)) numel1_S1 : BitVec 32)
      = word T (i 1).val (by have := tile_lt i; omega) := by
  refine congrArg T (funext fun a => Fin.ext ?_)
  match a with
  | ⟨0, _⟩ => show k0_off1 i 0 + 1 * 0 = (i 1).val; rw [off1_eq]; omega

/-- A column's number is below 4. -/
theorem col_lt (i : grid0.Coords) : (i 0).val < 4 := (i 0).isLt

/-- The block of weights of a grid point: the tile's expert and the column. -/
theorem map1 (T : S128.Idx → BitVec 32) (i : grid0.Coords) :
    cc0_transform_1 k0_off1_inb numel1_S1 (tbl T) i = ![0, expert T i, 0, (i 0).val] := by
  have h := col_lt i
  have e : (BitVec.ofNat 32 (i 0).val).toNat = (i 0).val := by rw [BitVec.toNat_ofNat]; omega
  show ![_, ((tbl T).at 0 (Rect.unit (s := S128) (k0_off1 i) S1.size (k0_off1_inb i)) numel1_S1 : BitVec 32).toNat, _, (BitVec.ofNat 32 (i 0).val).toNat] = _
  rw [tbl_at, e]
  rfl

/-- A block of an expert below eight lies inside the weights. -/
theorem inside (e n : ℕ) (he : e < 8) (hn : n < 4) :
    ∀ a, ((![0, e, 0, n] : Fin 4 → ℕ) a + 1) * S1x1x7168x512.size a ≤ S2x8x7168x2048.size a := by
  intro a
  match a with
  | ⟨0, _⟩ => show (0 + 1) * 1 ≤ 2; omega
  | ⟨1, _⟩ => show (e + 1) * 1 ≤ 8; omega
  | ⟨2, _⟩ => show (0 + 1) * 7168 ≤ 7168; omega
  | ⟨3, _⟩ => show (n + 1) * 512 ≤ 2048; omega

/-- Every block the pipeline moves lies inside its array. -/
theorem tbl_ok (T : S128.Idx → BitVec 32) (hT : Experts T) : ok0 (F := Ideal) (tbl T) :=
  fun i => ⟨by rw [map1]; exact inside _ _ (hT _ (tile_lt i)) (col_lt i), .inl rfl⟩

variable (T : S128.Idx → BitVec 32) (hT : Experts T)

/-- The table as admissible contents. -/
def adm : (pcfg0 (F := Ideal)).Adm := ⟨tbl T, tbl_ok T hT⟩

/-- The pipeline at the table. -/
abbrev cfgT : Pipeline.Cfg sig Λ₀ := cfg0 (F := Ideal) (adm T hT)

/-- The program's pipelines at the table. -/
abbrev pcs : Fin 1 → Pipeline.Cfg sig Λ₀ := Pipeline.pin (pcfgs (F := Ideal)) fun _ => adm T hT

variable (m : (ℓ : Loc nD τ sig) → Buf (Elt Ideal) ℓ) (ρ : Dev nD → PrngReg)

/-- A grid point's coordinates. -/
abbrev crd (t : Fin (cfgT T hT).N) : grid0.Coords := (cfgT T hT).grid.coords t

/-- The staging buffer of the tile's rows at a grid point. -/
abbrev ms0 (t : Fin (cfgT T hT).N) : Memref sig .tc .vmem S256x7168 .bf16 := spec0_0.stage ((cfgT T hT).slots t (0 : Fin 3))
/-- It is a whole buffer. -/
abbrev hs0 (t : Fin (cfgT T hT).N) : (ms0 T hT t).IsWhole := hstage0_0 (((cfgT T hT).slots t (0 : Fin 3)).cast nbuf0_0)
/-- The staging buffer of the weights at a grid point. -/
abbrev ms1 (t : Fin (cfgT T hT).N) : Memref sig .tc .vmem S1x1x7168x512 .f32 := spec0_1.stage ((cfgT T hT).slots t (1 : Fin 3))
/-- It is a whole buffer. -/
abbrev hs1 (t : Fin (cfgT T hT).N) : (ms1 T hT t).IsWhole := hstage0_1 (((cfgT T hT).slots t (1 : Fin 3)).cast nbuf0_1)
/-- The staging buffer of the output at a grid point. -/
abbrev ms2 (t : Fin (cfgT T hT).N) : Memref sig .tc .vmem S256x512 .f32 := spec0_2.stage ((cfgT T hT).slots t (2 : Fin 3))
/-- It is a whole buffer. -/
abbrev hs2 (t : Fin (cfgT T hT).N) : (ms2 T hT t).IsWhole := hstage0_2 (((cfgT T hT).slots t (2 : Fin 3)).cast nbuf0_2)

/-- A window's block at a grid point, read off its array at launch. -/
def iblk (c : Dev nD) (w : Fin (cfgT T hT).W) (t : Fin (cfgT T hT).N) : (((cfgT T hT).win w).xblock (crd T hT t)).Idx → Elt Ideal ((cfgT T hT).win w).elt :=
  (((cfgT T hT).win w).blk t).view.read (Elt Ideal) (m (((cfgT T hT).win w).arr.view.loc (c : Thread nD τ)))

/-! ## The schedule -/

/-- A grid point's column and tile. -/
theorem coords_at : ∀ t : Fin grid0.N, (grid0.coords t 0).val = t.val / 73 ∧ (grid0.coords t 1).val = t.val % 73 := by decide +kernel

/-- The output's block is written back at every grid point. -/
theorem flush2 (t : Fin (cfgT T hT).N) : ((cfgT T hT).win (2 : Fin 3)).flush t = true :=
  (by decide +kernel : ∀ t : Fin grid0.N, Pipeline.Window.flushOf grid0 true cc0_transform_2 t = true) t

/-- The body writes the output's block at every grid point. -/
theorem idle2 (i : grid0.Coords) : (cfgT T hT).idle (2 : Fin 3) i = false := by
  have hl := live_iff i ((tbl T).atD 0 ![127])
  have hd := dead_iff i ((tbl T).atD 0 ![127])
  show (!(k0_cond2 i ((tbl T).atD 0 ![127]) == 1#1) && !(k0_cond3 i ((tbl T).atD 0 ![127]) == 1#1)) = false
  by_cases h : k0_cond2 i ((tbl T).atD 0 ![127]) = 1#1
  · rw [h]; rfl
  · rw [hd.mpr (fun h' => h (hl.mpr h'))]; simp

/-- The block of the weights of a grid point. -/
theorem index1 (t : Fin (cfgT T hT).N) : ((pcfg0 (F := Ideal)).win (adm T hT) 1).index t = ![0, expert T (crd T hT t), 0, (crd T hT t 0).val] :=
  map1 T (crd T hT t)

/-- The block of rows of a grid point. -/
theorem index0 (t : Fin (cfgT T hT).N) : ((pcfg0 (F := Ideal)).win (adm T hT) 0).index t = ![(crd T hT t 1).val, 0] := by
  have h := tile_lt (crd T hT t)
  show ![(BitVec.ofNat 32 (crd T hT t 1).val).toNat, _] = _
  rw [BitVec.toNat_ofNat, Nat.mod_eq_of_lt (by omega)]
  rfl

/-- The block of the output of a grid point. -/
theorem index2 (t : Fin (cfgT T hT).N) : ((pcfg0 (F := Ideal)).win (adm T hT) 2).index t = ![(crd T hT t 1).val, (crd T hT t 0).val] := by
  have h := tile_lt (crd T hT t)
  have h' := col_lt (crd T hT t)
  show ![(BitVec.ofNat 32 (crd T hT t 1).val).toNat, (BitVec.ofNat 32 (crd T hT t 0).val).toNat] = _
  rw [BitVec.toNat_ofNat, BitVec.toNat_ofNat, Nat.mod_eq_of_lt (by omega), Nat.mod_eq_of_lt (by omega)]

/-- The weights a grid point loads. -/
theorem w1_at (c : Dev nD) (t : Fin (cfgT T hT).N) (x y : Fin 1) (r : Fin 7168) (d : Fin 512) : iblk T hT m c 1 t (ix4 x y r d)
    = m ((c.tc : Thread nD τ).loc main_arg2) (ix4 (0 : Fin 2) (⟨expert T (crd T hT t), hT _ (tile_lt _)⟩ : Fin 8) r (⟨512 * (crd T hT t 0).val + d, by have := col_lt (crd T hT t); have := d.isLt; omega⟩ : Fin 2048)) := by
  blk_ext [iblk]
  · exact congrFun (index1 T hT t) 0
  · exact congrFun (index1 T hT t) 1
  · exact (congrArg (fun z : ℕ => z * 7168 + r.val) (congrFun (index1 T hT t) 2)).trans (by show 0 * 7168 + r.val = r.val; omega)
  · exact (congrArg (fun z : ℕ => z * 512 + d.val) (congrFun (index1 T hT t) 3)).trans
      (by show (crd T hT t 0).val * 512 + d.val = 512 * (crd T hT t 0).val + d.val; omega)

/-- The rows a grid point loads. -/
theorem a_at (c : Dev nD) (t : Fin (cfgT T hT).N) (r : Fin 256) (d : Fin 7168) : iblk T hT m c 0 t (ix2 r d)
    = m ((c.tc : Thread nD τ).loc main_arg0) (ix2 (⟨256 * (crd T hT t 1).val + r, by have := tile_lt (crd T hT t); have := r.isLt; omega⟩ : Fin 18688) d) := by
  blk_ext [iblk]
  · exact (congrArg (fun z : ℕ => z * 256 + r.val) (congrFun (index0 T hT t) 0)).trans
      (by show (crd T hT t 1).val * 256 + r.val = 256 * (crd T hT t 1).val + r.val; omega)
  · exact (congrArg (fun z : ℕ => z * 7168 + d.val) (congrFun (index0 T hT t) 1)).trans (by show 0 * 7168 + d.val = d.val; omega)

/-- A grid point that doesn't start over isn't the first, and the point before has its column and its expert. -/
theorem kept (t : Fin (cfgT T hT).N) (h : ¬ Starts (crd T hT t) T) :
    ∃ h0 : t.val ≠ 0, (crd T hT ⟨t.val - 1, by omega⟩ 0).val = (crd T hT t 0).val
      ∧ expert T (crd T hT ⟨t.val - 1, by omega⟩) = expert T (crd T hT t) := by
  have hp : t.val - 1 < (cfgT T hT).N := lt_of_le_of_lt (Nat.sub_le _ _) t.isLt
  have e : (crd T hT t 0).val = t.val / 73 ∧ (crd T hT t 1).val = t.val % 73 := coords_at t
  have hs : (crd T hT t 1).val ≠ 0 := fun h1 => h (.inl h1)
  have h0 : t.val ≠ 0 := fun h0 => hs (by rw [e.2, h0])
  have e' : (crd T hT ⟨t.val - 1, hp⟩ 0).val = (t.val - 1) / 73 ∧ (crd T hT ⟨t.val - 1, hp⟩ 1).val = (t.val - 1) % 73 :=
    coords_at ⟨t.val - 1, hp⟩
  have e1 : (crd T hT ⟨t.val - 1, hp⟩ 1).val = (crd T hT t 1).val - 1 := by
    rw [e'.2, e.2]
    rw [e.2] at hs
    clear e e' h h0
    generalize t.val = n at *
    omega
  refine ⟨h0, ?_, ?_⟩
  · rw [e'.1, e.1]
    rw [e.2] at hs
    clear e e' e1 h h0
    generalize t.val = n at *
    omega
  have hw : word T (crd T hT t 1).val (by have := tile_lt (crd T hT t); omega) = word T ((crd T hT t 1).val - 1) (by have := tile_lt (crd T hT t); omega) :=
    not_not.mp fun h1 => h (.inr h1)
  unfold expert
  rw [hw]
  simp only [e1]

/-- The weights of a grid point that doesn't start over are those of the point before. -/
theorem kept1 (c : Dev nD) (t : Fin (cfgT T hT).N) (h : ¬ Starts (crd T hT t) T) :
    iblk T hT m c 1 t = iblk T hT m c 1 ⟨t.val - 1, by omega⟩ := by
  obtain ⟨h0, e0, e1⟩ := kept T hT t h
  refine funext fun (y : S1x1x7168x512.Idx) => ?_
  idx_vars y
  rw [w1_at, w1_at]
  simp only [e0, e1]
  rfl

/-! ## The pipeline's data -/

/-- The weights a grid point's scratch holds. -/
def wgt0 (c : Dev nD) (t : Fin (cfgT T hT).N) : S7168x512.Idx → Elt Ideal .bf16 := k0_pay1 (iblk T hT m c (1 : Fin 3) t)

/-- What a grid point leaves in the output's block. -/
def left (c : Dev nD) (t : Fin (cfgT T hT).N) : S256x512.Idx → Elt Ideal .f32 :=
  outBlk (crd T hT t) T (iblk T hT m c (0 : Fin 3) t) (wgt0 T hT m c t)

/-- What holds before a grid point: past the first, the scratch holds the weights of the point before; the table is held. -/
def Phi (c : Dev nD) (t : Fin ((cfgT T hT).N + 1)) : sProp (MT nD τ sig Unit (Elt Ideal) ℕ (UR sig nD τ) ℕ) :=
  iprop((∃ a, ⌜∀ h : t.val ≠ 0, a = wgt0 T hT m c ⟨t.val - 1, by omega⟩⌝ ∗ (scM0_0.view.loc (c : Thread nD τ) ↦{fullShare} a))
    ∗ (tbM0_0.view.loc (c : Thread nD τ) ↦{fullShare.right} T))

/-- The pipeline's data on a core. -/
def dats (_ : Fin 1) (c : Dev nD) : Dat τ (Elt Ideal) Unit ℕ (UR sig nD τ) ℕ (cfgT T hT) c where
  A w := m (((cfgT T hT).win w).arr.view.loc (c : Thread nD τ))
  after w t := match w with
    | ⟨0, _⟩ => iblk T hT m c (0 : Fin 3) t
    | ⟨1, _⟩ => iblk T hT m c (1 : Fin 3) t
    | ⟨2, _⟩ => left T hT m c t
  Φ t := Phi T hT m c t
  q _ := fullShare
  owed _ := 0

/-- The rows' block holds what was loaded. -/
theorem after0 (c : Dev nD) (t : Fin (cfgT T hT).N) : (dats T hT m 0 c).after (0 : Fin 3) t = iblk T hT m c (0 : Fin 3) t := rfl
/-- The weights' block holds what was loaded. -/
theorem after1 (c : Dev nD) (t : Fin (cfgT T hT).N) : (dats T hT m 0 c).after (1 : Fin 3) t = iblk T hT m c (1 : Fin 3) t := rfl
/-- The output's block holds what the point leaves. -/
theorem after2 (c : Dev nD) (t : Fin (cfgT T hT).N) : (dats T hT m 0 c).after (2 : Fin 3) t = left T hT m c t := rfl

/-- The rows are loaded when the body runs. -/
theorem before0 (c : Dev nD) (t : Fin (cfgT T hT).N) (d) : (dats T hT m 0 c).before (0 : Fin 3) t d = iblk T hT m c (0 : Fin 3) t :=
  ((dats T hT m 0 c).before_in_eq_fetched (0 : Fin 3) rfl (fun _ => rfl) (fun _ _ _ => rfl) (fun t => by rw [after0]; unfold Dat.blockOf iblk; rfl) t d).trans
    (by unfold Dat.fetched Dat.blockOf iblk; rfl)

/-- The weights are loaded when the body runs. -/
theorem before1 (c : Dev nD) (t : Fin (cfgT T hT).N) (d) : (dats T hT m 0 c).before (1 : Fin 3) t d = iblk T hT m c (1 : Fin 3) t :=
  ((dats T hT m 0 c).before_in_eq_fetched (1 : Fin 3) rfl (fun _ => rfl) (fun _ _ _ => rfl) (fun t => by rw [after1]; unfold Dat.blockOf iblk; rfl) t d).trans
    (by unfold Dat.fetched Dat.blockOf iblk; rfl)

end Cert.DownIdeal.Tab

end
-- ==== Proof.DownIdealSound.lean ====
/-
  The grouped down-projection at any table of experts below eight: the body meets its obligation at every grid point
  (`sound`), the launch, and the frame (`frame`, `run`).
-/
module

public import proofs.«01_k».proof.Proof.DownIdealFrame
public import Idealize.ShloMosaic.Lib.Claim
public import Idealize.ShloMosaic.Adequacy
public import Idealize.ShloMosaic.Init

@[expose] public section

set_option maxRecDepth 16384

noncomputable section

namespace Cert.DownIdeal.Tab

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (T : S128.Idx → BitVec 32) (hT : Experts T)
variable (m : (ℓ : Loc nD τ sig) → Buf (Elt Ideal) ℓ) (ρ : Dev nD → PrngReg)

/-! ## The body's obligation -/

/-- The body at a grid point, as the pipeline calls it. -/
abbrev bodyAt (t : Fin (cfgT T hT).N) : Prog (TpuEff nD τ sig (Elt Ideal) Λ₀ .tc) PUnit :=
  cc0_moe_down (crd T hT t) (Memref.whole main_arg1) (Memref.isWhole_whole _) (ms0 T hT t) (hs0 T hT t) (ms1 T hT t) (hs1 T hT t) (ms2 T hT t) (hs2 T hT t) (Memref.whole cc0_scratch0) (Memref.isWhole_whole _)

/-- What is known before a point, at a point that isn't the first. -/
theorem before_point {α : Type} {N : ℕ} (f : Fin N → α) (t : Fin N) (a : α)
    (h : ∀ h : t.castSucc.val ≠ 0, a = f ⟨t.castSucc.val - 1, by omega⟩) (h0 : t.val ≠ 0) :
    a = f ⟨t.val - 1, lt_of_le_of_lt (Nat.sub_le _ _) t.isLt⟩ := h h0

/-- What is known after a point. -/
theorem after_point {α : Type} {N : ℕ} (f : Fin N → α) (t : Fin N) : ∀ h : t.succ.val ≠ 0, f t = f ⟨t.succ.val - 1, by omega⟩ := fun _ => rfl

/-- The weights held at a grid point that doesn't start over are those held at the point before. -/
theorem wgt0_kept (c : Dev nD) (t : Fin (cfgT T hT).N) (h : ¬ Starts (crd T hT t) T) :
    wgt0 T hT m c t = wgt0 T hT m c ⟨t.val - 1, lt_of_le_of_lt (Nat.sub_le _ _) t.isLt⟩ := by
  unfold wgt0
  rw [kept1 T hT m c t h]

set_option maxHeartbeats 400000 in
/-- The body meets its obligation at every grid point. -/
theorem sound (c : Dev nD) (t : Fin (cfgT T hT).N) :
    iprop((dats T hT m 0 c).Φ t.castSucc ∗ (dats T hT m 0 c).owesAt () t.castSucc
        ∗ (∃ d, owns (c : Thread nD τ) (ms0 T hT t) fullShare ((dats T hT m 0 c).before (0 : Fin 3) t d))
        ∗ (∃ d, owns (c : Thread nD τ) (ms1 T hT t) fullShare ((dats T hT m 0 c).before (1 : Fin 3) t d))
        ∗ (∃ d, owns (c : Thread nD τ) (ms2 T hT t) fullShare ((dats T hT m 0 c).before (2 : Fin 3) t d)))
      ⊢ wp frame (wpE (defs₀ (F := Ideal)) Variants.none c none) Set.univ (bodyAt T hT t) fun _ =>
          iprop((dats T hT m 0 c).Φ t.succ ∗ (dats T hT m 0 c).owesAt () t.succ
            ∗ bigSep Finset.univ fun w : Fin (cfgT T hT).W =>
                match (cfgT T hT).idle w ((cfgT T hT).grid.coords t) with
                | true =>
                  match ((cfgT T hT).win w).flush t with
                  | false => iprop(∃ d, owns (c : Thread nD τ) (((cfgT T hT).win w).stage ((cfgT T hT).slots t w)) fullShare ((dats T hT m 0 c).before w t d))
                  | true => owns (c : Thread nD τ) (((cfgT T hT).win w).stage ((cfgT T hT).slots t w)) fullShare ((dats T hT m 0 c).after w t)
                | false => owns (c : Thread nD τ) (((cfgT T hT).win w).stage ((cfgT T hT).slots t w)) fullShare ((dats T hT m 0 c).after w t)) := by
  rw [bigSep_W0]
  rewrite [idle2 T hT ((cfgT T hT).grid.coords t)]
  simp only [before0, before1, after0, after1, after2]
  rewrite [show (dats T hT m 0 c).Φ t.succ = Phi T hT m c t.succ from rfl, show (dats T hT m 0 c).Φ t.castSucc = Phi T hT m c t.castSucc from rfl,
    show (dats T hT m 0 c).owesAt () t.succ = (dats T hT m 0 c).owesAt () t.castSucc from rfl]
  unfold Phi
  iintro ⟨⟨⟨%a0, %ha0, HS0⟩, HT0⟩, Ho, ⟨%d0, H0⟩, ⟨%d1, H1⟩, ⟨%d3, H3⟩⟩
  have hk : ¬ Starts (crd T hT t) T → a0 = wgt0 T hT m c t := fun h =>
    (before_point (wgt0 T hT m c) t a0 ha0 (kept T hT t h).1).trans (wgt0_kept T hT m c t h).symm
  iapply (body (crd T hT t) c (ms0 T hT t) (hs0 T hT t) (ms1 T hT t) (hs1 T hT t) (ms2 T hT t) (hs2 T hT t) T
    (iblk T hT m c (0 : Fin 3) t) (iblk T hT m c (1 : Fin 3) t) a0 (wgt0 T hT m c t)
    (fun _ => rfl) hk _)
  isplitl [H0]; · iapply rep_of_owns; iexact H0
  isplitl [H1]; · iapply rep_of_owns; iexact H1
  isplitl [HT0]; · iexact HT0
  isplitl [H3]; · iexists _; iexact H3
  isplitl [HS0]; · iexact HS0
  iintro ⟨H0, H1, HT0, H3, HS0⟩
  isplitl [HS0 HT0]
  · isplitl [HS0]
    · iexists _; isplitr; swap
      · iexact HS0
      · ipureintro; exact after_point (wgt0 T hT m c) t
    iexact HT0
  isplitl [Ho]; · iexact Ho
  isplitl [H0]
  · iapply owns_of_rep; iexact H0
  isplitl [H1]
  · iapply owns_of_rep; iexact H1
  iexact H3

/-- The body's obligation, at every grid point. -/
theorem obligation (c : Dev nD) : BodyObligation (dats T hT m 0 c) (defs₀ (F := Ideal)) Variants.none () Set.univ := fun t => by
  rw [bigSep_W0]
  exact sound T hT m c t

/-! ## The launch -/

/-- The rounds' first element. -/
def start : UR sig nD τ :=
  initOf (Pipeline.cells (pcs T hT) ((launch0 (F := Ideal)).cellOf_inj fun _ => adm T hT))
    (Pipeline.launchToks (pcs T hT) ((launch0 (F := Ideal)).cellOf_inj fun _ => adm T hT))

/-- Every window holds its array whole. -/
theorem whole_share (c : Dev nD) (w : Fin (cfgT T hT).W) : (dats T hT m 0 c).share w = fullShare := by
  unfold Dat.share
  split <;> rfl

/-- The table as the launch hands it over: half of the buffer, at the table's contents. -/
theorem held_table (c : Dev nD) : (Pipeline.prefHeld (Ix := Unit) (Name := ℕ) (U := UR sig nD τ) (Lvl := ℕ) pre0 c (fun _ => fullShare.right) (adm T hT).1
      : sProp (MT nD τ sig Unit (Elt Ideal) ℕ (UR sig nD τ) ℕ))
    = iprop(((c : Thread nD τ).loc main_arg1) ↦{fullShare.right} T) := by
  unfold Pipeline.prefHeld
  rw [show (Finset.univ : Finset (Fin 1)) = {(0 : Fin 1)} from by decide, bigSep_singleton]
  rfl

/-- What holds before the first grid point, from the table and the scratch buffers at anything. -/
theorem Phi_first (c : Dev nD) :
    iprop(BI.emp ∗ Pipeline.prefHeld pre0 c (fun _ => fullShare.right) (adm T hT).1 ∗ Pipeline.scopedRest spec0 c) ⊢ (dats T hT m 0 c).Φ 0 := by
  rw [held_table, scopedRest0_eq, show (dats T hT m 0 c).Φ 0 = Phi T hT m c 0 from rfl]
  unfold Phi
  iintro ⟨-, HT0, ⟨%a0, HS0⟩⟩
  isplitl [HS0]
  · iexists a0; isplitr; swap
    · iexact HS0
    · ipureintro; exact fun h => absurd rfl h
  iexact HT0

/-- After the last grid point the scratch buffers are given back. -/
theorem Phi_last (c : Dev nD) : (dats T hT m 0 c).Φ (Fin.last (cfgT T hT).N) ⊢ iprop(BI.emp ∗ Pipeline.scopedRest spec0 c) := by
  rw [scopedRest0_eq, show (dats T hT m 0 c).Φ (Fin.last (cfgT T hT).N) = Phi T hT m c (Fin.last _) from rfl]
  unfold Phi
  iintro ⟨⟨%a0, -, HS0⟩, -⟩
  isplitr; · iempintro
  iexists a0; iexact HS0

/-- What a run ends in: every array at what the pipeline computes, the table as it was, every semaphore at zero. -/
def Ends (r : PUnit × MemSt nD τ sig (Elt Ideal)) : Prop :=
  (∀ c : Dev nD, (∀ w : Fin (cfgT T hT).W, r.2.mem (((cfgT T hT).win w).arr.view.loc (c : Thread nD τ)) = (dats T hT m 0 c).arrAt w (cfgT T hT).N)
    ∧ ∀ j, r.2.mem ((c : Thread nD τ).loc (pre0.ref j)) = (adm T hT).1 j) ∧ r.2.sem = fun _ => 0

set_option backward.isDefEq.respectTransparency.types false in
set_option maxHeartbeats 4000000 in
/-- Every run from a memory whose table is `T` ends so. -/
theorem run (hm : ∀ c : Dev nD, m ((c.tc : Thread nD τ).loc main_arg1) = T) :
    θ_run (defs (F := Ideal)) (onTc (τ := τ) (main (F := Ideal))) (s₀ m ρ) (Ends T hT m) :=
  Pipeline.θ_run_region_noSem_pf_quiescent pcfgs (fun _ => adm T hT) (dats T hT m) () ((launch0 (F := Ideal)).cellOf_inj fun _ => adm T hT) (0 : Fin 1)
    (launch0 (F := Ideal)).win.to₀ (launch0 (F := Ideal)).pre emb₁ defs₀ Variants.none m ρ main
    (hbody := fun c => (obligation T hT m c).loose) (hne := (launch0 (F := Ideal)).block_pos)
    (harr := (launch0 (F := Ideal)).arr_whole) (hstage := (launch0 (F := Ideal)).stage_whole) (howed := fun _ _ => rfl)
    (u₀ := start T hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T hT) (dats T hT m) 0 (launch0 (F := Ideal)).win.arr_inj c (launch0 (F := Ideal)).arr_whole
      (whole_share T hT m c) _ _ fun _ => rfl)
    (hpf := fun c j => by fin_cases j; exact hm c)
    (X := fun _ => iprop(emp)) (Y := fun _ => iprop(emp)) (Z := fun _ => iprop(emp))
    (hX := fun c => by rw [unscopedRestP0_eq]; iintro -; isplitr <;> iempintro)
    (hin := Phi_first T hT m)
    (hout := Phi_last T hT m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every run from a memory whose table is `T` ends with the arguments as they were and every semaphore at zero. -/
theorem unharmed (hT : Experts T) (hm : ∀ c : Dev nD, m ((c.tc : Thread nD τ).loc main_arg1) = T) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 (0 : Fin 3)).trans ((dats T hT m 0 c).arrAt_in (0 : Fin 3) rfl _), ((h.1 c).2 0).trans (hm c).symm,
    ((h.1 c).1 (1 : Fin 3)).trans ((dats T hT m 0 c).arrAt_in (1 : Fin 3) rfl _)⟩, h.2⟩)
    (run T hT m ρ hm)

end Cert.DownIdeal.Tab

end
-- ==== Proof.DownSpec.lean ====
/-
  The grouped down-projection's value: a row's tile names an expert of the table; if the tile is live, an entry of the
  result is the product of the row with that expert's column (`down`).
-/
module

public import proofs.«01_k».proof.Proof.UpSpec

@[expose] public section

noncomputable section

open Idealize.ShloMosaic Idealize.SL.Sem

namespace Cert.Moe

/-- The rows of the activations. -/
abbrev Acts : Shape := ⟨2, ![18688, 7168]⟩
/-- The down-projection's weights of every layer and expert. -/
abbrev Downs : Shape := ⟨4, ![2, 8, 7168, 2048]⟩

/-- A row of activations times a column of an expert's weights. -/
def dprod (A : Acts.Idx → EReal) (W : Downs.Idx → EReal) (e : Fin 8) (R : Fin 18688) (C : Fin 2048) : EReal :=
  ∑ d : Fin 7168, A (ix2 R d) * W (ix4 (0 : Fin 2) e d C)

/-- The grouped down-projection: the product with the row's expert's weights where the row's tile is live, else zero. -/
def down (T : Table.Idx → BitVec 32) (A : Acts.Idx → EReal) (W : Downs.Idx → EReal) (R : Fin 18688) (C : Fin 2048) : EReal :=
  if (BitVec.ofNat 32 (tile R).val).slt (T (ix1 (127 : Fin 128))) = true then dprod A W (chosen T R) R C else 0

end Cert.Moe

end
-- ==== Proof.DownValue.lean ====
/-
  The value of the down-projection's kernel: the array it leaves is the grouped down-projection of its arguments (`array_eq`).
-/
module

public import proofs.«01_k».proof.Proof.DownIdealFrame
public import proofs.«01_k».proof.Proof.DownSpec
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.DownIdeal.Tab

open Cert.DownIdeal Cert.DownIdeal.Gen Cert.Moe

/-- The weights as the scratch keeps them, read. -/
theorem keep1_at (x : Vec Ideal S1x1x7168x512 .f32) (r : Fin 7168) (d : Fin 512) : k0_pay1 x (ix2 r d) = x (ix4 (0 : Fin 1) (0 : Fin 1) r d) := by
  pointwise [k0_pay1]

/-- The block of a live tile, read. -/
theorem live_at (x : Vec Ideal S256x7168 .bf16) (w : Vec Ideal S7168x512 .bf16) (r : Fin 256) (d : Fin 512) :
    k0_pay2 x w (ix2 r d) = ∑ k : Fin 7168, x (ix2 r k) * w (ix2 k d) := by
  pointwise [k0_pay2]

/-- The block of a tile that isn't live, read. -/
theorem dead_at (r : Fin 256) (d : Fin 512) : k0_pay3 (F := Ideal) (ix2 r d) = 0 := by
  pointwise [k0_pay3]

variable (T : S128.Idx → BitVec 32) (hT : Experts T)
variable (m : (ℓ : Loc nD τ sig) → Buf (Elt Ideal) ℓ)

/-- A row of a grid point's tile. -/
def rowOf (t : Fin (cfgT T hT).N) (r : Fin 256) : Fin 18688 := ⟨256 * (crd T hT t 1).val + r.val, by have := tile_lt (crd T hT t); have := r.isLt; omega⟩

/-- A column of a grid point's tile. -/
def colOf (t : Fin (cfgT T hT).N) (d : Fin 512) : Fin 2048 := ⟨512 * (crd T hT t 0).val + d.val, by have := col_lt (crd T hT t); have := d.isLt; omega⟩

/-- The tile of a row of a grid point. -/
theorem tile_rowOf (t : Fin (cfgT T hT).N) (r : Fin 256) : (tile (rowOf T hT t r)).val = (crd T hT t 1).val := by
  have := r.isLt
  show (256 * (crd T hT t 1).val + r.val) / 256 = _
  generalize (crd T hT t 1).val = n
  omega

/-- The table's word of a row of a grid point. -/
theorem word_rowOf (t : Fin (cfgT T hT).N) (r : Fin 256) :
    T (ix1 (tile (rowOf T hT t r))) = word T (crd T hT t 1).val (by have := tile_lt (crd T hT t); omega) := by
  refine congrArg T (funext fun a => ?_)
  match a with
  | ⟨0, _⟩ => exact Fin.ext (tile_rowOf T hT t r)

/-- What a grid point leaves is the grouped down-projection of its tile. -/
theorem left_at (c : Dev nD) (t : Fin (cfgT T hT).N) (r : Fin 256) (d : Fin 512) :
    left T hT m c t (ix2 r d) = down T (m ((c.tc : Thread nD τ).loc main_arg0)) (m ((c.tc : Thread nD τ).loc main_arg2)) (rowOf T hT t r) (colOf T hT t d) := by
  unfold left outBlk down
  rw [tile_rowOf]
  have hl : Live (crd T hT t) T ↔ (BitVec.ofNat 32 (crd T hT t 1).val).slt (T (ix1 (127 : Fin 128))) = true := by
    unfold Live word
    refine Eq.to_iff (congrArg (fun w => (BitVec.ofNat 32 (crd T hT t 1).val).slt w = true) (congrArg T (funext fun a => ?_)))
    match a with
    | ⟨0, _⟩ => rfl
  by_cases h : Live (crd T hT t) T
  · rw [if_pos h, if_pos (hl.mp h), live_at]
    have e : (⟨expert T (crd T hT t), hT _ (tile_lt _)⟩ : Fin 8) = chosen T (rowOf T hT t r) := by
      refine Fin.ext ?_
      show expert T (crd T hT t) = (T (ix1 (tile (rowOf T hT t r)))).toNat % 8
      exact ((congrArg (fun w : BitVec 32 => w.toNat % 8) (word_rowOf T hT t r)).trans (Nat.mod_eq_of_lt (hT _ (tile_lt (crd T hT t))))).symm
    unfold dprod wgt0
    rw [← e]
    refine Finset.sum_congr rfl fun k _ => ?_
    rw [keep1_at, a_at, w1_at]
    rfl
  · rw [if_neg h, if_neg (fun h' => h (hl.mpr h')), dead_at]

/-- The blocks written back cover the output. -/
theorem covers2 : ((cfgT T hT).win (2 : Fin 3)).Covers := by
  refine ⟨?_, fun β => ?_⟩
  · intro a
    match a with
    | ⟨0, _⟩ => show 0 < 256; omega
    | ⟨1, _⟩ => show 0 < 512; omega
  · have h0 : (β (0 : Fin 2)).val < 73 := lt_of_lt_of_eq (β (0 : Fin 2)).isLt (show (18688 + 256 - 1) / 256 = 73 by norm_num)
    have h1 : (β (1 : Fin 2)).val < 4 := lt_of_lt_of_eq (β (1 : Fin 2)).isLt (show (2048 + 512 - 1) / 512 = 4 by norm_num)
    have hN : (β (1 : Fin 2)).val * 73 + (β (0 : Fin 2)).val < (cfgT T hT).N := by
      show _ < grid0.N
      rw [show grid0.N = 292 from N_0]
      omega
    have e := coords_at ⟨(β (1 : Fin 2)).val * 73 + (β (0 : Fin 2)).val, hN⟩
    refine ⟨⟨(β (1 : Fin 2)).val * 73 + (β (0 : Fin 2)).val, hN⟩, flush2 T hT _, fun a => ⟨(congrFun (index2 T hT _) a).trans ?_, .inl rfl⟩⟩
    match a with
    | ⟨0, _⟩ =>
      refine e.2.trans ?_
      show ((β (1 : Fin 2)).val * 73 + (β (0 : Fin 2)).val) % 73 = (β (0 : Fin 2)).val
      omega
    | ⟨1, _⟩ =>
      refine e.1.trans ?_
      show ((β (1 : Fin 2)).val * 73 + (β (0 : Fin 2)).val) / 73 = (β (1 : Fin 2)).val
      omega

/-- The grouped down-projection as an array. -/
def downArray (T : S128.Idx → BitVec 32) (A : Acts.Idx → EReal) (W1 : Downs.Idx → EReal) : S18688x2048.Idx → EReal :=
  fun i => down T A W1 (i 0) (i 1)

/-- The array read at a row and a column. -/
theorem downArray_at (A : Acts.Idx → EReal) (W1 : Downs.Idx → EReal) (R : Fin 18688) (C : Fin 2048) :
    downArray T A W1 (ix2 R C) = down T A W1 R C := rfl

/-- The place in its array of the output's block. -/
theorem place2 (t : Fin (cfgT T hT).N) (r : Fin 256) (d : Fin 512) :
    (((cfgT T hT).win (2 : Fin 3)).blk t).view.emb (ix2 r d) = ix2 (rowOf T hT t r) (colOf T hT t d) := by
  unfold rowOf colOf
  blk_ext []
  · exact (congrArg (fun z : ℕ => z * 256 + r.val) (congrFun (index2 T hT t) 0)).trans
      (by show (crd T hT t 1).val * 256 + r.val = 256 * (crd T hT t 1).val + r.val; omega)
  · exact (congrArg (fun z : ℕ => z * 512 + d.val) (congrFun (index2 T hT t) 1)).trans
      (by show (crd T hT t 0).val * 512 + d.val = 512 * (crd T hT t 0).val + d.val; omega)

/-- The array the kernel leaves is the grouped down-projection of its arguments. -/
theorem array_eq (c : Dev nD) : (dats T hT m 0 c).arrAt (2 : Fin 3) (cfgT T hT).N = downArray T (m ((c.tc : Thread nD τ).loc main_arg0))
    (m ((c.tc : Thread nD τ).loc main_arg2)) := by
  refine (dats T hT m 0 c).arrAt_eq_of_covers (2 : Fin 3) _ (covers2 T hT) (fun t hf' (y : S256x512.Idx) => ?_)
  idx_vars y
  rw [after2, place2]
  exact (left_at T hT m c t y0 y1)

end Cert.DownIdeal.Tab

end
-- ==== Proof.DownRef.lean ====
/-
  The down-projection's reference read at an index: its result is the grouped down-projection of DownSpec.lean (`whole_at`).
-/
module

public import proofs.«01_k».proof.Proof.Gen.DownReferenceIdeal.Run
public import proofs.«01_k».proof.Proof.DownSpec
public import proofs.«01_k».proof.Proof.UpRef
public import Idealize.ShloMosaic.Lib.WordCmp

@[expose] public section

set_option maxRecDepth 16384

noncomputable section

open Idealize.ShloMosaic Idealize.ShloMosaic.TcCoe Idealize.SL.Sem

namespace Cert.DownReferenceIdeal.Value

open Cert.DownReferenceIdeal Cert.DownReferenceIdeal.Gen Cert.Moe

variable (m : (ℓ : Loc nD τ sig) → Buf (Elt Ideal) ℓ)

/-- The experts of the rows: the table's word of a row's tile where the tile is live, else eight. -/
def experts (T : IVec S128 32) : IVec S18688x1 32 :=
  shapeCast _ (broadcastInDim S73x256 ![0, 1] bcast_S73x1_S73x256_0_1 (broadcastInDim S73x1 ![0] bcast_S73_S73x1_0 (select (cmpi .slt (iotaInDim S73 32 0) (broadcastInDim S73 ![] bcast_S_S73 (shapeCast _ (extractStridedSlice S1 ![127] T slices_S128_S1_127) shapeCasts_S1_S_))) (extractStridedSlice S73 ![0] T slices_S128_S73_0) (broadcastInDim S73 ![] bcast_S_S73 (id (constantI S_ 32 8#32)))))) shapeCasts_S73x256_S18688x1

/-- The rows times an expert's weights. -/
def product (A : FVec Ideal S18688x7168 .bf16) (W : FVec Ideal S2x8x7168x2048 .f32) (o : Fin 4 → ℕ) (ho : S2x8x7168x2048.Slices o S1x1x7168x2048) :
    FVec Ideal S18688x2048 .f32 :=
  Host.dotGeneral dot_S18688x7168_S7168x2048_S18688x2048_1_0_0_1_n_n none (extf .f32 A bitsLt_bf16_f32) (shapeCast _ (extractStridedSlice S1x1x7168x2048 o W ho) shapeCasts_S1x1x7168x2048_S7168x2048)

/-- An expert's part of the result. -/
def part (E : IVec S18688x1 32) (X : FVec Ideal S18688x2048 .f32) (k : BitVec 32) : FVec Ideal S18688x2048 .f32 :=
  select (broadcastInDim S18688x2048 ![0, 1] bcast_S18688x1_S18688x2048_0_1 (cmpi .eq E (broadcastInDim S18688x1 ![] bcast_S_S18688x1 (constantI S_ 32 k)))) X (broadcastInDim S18688x2048 ![] bcast_S_S18688x2048 (id (constant S_ .f32 0x00000000#32)))

/-- The rows' experts, read. -/
theorem experts_at (T : IVec S128 32) (R : Fin 18688) : experts T (ix2 R (0 : Fin 1))
    = if (BitVec.ofNat 32 (tile R).val).slt (T (ix1 (127 : Fin 128))) = true then T (ix1 (tile R)) else 8#32 := by
  have hR := R.isLt
  pointwise [experts]
  exact Cert.UpReferenceIdeal.Value.choose_slt _ _ _ _

/-- A product, read. -/
theorem product_at (A : FVec Ideal S18688x7168 .bf16) (W : FVec Ideal S2x8x7168x2048 .f32) (e : Fin 8) (ho) (R : Fin 18688) (C : Fin 2048) :
    product A W ![0, e.val, 0, 0] ho (ix2 R C) = dprod A W e R C := by
  pointwise [product]
  rfl

/-- An expert's part, read. -/
theorem part_at (E : IVec S18688x1 32) (X : FVec Ideal S18688x2048 .f32) (k : BitVec 32) (R : Fin 18688) (C : Fin 2048) :
    part E X k (ix2 R C) = if E (ix2 R (0 : Fin 1)) = k then X (ix2 R C) else 0 := by
  pointwise [part]
  exact (Cert.UpReferenceIdeal.Value.choose_eq _ _ _ _).trans (if_congr Iff.rfl rfl Cert.UpReferenceIdeal.Value.zero_word)

/-- The reference's result over its arguments: the sum of the eight experts' parts. -/
def whole (A : FVec Ideal S18688x7168 .bf16) (T : IVec S128 32) (W : FVec Ideal S2x8x7168x2048 .f32) : FVec Ideal S18688x2048 .f32 :=
  addf (addf (addf (addf (addf (addf (addf (addf (broadcastInDim S18688x2048 ![] bcast_S_S18688x2048 (constant S_ .f32 0x00000000#32))
    (part (experts T) (product A W ![0, 0, 0, 0] slices_S2x8x7168x2048_S1x1x7168x2048_0_0_0_0) 0#32))
    (part (experts T) (product A W ![0, 1, 0, 0] slices_S2x8x7168x2048_S1x1x7168x2048_0_1_0_0) 1#32))
    (part (experts T) (product A W ![0, 2, 0, 0] slices_S2x8x7168x2048_S1x1x7168x2048_0_2_0_0) 2#32))
    (part (experts T) (product A W ![0, 3, 0, 0] slices_S2x8x7168x2048_S1x1x7168x2048_0_3_0_0) 3#32))
    (part (experts T) (product A W ![0, 4, 0, 0] slices_S2x8x7168x2048_S1x1x7168x2048_0_4_0_0) 4#32))
    (part (experts T) (product A W ![0, 5, 0, 0] slices_S2x8x7168x2048_S1x1x7168x2048_0_5_0_0) 5#32))
    (part (experts T) (product A W ![0, 6, 0, 0] slices_S2x8x7168x2048_S1x1x7168x2048_0_6_0_0) 6#32))
    (part (experts T) (product A W ![0, 7, 0, 0] slices_S2x8x7168x2048_S1x1x7168x2048_0_7_0_0) 7#32)

/-- An expert's part of the result at an index: its product where the row's tile is live and names it, else zero. -/
theorem expert_part (A : FVec Ideal S18688x7168 .bf16) (T : IVec S128 32) (W : FVec Ideal S2x8x7168x2048 .f32)
    (hT : ∀ n (h : n < 73), (T (ix1 (⟨n, by omega⟩ : Fin 128))).toNat < 8) (R : Fin 18688) (C : Fin 2048) (e : Fin 8) (ho) :
    part (experts T) (product A W ![0, e.val, 0, 0] ho) (BitVec.ofNat 32 e.val) (ix2 R C)
      = if (BitVec.ofNat 32 (tile R).val).slt (T (ix1 (127 : Fin 128))) = true ∧ chosen T R = e then dprod A W e R C else 0 := by
  rw [part_at, product_at, experts_at]
  refine if_congr ?_ rfl rfl
  have he := e.isLt
  have hw : (T (ix1 (tile R))).toNat < 8 := hT (tile R).val (by have := R.isLt; unfold tile; dsimp only; omega)
  by_cases hl : (BitVec.ofNat 32 (tile R).val).slt (T (ix1 (127 : Fin 128))) = true
  · rw [if_pos hl]
    refine ⟨fun h => ⟨hl, Fin.ext ?_⟩, fun h => BitVec.eq_of_toNat_eq ?_⟩
    · show (T (ix1 (tile R))).toNat % 8 = e.val
      rw [h, BitVec.toNat_ofNat]
      omega
    · have h2 : (T (ix1 (tile R))).toNat % 8 = e.val := congrArg Fin.val h.2
      rw [BitVec.toNat_ofNat]
      omega
  · rw [if_neg hl]
    refine ⟨fun h => ?_, fun h => absurd h.1 hl⟩
    have h8 := congrArg BitVec.toNat h
    rw [BitVec.toNat_ofNat, BitVec.toNat_ofNat] at h8
    omega

/-- The sum of the experts' parts at an index, for experts below eight: the grouped down-projection. -/
theorem whole_at (A : FVec Ideal S18688x7168 .bf16) (T : IVec S128 32) (W : FVec Ideal S2x8x7168x2048 .f32)
    (hT : ∀ n (h : n < 73), (T (ix1 (⟨n, by omega⟩ : Fin 128))).toNat < 8) (R : Fin 18688) (C : Fin 2048) :
    whole A T W (ix2 R C) = down T A W R C := by
  have q := expert_part A T W hT R C
  pointwise [whole]
  refine (congrArg₂ (· + ·) (congrArg₂ (· + ·) (congrArg₂ (· + ·) (congrArg₂ (· + ·) (congrArg₂ (· + ·) (congrArg₂ (· + ·) (congrArg₂ (· + ·)
    (q (0 : Fin 8) _) (q (1 : Fin 8) _)) (q (2 : Fin 8) _)) (q (3 : Fin 8) _)) (q (4 : Fin 8) _)) (q (5 : Fin 8) _)) (q (6 : Fin 8) _)) (q (7 : Fin 8) _)).trans ?_
  unfold down
  by_cases hl : (BitVec.ofNat 32 (tile R).val).slt (T (ix1 (127 : Fin 128))) = true
  · rw [if_pos hl]
    generalize chosen T R = k
    fin_cases k <;> simp [hl]
  · rw [if_neg hl]
    simp [hl]

/-- Every run of the reference ends with the sum of the experts' parts, its arguments as they were. -/
theorem run_whole (ρ : Dev nD → PrngReg) :
    θ_run (defs (F := Ideal)) (onTc (τ := τ) (main (F := Ideal))) ⟨m, fun _ => 0, ρ⟩ fun r => ∀ c : Dev nD,
      r.2.mem ((c.tc : Thread nD τ).loc main_v67) = whole (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1, (h c).2⟩) (run m ρ)

end Cert.DownReferenceIdeal.Value

end
-- ==== Proof.DownPre.lean ====
/-
  What the down-projection's precondition says: the table's words before its last are experts, below eight (`down_experts_below`).
-/
module

public import proofs.«01_k».proof.Proof.Gen.Pre_down_experts
public import proofs.«01_k».proof.Proof.UpPre
public import Idealize.ShloMosaic.Lib.ReduceAll
public import Idealize.ShloMosaic.Lib.Pointwise

@[expose] public section

noncomputable section

open Idealize.ShloMosaic Idealize.SL.Sem

namespace Cert.Moe

/-- Under the precondition the table's words before its last are below eight. -/
theorem down_experts_below {F : FTy → Type} [FloatOps F] (a : FVec F Cert.Pre_down_experts.S18688x7168 .bf16) (te : IVec Cert.Pre_down_experts.S128 32)
    (w2 : FVec F Cert.Pre_down_experts.S2x8x7168x2048 .f32)
    (h : @Cert.Pre_down_experts.fn Cert.Pre_down_experts.Gen.facts F _ a te w2 = fun _ => 1#1) (n : ℕ) (hn : n < 127) :
    (te (ix1 (⟨n, by omega⟩ : Fin 128))).toNat < 8 := by
  obtain ⟨e1, e2⟩ := IntOp.andi_eq_one.mp (congrFun h ix0)
  haveI : Subsingleton (Cert.Pre_down_experts.S_ : Shape).Idx := ⟨fun a b => funext fun k => k.elim0⟩
  have i1 := Host.reduce_andi_all _ _ _ _ _ e1 (ix1 (⟨n, hn⟩ : Fin 127))
  have i2 := Host.reduce_andi_all _ _ _ _ _ e2 (ix1 (⟨n, hn⟩ : Fin 127))
  have e : extractStridedSlice Cert.Pre_down_experts.S127 ![0] te Cert.Pre_down_experts.Gen.facts.slices_S128_S127_0 (ix1 (⟨n, hn⟩ : Fin 127))
      = te (ix1 (⟨n, by omega⟩ : Fin 128)) := by
    pointwise []
  have j1 : BitVec.ofBool (BitVec.sle 0#32 (extractStridedSlice Cert.Pre_down_experts.S127 ![0] te Cert.Pre_down_experts.Gen.facts.slices_S128_S127_0 (ix1 (⟨n, hn⟩ : Fin 127)))) = 1#1 := i1
  have j2 : BitVec.ofBool (BitVec.slt (extractStridedSlice Cert.Pre_down_experts.S127 ![0] te Cert.Pre_down_experts.Gen.facts.slices_S128_S127_0 (ix1 (⟨n, hn⟩ : Fin 127))) 8#32) = 1#1 := i2
  rw [e] at j1 j2
  exact small_word _ (of_bool j1) (of_bool j2)

end Cert.Moe

end
-- ==== Proof.DownClaim.lean ====
/-
  The claims about the grouped down-projection: the frames of its programs (`down_frame_real`, `down_frame_ideal`, `down_frame_reference`)
  and the equality of its value with its reference's (`down_algebraic`).
-/
module

public import proofs.«01_k».proof.Defs
public import proofs.«01_k».proof.Proof.Gen.Down
public import proofs.«01_k».proof.Proof.Gen.DownIdeal
public import proofs.«01_k».proof.Proof.Gen.DownReferenceIdeal
public import proofs.«01_k».proof.Proof.DownSound
public import proofs.«01_k».proof.Proof.DownIdealSound
public import proofs.«01_k».proof.Proof.DownValue
public import proofs.«01_k».proof.Proof.DownRef
public import proofs.«01_k».proof.Proof.DownPre
public import proofs.«01_k».proof.Proof.UpClaim
public import Idealize.ShloMosaic.Lib.Quiescent

@[expose] public section

noncomputable section

namespace Cert.Moe

open Idealize.ShloMosaic Idealize.ShloMosaic.TcCoe Idealize.SL.Sem

attribute [local instance] Cert.Down.Gen.facts Cert.DownIdeal.Gen.facts Cert.DownReferenceIdeal.Gen.facts Cert.Pre_down_experts.Gen.facts

/-- The real program runs and leaves its arguments. -/
theorem down_frame_real : Cert.quiescent_Down := fun m g hpre => by
  have hT : Cert.Down.Tab.Experts (m (((0 : Dev Cert.Down.nD).tc : Thread Cert.Down.nD Cert.Down.τ).loc Cert.Down.main_arg1)) :=
    fun n hn => names_experts _ (down_experts_below _ _ _ (hpre 0)) n hn _ rfl
  exact Cert.Down.Tab.unharmed _ m g hT fun c => by rw [Subsingleton.elim c 0]

/-- The idealized program runs and leaves its arguments. -/
theorem down_frame_ideal : Cert.quiescent_DownIdeal := fun m g hpre => by
  have hT : Cert.DownIdeal.Tab.Experts (m (((0 : Dev Cert.DownIdeal.nD).tc : Thread Cert.DownIdeal.nD Cert.DownIdeal.τ).loc Cert.DownIdeal.main_arg1)) :=
    fun n hn => names_experts _ (down_experts_below _ _ _ (hpre 0)) n hn _ rfl
  exact Cert.DownIdeal.Tab.unharmed _ m g hT fun c => by rw [Subsingleton.elim c 0]

/-- The reference runs and leaves its arguments. -/
theorem down_frame_reference : Cert.quiescent_DownReferenceIdeal := fun m g _ =>
  (θ_run _ _ _).mono (fun r h => ⟨fun c => (h c).2, sem_eq_zero_of_no_sems rfl r.2⟩) (Cert.DownReferenceIdeal.Value.run_whole m g)

/-- The kernel's result and the reference's are the grouped down-projection of the same arguments. -/
theorem down_algebraic : Cert.algebraic_DownIdeal_DownReferenceIdeal := fun m g m' g' hpre hagree => by
  have hT : Cert.DownIdeal.Tab.Experts (m (((0 : Dev Cert.DownIdeal.nD).tc : Thread Cert.DownIdeal.nD Cert.DownIdeal.τ).loc Cert.DownIdeal.main_arg1)) :=
    fun n hn => names_experts _ (down_experts_below _ _ _ (hpre 0)) n hn _ rfl
  have hm : ∀ c : Dev Cert.DownIdeal.nD, m ((c.tc : Thread Cert.DownIdeal.nD Cert.DownIdeal.τ).loc Cert.DownIdeal.main_arg1)
      = m (((0 : Dev Cert.DownIdeal.nD).tc : Thread Cert.DownIdeal.nD Cert.DownIdeal.τ).loc Cert.DownIdeal.main_arg1) := fun c => by rw [Subsingleton.elim c 0]
  refine ⟨fun c => Cert.DownIdeal.Tab.downArray (m ((c.tc : Thread Cert.DownIdeal.nD Cert.DownIdeal.τ).loc Cert.DownIdeal.main_arg1))
    (m ((c.tc : Thread Cert.DownIdeal.nD Cert.DownIdeal.τ).loc Cert.DownIdeal.main_arg0)) (m ((c.tc : Thread Cert.DownIdeal.nD Cert.DownIdeal.τ).loc Cert.DownIdeal.main_arg2)), ?_, ?_⟩
  · refine (θ_run _ _ _).mono (fun r h c => ?_) (Cert.DownIdeal.Tab.run _ hT m g hm)
    exact ⟨((h.1 c).1 (2 : Fin 3)).trans ((Cert.DownIdeal.Tab.array_eq _ hT m c).trans
        (congrArg (fun T => Cert.DownIdeal.Tab.downArray T _ _) (hm c).symm)),
      ((h.1 c).1 (0 : Fin 3)).trans ((Cert.DownIdeal.Tab.dats _ hT m 0 c).arrAt_in (0 : Fin 3) rfl _), ((h.1 c).2 0).trans (hm c).symm,
      ((h.1 c).1 (1 : Fin 3)).trans ((Cert.DownIdeal.Tab.dats _ hT m 0 c).arrAt_in (1 : Fin 3) rfl _)⟩
  · refine (θ_run _ _ _).mono (fun r h c => ⟨(h c).1.trans ?_, (h c).2⟩) (Cert.DownReferenceIdeal.Value.run_whole m' g')
    rw [(hagree c).1, (hagree c).2.1, (hagree c).2.2]
    refine funext fun (y : Cert.DownReferenceIdeal.S18688x2048.Idx) => ?_
    idx_vars y
    exact Cert.DownReferenceIdeal.Value.whole_at _ _ _ (fun n hn => down_experts_below _ _ _ (hpre c) n (by omega)) y0 y1

end Cert.Moe

end
-- ==== Proof.MatSpec.lean ====
/-
  The dense products' value: an entry is the row's product with the first layer's column (`mat`), for the projections of
  the feed-forward and of the mixer added to the stream's entry (`grown`);
  the mixer's input projection takes all but the last eight columns (`wide`).
-/
module

public import Idealize.ShloMosaic.Lib.Pointwise

@[expose] public section

noncomputable section

open Idealize.ShloMosaic Idealize.SL.Sem

namespace Cert.Mat

/-- A row times a column of the first layer's weights. -/
def mat {M L K N : ℕ} (A : Shape.Idx ⟨2, ![M, K]⟩ → EReal) (W : Shape.Idx ⟨3, ![L + 1, K, N]⟩ → EReal) (R : Fin M) (C : Fin N) : EReal :=
  ∑ d : Fin K, A (ix2 R d) * W (ix3 (0 : Fin (L + 1)) d C)

/-- The stream's entry and a row times a column of the first layer's weights. -/
def grown {M L K N : ℕ} (A : Shape.Idx ⟨2, ![M, K]⟩ → EReal) (W : Shape.Idx ⟨3, ![L + 1, K, N]⟩ → EReal)
    (H : Shape.Idx ⟨2, ![M, N]⟩ → EReal) (R : Fin M) (C : Fin N) : EReal :=
  H (ix2 R C) + mat A W R C

/-- A column of the mixer's input projection as a column of its weights. -/
def wcol (C : Fin 6912) : Fin 6920 := ⟨C.val, by have := C.isLt; omega⟩

/-- A row times a column of the first layer's weights of the mixer's input projection. -/
def wide (A : Shape.Idx ⟨2, ![8256, 2048]⟩ → EReal) (W : Shape.Idx ⟨3, ![4, 2048, 6920]⟩ → EReal) (R : Fin 8256) (C : Fin 6912) : EReal :=
  ∑ d : Fin 2048, A (ix2 R d) * W (ix3 (0 : Fin 4) d (wcol C))

end Cert.Mat

end
-- ==== Proof.InValue.lean ====
/-
  The value of the mixer's input projection: every point holds the rounded weights of its columns in the scratch
  (`held`), so its block of the result is the rows times those columns (`block_at`); the blocks
  make up the array (`array_eq`).
-/
module

public import proofs.«01_k».proof.Proof.Gen.InIdeal.Value
public import proofs.«01_k».proof.Proof.MatSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InIdeal.Value

open Cert.InIdeal Cert.InIdeal.Gen Cert.Mat

/-- The weights rounded, read. -/
theorem rounded_at (w : Vec Ideal S1x2048x768 .f32) (d : Fin 2048) (x : Fin 768) : k0_pay1 (F := Ideal) w (ix2 d x) = w (ix3 0 d x) := by
  pointwise [k0_pay1]

/-- The block stored, read. -/
theorem stored_at (a : Vec Ideal S688x2048 .bf16) (w : Vec Ideal S2048x768 .bf16) (r : Fin 688) (x : Fin 768) :
    k0_pay2 (F := Ideal) a w (ix2 r x) = ∑ d : Fin 2048, a (ix2 r d) * w (ix2 d x) := by
  pointwise [k0_pay2]

variable (m : (ℓ : Loc nD τ sig) → Buf (Elt Ideal) ℓ) (c : Dev nD) (t : Fin cfg0.N)

/-- A grid point's number is below 108. -/
theorem point_lt : t.val < 108 := N_0 ▸ t.isLt

/-- The row of the array that a block's row is. -/
def row (r : Fin 688) : Fin 8256 := ⟨688 * (t.val % 12) + r, by have := r.isLt; omega⟩

/-- The column of the array that a block's column is. -/
def col (x : Fin 768) : Fin 6912 := ⟨768 * (t.val / 12) + x, by have := x.isLt; have := point_lt t; omega⟩

/-- The block of rows of a grid point. -/
theorem index0 : ∀ t : Fin cfg0.N, win0_0.index t = ![t.val % 12, 0] :=
  (by decide +kernel : ∀ t : Fin grid0.N, win0_0.index t = ![t.val % 12, 0])

/-- The block of weights of a grid point. -/
theorem index1 : ∀ t : Fin cfg0.N, win0_1.index t = ![0, 0, t.val / 12] :=
  (by decide +kernel : ∀ t : Fin grid0.N, win0_1.index t = ![0, 0, t.val / 12])

/-- The block of the result of a grid point. -/
theorem index2 : ∀ t : Fin cfg0.N, win0_2.index t = ![t.val % 12, t.val / 12] :=
  (by decide +kernel : ∀ t : Fin grid0.N, win0_2.index t = ![t.val % 12, t.val / 12])

/-- The rows. -/
abbrev rows : Vec Ideal S8256x2048 .bf16 := m ((c.tc : Thread nD τ).loc main_arg0)

/-- The weights. -/
abbrev weights : Vec Ideal S4x2048x6920 .f32 := m ((c.tc : Thread nD τ).loc main_arg1)

/-- The rows a grid point loads. -/
theorem rows_at (r : Fin 688) (d : Fin 2048) : iblk m c 0 t (ix2 r d) = rows m c (ix2 (row t r) d) := by
  unfold row
  blk_ext [iblk, index0 t]

/-- The weights a grid point loads. -/
theorem weights_at (d : Fin 2048) (x : Fin 768) : X0_1 m c t (ix3 0 d x) = weights m c (ix3 0 d (wcol (col t x))) := by
  unfold X0_1 Pipeline.Window.fill
  rw [dif_pos (moved0_1 t _)]
  unfold col wcol
  refine congrArg (weights m c) (funext fun a => Fin.ext ?_)
  match a with
  | ⟨0, _⟩ => exact congrArg (fun n => n * 1 + 1 * 0) (congrFun (index1 t) 0)
  | ⟨1, _⟩ =>
    show win0_1.index t (1 : Fin 3) * 2048 + 1 * d.val = d.val
    rw [show win0_1.index t (1 : Fin 3) = 0 from congrFun (index1 t) 1]
    omega
  | ⟨2, _⟩ =>
    show win0_1.index t (2 : Fin 3) * 768 + 1 * x.val = 768 * (t.val / 12) + x.val
    rw [show win0_1.index t (2 : Fin 3) = t.val / 12 from congrFun (index1 t) 2]
    omega

/-- The place in its array of the result's block. -/
theorem emb2 (r : Fin 688) (x : Fin 768) : (win0_2.blk t).view.emb (ix2 r x) = ix2 (row t r) (col t x) := by
  unfold row col
  blk_ext [index2 t]

variable {t}

/-- A first point of a column rounds the weights it loads. -/
theorem held_first (h0 : t.val % 12 = 0) : (outsAt0 m c t.val t.isLt).2 = k0_pay1 (F := Ideal) (X0_1 m c t) := by
  rw [outsAt0_A m c t h0]; frame_out

/-- There is a point before one that isn't a first. -/
theorem before_lt : t.val - 1 < cfg0.N := by have := t.isLt; omega

/-- A later point leaves the scratch. -/
theorem held_later (h0 : ¬t.val % 12 = 0) : (outsAt0 m c t.val t.isLt).2 = (outsAt0 m c (t.val - 1) before_lt).2 := by
  rw [outsAt0_B m c t h0]; unfold sout0_B_0; rfl

/-- Every point stores its rows times the weights held. -/
theorem stored : (outsAt0 m c t.val t.isLt).1 = k0_pay2 (F := Ideal) (iblk m c 0 t) (outsAt0 m c t.val t.isLt).2 := by
  by_cases h0 : t.val % 12 = 0
  · rw [held_first m c h0, outsAt0_A m c t h0]; frame_out
  · rw [held_later m c h0, outsAt0_B m c t h0]; frame_out; simp only [(Memref.isWhole_whole _).read_unread]

/-- What the scratch holds after a point: the weights of its columns. -/
theorem held (n : ℕ) (hn : n < cfg0.N) (d : Fin 2048) (x : Fin 768) :
    (outsAt0 m c n hn).2 (ix2 d x) = weights m c (ix3 0 d (wcol (col ⟨n, hn⟩ x))) := by
  induction n with
  | zero =>
    rw [held_first m c (t := ⟨0, hn⟩) rfl, rounded_at]
    exact weights_at m c _ d x
  | succ k ih =>
    by_cases h0 : (k + 1) % 12 = 0
    · rw [held_first m c (t := ⟨k + 1, hn⟩) h0, rounded_at]
      exact weights_at m c _ d x
    · rw [held_later m c (t := ⟨k + 1, hn⟩) h0]
      refine (ih (Nat.lt_of_succ_lt hn)).trans ?_
      have e : col (⟨k, Nat.lt_of_succ_lt hn⟩ : Fin cfg0.N) x = col ⟨k + 1, hn⟩ x := Fin.ext (by unfold col; dsimp only; omega)
      rw [e]

variable (t)

/-- A point's block of the result. -/
theorem block_at (r : Fin 688) (x : Fin 768) :
    (outsAt0 m c t.val t.isLt).1 (ix2 r x) = wide (rows m c) (weights m c) (row t r) (col t x) := by
  rw [stored m c, stored_at]
  unfold wide
  refine Finset.sum_congr rfl fun d _ => ?_
  rw [rows_at, held]

/-- The result as an array. -/
def wideArray (A : Vec Ideal S8256x2048 .bf16) (W : Vec Ideal S4x2048x6920 .f32) : Vec Ideal S8256x6912 .f32 := fun i =>
  wide A W (i 0) (i 1)

/-- The array the kernel leaves. -/
theorem array_eq : (dats m 0 c).arrAt 2 cfg0.N = wideArray (rows m c) (weights m c) := by
  refine (dats m 0 c).arrAt_eq_of_covers 2 _ (by decide +kernel) fun t hf' y => ?_
  idx_vars y
  blk_simp [index2 t]
  rw [after0_2]
  rw [emb2]
  exact block_at m c t y0 y1

end Cert.InIdeal.Value

end
-- ==== Proof.MixedValue.lean ====
/-
  The value of the mixer's output projection: every point holds the rounded weights of its columns in the scratch
  (`held`), so its block of the result is the stream's block and the rows times those columns (`block_at`); the blocks
  make up the array (`array_eq`).
-/
module

public import proofs.«01_k».proof.Proof.Gen.MixedIdeal.Value
public import proofs.«01_k».proof.Proof.MatSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixedIdeal.Value

open Cert.MixedIdeal Cert.MixedIdeal.Gen Cert.Mat

/-- The weights rounded, read. -/
theorem rounded_at (w : Vec Ideal S1x2048x512 .f32) (d : Fin 2048) (x : Fin 512) : k0_pay1 (F := Ideal) w (ix2 d x) = w (ix3 0 d x) := by
  pointwise [k0_pay1]

/-- The block stored, read. -/
theorem stored_at (a : Vec Ideal S688x2048 .bf16) (w : Vec Ideal S2048x512 .bf16) (h : Vec Ideal S688x512 .f32) (r : Fin 688) (x : Fin 512) :
    k0_pay2 (F := Ideal) a w h (ix2 r x) = h (ix2 r x) + ∑ d : Fin 2048, a (ix2 r d) * w (ix2 d x) := by
  pointwise [k0_pay2]

variable (m : (ℓ : Loc nD τ sig) → Buf (Elt Ideal) ℓ) (c : Dev nD) (t : Fin cfg0.N)

/-- A grid point's number is below 48. -/
theorem point_lt : t.val < 48 := N_0 ▸ t.isLt

/-- The row of the array that a block's row is. -/
def row (r : Fin 688) : Fin 8256 := ⟨688 * (t.val % 12) + r, by have := r.isLt; omega⟩

/-- The column of the array that a block's column is. -/
def col (x : Fin 512) : Fin 2048 := ⟨512 * (t.val / 12) + x, by have := x.isLt; have := point_lt t; omega⟩

/-- The block of rows of a grid point. -/
theorem index0 : ∀ t : Fin cfg0.N, win0_0.index t = ![t.val % 12, 0] :=
  (by decide +kernel : ∀ t : Fin grid0.N, win0_0.index t = ![t.val % 12, 0])

/-- The block of weights of a grid point. -/
theorem index1 : ∀ t : Fin cfg0.N, win0_1.index t = ![0, 0, t.val / 12] :=
  (by decide +kernel : ∀ t : Fin grid0.N, win0_1.index t = ![0, 0, t.val / 12])

/-- The block of the stream of a grid point. -/
theorem index2 : ∀ t : Fin cfg0.N, win0_2.index t = ![t.val % 12, t.val / 12] :=
  (by decide +kernel : ∀ t : Fin grid0.N, win0_2.index t = ![t.val % 12, t.val / 12])

/-- The block of the result of a grid point. -/
theorem index3 : ∀ t : Fin cfg0.N, win0_3.index t = ![t.val % 12, t.val / 12] :=
  (by decide +kernel : ∀ t : Fin grid0.N, win0_3.index t = ![t.val % 12, t.val / 12])

/-- The rows. -/
abbrev rows : Vec Ideal S8256x2048 .bf16 := m ((c.tc : Thread nD τ).loc main_arg0)

/-- The weights. -/
abbrev weights : Vec Ideal S4x2048x2048 .f32 := m ((c.tc : Thread nD τ).loc main_arg1)

/-- The stream. -/
abbrev stream : Vec Ideal S8256x2048 .f32 := m ((c.tc : Thread nD τ).loc main_arg2)

/-- The rows a grid point loads. -/
theorem rows_at (r : Fin 688) (d : Fin 2048) : iblk m c 0 t (ix2 r d) = rows m c (ix2 (row t r) d) := by
  unfold row
  blk_ext [iblk, index0 t]

/-- The weights a grid point loads. -/
theorem weights_at (d : Fin 2048) (x : Fin 512) : iblk m c 1 t (ix3 0 d x) = weights m c (ix3 0 d (col t x)) := by
  unfold col
  blk_ext [iblk, index1 t]

/-- The stream a grid point loads. -/
theorem stream_at (r : Fin 688) (x : Fin 512) : iblk m c 2 t (ix2 r x) = stream m c (ix2 (row t r) (col t x)) := by
  unfold row col
  blk_ext [iblk, index2 t]

/-- The place in its array of the result's block. -/
theorem emb3 (r : Fin 688) (x : Fin 512) : (win0_3.blk t).view.emb (ix2 r x) = ix2 (row t r) (col t x) := by
  unfold row col
  blk_ext [index3 t]

variable {t}

/-- A first point of a column rounds the weights it loads. -/
theorem held_first (h0 : t.val % 12 = 0) : (outsAt0 m c t.val t.isLt).2 = k0_pay1 (F := Ideal) (iblk m c 1 t) := by
  rw [outsAt0_A m c t h0]; frame_out

/-- There is a point before one that isn't a first. -/
theorem before_lt : t.val - 1 < cfg0.N := by have := t.isLt; omega

/-- A later point leaves the scratch. -/
theorem held_later (h0 : ¬t.val % 12 = 0) : (outsAt0 m c t.val t.isLt).2 = (outsAt0 m c (t.val - 1) before_lt).2 := by
  rw [outsAt0_B m c t h0]; unfold sout0_B_0; rfl

/-- Every point stores the stream's block and its rows times the weights held. -/
theorem stored : (outsAt0 m c t.val t.isLt).1 = k0_pay2 (F := Ideal) (iblk m c 0 t) (outsAt0 m c t.val t.isLt).2 (iblk m c 2 t) := by
  by_cases h0 : t.val % 12 = 0
  · rw [held_first m c h0, outsAt0_A m c t h0]; frame_out
  · rw [held_later m c h0, outsAt0_B m c t h0]; frame_out; simp only [(Memref.isWhole_whole _).read_unread]

/-- What the scratch holds after a point: the weights of its columns. -/
theorem held (n : ℕ) (hn : n < cfg0.N) (d : Fin 2048) (x : Fin 512) :
    (outsAt0 m c n hn).2 (ix2 d x) = weights m c (ix3 0 d (col ⟨n, hn⟩ x)) := by
  induction n with
  | zero =>
    rw [held_first m c (t := ⟨0, hn⟩) rfl, rounded_at]
    exact weights_at m c _ d x
  | succ k ih =>
    by_cases h0 : (k + 1) % 12 = 0
    · rw [held_first m c (t := ⟨k + 1, hn⟩) h0, rounded_at]
      exact weights_at m c _ d x
    · rw [held_later m c (t := ⟨k + 1, hn⟩) h0]
      refine (ih (Nat.lt_of_succ_lt hn)).trans ?_
      have e : col (⟨k, Nat.lt_of_succ_lt hn⟩ : Fin cfg0.N) x = col ⟨k + 1, hn⟩ x := Fin.ext (by unfold col; dsimp only; omega)
      rw [e]

variable (t)

/-- A point's block of the result. -/
theorem block_at (r : Fin 688) (x : Fin 512) :
    (outsAt0 m c t.val t.isLt).1 (ix2 r x) = grown (L := 3) (rows m c) (weights m c) (stream m c) (row t r) (col t x) := by
  rw [stored m c, stored_at, stream_at]
  unfold grown mat
  refine congrArg₂ (· + ·) rfl (Finset.sum_congr rfl fun d _ => ?_)
  rw [rows_at, held]

/-- The result as an array. -/
def grownArray (A : Vec Ideal S8256x2048 .bf16) (W : Vec Ideal S4x2048x2048 .f32) (H : Vec Ideal S8256x2048 .f32) : Vec Ideal S8256x2048 .f32 := fun i =>
  grown (L := 3) A W H (i 0) (i 1)

/-- The array the kernel leaves. -/
theorem array_eq : (dats m 0 c).arrAt 3 cfg0.N = grownArray (rows m c) (weights m c) (stream m c) := by
  refine (dats m 0 c).arrAt_eq_of_covers 3 _ (by decide +kernel) fun t hf' y => ?_
  idx_vars y
  blk_simp [index3 t]
  rw [after0_3]
  rw [emb3]
  exact block_at m c t y0 y1

end Cert.MixedIdeal.Value

end
-- ==== Proof.FallValue.lean ====
/-
  The value of the feed-forward's down-projection: every point holds the rounded weights of its columns in the scratch
  (`held`), so its block of the result is the stream's block and the rows times those columns (`block_at`); the blocks
  make up the array (`array_eq`).
-/
module

public import proofs.«01_k».proof.Proof.Gen.FallIdeal.Value
public import proofs.«01_k».proof.Proof.MatSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FallIdeal.Value

open Cert.FallIdeal Cert.FallIdeal.Gen Cert.Mat

/-- The weights rounded, read. -/
theorem rounded_at (w : Vec Ideal S1x5504x512 .f32) (d : Fin 5504) (x : Fin 512) : k0_pay1 (F := Ideal) w (ix2 d x) = w (ix3 0 d x) := by
  pointwise [k0_pay1]

/-- The block stored, read. -/
theorem stored_at (a : Vec Ideal S688x5504 .bf16) (w : Vec Ideal S5504x512 .bf16) (h : Vec Ideal S688x512 .f32) (r : Fin 688) (x : Fin 512) :
    k0_pay2 (F := Ideal) a w h (ix2 r x) = h (ix2 r x) + ∑ d : Fin 5504, a (ix2 r d) * w (ix2 d x) := by
  pointwise [k0_pay2]

variable (m : (ℓ : Loc nD τ sig) → Buf (Elt Ideal) ℓ) (c : Dev nD) (t : Fin cfg0.N)

/-- A grid point's number is below 48. -/
theorem point_lt : t.val < 48 := N_0 ▸ t.isLt

/-- The row of the array that a block's row is. -/
def row (r : Fin 688) : Fin 8256 := ⟨688 * (t.val % 12) + r, by have := r.isLt; omega⟩

/-- The column of the array that a block's column is. -/
def col (x : Fin 512) : Fin 2048 := ⟨512 * (t.val / 12) + x, by have := x.isLt; have := point_lt t; omega⟩

/-- The block of rows of a grid point. -/
theorem index0 : ∀ t : Fin cfg0.N, win0_0.index t = ![t.val % 12, 0] :=
  (by decide +kernel : ∀ t : Fin grid0.N, win0_0.index t = ![t.val % 12, 0])

/-- The block of weights of a grid point. -/
theorem index1 : ∀ t : Fin cfg0.N, win0_1.index t = ![0, 0, t.val / 12] :=
  (by decide +kernel : ∀ t : Fin grid0.N, win0_1.index t = ![0, 0, t.val / 12])

/-- The block of the stream of a grid point. -/
theorem index2 : ∀ t : Fin cfg0.N, win0_2.index t = ![t.val % 12, t.val / 12] :=
  (by decide +kernel : ∀ t : Fin grid0.N, win0_2.index t = ![t.val % 12, t.val / 12])

/-- The block of the result of a grid point. -/
theorem index3 : ∀ t : Fin cfg0.N, win0_3.index t = ![t.val % 12, t.val / 12] :=
  (by decide +kernel : ∀ t : Fin grid0.N, win0_3.index t = ![t.val % 12, t.val / 12])

/-- The rows. -/
abbrev rows : Vec Ideal S8256x5504 .bf16 := m ((c.tc : Thread nD τ).loc main_arg0)

/-- The weights. -/
abbrev weights : Vec Ideal S2x5504x2048 .f32 := m ((c.tc : Thread nD τ).loc main_arg1)

/-- The stream. -/
abbrev stream : Vec Ideal S8256x2048 .f32 := m ((c.tc : Thread nD τ).loc main_arg2)

/-- The rows a grid point loads. -/
theorem rows_at (r : Fin 688) (d : Fin 5504) : iblk m c 0 t (ix2 r d) = rows m c (ix2 (row t r) d) := by
  unfold row
  blk_ext [iblk, index0 t]

/-- The weights a grid point loads. -/
theorem weights_at (d : Fin 5504) (x : Fin 512) : iblk m c 1 t (ix3 0 d x) = weights m c (ix3 0 d (col t x)) := by
  unfold col
  blk_ext [iblk, index1 t]

/-- The stream a grid point loads. -/
theorem stream_at (r : Fin 688) (x : Fin 512) : iblk m c 2 t (ix2 r x) = stream m c (ix2 (row t r) (col t x)) := by
  unfold row col
  blk_ext [iblk, index2 t]

/-- The place in its array of the result's block. -/
theorem emb3 (r : Fin 688) (x : Fin 512) : (win0_3.blk t).view.emb (ix2 r x) = ix2 (row t r) (col t x) := by
  unfold row col
  blk_ext [index3 t]

variable {t}

/-- A first point of a column rounds the weights it loads. -/
theorem held_first (h0 : t.val % 12 = 0) : (outsAt0 m c t.val t.isLt).2 = k0_pay1 (F := Ideal) (iblk m c 1 t) := by
  rw [outsAt0_A m c t h0]; frame_out

/-- There is a point before one that isn't a first. -/
theorem before_lt : t.val - 1 < cfg0.N := by have := t.isLt; omega

/-- A later point leaves the scratch. -/
theorem held_later (h0 : ¬t.val % 12 = 0) : (outsAt0 m c t.val t.isLt).2 = (outsAt0 m c (t.val - 1) before_lt).2 := by
  rw [outsAt0_B m c t h0]; unfold sout0_B_0; rfl

/-- Every point stores the stream's block and its rows times the weights held. -/
theorem stored : (outsAt0 m c t.val t.isLt).1 = k0_pay2 (F := Ideal) (iblk m c 0 t) (outsAt0 m c t.val t.isLt).2 (iblk m c 2 t) := by
  by_cases h0 : t.val % 12 = 0
  · rw [held_first m c h0, outsAt0_A m c t h0]; frame_out
  · rw [held_later m c h0, outsAt0_B m c t h0]; frame_out; simp only [(Memref.isWhole_whole _).read_unread]

/-- What the scratch holds after a point: the weights of its columns. -/
theorem held (n : ℕ) (hn : n < cfg0.N) (d : Fin 5504) (x : Fin 512) :
    (outsAt0 m c n hn).2 (ix2 d x) = weights m c (ix3 0 d (col ⟨n, hn⟩ x)) := by
  induction n with
  | zero =>
    rw [held_first m c (t := ⟨0, hn⟩) rfl, rounded_at]
    exact weights_at m c _ d x
  | succ k ih =>
    by_cases h0 : (k + 1) % 12 = 0
    · rw [held_first m c (t := ⟨k + 1, hn⟩) h0, rounded_at]
      exact weights_at m c _ d x
    · rw [held_later m c (t := ⟨k + 1, hn⟩) h0]
      refine (ih (Nat.lt_of_succ_lt hn)).trans ?_
      have e : col (⟨k, Nat.lt_of_succ_lt hn⟩ : Fin cfg0.N) x = col ⟨k + 1, hn⟩ x := Fin.ext (by unfold col; dsimp only; omega)
      rw [e]

variable (t)

/-- A point's block of the result. -/
theorem block_at (r : Fin 688) (x : Fin 512) :
    (outsAt0 m c t.val t.isLt).1 (ix2 r x) = grown (L := 1) (rows m c) (weights m c) (stream m c) (row t r) (col t x) := by
  rw [stored m c, stored_at, stream_at]
  unfold grown mat
  refine congrArg₂ (· + ·) rfl (Finset.sum_congr rfl fun d _ => ?_)
  rw [rows_at, held]

/-- The result as an array. -/
def grownArray (A : Vec Ideal S8256x5504 .bf16) (W : Vec Ideal S2x5504x2048 .f32) (H : Vec Ideal S8256x2048 .f32) : Vec Ideal S8256x2048 .f32 := fun i =>
  grown (L := 1) A W H (i 0) (i 1)

/-- The array the kernel leaves. -/
theorem array_eq : (dats m 0 c).arrAt 3 cfg0.N = grownArray (rows m c) (weights m c) (stream m c) := by
  refine (dats m 0 c).arrAt_eq_of_covers 3 _ (by decide +kernel) fun t hf' y => ?_
  idx_vars y
  blk_simp [index3 t]
  rw [after0_3]
  rw [emb3]
  exact block_at m c t y0 y1

end Cert.FallIdeal.Value

end
-- ==== Proof.InRef.lean ====
/-
  The reference of the mixer's input projection read at an index (`whole_at`).
-/
module

public import proofs.«01_k».proof.Proof.Gen.InReferenceIdeal.Run
public import proofs.«01_k».proof.Proof.MatSpec

@[expose] public section

set_option maxRecDepth 16384

noncomputable section

open Idealize.ShloMosaic Idealize.ShloMosaic.TcCoe Idealize.SL.Sem

namespace Cert.InReferenceIdeal.Value

open Cert.InReferenceIdeal Cert.InReferenceIdeal.Gen Cert.Mat

/-- The reference's result over its arguments. -/
def whole (A : FVec Ideal S8256x2048 .bf16) (W : FVec Ideal S4x2048x6920 .f32) : FVec Ideal S8256x6912 .f32 :=
  Host.dotGeneral dot_S8256x2048_S2048x6912_S8256x6912_1_0_0_1_n_n none (extf .f32 A bitsLt_bf16_f32) (extractStridedSlice S2048x6912 ![0, 0] (shapeCast _ (extractStridedSlice S1x2048x6920 ![0, 0, 0] W slices_S4x2048x6920_S1x2048x6920_0_0_0) shapeCasts_S1x2048x6920_S2048x6920) slices_S2048x6920_S2048x6912_0_0)

/-- The reference's result, read. -/
theorem whole_at (A : FVec Ideal S8256x2048 .bf16) (W : FVec Ideal S4x2048x6920 .f32) (R : Fin 8256) (C : Fin 6912) :
    whole A W (ix2 R C) = wide A W R C := by
  pointwise [whole]
  rfl

end Cert.InReferenceIdeal.Value

end
-- ==== Proof.MixedRef.lean ====
/-
  The reference of the mixer's output projection read at an index (`whole_at`).
-/
module

public import proofs.«01_k».proof.Proof.Gen.MixedReferenceIdeal.Run
public import proofs.«01_k».proof.Proof.MatSpec

@[expose] public section

set_option maxRecDepth 16384

noncomputable section

open Idealize.ShloMosaic Idealize.ShloMosaic.TcCoe Idealize.SL.Sem

namespace Cert.MixedReferenceIdeal.Value

open Cert.MixedReferenceIdeal Cert.MixedReferenceIdeal.Gen Cert.Mat

/-- The reference's result over its arguments. -/
def whole (A : FVec Ideal S8256x2048 .bf16) (W : FVec Ideal S4x2048x2048 .f32) (H : FVec Ideal S8256x2048 .f32) : FVec Ideal S8256x2048 .f32 :=
  addf H (Host.dotGeneral dot_S8256x2048_S2048x2048_S8256x2048_1_0_0_1_n_n none (extf .f32 A bitsLt_bf16_f32) (shapeCast _ (extractStridedSlice S1x2048x2048 ![0, 0, 0] W slices_S4x2048x2048_S1x2048x2048_0_0_0) shapeCasts_S1x2048x2048_S2048x2048))

/-- The reference's result, read. -/
theorem whole_at (A : FVec Ideal S8256x2048 .bf16) (W : FVec Ideal S4x2048x2048 .f32) (H : FVec Ideal S8256x2048 .f32) (R : Fin 8256) (C : Fin 2048) :
    whole A W H (ix2 R C) = grown (L := 3) A W H R C := by
  pointwise [whole]
  rfl

end Cert.MixedReferenceIdeal.Value

end
-- ==== Proof.FallRef.lean ====
/-
  The reference of the feed-forward's down-projection read at an index (`whole_at`).
-/
module

public import proofs.«01_k».proof.Proof.Gen.FallReferenceIdeal.Run
public import proofs.«01_k».proof.Proof.MatSpec

@[expose] public section

set_option maxRecDepth 16384

noncomputable section

open Idealize.ShloMosaic Idealize.ShloMosaic.TcCoe Idealize.SL.Sem

namespace Cert.FallReferenceIdeal.Value

open Cert.FallReferenceIdeal Cert.FallReferenceIdeal.Gen Cert.Mat

/-- The reference's result over its arguments. -/
def whole (A : FVec Ideal S8256x5504 .bf16) (W : FVec Ideal S2x5504x2048 .f32) (H : FVec Ideal S8256x2048 .f32) : FVec Ideal S8256x2048 .f32 :=
  addf H (Host.dotGeneral dot_S8256x5504_S5504x2048_S8256x2048_1_0_0_1_n_n none (extf .f32 A bitsLt_bf16_f32) (shapeCast _ (extractStridedSlice S1x5504x2048 ![0, 0, 0] W slices_S2x5504x2048_S1x5504x2048_0_0_0) shapeCasts_S1x5504x2048_S5504x2048))

/-- The reference's result, read. -/
theorem whole_at (A : FVec Ideal S8256x5504 .bf16) (W : FVec Ideal S2x5504x2048 .f32) (H : FVec Ideal S8256x2048 .f32) (R : Fin 8256) (C : Fin 2048) :
    whole A W H (ix2 R C) = grown (L := 1) A W H R C := by
  pointwise [whole]
  rfl

end Cert.FallReferenceIdeal.Value

end
-- ==== Proof.MatClaim.lean ====
/-
  The claims about the dense products: the mixer's input and output projections and the feed-forward's down-projection.
  For each the reference runs and leaves its arguments, and the kernel's value is its reference's.
-/
module

public import proofs.«01_k».proof.Defs
public import proofs.«01_k».proof.Proof.Gen.In
public import proofs.«01_k».proof.Proof.Gen.InIdeal
public import proofs.«01_k».proof.Proof.Gen.InReferenceIdeal
public import proofs.«01_k».proof.Proof.Gen.Mixed
public import proofs.«01_k».proof.Proof.Gen.MixedIdeal
public import proofs.«01_k».proof.Proof.Gen.MixedReferenceIdeal
public import proofs.«01_k».proof.Proof.Gen.Fall
public import proofs.«01_k».proof.Proof.Gen.FallIdeal
public import proofs.«01_k».proof.Proof.Gen.FallReferenceIdeal
public import proofs.«01_k».proof.Proof.Gen.In.Frame
public import proofs.«01_k».proof.Proof.Gen.Mixed.Frame
public import proofs.«01_k».proof.Proof.Gen.Fall.Frame
public import proofs.«01_k».proof.Proof.InValue
public import proofs.«01_k».proof.Proof.MixedValue
public import proofs.«01_k».proof.Proof.FallValue
public import proofs.«01_k».proof.Proof.InRef
public import proofs.«01_k».proof.Proof.MixedRef
public import proofs.«01_k».proof.Proof.FallRef
public import Idealize.ShloMosaic.Lib.Quiescent

@[expose] public section

noncomputable section

namespace Cert.Mat

open Idealize.ShloMosaic Idealize.ShloMosaic.TcCoe Idealize.SL.Sem

attribute [local instance] Cert.In.Gen.facts Cert.InIdeal.Gen.facts Cert.InReferenceIdeal.Gen.facts
  Cert.Mixed.Gen.facts Cert.MixedIdeal.Gen.facts Cert.MixedReferenceIdeal.Gen.facts
  Cert.Fall.Gen.facts Cert.FallIdeal.Gen.facts Cert.FallReferenceIdeal.Gen.facts

/-- The real program of the mixer's input projection runs and leaves its arguments. -/
theorem input_frame_real : Cert.quiescent_In := fun m g _ => Cert.In.Gen.frame m g

/-- The idealized program of the mixer's input projection runs and leaves its arguments. -/
theorem input_frame_ideal : Cert.quiescent_InIdeal := fun m g _ => Cert.InIdeal.Gen.frame m g

/-- The reference of the mixer's input projection runs and leaves its arguments. -/
theorem input_frame_reference : Cert.quiescent_InReferenceIdeal := fun m g _ =>
  (θ_run _ _ _).mono (fun r h => ⟨fun c => (h c).2, sem_eq_zero_of_no_sems rfl r.2⟩) (Cert.InReferenceIdeal.Value.run m g)

/-- The kernel's value of the mixer's input projection is its reference's. -/
theorem input_algebraic : Cert.algebraic_InIdeal_InReferenceIdeal := by
  pair_intro
  · run_from Cert.InIdeal.Value.run_blocks m g
  · run_from Cert.InReferenceIdeal.Value.run m' g'
    refine Eq.trans ?_ (Cert.InIdeal.Value.array_eq m c).symm
    refine funext fun (y : Cert.InReferenceIdeal.S8256x6912.Idx) => ?_
    idx_vars y
    exact Cert.InReferenceIdeal.Value.whole_at _ _ y0 y1

/-- The real program of the mixer's output projection runs and leaves its arguments. -/
theorem mixed_frame_real : Cert.quiescent_Mixed := fun m g _ => Cert.Mixed.Gen.frame m g

/-- The idealized program of the mixer's output projection runs and leaves its arguments. -/
theorem mixed_frame_ideal : Cert.quiescent_MixedIdeal := fun m g _ => Cert.MixedIdeal.Gen.frame m g

/-- The reference of the mixer's output projection runs and leaves its arguments. -/
theorem mixed_frame_reference : Cert.quiescent_MixedReferenceIdeal := fun m g _ =>
  (θ_run _ _ _).mono (fun r h => ⟨fun c => (h c).2, sem_eq_zero_of_no_sems rfl r.2⟩) (Cert.MixedReferenceIdeal.Value.run m g)

/-- The kernel's value of the mixer's output projection is its reference's. -/
theorem mixed_algebraic : Cert.algebraic_MixedIdeal_MixedReferenceIdeal := by
  pair_intro
  · run_from Cert.MixedIdeal.Value.run_blocks m g
  · run_from Cert.MixedReferenceIdeal.Value.run m' g'
    refine Eq.trans ?_ (Cert.MixedIdeal.Value.array_eq m c).symm
    refine funext fun (y : Cert.MixedReferenceIdeal.S8256x2048.Idx) => ?_
    idx_vars y
    exact Cert.MixedReferenceIdeal.Value.whole_at _ _ _ y0 y1

/-- The real program of the feed-forward's down-projection runs and leaves its arguments. -/
theorem fall_frame_real : Cert.quiescent_Fall := fun m g _ => Cert.Fall.Gen.frame m g

/-- The idealized program of the feed-forward's down-projection runs and leaves its arguments. -/
theorem fall_frame_ideal : Cert.quiescent_FallIdeal := fun m g _ => Cert.FallIdeal.Gen.frame m g

/-- The reference of the feed-forward's down-projection runs and leaves its arguments. -/
theorem fall_frame_reference : Cert.quiescent_FallReferenceIdeal := fun m g _ =>
  (θ_run _ _ _).mono (fun r h => ⟨fun c => (h c).2, sem_eq_zero_of_no_sems rfl r.2⟩) (Cert.FallReferenceIdeal.Value.run m g)

/-- The kernel's value of the feed-forward's down-projection is its reference's. -/
theorem fall_algebraic : Cert.algebraic_FallIdeal_FallReferenceIdeal := by
  pair_intro
  · run_from Cert.FallIdeal.Value.run_blocks m g
  · run_from Cert.FallReferenceIdeal.Value.run m' g'
    refine Eq.trans ?_ (Cert.FallIdeal.Value.array_eq m c).symm
    refine funext fun (y : Cert.FallReferenceIdeal.S8256x2048.Idx) => ?_
    idx_vars y
    exact Cert.FallReferenceIdeal.Value.whole_at _ _ _ y0 y1

end Cert.Mat

end
-- ==== Proof.RiseReal.lean ====
/-
  The feed-forward's up-projection, the real program: every run ends, leaves the arguments and ends with every semaphore at zero (`ends`).
  Nothing is said of the result, so the scratches and the result's block may hold anything at every grid point.
-/
module

public import proofs.«01_k».proof.Proof.Gen.Rise.Frame
public import proofs.«01_k».proof.Proof.Gen.Rise.Skeleton
public import Idealize.ShloMosaic.PureOps.BitExact
public import Idealize.ShloMosaic.Lib.VecWindow
public import Idealize.ShloMosaic.Lib.Pipeline.Frame
public import Idealize.ShloMosaic.Lib.Pipeline.FrameBody

@[expose] public section

set_option maxRecDepth 16384

noncomputable section

namespace Cert.Rise.Edge

open Cert.Rise Cert.Rise.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Clip)

/-- The point rounds the weights it finds. -/
abbrev First (i : grid0.Coords) : Prop := Scalar.cmpi .ne (Scalar.extui (Scalar.cmpi .eq (BitVec.ofNat 32 (i 1).val) 0#32) : BitVec 32) 0#32 = 1#1

section Body

variable (c : Dev nD) (i : grid0.Coords)
  (arg2 : Memref sig .tc .vmem S688x2048 .bf16) (harg2 : arg2.IsWhole) (arg3 : Memref sig .tc .vmem S1x2048x512 .f32) (harg3 : arg3.IsWhole)
  (arg4 : Memref sig .tc .vmem S1x2048x512 .f32) (harg4 : arg4.IsWhole) (arg5 : Memref sig .tc .vmem S688x512 .bf16) (harg5 : arg5.IsWhole)
  (arg6 : Memref sig .tc .vmem S2048x512 .bf16) (harg6 : arg6.IsWhole) (arg7 : Memref sig .tc .vmem S2048x512 .bf16) (harg7 : arg7.IsWhole)
  (x0 : Vec Bits S688x2048 .bf16) (x1 x2 : Vec Bits S1x2048x512 .f32)

set_option maxHeartbeats 400000 in
/-- A grid point leaves what it loaded, and something in the result's block and the scratches. -/
theorem point (K : PUnit → sProp (MT nD τ sig Unit (Elt Bits) ℕ (UR sig nD τ) ℕ)) :
    iprop(owns (c : Thread nD τ) arg2 fullShare x0 ∗ owns (c : Thread nD τ) arg3 fullShare x1 ∗ owns (c : Thread nD τ) arg4 fullShare x2
      ∗ (∃ d, owns (c : Thread nD τ) arg5 fullShare d) ∗ (∃ d, owns (c : Thread nD τ) arg6 fullShare d) ∗ (∃ d, owns (c : Thread nD τ) arg7 fullShare d)
      ∗ (iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (∃ d, owns (c : Thread nD τ) arg7 fullShare d)) -∗ K ⟨⟩))
    ⊢ wp frame (wpE (defs₀ (F := Bits)) Variants.none c none) Set.univ (cc0_ffn_up i arg2 harg2 arg3 harg3 arg4 harg4 arg5 harg5 arg6 harg6 arg7 harg7) K := by
  simp only [cc0_ffn_up_eq_skeleton]; unfold cc0_ffn_up_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  by_cases hc : First i
  · sl_exec (disch := first | sl_exact hc)
    sl_step
    iapply Hk
    isplitl [H0]
    · iexists _; isplitr; swap
      · iexact H0
      · ipureintro; exact hf0
    isplitl [H1]
    · iexists _; isplitr; swap
      · iexact H1
      · ipureintro; exact hf1
    isplitl [H2]
    · iexists _; isplitr; swap
      · iexact H2
      · ipureintro; exact hf2
    isplitl [H3]
    · iexists _; iexists _; isplitr; swap
      · iexact H3
      · ipureintro; rfl
    isplitl [H4]
    · iexists _; iexists _; isplitr; swap
      · iexact H4
      · ipureintro; rfl
    iexists _; iexists _; isplitr; swap
    · iexact H5
    · ipureintro; rfl
  · sl_exec (disch := first | sl_exact hc)
    sl_step
    iapply Hk
    isplitl [H0]
    · iexists _; isplitr; swap
      · iexact H0
      · ipureintro; exact hf0
    isplitl [H1]
    · iexists _; isplitr; swap
      · iexact H1
      · ipureintro; exact hf1
    isplitl [H2]
    · iexists _; isplitr; swap
      · iexact H2
      · ipureintro; exact hf2
    isplitl [H3]
    · iexists _; iexists _; isplitr; swap
      · iexact H3
      · ipureintro; rfl
    isplitl [H4]
    · iexists _; iexists _; isplitr; swap
      · iexact H4
      · ipureintro; rfl
    iexists _; iexists _; isplitr; swap
    · iexact H5
    · ipureintro; rfl

end Body

variable (m : (ℓ : Loc nD τ sig) → Buf (Elt Bits) ℓ) (ρ : Dev nD → PrngReg) (c : Dev nD)

/-- Something in the places the weights' arrays don't have. -/
def pad : Vec Bits S1x2048x512 .f32 := (constant S1x2048x512 .f32 0x00000000#32 : FVec Bits S1x2048x512 .f32)

/-- The first weights' block on the contents `d`: the array's columns where there are any. -/
abbrev full1 (t : Fin cfg0.N) (d : Vec Bits S1x2048x512 .f32) : Vec Bits S1x2048x512 .f32 := win0_1.fill (grid0.coords t) d (iblk m c 1 t)

/-- The second weights' block on the contents `d`: the array's columns where there are any. -/
abbrev full2 (t : Fin cfg0.N) (d : Vec Bits S1x2048x512 .f32) : Vec Bits S1x2048x512 .f32 := win0_2.fill (grid0.coords t) d (iblk m c 2 t)

/-- The pipeline's data on a core; what it says of the result is never read. -/
def dats (_ : Fin 1) (c : Dev nD) : Dat τ (Elt Bits) Unit ℕ (UR sig nD τ) ℕ cfg0 c where
  A w := V m c (Pipeline.arrRef spec0 w)
  after w t := match w with
    | ⟨0, _⟩ => iblk m c (0 : Fin 4) t
    | ⟨1, _⟩ => full1 m c t pad
    | ⟨2, _⟩ => full2 m c t pad
    | ⟨3, _⟩ => k0_pay3 (F := Bits) (iblk m c 0 t) (k0_pay1 (F := Bits) pad) (k0_pay2 (F := Bits) pad)
  Φ t := Pipeline.ΦA spec0 c
  q _ := fullShare
  owed _ := 0

/-- The result is forgotten. -/
def forgets : Fin 4 → Bool := ![false, false, false, true]
/-- The rows aren't forgotten. -/
theorem forgets0 : forgets (0 : Fin 4) = false := rfl
/-- The first weights aren't forgotten. -/
theorem forgets1 : forgets (1 : Fin 4) = false := rfl
/-- The second weights aren't forgotten. -/
theorem forgets2 : forgets (2 : Fin 4) = false := rfl
/-- The result is. -/
theorem forgets3 : forgets (3 : Fin 4) = true := rfl

/-- The rows' block holds what was loaded. -/
theorem after0 (t : Fin cfg0.N) : (dats m 0 c).after (0 : Fin 4) t = iblk m c (0 : Fin 4) t := rfl
/-- The first weights' block holds what was loaded. -/
theorem after1 (t : Fin cfg0.N) : (dats m 0 c).after (1 : Fin 4) t = full1 m c t pad := rfl
/-- The second weights' block holds what was loaded. -/
theorem after2 (t : Fin cfg0.N) : (dats m 0 c).after (2 : Fin 4) t = full2 m c t pad := rfl

/-- The rows are loaded when the body runs. -/
theorem before0 (t : Fin cfg0.N) (d) : (dats m 0 c).before (0 : Fin 4) t d = iblk m c (0 : Fin 4) t :=
  before0_0_of m (dats m 0 c) rfl (fun t => after0 m c t) t d

/-- Blocks of the first weights with one index are cut alike. -/
theorem clip1 (t t' : Fin cfg0.N) (h : win0_1.index t = win0_1.index t') : win0_1.clip (grid0.coords t) = win0_1.clip (grid0.coords t') :=
  congrArg (fun ix : Fin 3 → ℕ => fun a : Fin 3 => Clip.of (ix a) (S1x2048x512.size a) (S2x2048x5504.size a)) h

/-- Blocks of the second weights with one index are cut alike. -/
theorem clip2 (t t' : Fin cfg0.N) (h : win0_2.index t = win0_2.index t') : win0_2.clip (grid0.coords t) = win0_2.clip (grid0.coords t') :=
  congrArg (fun ix : Fin 3 → ℕ => fun a : Fin 3 => Clip.of (ix a) (S1x2048x512.size a) (S2x2048x5504.size a)) h

/-- The first weights are loaded when the body runs. -/
theorem before1 (t : Fin cfg0.N) (d) : (dats m 0 c).before (1 : Fin 4) t d = full1 m c t d :=
  ((dats m 0 c).before_in_eq_fetched (1 : Fin 4) rfl (fun _ => rfl) clip1
    (fun t => by rw [after1]; exact (win0_1.cut_fill (grid0.coords t) pad (iblk m c 1 t)).trans rfl) t d).trans rfl

/-- The second weights are loaded when the body runs. -/
theorem before2 (t : Fin cfg0.N) (d) : (dats m 0 c).before (2 : Fin 4) t d = full2 m c t d :=
  ((dats m 0 c).before_in_eq_fetched (2 : Fin 4) rfl (fun _ => rfl) clip2
    (fun t => by rw [after2]; exact (win0_2.cut_fill (grid0.coords t) pad (iblk m c 2 t)).trans rfl) t d).trans rfl

/-- The rows' staging buffer at a grid point. -/
abbrev ms0 (t : Fin cfg0.N) : Memref sig .tc .vmem S688x2048 .bf16 := win0_0.stage (cfg0.slots t 0)
/-- The first weights' staging buffer at a grid point. -/
abbrev ms1 (t : Fin cfg0.N) : Memref sig .tc .vmem S1x2048x512 .f32 := win0_1.stage (cfg0.slots t 1)
/-- The second weights' staging buffer at a grid point. -/
abbrev ms2 (t : Fin cfg0.N) : Memref sig .tc .vmem S1x2048x512 .f32 := win0_2.stage (cfg0.slots t 2)
/-- The result's staging buffer at a grid point. -/
abbrev ms3 (t : Fin cfg0.N) : Memref sig .tc .vmem S688x512 .bf16 := win0_3.stage (cfg0.slots t 3)

set_option maxHeartbeats 400000 in
/-- The body meets its obligation at every grid point. -/
theorem sound (t : Fin cfg0.N) :
    iprop((dats m 0 c).Φ t.castSucc ∗ (dats m 0 c).owesAt () t.castSucc
        ∗ (∃ d, owns (c : Thread nD τ) (ms0 t) fullShare ((dats m 0 c).before (0 : Fin 4) t d))
        ∗ (∃ d, owns (c : Thread nD τ) (ms1 t) fullShare ((dats m 0 c).before (1 : Fin 4) t d))
        ∗ (∃ d, owns (c : Thread nD τ) (ms2 t) fullShare ((dats m 0 c).before (2 : Fin 4) t d))
        ∗ (∃ X, owns (c : Thread nD τ) (ms3 t) fullShare X))
      ⊢ wp frame (wpE (defs₀ (F := Bits)) Variants.none c none) Set.univ (bodyAt0 t) fun _ =>
          iprop((dats m 0 c).Φ t.succ ∗ (dats m 0 c).owesAt () t.succ
            ∗ owns (c : Thread nD τ) (ms0 t) fullShare ((dats m 0 c).after (0 : Fin 4) t)
            ∗ (∃ d, owns (c : Thread nD τ) (ms1 t) fullShare (win0_1.fill (grid0.coords t) d (win0_1.cut (grid0.coords t) ((dats m 0 c).after (1 : Fin 4) t))))
            ∗ (∃ d, owns (c : Thread nD τ) (ms2 t) fullShare (win0_2.fill (grid0.coords t) d (win0_2.cut (grid0.coords t) ((dats m 0 c).after (2 : Fin 4) t))))
            ∗ (∃ X, owns (c : Thread nD τ) (ms3 t) fullShare X)) := by
  simp only [before0, before1, before2, after0, after1, after2]
  rewrite [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  rw [win0_1.cut_fill (grid0.coords t) pad (iblk m c 1 t), win0_2.cut_fill (grid0.coords t) pad (iblk m c 2 t)]
  unfold Pipeline.ΦA; rw [scopedRest0_eq]; simp only [← owns_whole]
  iintro ⟨⟨⟨HS0, HS1⟩, HT0⟩, Ho, ⟨%d0, H0⟩, ⟨%d1, H1⟩, ⟨%d2, H2⟩, H3⟩
  iapply (point c (grid0.coords t) (ms0 t) (hstage0_0 ((cfg0.slots t 0).cast nbuf0_0)) (ms1 t) (hstage0_1 ((cfg0.slots t 1).cast nbuf0_1))
      (ms2 t) (hstage0_2 ((cfg0.slots t 2).cast nbuf0_2)) (ms3 t) (hstage0_3 ((cfg0.slots t 3).cast nbuf0_3))
      (Memref.whole cc0_scratch0) (Memref.isWhole_whole _) (Memref.whole cc0_scratch1) (Memref.isWhole_whole _)
      (iblk m c (0 : Fin 4) t) (full1 m c t d1) (full2 m c t d2) _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 HT0]
  · isplitl [HS0 HS1]
    · isplitl [HS0]; · iexact HS0
      iexact HS1
    iexact HT0
  isplitl [Ho]; · iexact Ho
  isplitl [H0]; · iexact H0
  isplitl [H1]; · iexists d1; iexact H1
  isplitl [H2]; · iexists d2; iexact H2
  iexact H3

/-- The body's obligation, at every grid point. -/
theorem obligation : BodyObligationLoose (dats m 0 c) (defs₀ (F := Bits)) Variants.none () Set.univ forgets := fun t => by
  rw [bigSep_W0, bigSep_W0, show (defs₀ (F := Bits)) .tc cfg0.body (cfg0.bodyArgs t (cfg0.slots t)) = bodyAt0 t from by unfold defs₀; rw [Defs.onTc_tc]]
  simp only [forgets0, forgets1, forgets2, forgets3]
  exact sound m c t

set_option backward.isDefEq.respectTransparency.types false in
set_option maxHeartbeats 4000000 in
/-- Every run ends with the arguments as they were and every semaphore at zero. -/
theorem ends : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (dats m) 0 launch0 defs₀ Variants.none forgets m ρ main (obligation m)
    (fun c w => by unfold Dat.share; split <;> rfl) (fun _ _ => rfl) (V m) (hmain m Variants.none) (fun _ _ => rfl) (fun _ _ => rfl) _
    (fun r h => ⟨fun c => ⟨(Pipeline.RDat.FramePost.arr_in h.1 c 0 rfl).trans (V_main_arg0 m c),
      (Pipeline.RDat.FramePost.arr_in h.1 c 1 rfl).trans (V_main_arg1 m c),
      (Pipeline.RDat.FramePost.arr_in h.1 c 2 rfl).trans (V_main_arg2 m c)⟩, h.2⟩)

end Cert.Rise.Edge

end
-- ==== Proof.RiseBody.lean ====
/-
  The feed-forward's up-projection, one grid point of the idealized program: a first point of a column rounds the weights it finds into
  the two scratches (`first_point`), every other point uses what it finds there (`later_point`); both store the gated product.
-/
module

public import proofs.«01_k».proof.Proof.Gen.RiseIdeal.Frame
public import proofs.«01_k».proof.Proof.Gen.RiseIdeal.Skeleton
public import Idealize.ShloMosaic.Lib.VecWindow
public import Idealize.ShloMosaic.Lib.Pointwise
public import Idealize.ShloMosaic.Lib.Pipeline.FrameBody

@[expose] public section

set_option maxRecDepth 16384

noncomputable section

namespace Cert.RiseIdeal.Edge

open Cert.RiseIdeal Cert.RiseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The point rounds the weights it finds. -/
abbrev First (i : grid0.Coords) : Prop := Scalar.cmpi .ne (Scalar.extui (Scalar.cmpi .eq (BitVec.ofNat 32 (i 1).val) 0#32) : BitVec 32) 0#32 = 1#1

/-- A load of a whole buffer reads what it holds. -/
theorem load_whole {s : Shape} {e : EltTy} (arg : Memref sig .tc .vmem s e) (h : arg.IsWhole) (x : Vec Ideal s e) (off : Fin s.rank → ℕ)
    (inb : ∀ a, off a + s.size a ≤ s.size a) :
    arg.view.readAt (Elt Ideal) (Rect.unit off s.size inb).toLoadRect (h.unread x) = x :=
  (View.readAt_full (Val := Elt Ideal) arg.view (h.unread x) inb).trans (h.read_unread x)

variable (c : Dev nD) (i : grid0.Coords)
  (arg2 : Memref sig .tc .vmem S688x2048 .bf16) (harg2 : arg2.IsWhole) (arg3 : Memref sig .tc .vmem S1x2048x512 .f32) (harg3 : arg3.IsWhole)
  (arg4 : Memref sig .tc .vmem S1x2048x512 .f32) (harg4 : arg4.IsWhole) (arg5 : Memref sig .tc .vmem S688x512 .bf16) (harg5 : arg5.IsWhole)
  (arg6 : Memref sig .tc .vmem S2048x512 .bf16) (harg6 : arg6.IsWhole) (arg7 : Memref sig .tc .vmem S2048x512 .bf16) (harg7 : arg7.IsWhole)
  (x0 : Vec Ideal S688x2048 .bf16) (x1 x2 : Vec Ideal S1x2048x512 .f32)

set_option maxHeartbeats 400000 in
/-- A first point of a column leaves the rounded weights in the scratches and their gated product with the rows in the result's block. -/
theorem first_point (hc : First i) (K : PUnit → sProp (MT nD τ sig Unit (Elt Ideal) ℕ (UR sig nD τ) ℕ)) :
    iprop(owns (c : Thread nD τ) arg2 fullShare x0 ∗ owns (c : Thread nD τ) arg3 fullShare x1 ∗ owns (c : Thread nD τ) arg4 fullShare x2
      ∗ (∃ d, owns (c : Thread nD τ) arg5 fullShare d) ∗ (∃ d, owns (c : Thread nD τ) arg6 fullShare d) ∗ (∃ d, owns (c : Thread nD τ) arg7 fullShare d)
      ∗ (iprop(owns (c : Thread nD τ) arg2 fullShare x0 ∗ owns (c : Thread nD τ) arg3 fullShare x1 ∗ owns (c : Thread nD τ) arg4 fullShare x2
        ∗ owns (c : Thread nD τ) arg5 fullShare (k0_pay3 (F := Ideal) x0 (k0_pay1 (F := Ideal) x1) (k0_pay2 (F := Ideal) x2))
        ∗ owns (c : Thread nD τ) arg6 fullShare (k0_pay1 (F := Ideal) x1) ∗ owns (c : Thread nD τ) arg7 fullShare (k0_pay2 (F := Ideal) x2)) -∗ K ⟨⟩))
    ⊢ wp frame (wpE (defs₀ (F := Ideal)) Variants.none c none) Set.univ (cc0_ffn_up i arg2 harg2 arg3 harg3 arg4 harg4 arg5 harg5 arg6 harg6 arg7 harg7) K := by
  simp only [cc0_ffn_up_eq_skeleton]; unfold cc0_ffn_up_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; swap
    · iexact H0
    · ipureintro; exact harg2.read_unread _
  isplitl [H1]
  · iexists _; isplitr; swap
    · iexact H1
    · ipureintro; exact harg3.read_unread _
  isplitl [H2]
  · iexists _; isplitr; swap
    · iexact H2
    · ipureintro; exact harg4.read_unread _
  isplitl [H3]
  · iexists _; isplitr; swap
    · iexact H3
    · ipureintro
      refine (View.read_writes_full (Val := Elt Ideal) arg5.view f3 _ _ _).trans ?_
      unfold first_point.sl.v4 first_point.sl.v8 first_point.sl.H4_1 first_point.sl.H5_1
      rw [load_whole arg2 harg2, load_whole arg3 harg3, load_whole arg4 harg4]
      exact congrArg₂ (k0_pay3 x0) (View.readCov_full (Val := Elt Ideal) arg6.view _ _ _ []) (View.readCov_full (Val := Elt Ideal) arg7.view _ _ _ [])
  isplitl [H4]
  · iexists _; isplitr; swap
    · iexact H4
    · ipureintro
      unfold first_point.sl.H4_1
      refine (View.read_writes_full (Val := Elt Ideal) arg6.view f4 _ _ _).trans ?_
      rw [load_whole arg3 harg3]
  iexists _; isplitr; swap
  · iexact H5
  · ipureintro
    unfold first_point.sl.H5_1
    refine (View.read_writes_full (Val := Elt Ideal) arg7.view f5 _ _ _).trans ?_
    rw [load_whole arg4 harg4]

set_option maxHeartbeats 400000 in
/-- Any other point leaves the scratches and stores the gated product of the rows with them. -/
theorem later_point (hc : ¬ First i) (a b : Vec Ideal S2048x512 .bf16) (K : PUnit → sProp (MT nD τ sig Unit (Elt Ideal) ℕ (UR sig nD τ) ℕ)) :
    iprop(owns (c : Thread nD τ) arg2 fullShare x0 ∗ owns (c : Thread nD τ) arg3 fullShare x1 ∗ owns (c : Thread nD τ) arg4 fullShare x2
      ∗ (∃ d, owns (c : Thread nD τ) arg5 fullShare d) ∗ owns (c : Thread nD τ) arg6 fullShare a ∗ owns (c : Thread nD τ) arg7 fullShare b
      ∗ (iprop(owns (c : Thread nD τ) arg2 fullShare x0 ∗ owns (c : Thread nD τ) arg3 fullShare x1 ∗ owns (c : Thread nD τ) arg4 fullShare x2
        ∗ owns (c : Thread nD τ) arg5 fullShare (k0_pay3 (F := Ideal) x0 a b)
        ∗ owns (c : Thread nD τ) arg6 fullShare a ∗ owns (c : Thread nD τ) arg7 fullShare b) -∗ K ⟨⟩))
    ⊢ wp frame (wpE (defs₀ (F := Ideal)) Variants.none c none) Set.univ (cc0_ffn_up i arg2 harg2 arg3 harg3 arg4 harg4 arg5 harg5 arg6 harg6 arg7 harg7) K := by
  simp only [cc0_ffn_up_eq_skeleton]; unfold cc0_ffn_up_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2
  obtain rfl := harg6.eq_unread hf4; obtain rfl := harg7.eq_unread hf5
  sl_exec (disch := first | sl_exact hc)
  sl_step
  iapply Hk
  isplitl [H0]
  · iexists _; isplitr; swap
    · iexact H0
    · ipureintro; exact harg2.read_unread _
  isplitl [H1]
  · iexists _; isplitr; swap
    · iexact H1
    · ipureintro; exact harg3.read_unread _
  isplitl [H2]
  · iexists _; isplitr; swap
    · iexact H2
    · ipureintro; exact harg4.read_unread _
  isplitl [H3]
  · iexists _; isplitr; swap
    · iexact H3
    · ipureintro
      refine (View.read_writes_full (Val := Elt Ideal) arg5.view f3 _ _ _).trans ?_
      rw [load_whole arg2 harg2, load_whole arg6 harg6, load_whole arg7 harg7]
  isplitl [H4]
  · iexists _; isplitr; swap
    · iexact H4
    · ipureintro; exact harg6.read_unread _
  iexists _; isplitr; swap
  · iexact H5
  · ipureintro; exact harg7.read_unread _

end Cert.RiseIdeal.Edge

end
-- ==== Proof.RiseData.lean ====
/-
  The feed-forward's up-projection, the idealized program: what the windows' blocks and the scratches hold at every grid point. The last
  column tile of the weights overhangs their arrays, so the last blocks of weights are known only on the columns that lie in the arrays;
  so are the scratches and the result's block.
-/
module

public import proofs.«01_k».proof.Proof.RiseBody
public import proofs.«01_k».proof.Proof.UpSpec
public import proofs.«01_k».proof.Proof.MatSpec
public import Idealize.ShloMosaic.Lib.Pipeline.ValueKit

@[expose] public section

set_option maxRecDepth 16384

noncomputable section

namespace Cert.RiseIdeal.Edge

open Cert.RiseIdeal Cert.RiseIdeal.Gen Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Clip)

/-! ## The values computed -/

/-- The first weights' block rounded, read. -/
theorem rounded1_at (w : Vec Ideal S1x2048x512 .f32) (d : Fin 2048) (x : Fin 512) : k0_pay1 (F := Ideal) w (ix2 d x) = w (ix3 0 d x) := by
  pointwise [k0_pay1]

/-- The second weights' block rounded, read. -/
theorem rounded2_at (w : Vec Ideal S1x2048x512 .f32) (d : Fin 2048) (x : Fin 512) : k0_pay2 (F := Ideal) w (ix2 d x) = w (ix3 0 d x) := by
  pointwise [k0_pay2]

/-- The block stored, read. -/
theorem stored_at (a : Vec Ideal S688x2048 .bf16) (w v : Vec Ideal S2048x512 .bf16) (r : Fin 688) (x : Fin 512) :
    k0_pay3 (F := Ideal) a w v (ix2 r x) = silu (∑ d : Fin 2048, a (ix2 r d) * w (ix2 d x)) * ∑ d : Fin 2048, a (ix2 r d) * v (ix2 d x) := by
  pointwise [k0_pay3, silu, Ideal.logistic]

/-! ## The grid -/

variable (m : (ℓ : Loc nD τ sig) → Buf (Elt Ideal) ℓ) (c : Dev nD) (t : Fin cfg0.N)

/-- A grid point's number is below 132. -/
theorem point_lt : t.val < 132 := N_0 ▸ t.isLt

/-- The row of the array that a block's row is. -/
def row (r : Fin 688) : Fin 8256 := ⟨688 * (t.val % 12) + r, by have := r.isLt; omega⟩

/-- The block of rows of a grid point. -/
theorem index0 : ∀ t : Fin cfg0.N, win0_0.index t = ![t.val % 12, 0] :=
  (by decide +kernel : ∀ t : Fin grid0.N, win0_0.index t = ![t.val % 12, 0])

/-- The block of the first weights of a grid point. -/
theorem index1 : ∀ t : Fin cfg0.N, win0_1.index t = ![0, 0, t.val / 12] :=
  (by decide +kernel : ∀ t : Fin grid0.N, win0_1.index t = ![0, 0, t.val / 12])

/-- The block of the second weights of a grid point. -/
theorem index2 : ∀ t : Fin cfg0.N, win0_2.index t = ![0, 0, t.val / 12] :=
  (by decide +kernel : ∀ t : Fin grid0.N, win0_2.index t = ![0, 0, t.val / 12])

/-- The block of the result of a grid point. -/
theorem index3 : ∀ t : Fin cfg0.N, win0_3.index t = ![t.val % 12, t.val / 12] :=
  (by decide +kernel : ∀ t : Fin grid0.N, win0_3.index t = ![t.val % 12, t.val / 12])

/-- The first point of a column is the one of its first rows. -/
theorem first_iff : First (grid0.coords t) ↔ t.val % 12 = 0 := by
  have ht : t.val < 132 := point_lt t
  have e1 : (grid0.coords t 1).val = t.val / 1 % 12 := Pipeline.Grid.coords_val t 1 (by decide) rfl
  simp only [First, e1]
  word_cmp

/-! ## The blocks loaded -/

/-- The rows. -/
abbrev rows : Vec Ideal S8256x2048 .bf16 := m ((c.tc : Thread nD τ).loc main_arg0)

/-- The first weights. -/
abbrev weights1 : Vec Ideal S2x2048x5504 .f32 := m ((c.tc : Thread nD τ).loc main_arg1)

/-- The second weights. -/
abbrev weights2 : Vec Ideal S2x2048x5504 .f32 := m ((c.tc : Thread nD τ).loc main_arg2)

/-- The rows a grid point loads. -/
theorem rows_at (r : Fin 688) (d : Fin 2048) : iblk m c 0 t (ix2 r d) = rows m c (ix2 (row t r) d) := by
  unfold row
  blk_ext [iblk, index0 t]

/-- A place of a block that lies in the array is among those moved. -/
theorem inside {ix k d x : ℕ} (hx : x < k) (h : k * ix + x < d) : x < (Clip.of ix k d).extent k := by
  unfold Clip.of
  split
  · exact hx
  · show x < d - ix * k
    rw [Nat.mul_comm ix k]; omega

/-- The first weights' block on the contents `d`: the array's columns where there are any. -/
abbrev full1 (d : Vec Ideal S1x2048x512 .f32) : Vec Ideal S1x2048x512 .f32 := win0_1.fill (grid0.coords t) d (iblk m c 1 t)

/-- The second weights' block on the contents `d`: the array's columns where there are any. -/
abbrev full2 (d : Vec Ideal S1x2048x512 .f32) : Vec Ideal S1x2048x512 .f32 := win0_2.fill (grid0.coords t) d (iblk m c 2 t)

/-- A column of the array is among those moved of the first weights. -/
theorem moved1 (d : Fin 2048) (x : Fin 512) (h : 512 * (t.val / 12) + x.val < 5504) : win0_1.moved (grid0.coords t) (ix3 0 d x) = true := by
  refine (win0_1.moved_iff (grid0.coords t) _).mpr fun a => ?_
  match a with
  | ⟨0, _⟩ => exact inside (ix := win0_1.index t (0 : Fin 3)) (k := 1) (d := 2) (x := 0) (by decide : 0 < 1) (by rw [show win0_1.index t (0 : Fin 3) = 0 from congrFun (index1 t) 0]; decide)
  | ⟨1, _⟩ =>
    exact inside (ix := win0_1.index t (1 : Fin 3)) (k := 2048) (d := 2048) (x := d.val) d.isLt
      (by rw [show win0_1.index t (1 : Fin 3) = 0 from congrFun (index1 t) 1]; have := d.isLt; omega)
  | ⟨2, _⟩ =>
    exact inside (ix := win0_1.index t (2 : Fin 3)) (k := 512) (d := 5504) x.isLt
      (by rw [show win0_1.index t (2 : Fin 3) = t.val / 12 from congrFun (index1 t) 2]; exact h)

/-- A column of the array is among those moved of the second weights. -/
theorem moved2 (d : Fin 2048) (x : Fin 512) (h : 512 * (t.val / 12) + x.val < 5504) : win0_2.moved (grid0.coords t) (ix3 0 d x) = true := by
  refine (win0_2.moved_iff (grid0.coords t) _).mpr fun a => ?_
  match a with
  | ⟨0, _⟩ => exact inside (ix := win0_2.index t (0 : Fin 3)) (k := 1) (d := 2) (x := 0) (by decide : 0 < 1) (by rw [show win0_2.index t (0 : Fin 3) = 0 from congrFun (index2 t) 0]; decide)
  | ⟨1, _⟩ =>
    exact inside (ix := win0_2.index t (1 : Fin 3)) (k := 2048) (d := 2048) (x := d.val) d.isLt
      (by rw [show win0_2.index t (1 : Fin 3) = 0 from congrFun (index2 t) 1]; have := d.isLt; omega)
  | ⟨2, _⟩ =>
    exact inside (ix := win0_2.index t (2 : Fin 3)) (k := 512) (d := 5504) x.isLt
      (by rw [show win0_2.index t (2 : Fin 3) = t.val / 12 from congrFun (index2 t) 2]; exact h)

/-- The first weights' block on the array's columns. -/
theorem full1_at (e : Vec Ideal S1x2048x512 .f32) (d : Fin 2048) (x : Fin 512) (h : 512 * (t.val / 12) + x.val < 5504) :
    full1 m c t e (ix3 0 d x) = weights1 m c (ix3 0 d ⟨512 * (t.val / 12) + x.val, h⟩) := by
  unfold full1 Pipeline.Window.fill
  rw [dif_pos (moved1 t d x h)]
  refine congrArg (weights1 m c) (funext fun a => Fin.ext ?_)
  match a with
  | ⟨0, _⟩ => exact congrArg (fun n => n * 1 + 1 * 0) (congrFun (index1 t) 0)
  | ⟨1, _⟩ =>
    show win0_1.index t (1 : Fin 3) * 2048 + 1 * d.val = d.val
    rw [show win0_1.index t (1 : Fin 3) = 0 from congrFun (index1 t) 1]
    omega
  | ⟨2, _⟩ =>
    show win0_1.index t (2 : Fin 3) * 512 + 1 * x.val = 512 * (t.val / 12) + x.val
    rw [show win0_1.index t (2 : Fin 3) = t.val / 12 from congrFun (index1 t) 2]
    omega

/-- The second weights' block on the array's columns. -/
theorem full2_at (e : Vec Ideal S1x2048x512 .f32) (d : Fin 2048) (x : Fin 512) (h : 512 * (t.val / 12) + x.val < 5504) :
    full2 m c t e (ix3 0 d x) = weights2 m c (ix3 0 d ⟨512 * (t.val / 12) + x.val, h⟩) := by
  unfold full2 Pipeline.Window.fill
  rw [dif_pos (moved2 t d x h)]
  refine congrArg (weights2 m c) (funext fun a => Fin.ext ?_)
  match a with
  | ⟨0, _⟩ => exact congrArg (fun n => n * 1 + 1 * 0) (congrFun (index2 t) 0)
  | ⟨1, _⟩ =>
    show win0_2.index t (1 : Fin 3) * 2048 + 1 * d.val = d.val
    rw [show win0_2.index t (1 : Fin 3) = 0 from congrFun (index2 t) 1]
    omega
  | ⟨2, _⟩ =>
    show win0_2.index t (2 : Fin 3) * 512 + 1 * x.val = 512 * (t.val / 12) + x.val
    rw [show win0_2.index t (2 : Fin 3) = t.val / 12 from congrFun (index2 t) 2]
    omega

/-! ## The weights held -/

/-- A scratch holds the columns of the weights that point number `n` works on, where the array has them. -/
def Held (W : Vec Ideal S2x2048x5504 .f32) (n : ℕ) (a : Vec Ideal S2048x512 .bf16) : Prop :=
  ∀ (d : Fin 2048) (x : Fin 512) (h : 512 * (n / 12) + x.val < 5504), a (ix2 d x) = W (ix3 0 d ⟨512 * (n / 12) + x.val, h⟩)

/-- The first weights loaded are the ones to be held. -/
theorem held1 (e : Vec Ideal S1x2048x512 .f32) : Held (weights1 m c) t.val (k0_pay1 (F := Ideal) (full1 m c t e)) := fun d x h => by
  rw [rounded1_at, full1_at m c t e d x h]

/-- The second weights loaded are the ones to be held. -/
theorem held2 (e : Vec Ideal S1x2048x512 .f32) : Held (weights2 m c) t.val (k0_pay2 (F := Ideal) (full2 m c t e)) := fun d x h => by
  rw [rounded2_at, full2_at m c t e d x h]

/-- What is held at a point that isn't the first of its column is held from the point before. -/
theorem held_kept {W : Vec Ideal S2x2048x5504 .f32} {n : ℕ} {a : Vec Ideal S2048x512 .bf16} (h0 : ¬ n % 12 = 0) (h : Held W (n - 1) a) : Held W n a := by
  have e : (n - 1) / 12 = n / 12 := by omega
  unfold Held at h
  rw [e] at h
  exact h

/-- Nothing in the places the array doesn't have. -/
def pad : Vec Ideal S1x2048x512 .f32 := fun _ => (0 : EReal)

/-- What a point leaves in the result's block, where the array has columns. -/
def left : Vec Ideal S688x512 .bf16 :=
  k0_pay3 (F := Ideal) (iblk m c 0 t) (k0_pay1 (F := Ideal) (full1 m c t pad)) (k0_pay2 (F := Ideal) (full2 m c t pad))

/-- A place moved of the result's block is a column of the array. -/
theorem col_lt (y : (win0_3.xblock (grid0.coords t)).Idx) : 512 * (t.val / 12) + (y (1 : Fin 2)).val < 5504 := by
  have h := Clip.OkAt.inb (win0_3.hclip (grid0.coords t) (1 : Fin 2))
  have h' : win0_3.index t (1 : Fin 2) * 512 + win0_3.xsize (grid0.coords t) (1 : Fin 2) ≤ 5504 := h
  rw [show win0_3.index t (1 : Fin 2) = t.val / 12 from congrFun (index3 t) 1] at h'
  have hy := (y (1 : Fin 2)).isLt
  have hy' : (y (1 : Fin 2)).val < win0_3.xsize (grid0.coords t) (1 : Fin 2) := hy
  omega

/-- A place moved of the result's block, as a row and a column of the block. -/
theorem place (y : (win0_3.xblock (grid0.coords t)).Idx) :
    ∃ (r : Fin 688) (x : Fin 512), win0_3.xinj (grid0.coords t) y = ix2 r x ∧ r.val = (y (0 : Fin 2)).val ∧ x.val = (y (1 : Fin 2)).val := by
  refine ⟨win0_3.xinj (grid0.coords t) y (0 : Fin 2), win0_3.xinj (grid0.coords t) y (1 : Fin 2), funext fun a => ?_, rfl, rfl⟩
  match a with
  | ⟨0, _⟩ => rfl
  | ⟨1, _⟩ => rfl

/-- What a point leaves is right on the part moved, from any scratches that hold the weights of its columns. -/
theorem left_cut {a b : Vec Ideal S2048x512 .bf16} (ha : Held (weights1 m c) t.val a) (hb : Held (weights2 m c) t.val b) :
    win0_3.cut (grid0.coords t) (k0_pay3 (F := Ideal) (iblk m c 0 t) a b) = win0_3.cut (grid0.coords t) (left m c t) := funext fun y => by
  obtain ⟨r, x, e, -, hx⟩ := place t y
  have hl : 512 * (t.val / 12) + x.val < 5504 := hx ▸ col_lt t y
  show k0_pay3 (F := Ideal) (iblk m c 0 t) a b (win0_3.xinj (grid0.coords t) y) = left m c t (win0_3.xinj (grid0.coords t) y)
  rw [e]
  unfold left
  rw [stored_at, stored_at]
  have h1 : ∀ d : Fin 2048, a (ix2 d x) = k0_pay1 (F := Ideal) (full1 m c t pad) (ix2 d x) := fun d => (ha d x hl).trans (held1 m c t pad d x hl).symm
  have h2 : ∀ d : Fin 2048, b (ix2 d x) = k0_pay2 (F := Ideal) (full2 m c t pad) (ix2 d x) := fun d => (hb d x hl).trans (held2 m c t pad d x hl).symm
  simp only [h1, h2]

/-! ## The pipeline's data -/

/-- What holds before point number `t`: the scratches hold what the point before left, the rest anything. -/
def Phi (t : Fin (cfg0.N + 1)) : sProp (MT nD τ sig Unit (Elt Ideal) ℕ (UR sig nD τ) ℕ) :=
  iprop((∃ a, ⌜t.val ≠ 0 → Held (weights1 m c) (t.val - 1) a⌝ ∗ owns (c : Thread nD τ) (Memref.whole cc0_scratch0) fullShare a)
    ∗ (∃ a, ⌜t.val ≠ 0 → Held (weights2 m c) (t.val - 1) a⌝ ∗ owns (c : Thread nD τ) (Memref.whole cc0_scratch1) fullShare a)
    ∗ (∃ r, prngReg c r))

/-- The pipeline's data on a core. -/
def dats (_ : Fin 1) (c : Dev nD) : Dat τ (Elt Ideal) Unit ℕ (UR sig nD τ) ℕ cfg0 c where
  A w := V m c (Pipeline.arrRef spec0 w)
  after w t := match w with
    | ⟨0, _⟩ => iblk m c (0 : Fin 4) t
    | ⟨1, _⟩ => full1 m c t pad
    | ⟨2, _⟩ => full2 m c t pad
    | ⟨3, _⟩ => left m c t
  Φ t := Phi m c t
  q _ := fullShare
  owed _ := 0

/-- The rows' block holds what was loaded. -/
theorem after0 : (dats m 0 c).after (0 : Fin 4) t = iblk m c (0 : Fin 4) t := rfl
/-- The first weights' block holds what was loaded. -/
theorem after1 : (dats m 0 c).after (1 : Fin 4) t = full1 m c t pad := rfl
/-- The second weights' block holds what was loaded. -/
theorem after2 : (dats m 0 c).after (2 : Fin 4) t = full2 m c t pad := rfl
/-- The result's block holds what the point leaves. -/
theorem after3 : (dats m 0 c).after (3 : Fin 4) t = left m c t := rfl

/-- The rows are loaded when the body runs. -/
theorem before0 (d) : (dats m 0 c).before (0 : Fin 4) t d = iblk m c (0 : Fin 4) t :=
  before0_0_of m (dats m 0 c) rfl (fun t => after0 m c t) t d

/-- Blocks of the first weights with one index are cut alike. -/
theorem clip1 (t t' : Fin cfg0.N) (h : win0_1.index t = win0_1.index t') : win0_1.clip (grid0.coords t) = win0_1.clip (grid0.coords t') :=
  congrArg (fun ix : Fin 3 → ℕ => fun a : Fin 3 => Clip.of (ix a) (S1x2048x512.size a) (S2x2048x5504.size a)) h

/-- Blocks of the second weights with one index are cut alike. -/
theorem clip2 (t t' : Fin cfg0.N) (h : win0_2.index t = win0_2.index t') : win0_2.clip (grid0.coords t) = win0_2.clip (grid0.coords t') :=
  congrArg (fun ix : Fin 3 → ℕ => fun a : Fin 3 => Clip.of (ix a) (S1x2048x512.size a) (S2x2048x5504.size a)) h

/-- The first weights are loaded when the body runs. -/
theorem before1 (d) : (dats m 0 c).before (1 : Fin 4) t d = full1 m c t d :=
  ((dats m 0 c).before_in_eq_fetched (1 : Fin 4) rfl (fun _ => rfl) clip1
    (fun t => by rw [after1]; exact (win0_1.cut_fill (grid0.coords t) pad (iblk m c 1 t)).trans rfl) t d).trans rfl

/-- The second weights are loaded when the body runs. -/
theorem before2 (d) : (dats m 0 c).before (2 : Fin 4) t d = full2 m c t d :=
  ((dats m 0 c).before_in_eq_fetched (2 : Fin 4) rfl (fun _ => rfl) clip2
    (fun t => by rw [after2]; exact (win0_2.cut_fill (grid0.coords t) pad (iblk m c 2 t)).trans rfl) t d).trans rfl

end Cert.RiseIdeal.Edge

end
-- ==== Proof.RiseSound.lean ====
/-
  The feed-forward's up-projection, the idealized program: the body meets its obligation at every grid point (`sound`), and every run
  ends with the arrays at what the pipeline computes (`run`).
-/
module

public import proofs.«01_k».proof.Proof.RiseData
public import Idealize.ShloMosaic.Lib.Claim
public import Idealize.ShloMosaic.Lib.Pipeline.Frame

@[expose] public section

set_option maxRecDepth 16384

noncomputable section

namespace Cert.RiseIdeal.Edge

open Cert.RiseIdeal Cert.RiseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg) (c : Dev nD)

/-! ## The body's obligation -/

/-- What is known before a point, at a point that isn't the first. -/
theorem before_point {P : ℕ → Prop} {N : ℕ} (t : Fin N) (h : t.castSucc.val ≠ 0 → P (t.castSucc.val - 1)) (h0 : t.val ≠ 0) : P (t.val - 1) := h h0

/-- What is known after a point. -/
theorem after_point {P : ℕ → Prop} {N : ℕ} (t : Fin N) (h : P t.val) : t.succ.val ≠ 0 → P (t.succ.val - 1) := fun _ => h

/-- The windows' staging buffers at a grid point. -/
abbrev ms0 (t : Fin cfg0.N) : Memref sig .tc .vmem S688x2048 .bf16 := win0_0.stage (cfg0.slots t 0)
/-- The first weights' staging buffer at a grid point. -/
abbrev ms1 (t : Fin cfg0.N) : Memref sig .tc .vmem S1x2048x512 .f32 := win0_1.stage (cfg0.slots t 1)
/-- The second weights' staging buffer at a grid point. -/
abbrev ms2 (t : Fin cfg0.N) : Memref sig .tc .vmem S1x2048x512 .f32 := win0_2.stage (cfg0.slots t 2)
/-- The result's staging buffer at a grid point. -/
abbrev ms3 (t : Fin cfg0.N) : Memref sig .tc .vmem S688x512 .bf16 := win0_3.stage (cfg0.slots t 3)

set_option maxHeartbeats 400000 in
/-- The body meets its obligation at every grid point. -/
theorem sound (t : Fin cfg0.N) :
    iprop((dats m 0 c).Φ t.castSucc ∗ (dats m 0 c).owesAt () t.castSucc
        ∗ (∃ d, owns (c : Thread nD τ) (ms0 t) fullShare ((dats m 0 c).before (0 : Fin 4) t d))
        ∗ (∃ d, owns (c : Thread nD τ) (ms1 t) fullShare ((dats m 0 c).before (1 : Fin 4) t d))
        ∗ (∃ d, owns (c : Thread nD τ) (ms2 t) fullShare ((dats m 0 c).before (2 : Fin 4) t d))
        ∗ (∃ d, owns (c : Thread nD τ) (ms3 t) fullShare ((dats m 0 c).before (3 : Fin 4) t d)))
      ⊢ wp frame (wpE (defs₀ (F := Ideal)) Variants.none c none) Set.univ (bodyAt0 t) fun _ =>
          iprop((dats m 0 c).Φ t.succ ∗ (dats m 0 c).owesAt () t.succ
            ∗ owns (c : Thread nD τ) (ms0 t) fullShare ((dats m 0 c).after (0 : Fin 4) t)
            ∗ (∃ d, owns (c : Thread nD τ) (ms1 t) fullShare (win0_1.fill (grid0.coords t) d (win0_1.cut (grid0.coords t) ((dats m 0 c).after (1 : Fin 4) t))))
            ∗ (∃ d, owns (c : Thread nD τ) (ms2 t) fullShare (win0_2.fill (grid0.coords t) d (win0_2.cut (grid0.coords t) ((dats m 0 c).after (2 : Fin 4) t))))
            ∗ (∃ d, owns (c : Thread nD τ) (ms3 t) fullShare (win0_3.fill (grid0.coords t) d (win0_3.cut (grid0.coords t) ((dats m 0 c).after (3 : Fin 4) t))))) := by
  simp only [before0, before1, before2, after0, after1, after2, after3]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  rw [win0_1.cut_fill (grid0.coords t) pad (iblk m c 1 t), win0_2.cut_fill (grid0.coords t) pad (iblk m c 2 t)]
  unfold Phi
  iintro ⟨⟨⟨%a0, %ha0, HS0⟩, ⟨%a1, %ha1, HS1⟩, HT0⟩, Ho, ⟨%d0, H0⟩, ⟨%d1, H1⟩, ⟨%d2, H2⟩, ⟨%d3, H3⟩⟩
  by_cases hc : First (grid0.coords t)
  · iapply (first_point c (grid0.coords t) (ms0 t) (hstage0_0 ((cfg0.slots t 0).cast nbuf0_0)) (ms1 t) (hstage0_1 ((cfg0.slots t 1).cast nbuf0_1))
      (ms2 t) (hstage0_2 ((cfg0.slots t 2).cast nbuf0_2)) (ms3 t) (hstage0_3 ((cfg0.slots t 3).cast nbuf0_3))
      (Memref.whole cc0_scratch0) (Memref.isWhole_whole _) (Memref.whole cc0_scratch1) (Memref.isWhole_whole _)
      (iblk m c (0 : Fin 4) t) (full1 m c t d1) (full2 m c t d2) hc _)
    isplitl [H0]; · iexact H0
    isplitl [H1]; · iexact H1
    isplitl [H2]; · iexact H2
    isplitl [H3]; · iexists _; iexact H3
    isplitl [HS0]; · iexists _; iexact HS0
    isplitl [HS1]; · iexists _; iexact HS1
    iintro ⟨H0, H1, H2, H3, HS0, HS1⟩
    isplitl [HS0 HS1 HT0]
    · isplitl [HS0]
      · iexists _; isplitr; swap
        · iexact HS0
        · ipureintro; exact after_point (P := fun n => Held (weights1 m c) n _) t (held1 m c t d1)
      isplitl [HS1]
      · iexists _; isplitr; swap
        · iexact HS1
        · ipureintro; exact after_point (P := fun n => Held (weights2 m c) n _) t (held2 m c t d2)
      iexact HT0
    isplitl [Ho]; · iexact Ho
    isplitl [H0]; · iexact H0
    isplitl [H1]; · iexists d1; iexact H1
    isplitl [H2]; · iexists d2; iexact H2
    iexists (k0_pay3 (F := Ideal) (iblk m c 0 t) (k0_pay1 (F := Ideal) (full1 m c t d1)) (k0_pay2 (F := Ideal) (full2 m c t d2)))
    rw [win0_3.fill_congr_cut (grid0.coords t) (left_cut m c t (held1 m c t d1) (held2 m c t d2))]
    iexact H3
  · have h0 : ¬ t.val % 12 = 0 := fun h => hc ((first_iff t).mpr h)
    have hz : t.val ≠ 0 := fun h => h0 (by rw [h])
    have k0 : Held (weights1 m c) t.val a0 := held_kept h0 (before_point (P := fun n => Held (weights1 m c) n a0) t ha0 hz)
    have k1 : Held (weights2 m c) t.val a1 := held_kept h0 (before_point (P := fun n => Held (weights2 m c) n a1) t ha1 hz)
    iapply (later_point c (grid0.coords t) (ms0 t) (hstage0_0 ((cfg0.slots t 0).cast nbuf0_0)) (ms1 t) (hstage0_1 ((cfg0.slots t 1).cast nbuf0_1))
      (ms2 t) (hstage0_2 ((cfg0.slots t 2).cast nbuf0_2)) (ms3 t) (hstage0_3 ((cfg0.slots t 3).cast nbuf0_3))
      (Memref.whole cc0_scratch0) (Memref.isWhole_whole _) (Memref.whole cc0_scratch1) (Memref.isWhole_whole _)
      (iblk m c (0 : Fin 4) t) (full1 m c t d1) (full2 m c t d2) hc a0 a1 _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 HT0]
    · isplitl [HS0]
      · iexists _; isplitr; swap
        · iexact HS0
        · ipureintro; exact after_point (P := fun n => Held (weights1 m c) n a0) t k0
      isplitl [HS1]
      · iexists _; isplitr; swap
        · iexact HS1
        · ipureintro; exact after_point (P := fun n => Held (weights2 m c) n a1) t k1
      iexact HT0
    isplitl [Ho]; · iexact Ho
    isplitl [H0]; · iexact H0
    isplitl [H1]; · iexists d1; iexact H1
    isplitl [H2]; · iexists d2; iexact H2
    iexists (k0_pay3 (F := Ideal) (iblk m c 0 t) a0 a1)
    rw [win0_3.fill_congr_cut (grid0.coords t) (left_cut m c t k0 k1)]
    iexact H3

/-- The body's obligation, at every grid point. -/
theorem obligation : BodyObligationLoose (dats m 0 c) (defs₀ (F := Ideal)) Variants.none () Set.univ := fun t => by
  rw [bigSep_W0, bigSep_W0, show (defs₀ (F := Ideal)) .tc cfg0.body (cfg0.bodyArgs t (cfg0.slots t)) = bodyAt0 t from by unfold defs₀; rw [Defs.onTc_tc]]
  exact sound m c t

/-! ## The run -/

/-- What holds before the first grid point, from the scratches at anything. -/
theorem Phi_first : Pipeline.ΦA spec0 c ⊢ (dats m 0 c).Φ 0 := by
  rw [show (dats m 0 c).Φ 0 = Phi m c 0 from rfl]
  unfold Phi Pipeline.ΦA; rw [scopedRest0_eq]; simp only [owns_whole]
  iintro ⟨⟨⟨%a0, HS0⟩, ⟨%a1, HS1⟩⟩, HT0⟩
  isplitl [HS0]
  · iexists a0; isplitr; swap
    · iexact HS0
    · ipureintro; exact fun h => absurd rfl h
  isplitl [HS1]
  · iexists a1; isplitr; swap
    · iexact HS1
    · ipureintro; exact fun h => absurd rfl h
  iexact HT0

/-- After the last grid point the scratches are given back. -/
theorem Phi_last : (dats m 0 c).Φ (Fin.last cfg0.N) ⊢ Pipeline.ΦA spec0 c := by
  rw [show (dats m 0 c).Φ (Fin.last cfg0.N) = Phi m c (Fin.last _) from rfl]
  unfold Phi Pipeline.ΦA; rw [scopedRest0_eq]; simp only [owns_whole]
  iintro ⟨⟨%a0, -, HS0⟩, ⟨%a1, -, HS1⟩, HT0⟩
  isplitl [HS0 HS1]
  · isplitl [HS0]
    · iexists a0; iexact HS0
    iexists a1; iexact HS1
  iexact HT0

/-- What a run ends in: every array at what the pipeline computes, the rest as it was, every semaphore at zero. -/
def Ends (r : PUnit × MemSt nD τ sig (Elt Ideal)) : Prop := Pipeline.FramePost cfgs (dats m) 0 (V m) r ∧ r.2.sem = fun _ => 0

set_option backward.isDefEq.respectTransparency.types false in
set_option maxHeartbeats 4000000 in
/-- Every run ends so. -/
theorem run : θ_run (defs (F := Ideal)) (onTc (τ := τ) (main (F := Ideal))) (s₀ m ρ) (Ends m) :=
  Pipeline.θ_run_frame_track cfgs (dats m) 0 launch0 defs₀ Variants.none m ρ main (obligation m)
    (fun c w => by unfold Dat.share; split <;> rfl) (fun _ _ => rfl) (V m) (hmain m Variants.none) (fun _ _ => rfl)
    (Phi_first m) (Phi_last m) (Ends m) (fun _ h => h)

end Cert.RiseIdeal.Edge

end
-- ==== Proof.RiseValue.lean ====
/-
  The feed-forward's up-projection, the idealized program's value: the array it leaves is the gated product of the rows with the first
  layer's weights (`array_eq`), and every run ends so, with the arguments as they were (`run_value`, `ends`).
-/
module

public import proofs.«01_k».proof.Proof.RiseSound

@[expose] public section

set_option maxRecDepth 16384

noncomputable section

/-- The gated product of a row with two columns of the first layer's weights. -/
def Cert.Mat.gated {M L K N : ℕ} (A : Idealize.ShloMosaic.Shape.Idx ⟨2, ![M, K]⟩ → EReal) (W1 W3 : Idealize.ShloMosaic.Shape.Idx ⟨3, ![L + 1, K, N]⟩ → EReal)
    (R : Fin M) (C : Fin N) : EReal :=
  Cert.Moe.silu (Cert.Mat.mat A W1 R C) * Cert.Mat.mat A W3 R C

namespace Cert.RiseIdeal.Edge

open Cert.RiseIdeal Cert.RiseIdeal.Gen Cert.Mat Cert.Moe
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD) (t : Fin cfg0.N)

/-- A point's block of the result, where the array has columns. -/
theorem left_at (r : Fin 688) (x : Fin 512) (h : 512 * (t.val / 12) + x.val < 5504) :
    left m c t (ix2 r x) = gated (L := 1) (rows m c) (weights1 m c) (weights2 m c) (row t r) ⟨512 * (t.val / 12) + x.val, h⟩ := by
  unfold left
  rw [stored_at]
  unfold gated mat
  have h1 : ∀ d : Fin 2048, k0_pay1 (F := Ideal) (full1 m c t pad) (ix2 d x) = weights1 m c (ix3 0 d ⟨512 * (t.val / 12) + x.val, h⟩) := fun d => held1 m c t pad d x h
  have h2 : ∀ d : Fin 2048, k0_pay2 (F := Ideal) (full2 m c t pad) (ix2 d x) = weights2 m c (ix3 0 d ⟨512 * (t.val / 12) + x.val, h⟩) := fun d => held2 m c t pad d x h
  simp only [h1, h2, rows_at]

/-- The result as an array. -/
def gatedArray (A : Vec Ideal S8256x2048 .bf16) (W1 W3 : Vec Ideal S2x2048x5504 .f32) : Vec Ideal S8256x5504 .bf16 := fun i =>
  gated (L := 1) A W1 W3 (i 0) (i 1)

/-- The place in its array of a place moved of the result's block. -/
theorem emb3 (y : (win0_3.xblock (grid0.coords t)).Idx) (r : Fin 688) (x : Fin 512) (hr : r.val = (y (0 : Fin 2)).val) (hx : x.val = (y (1 : Fin 2)).val)
    (h : 512 * (t.val / 12) + x.val < 5504) : (win0_3.blk t).view.emb y = ix2 (row t r) ⟨512 * (t.val / 12) + x.val, h⟩ := by
  refine funext fun a => Fin.ext ?_
  match a with
  | ⟨0, _⟩ =>
    show win0_3.index t (0 : Fin 2) * 688 + 1 * (y (0 : Fin 2)).val = 688 * (t.val % 12) + r.val
    rw [show win0_3.index t (0 : Fin 2) = t.val % 12 from congrFun (index3 t) 0]
    omega
  | ⟨1, _⟩ =>
    show win0_3.index t (1 : Fin 2) * 512 + 1 * (y (1 : Fin 2)).val = 512 * (t.val / 12) + x.val
    rw [show win0_3.index t (1 : Fin 2) = t.val / 12 from congrFun (index3 t) 1]
    omega

/-- The array the kernel leaves. -/
theorem array_eq : (dats m 0 c).arrAt 3 cfg0.N = gatedArray (rows m c) (weights1 m c) (weights2 m c) := by
  refine (dats m 0 c).arrAt_eq_of_covers 3 _ (by decide +kernel) fun t hf' y => ?_
  obtain ⟨r, x, e, hr, hx⟩ := place t y
  have hl : 512 * (t.val / 12) + x.val < 5504 := hx ▸ col_lt t y
  show left m c t (win0_3.xinj (grid0.coords t) y) = gatedArray (rows m c) (weights1 m c) (weights2 m c) ((win0_3.blk t).view.emb y)
  rw [e, emb3 t y r x hr hx hl]
  exact left_at m c t r x hl

/-- Every run ends with the result at the array's value and the arguments as they were. -/
theorem run_value : θ_run (defs (F := Ideal)) (onTc (τ := τ) (main (F := Ideal))) ⟨m, fun _ => 0, ρ⟩ fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun r h c => ⟨(h.1 c).1 3,
      ((h.1 c).1 0).trans (((dats m 0 c).arrAt_in 0 rfl _).trans (V_main_arg0 m c)),
      ((h.1 c).1 1).trans (((dats m 0 c).arrAt_in 1 rfl _).trans (V_main_arg1 m c)),
      ((h.1 c).1 2).trans (((dats m 0 c).arrAt_in 2 rfl _).trans (V_main_arg2 m c))⟩) (run m ρ)

/-- Every run ends with the arguments as they were and every semaphore at zero. -/
theorem ends : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := Ideal)) _ _).mono (fun r h => ⟨fun c => ⟨
      ((h.1 c).1 0).trans (((dats m 0 c).arrAt_in 0 rfl _).trans (V_main_arg0 m c)),
      ((h.1 c).1 1).trans (((dats m 0 c).arrAt_in 1 rfl _).trans (V_main_arg1 m c)),
      ((h.1 c).1 2).trans (((dats m 0 c).arrAt_in 2 rfl _).trans (V_main_arg2 m c))⟩, h.2⟩) (run m ρ)

end Cert.RiseIdeal.Edge

end
-- ==== Proof.RiseRef.lean ====
/-
  The reference of the feed-forward's up-projection read at an index (`whole_at`).
-/
module

public import proofs.«01_k».proof.Proof.Gen.RiseReferenceIdeal.Run
public import proofs.«01_k».proof.Proof.RiseValue

@[expose] public section

set_option maxRecDepth 16384

noncomputable section

open Idealize.ShloMosaic Idealize.ShloMosaic.TcCoe Idealize.SL.Sem

namespace Cert.RiseReferenceIdeal.Value

open Cert.RiseReferenceIdeal Cert.RiseReferenceIdeal.Gen Cert.Mat Cert.Moe

/-- The rows times the first layer's weights. -/
def product (A : FVec Ideal S8256x2048 .bf16) (W : FVec Ideal S2x2048x5504 .f32) : FVec Ideal S8256x5504 .f32 :=
  Host.dotGeneral dot_S8256x2048_S2048x5504_S8256x5504_1_0_0_1_n_n none (extf .f32 A bitsLt_bf16_f32) (shapeCast _ (extractStridedSlice S1x2048x5504 ![0, 0, 0] W slices_S2x2048x5504_S1x2048x5504_0_0_0) shapeCasts_S1x2048x5504_S2048x5504)

/-- The gated product of two arrays. -/
def gate (X Y : FVec Ideal S8256x5504 .f32) : FVec Ideal S8256x5504 .bf16 :=
  truncf .bf16 (mulf (mulf X (Host.divf (broadcastInDim S8256x5504 ![] bcast_S_S8256x5504 (constant S_ .f32 0x3F800000#32)) (addf (broadcastInDim S8256x5504 ![] bcast_S_S8256x5504 (constant S_ .f32 0x3F800000#32)) (Host.exp (Host.negf X))))) Y) bitsLt_bf16_f32

/-- A product, read. -/
theorem product_at (A : FVec Ideal S8256x2048 .bf16) (W : FVec Ideal S2x2048x5504 .f32) (R : Fin 8256) (C : Fin 5504) :
    product A W (ix2 R C) = mat (L := 1) A W R C := by
  pointwise [product]
  rfl

/-- A gated product, read. -/
theorem gate_at (X Y : FVec Ideal S8256x5504 .f32) (R : Fin 8256) (C : Fin 5504) : gate X Y (ix2 R C) = silu (X (ix2 R C)) * Y (ix2 R C) := by
  pointwise [gate]
  rfl

/-- The reference's result over its arguments. -/
def whole (A : FVec Ideal S8256x2048 .bf16) (W1 W3 : FVec Ideal S2x2048x5504 .f32) : FVec Ideal S8256x5504 .bf16 := gate (product A W1) (product A W3)

/-- The reference's result, read. -/
theorem whole_at (A : FVec Ideal S8256x2048 .bf16) (W1 W3 : FVec Ideal S2x2048x5504 .f32) (R : Fin 8256) (C : Fin 5504) :
    whole A W1 W3 (ix2 R C) = gated (L := 1) A W1 W3 R C := by
  unfold whole gated
  rw [gate_at, product_at, product_at]

end Cert.RiseReferenceIdeal.Value

end
-- ==== Proof.RiseClaim.lean ====
/-
  The claims of the feed-forward's up-projection: the real program, the idealized one and the reference run and leave their arguments,
  and the idealized program's result is the reference's.
-/
module

public import proofs.«01_k».proof.Defs
public import proofs.«01_k».proof.Proof.Gen.Rise
public import proofs.«01_k».proof.Proof.Gen.RiseIdeal
public import proofs.«01_k».proof.Proof.Gen.RiseReferenceIdeal
public import proofs.«01_k».proof.Proof.RiseReal
public import proofs.«01_k».proof.Proof.RiseValue
public import proofs.«01_k».proof.Proof.RiseRef
public import Idealize.ShloMosaic.Lib.Quiescent

@[expose] public section

noncomputable section

namespace Cert.Mat

open Idealize.ShloMosaic Idealize.ShloMosaic.TcCoe Idealize.SL.Sem

attribute [local instance] Cert.Rise.Gen.facts Cert.RiseIdeal.Gen.facts Cert.RiseReferenceIdeal.Gen.facts

/-- The real program of the feed-forward's up-projection runs and leaves its arguments. -/
theorem rise_frame_real : Cert.quiescent_Rise := fun m g _ => Cert.Rise.Edge.ends m g

/-- The idealized program of the feed-forward's up-projection runs and leaves its arguments. -/
theorem rise_frame_ideal : Cert.quiescent_RiseIdeal := fun m g _ => Cert.RiseIdeal.Edge.ends m g

/-- The reference of the feed-forward's up-projection runs and leaves its arguments. -/
theorem rise_frame_reference : Cert.quiescent_RiseReferenceIdeal := fun m g _ =>
  (θ_run _ _ _).mono (fun r h => ⟨fun c => (h c).2, sem_eq_zero_of_no_sems rfl r.2⟩) (Cert.RiseReferenceIdeal.Value.run m g)

/-- The kernel's value of the feed-forward's up-projection is its reference's. -/
theorem rise_algebraic : Cert.algebraic_RiseIdeal_RiseReferenceIdeal := by
  pair_intro
  · run_from Cert.RiseIdeal.Edge.run_value m g
  · run_from Cert.RiseReferenceIdeal.Value.run m' g'
    refine Eq.trans ?_ (Cert.RiseIdeal.Edge.array_eq m c).symm
    refine funext fun (y : Cert.RiseReferenceIdeal.S8256x5504.Idx) => ?_
    idx_vars y
    exact Cert.RiseReferenceIdeal.Value.whole_at _ _ _ y0 y1

end Cert.Mat

end
-- ==== Proof.NormSpec.lean ====
/-
  The rms norm's value: an entry times the reciprocal root of its row's mean square and an epsilon, times its gain (`normed`).
-/
module

public import Idealize.ShloMosaic.Lib.Pointwise

@[expose] public section

noncomputable section

open Idealize.ShloMosaic Idealize.SL.Sem

namespace Cert.Mat

/-- The entry `k` of a row of `K` numbers, normed with the gains `g`: `n` is the row's length as a number. -/
def normed {K : ℕ} (n : EReal) (x g : Fin K → EReal) (k : Fin K) : EReal :=
  x k * Ideal.rsqrt (Ideal.div (∑ d : Fin K, x d * x d) n + Ideal.ofBits .f32 0x358637BD#32) * g k

/-- The stream's width as a number. -/
abbrev width : EReal := Ideal.ofBits .f32 0x45000000#32

/-- A head's width as a number. -/
abbrev headWidth : EReal := Ideal.ofBits .f32 0x43000000#32

end Cert.Mat

end
-- ==== Proof.NormValue.lean ====
/-
  The value of the stream's norm: every point's block is its rows normed (`block_at`); the blocks make up the array
  (`array_eq`).
-/
module

public import proofs.«01_k».proof.Proof.Gen.NormIdeal.Value
public import proofs.«01_k».proof.Proof.NormSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen Cert.Mat

/-- The block stored, read. -/
theorem stored_at (a : Vec Ideal S688x2048 .f32) (g : Vec Ideal S1x2048 .f32) (r : Fin 688) (x : Fin 2048) :
    k0_pay1 (F := Ideal) a g (ix2 r x) = normed width (fun d => a (ix2 r d)) (fun d => g (ix2 0 d)) x := by
  pointwise [k0_pay1, normed]

variable (m : (ℓ : Loc nD τ sig) → Buf (Elt Ideal) ℓ) (c : Dev nD) (t : Fin cfg0.N)

/-- A grid point's number is below 12. -/
theorem point_lt : t.val < 12 := N_0 ▸ t.isLt

/-- The row of the array that a block's row is. -/
def row (r : Fin 688) : Fin 8256 := ⟨688 * t.val + r, by have := r.isLt; have := point_lt t; omega⟩

/-- The block of rows of a grid point. -/
theorem index0 : ∀ t : Fin cfg0.N, win0_0.index t = ![t.val, 0] :=
  (by decide +kernel : ∀ t : Fin grid0.N, win0_0.index t = ![t.val, 0])

/-- The block of gains of a grid point. -/
theorem index1 : ∀ t : Fin cfg0.N, win0_1.index t = ![0, 0] :=
  (by decide +kernel : ∀ t : Fin grid0.N, win0_1.index t = ![0, 0])

/-- The block of the result of a grid point. -/
theorem index2 : ∀ t : Fin cfg0.N, win0_2.index t = ![t.val, 0] :=
  (by decide +kernel : ∀ t : Fin grid0.N, win0_2.index t = ![t.val, 0])

/-- The rows. -/
abbrev rows : Vec Ideal S8256x2048 .f32 := m ((c.tc : Thread nD τ).loc main_arg0)

/-- The gains. -/
abbrev gains : Vec Ideal S2048 .f32 := m ((c.tc : Thread nD τ).loc main_arg1)

/-- The gains as the one row the call takes. -/
theorem gain_row : (V m c main_v0 : Vec Ideal S1x2048 .f32) = shapeCast S1x2048 (gains m c) shapeCasts_S2048_S1x2048 := by
  unfold V
  after_results
  rfl

/-- The rows a grid point loads. -/
theorem rows_at (r : Fin 688) (d : Fin 2048) : iblk m c 0 t (ix2 r d) = rows m c (ix2 (row t r) d) := by
  unfold row
  blk_ext [iblk, index0 t]

/-- The gains a grid point loads. -/
theorem gains_at (d : Fin 2048) : iblk m c 1 t (ix2 0 d) = gains m c (ix1 d) := by
  have e : iblk m c 1 t (ix2 0 d) = (V m c main_v0 : Vec Ideal S1x2048 .f32) (ix2 0 d) := by blk_ext [iblk, index1 t]
  rw [e, gain_row]
  pointwise

/-- The place in its array of the result's block. -/
theorem emb2 (r : Fin 688) (x : Fin 2048) : (win0_2.blk t).view.emb (ix2 r x) = ix2 (row t r) x := by
  unfold row
  blk_ext [index2 t]

/-- A point's block of the result. -/
theorem block_at (r : Fin 688) (x : Fin 2048) :
    out0_2 (iblk m c 0 t) (iblk m c 1 t) (ix2 r x) = normed width (fun d => rows m c (ix2 (row t r) d)) (fun d => gains m c (ix1 d)) x := by
  have e : out0_2 (iblk m c 0 t) (iblk m c 1 t) = k0_pay1 (F := Ideal) (iblk m c 0 t) (iblk m c 1 t) := by frame_out
  rw [e, stored_at]
  simp only [rows_at, gains_at]

/-- The result as an array. -/
def normedArray (A : Vec Ideal S8256x2048 .f32) (G : Vec Ideal S2048 .f32) : Vec Ideal S8256x2048 .bf16 := fun i =>
  normed width (fun d => A (ix2 (i 0) d)) (fun d => G (ix1 d)) (i 1)

/-- The array the kernel leaves. -/
theorem array_eq : (dats m 0 c).arrAt 2 cfg0.N = normedArray (rows m c) (gains m c) := by
  refine (dats m 0 c).arrAt_eq_of_covers 2 _ (by decide +kernel) fun t hf' y => ?_
  idx_vars y
  blk_simp [index2 t]
  rw [after0_2]
  rw [emb2]
  exact block_at m c t y0 y1

end Cert.NormIdeal.Value

end
-- ==== Proof.NormRef.lean ====
/-
  The reference of the stream's norm read at an index (`whole_at`).
-/
module

public import proofs.«01_k».proof.Proof.Gen.NormReferenceIdeal.Run
public import proofs.«01_k».proof.Proof.NormSpec

@[expose] public section

set_option maxRecDepth 16384

noncomputable section

open Idealize.ShloMosaic Idealize.ShloMosaic.TcCoe Idealize.SL.Sem

namespace Cert.NormReferenceIdeal.Value

open Cert.NormReferenceIdeal Cert.NormReferenceIdeal.Gen Cert.Mat

/-- The reference's result over its arguments. -/
def whole (A : FVec Ideal S8256x2048 .f32) (G : FVec Ideal S2048 .f32) : FVec Ideal S8256x2048 .bf16 :=
  truncf .bf16 (mulf (mulf A (broadcastInDim S8256x2048 ![0, 1] bcast_S8256x1_S8256x2048_0_1 (Host.rsqrt (addf (Host.divf (broadcastInDim S8256x1 ![0] bcast_S8256_S8256x1_0 (Host.reduceAdd (mulf A A) (constant S_ .f32 0x00000000#32) reducesTo_S8256x2048_S8256_d1 h_S_)) (broadcastInDim S8256x1 ![] bcast_S_S8256x1 (constant S_ .f32 0x45000000#32))) (broadcastInDim S8256x1 ![] bcast_S_S8256x1 (constant S_ .f32 0x358637BD#32)))))) (broadcastInDim S8256x2048 ![0, 1] bcast_S1x2048_S8256x2048_0_1 (broadcastInDim S1x2048 ![1] bcast_S2048_S1x2048_1 G))) bitsLt_bf16_f32

/-- The reference's result, read. -/
theorem whole_at (A : FVec Ideal S8256x2048 .f32) (G : FVec Ideal S2048 .f32) (R : Fin 8256) (C : Fin 2048) :
    whole A G (ix2 R C) = normed width (fun d => A (ix2 R d)) (fun d => G (ix1 d)) C := by
  pointwise [whole, normed]

end Cert.NormReferenceIdeal.Value

end
-- ==== Proof.PrepValue.lean ====
/-
  The value of the attention's preparation on the prompt: every point's blocks are its head's queries and keys normed and
  its values (`queries_block`, `keys_block`, `values_block`); the blocks make up the five arrays (`array5` … `array9`).
-/
module

public import proofs.«01_k».proof.Proof.Gen.PrepIdeal.Value
public import proofs.«01_k».proof.Proof.NormSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Mat

/-- The column of the `d`-th entry of a column's head. -/
def mate (C : Fin 1024) (d : Fin 128) : Fin 1024 := ⟨C.val / 128 * 128 + d.val, by have := C.isLt; have := d.isLt; omega⟩

/-- A column's place in its head. -/
def lane (C : Fin 1024) : Fin 128 := ⟨C.val % 128, by omega⟩

/-- A column is the entry of its head at its own place. -/
theorem mate_lane (C : Fin 1024) : mate C (lane C) = C := Fin.ext (by unfold mate lane; dsimp only; omega)

/-- A row of the prompt as a row of the projections. -/
def prow (R : Fin 8192) : Fin 8256 := ⟨R.val, by have := R.isLt; omega⟩

/-- A column of the heads that begin at block `b` of the projections, as a column of these. -/
def pcol (b : Fin 47) (C : Fin 1024) : Fin 6912 := ⟨128 * b.val + C.val, by have := C.isLt; have := b.isLt; omega⟩

/-- The heads that begin at block `b` of the projections, normed. -/
def normedHeads (b : Fin 47) (A : Shape.Idx ⟨2, ![8256, 6912]⟩ → EReal) (G : Shape.Idx ⟨1, ![128]⟩ → EReal) (R : Fin 8192) (C : Fin 1024) : EReal :=
  normed headWidth (fun d => A (ix2 (prow R) (pcol b (mate C d)))) (fun d => G (ix1 d)) (lane C)

end Cert.Mat

namespace Cert.PrepIdeal.Value

open Cert.PrepIdeal Cert.PrepIdeal.Gen Cert.Mat

/-- The queries stored, read. -/
theorem queries_stored (a : Vec Ideal S1024x128 .f32) (g : Vec Ideal S1x128 .f32) (r : Fin 1024) (x : Fin 128) :
    k0_pay2 (F := Ideal) a g (ix2 r x) = normed headWidth (fun d => a (ix2 r d)) (fun d => g (ix2 0 d)) x := by
  pointwise [k0_pay2, normed]

/-- The keys stored, read. -/
theorem keys_stored (a : Vec Ideal S1024x128 .f32) (g : Vec Ideal S1x128 .f32) (r : Fin 1024) (x : Fin 128) :
    k0_pay3 (F := Ideal) a g (ix2 r x) = normed headWidth (fun d => a (ix2 r d)) (fun d => g (ix2 0 d)) x := by
  pointwise [k0_pay3, normed]

/-- The keys stored rounded, read. -/
theorem rounded_stored (a : Vec Ideal S1024x128 .f32) (g : Vec Ideal S1x128 .f32) (r : Fin 1024) (x : Fin 128) :
    k0_pay4 (F := Ideal) a g (ix2 r x) = normed headWidth (fun d => a (ix2 r d)) (fun d => g (ix2 0 d)) x := by
  pointwise [k0_pay4, k0_pay3, normed]

/-- The values stored rounded, read. -/
theorem values_stored (a : Vec Ideal S1024x128 .f32) (r : Fin 1024) (x : Fin 128) : k0_pay1 (F := Ideal) a (ix2 r x) = a (ix2 r x) := by
  pointwise [k0_pay1]

variable (m : (ℓ : Loc nD τ sig) → Buf (Elt Ideal) ℓ) (c : Dev nD) (t : Fin cfg0.N)

/-- A grid point's number is below 64. -/
theorem point_lt : t.val < 64 := N_0 ▸ t.isLt

/-- The row of the results that a block's row is. -/
def row (r : Fin 1024) : Fin 8192 := ⟨1024 * (t.val / 8) + r, by have := r.isLt; have := point_lt t; omega⟩

/-- The column of the results that a block's column is. -/
def col (x : Fin 128) : Fin 1024 := ⟨128 * (t.val % 8) + x, by have := x.isLt; omega⟩

/-- The block of queries of a grid point. -/
theorem index0 : ∀ t : Fin cfg0.N, win0_0.index t = ![t.val / 8, 30 + t.val % 8] :=
  (by decide +kernel : ∀ t : Fin grid0.N, win0_0.index t = ![t.val / 8, 30 + t.val % 8])

/-- The block of keys of a grid point. -/
theorem index1 : ∀ t : Fin cfg0.N, win0_1.index t = ![t.val / 8, 38 + t.val % 8] :=
  (by decide +kernel : ∀ t : Fin grid0.N, win0_1.index t = ![t.val / 8, 38 + t.val % 8])

/-- The block of values of a grid point. -/
theorem index2 : ∀ t : Fin cfg0.N, win0_2.index t = ![t.val / 8, 46 + t.val % 8] :=
  (by decide +kernel : ∀ t : Fin grid0.N, win0_2.index t = ![t.val / 8, 46 + t.val % 8])

/-- The block of the queries' gains of a grid point. -/
theorem index3 : ∀ t : Fin cfg0.N, win0_3.index t = ![0, 0] :=
  (by decide +kernel : ∀ t : Fin grid0.N, win0_3.index t = ![0, 0])

/-- The block of the keys' gains of a grid point. -/
theorem index4 : ∀ t : Fin cfg0.N, win0_4.index t = ![0, 0] :=
  (by decide +kernel : ∀ t : Fin grid0.N, win0_4.index t = ![0, 0])

/-- The block of the normed queries of a grid point. -/
theorem index5 : ∀ t : Fin cfg0.N, win0_5.index t = ![t.val / 8, t.val % 8] :=
  (by decide +kernel : ∀ t : Fin grid0.N, win0_5.index t = ![t.val / 8, t.val % 8])

/-- The block of the normed keys of a grid point. -/
theorem index6 : ∀ t : Fin cfg0.N, win0_6.index t = ![t.val / 8, t.val % 8] :=
  (by decide +kernel : ∀ t : Fin grid0.N, win0_6.index t = ![t.val / 8, t.val % 8])

/-- The block of the normed and rounded keys of a grid point. -/
theorem index7 : ∀ t : Fin cfg0.N, win0_7.index t = ![t.val / 8, t.val % 8] :=
  (by decide +kernel : ∀ t : Fin grid0.N, win0_7.index t = ![t.val / 8, t.val % 8])

/-- The block of the values left of a grid point. -/
theorem index8 : ∀ t : Fin cfg0.N, win0_8.index t = ![t.val / 8, t.val % 8] :=
  (by decide +kernel : ∀ t : Fin grid0.N, win0_8.index t = ![t.val / 8, t.val % 8])

/-- The block of the rounded values of a grid point. -/
theorem index9 : ∀ t : Fin cfg0.N, win0_9.index t = ![t.val / 8, t.val % 8] :=
  (by decide +kernel : ∀ t : Fin grid0.N, win0_9.index t = ![t.val / 8, t.val % 8])

/-- The projections. -/
abbrev proj : Vec Ideal S8256x6912 .f32 := m ((c.tc : Thread nD τ).loc main_arg0)

/-- The queries' gains. -/
abbrev qgains : Vec Ideal S128 .f32 := m ((c.tc : Thread nD τ).loc main_arg1)

/-- The keys' gains. -/
abbrev kgains : Vec Ideal S128 .f32 := m ((c.tc : Thread nD τ).loc main_arg2)

/-- The queries' gains as the one row the call takes. -/
theorem qgain_row : (V m c main_v0 : Vec Ideal S1x128 .f32) = shapeCast S1x128 (qgains m c) shapeCasts_S128_S1x128 := by
  unfold V
  after_results
  rfl

/-- The keys' gains as the one row the call takes. -/
theorem kgain_row : (V m c main_v1 : Vec Ideal S1x128 .f32) = shapeCast S1x128 (kgains m c) shapeCasts_S128_S1x128 := by
  unfold V
  after_results
  rfl

/-- The queries a grid point loads. -/
theorem queries_at (r : Fin 1024) (x : Fin 128) : X0_0 m c t (ix2 r x) = proj m c (ix2 (prow (row t r)) (pcol 30 (col t x))) := by
  unfold X0_0 Pipeline.Window.fill
  rw [dif_pos (moved0_0 t _)]
  unfold row col prow pcol
  refine congrArg (proj m c) (funext fun a => Fin.ext ?_)
  match a with
  | ⟨0, _⟩ =>
    show win0_0.index t (0 : Fin 2) * 1024 + 1 * r.val = 1024 * (t.val / 8) + r.val
    rw [show win0_0.index t (0 : Fin 2) = t.val / 8 from congrFun (index0 t) 0]
    omega
  | ⟨1, _⟩ =>
    show win0_0.index t (1 : Fin 2) * 128 + 1 * x.val = 128 * 30 + (128 * (t.val % 8) + x.val)
    rw [show win0_0.index t (1 : Fin 2) = 30 + t.val % 8 from congrFun (index0 t) 1]
    omega

/-- The keys a grid point loads. -/
theorem keys_at (r : Fin 1024) (x : Fin 128) : X0_1 m c t (ix2 r x) = proj m c (ix2 (prow (row t r)) (pcol 38 (col t x))) := by
  unfold X0_1 Pipeline.Window.fill
  rw [dif_pos (moved0_1 t _)]
  unfold row col prow pcol
  refine congrArg (proj m c) (funext fun a => Fin.ext ?_)
  match a with
  | ⟨0, _⟩ =>
    show win0_1.index t (0 : Fin 2) * 1024 + 1 * r.val = 1024 * (t.val / 8) + r.val
    rw [show win0_1.index t (0 : Fin 2) = t.val / 8 from congrFun (index1 t) 0]
    omega
  | ⟨1, _⟩ =>
    show win0_1.index t (1 : Fin 2) * 128 + 1 * x.val = 128 * 38 + (128 * (t.val % 8) + x.val)
    rw [show win0_1.index t (1 : Fin 2) = 38 + t.val % 8 from congrFun (index1 t) 1]
    omega

/-- The values a grid point loads. -/
theorem values_at (r : Fin 1024) (x : Fin 128) : X0_2 m c t (ix2 r x) = proj m c (ix2 (prow (row t r)) (pcol 46 (col t x))) := by
  unfold X0_2 Pipeline.Window.fill
  rw [dif_pos (moved0_2 t _)]
  unfold row col prow pcol
  refine congrArg (proj m c) (funext fun a => Fin.ext ?_)
  match a with
  | ⟨0, _⟩ =>
    show win0_2.index t (0 : Fin 2) * 1024 + 1 * r.val = 1024 * (t.val / 8) + r.val
    rw [show win0_2.index t (0 : Fin 2) = t.val / 8 from congrFun (index2 t) 0]
    omega
  | ⟨1, _⟩ =>
    show win0_2.index t (1 : Fin 2) * 128 + 1 * x.val = 128 * 46 + (128 * (t.val % 8) + x.val)
    rw [show win0_2.index t (1 : Fin 2) = 46 + t.val % 8 from congrFun (index2 t) 1]
    omega

/-- The queries' gains a grid point loads. -/
theorem qgains_at (d : Fin 128) : iblk m c 3 t (ix2 0 d) = qgains m c (ix1 d) := by
  have e : iblk m c 3 t (ix2 0 d) = (V m c main_v0 : Vec Ideal S1x128 .f32) (ix2 0 d) := by blk_ext [iblk, index3 t]
  rw [e, qgain_row]
  pointwise

/-- The keys' gains a grid point loads. -/
theorem kgains_at (d : Fin 128) : iblk m c 4 t (ix2 0 d) = kgains m c (ix1 d) := by
  have e : iblk m c 4 t (ix2 0 d) = (V m c main_v1 : Vec Ideal S1x128 .f32) (ix2 0 d) := by blk_ext [iblk, index4 t]
  rw [e, kgain_row]
  pointwise

/-- The head of a block's column is the block. -/
theorem mate_col (x d : Fin 128) : mate (col t x) d = col t d := Fin.ext (by have := x.isLt; unfold mate col; dsimp only; omega)

/-- The place of a block's column in its head is its own. -/
theorem lane_col (x : Fin 128) : lane (col t x) = x := Fin.ext (by have := x.isLt; unfold lane col; dsimp only; omega)

/-- A point's block of normed queries. -/
theorem queries_block (r : Fin 1024) (x : Fin 128) :
    (outsAt0 m c t).1 (ix2 r x) = normedHeads 30 (proj m c) (qgains m c) (row t r) (col t x) := by
  have e : (outsAt0 m c t).1 = k0_pay2 (F := Ideal) (X0_0 m c t) (iblk m c 3 t) := by unfold outsAt0; frame_out
  rw [e, queries_stored]
  unfold normedHeads
  simp only [queries_at, qgains_at, mate_col, lane_col]

/-- A point's block of normed keys. -/
theorem keys_block (r : Fin 1024) (x : Fin 128) :
    (outsAt0 m c t).2.1 (ix2 r x) = normedHeads 38 (proj m c) (kgains m c) (row t r) (col t x) := by
  have e : (outsAt0 m c t).2.1 = k0_pay3 (F := Ideal) (X0_1 m c t) (iblk m c 4 t) := by unfold outsAt0; frame_out
  rw [e, keys_stored]
  unfold normedHeads
  simp only [keys_at, kgains_at, mate_col, lane_col]

/-- A point's block of normed and rounded keys. -/
theorem rounded_block (r : Fin 1024) (x : Fin 128) :
    (outsAt0 m c t).2.2.1 (ix2 r x) = normedHeads 38 (proj m c) (kgains m c) (row t r) (col t x) := by
  have e : (outsAt0 m c t).2.2.1 = k0_pay4 (F := Ideal) (X0_1 m c t) (iblk m c 4 t) := by unfold outsAt0; frame_out
  rw [e, rounded_stored]
  unfold normedHeads
  simp only [keys_at, kgains_at, mate_col, lane_col]

/-- A point's block of values. -/
theorem values_block (r : Fin 1024) (x : Fin 128) :
    (outsAt0 m c t).2.2.2.1 (ix2 r x) = proj m c (ix2 (prow (row t r)) (pcol 46 (col t x))) := by
  have e : (outsAt0 m c t).2.2.2.1 = X0_2 m c t := by unfold outsAt0; frame_out
  rw [e, values_at]

/-- A point's block of rounded values. -/
theorem lowered_block (r : Fin 1024) (x : Fin 128) :
    (outsAt0 m c t).2.2.2.2 (ix2 r x) = proj m c (ix2 (prow (row t r)) (pcol 46 (col t x))) := by
  have e : (outsAt0 m c t).2.2.2.2 = k0_pay1 (F := Ideal) (X0_2 m c t) := by unfold outsAt0; frame_out
  rw [e, values_stored, values_at]

/-- The place in its array of the normed queries' block. -/
theorem emb5 (r : Fin 1024) (x : Fin 128) : (win0_5.blk t).view.emb (ix2 r x) = ix2 (row t r) (col t x) := by
  unfold row col
  blk_ext [index5 t]

/-- The place in its array of the normed keys' block. -/
theorem emb6 (r : Fin 1024) (x : Fin 128) : (win0_6.blk t).view.emb (ix2 r x) = ix2 (row t r) (col t x) := by
  unfold row col
  blk_ext [index6 t]

/-- The place in its array of the normed and rounded keys' block. -/
theorem emb7 (r : Fin 1024) (x : Fin 128) : (win0_7.blk t).view.emb (ix2 r x) = ix2 (row t r) (col t x) := by
  unfold row col
  blk_ext [index7 t]

/-- The place in its array of the values' block. -/
theorem emb8 (r : Fin 1024) (x : Fin 128) : (win0_8.blk t).view.emb (ix2 r x) = ix2 (row t r) (col t x) := by
  unfold row col
  blk_ext [index8 t]

/-- The place in its array of the rounded values' block. -/
theorem emb9 (r : Fin 1024) (x : Fin 128) : (win0_9.blk t).view.emb (ix2 r x) = ix2 (row t r) (col t x) := by
  unfold row col
  blk_ext [index9 t]

/-- Heads normed, as an array. -/
def headsArray (b : Fin 47) (A : Vec Ideal S8256x6912 .f32) (G : Vec Ideal S128 .f32) : S8192x1024.Idx → EReal := fun i =>
  normedHeads b A G (i 0) (i 1)

/-- The values as an array. -/
def valuesArray (A : Vec Ideal S8256x6912 .f32) : S8192x1024.Idx → EReal := fun i => A (ix2 (prow (i 0)) (pcol 46 (i 1)))

/-- The normed queries the kernel leaves. -/
theorem array5 : (dats m 0 c).arrAt 5 cfg0.N = headsArray 30 (proj m c) (qgains m c) := by
  refine (dats m 0 c).arrAt_eq_of_covers 5 _ (by decide +kernel) fun t hf' y => ?_
  idx_vars y
  blk_simp [index5 t]
  rw [after0_5]
  rw [emb5]
  exact queries_block m c t y0 y1

/-- The normed keys the kernel leaves. -/
theorem array6 : (dats m 0 c).arrAt 6 cfg0.N = headsArray 38 (proj m c) (kgains m c) := by
  refine (dats m 0 c).arrAt_eq_of_covers 6 _ (by decide +kernel) fun t hf' y => ?_
  idx_vars y
  blk_simp [index6 t]
  rw [after0_6]
  rw [emb6]
  exact keys_block m c t y0 y1

/-- The normed and rounded keys the kernel leaves. -/
theorem array7 : (dats m 0 c).arrAt 7 cfg0.N = headsArray 38 (proj m c) (kgains m c) := by
  refine (dats m 0 c).arrAt_eq_of_covers 7 _ (by decide +kernel) fun t hf' y => ?_
  idx_vars y
  blk_simp [index7 t]
  rw [after0_7]
  rw [emb7]
  exact rounded_block m c t y0 y1

/-- The values the kernel leaves. -/
theorem array8 : (dats m 0 c).arrAt 8 cfg0.N = valuesArray (proj m c) := by
  refine (dats m 0 c).arrAt_eq_of_covers 8 _ (by decide +kernel) fun t hf' y => ?_
  idx_vars y
  blk_simp [index8 t]
  rw [after0_8]
  rw [emb8]
  exact values_block m c t y0 y1

/-- The rounded values the kernel leaves. -/
theorem array9 : (dats m 0 c).arrAt 9 cfg0.N = valuesArray (proj m c) := by
  refine (dats m 0 c).arrAt_eq_of_covers 9 _ (by decide +kernel) fun t hf' y => ?_
  idx_vars y
  blk_simp [index9 t]
  rw [after0_9]
  rw [emb9]
  exact lowered_block m c t y0 y1

end Cert.PrepIdeal.Value

end
-- ==== Proof.PrepRef.lean ====
/-
  The reference of the attention's preparation read at an index: the normed queries and keys (`queries_at`,
  `keys_at`) and the values (`value_cols`).
-/
module

public import proofs.«01_k».proof.Proof.Gen.PrepReferenceIdeal.Run
public import proofs.«01_k».proof.Proof.PrepValue

@[expose] public section

set_option maxRecDepth 16384

noncomputable section

open Idealize.ShloMosaic Idealize.ShloMosaic.TcCoe Idealize.SL.Sem

namespace Cert.PrepReferenceIdeal.Value

open Cert.PrepReferenceIdeal Cert.PrepReferenceIdeal.Gen Cert.Mat

/-- An array of heads, normed head by head. -/
def heads (X : FVec Ideal S8192x1024 .f32) (G : FVec Ideal S128 .f32) : FVec Ideal S8192x1024 .f32 :=
  shapeCast _ (mulf (mulf (shapeCast _ X shapeCasts_S8192x1024_S8192x8x128) (broadcastInDim S8192x8x128 ![0, 1, 2] bcast_S8192x8x1_S8192x8x128_0_1_2 (Host.rsqrt (addf (Host.divf (broadcastInDim S8192x8x1 ![0, 1] bcast_S8192x8_S8192x8x1_0_1 (Host.reduceAdd (mulf (shapeCast _ X shapeCasts_S8192x1024_S8192x8x128) (shapeCast _ X shapeCasts_S8192x1024_S8192x8x128)) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32)))))) (broadcastInDim S8192x8x128 ![0, 1, 2] bcast_S1x1x128_S8192x8x128_0_1_2 (broadcastInDim S1x1x128 ![2] bcast_S128_S1x1x128_2 G))) shapeCasts_S8192x8x128_S8192x1024

/-- An array of heads normed, read at an entry of a head. -/
theorem heads_at (X : FVec Ideal S8192x1024 .f32) (G : FVec Ideal S128 .f32) (R : Fin 8192) (C : Fin 1024) :
    heads X G (ix2 R C) = normed headWidth (fun d => X (ix2 R (mate C d))) (fun d => G (ix1 d)) (lane C) := by
  pointwise [heads, normed]
  rw [mate_lane]
  rfl

/-- The queries' columns, read. -/
theorem query_cols (A : FVec Ideal S8256x6912 .f32) (R : Fin 8192) (C : Fin 1024) :
    extractStridedSlice S8192x1024 ![0, 3840] A slices_S8256x6912_S8192x1024_0_3840 (ix2 R C) = A (ix2 (prow R) (pcol 30 C)) := by
  pointwise
  rfl

/-- The keys' columns, read. -/
theorem key_cols (A : FVec Ideal S8256x6912 .f32) (R : Fin 8192) (C : Fin 1024) :
    extractStridedSlice S8192x1024 ![0, 4864] A slices_S8256x6912_S8192x1024_0_4864 (ix2 R C) = A (ix2 (prow R) (pcol 38 C)) := by
  pointwise
  rfl

/-- The values' columns, read. -/
theorem value_cols (A : FVec Ideal S8256x6912 .f32) (R : Fin 8192) (C : Fin 1024) :
    extractStridedSlice S8192x1024 ![0, 5888] A slices_S8256x6912_S8192x1024_0_5888 (ix2 R C) = A (ix2 (prow R) (pcol 46 C)) := by
  pointwise
  rfl

/-- The normed queries over the arguments. -/
def queries (A : FVec Ideal S8256x6912 .f32) (G : FVec Ideal S128 .f32) : FVec Ideal S8192x1024 .bf16 :=
  truncf .bf16 (heads (extractStridedSlice S8192x1024 ![0, 3840] A slices_S8256x6912_S8192x1024_0_3840) G) bitsLt_bf16_f32

/-- The normed keys over the arguments. -/
def keys (A : FVec Ideal S8256x6912 .f32) (G : FVec Ideal S128 .f32) : FVec Ideal S8192x1024 .f32 :=
  heads (extractStridedSlice S8192x1024 ![0, 4864] A slices_S8256x6912_S8192x1024_0_4864) G

/-- The normed queries, read. -/
theorem queries_at (A : FVec Ideal S8256x6912 .f32) (G : FVec Ideal S128 .f32) (R : Fin 8192) (C : Fin 1024) :
    queries A G (ix2 R C) = normedHeads 30 A G R C := by
  refine (heads_at _ G R C).trans ?_
  unfold normedHeads
  simp only [query_cols]

/-- The normed keys, read. -/
theorem keys_at (A : FVec Ideal S8256x6912 .f32) (G : FVec Ideal S128 .f32) (R : Fin 8192) (C : Fin 1024) :
    keys A G (ix2 R C) = normedHeads 38 A G R C := by
  refine (heads_at _ G R C).trans ?_
  unfold normedHeads
  simp only [key_cols]

end Cert.PrepReferenceIdeal.Value

end
-- ==== Proof.NormClaim.lean ====
/-
  The claims of the stream's norm and of the attention's preparation: the real program, the idealized one and the reference
  run and leave their arguments, and the idealized program's results are the reference's.
-/
module

public import proofs.«01_k».proof.Defs
public import proofs.«01_k».proof.Proof.Gen.Norm
public import proofs.«01_k».proof.Proof.Gen.NormIdeal
public import proofs.«01_k».proof.Proof.Gen.NormReferenceIdeal
public import proofs.«01_k».proof.Proof.Gen.Norm.Frame
public import proofs.«01_k».proof.Proof.Gen.Prep
public import proofs.«01_k».proof.Proof.Gen.PrepIdeal
public import proofs.«01_k».proof.Proof.Gen.PrepReferenceIdeal
public import proofs.«01_k».proof.Proof.Gen.Prep.Frame
public import proofs.«01_k».proof.Proof.NormValue
public import proofs.«01_k».proof.Proof.NormRef
public import proofs.«01_k».proof.Proof.PrepValue
public import proofs.«01_k».proof.Proof.PrepRef
public import Idealize.ShloMosaic.Lib.Quiescent

@[expose] public section

noncomputable section

namespace Cert.Mat

open Idealize.ShloMosaic Idealize.ShloMosaic.TcCoe Idealize.SL.Sem

attribute [local instance] Cert.Norm.Gen.facts Cert.NormIdeal.Gen.facts Cert.NormReferenceIdeal.Gen.facts
  Cert.Prep.Gen.facts Cert.PrepIdeal.Gen.facts Cert.PrepReferenceIdeal.Gen.facts

/-- The real program of the stream's norm runs and leaves its arguments. -/
theorem norm_frame_real : Cert.quiescent_Norm := fun m g _ => Cert.Norm.Gen.frame m g

/-- The idealized program of the stream's norm runs and leaves its arguments. -/
theorem norm_frame_ideal : Cert.quiescent_NormIdeal := fun m g _ => Cert.NormIdeal.Gen.frame m g

/-- The reference of the stream's norm runs and leaves its arguments. -/
theorem norm_frame_reference : Cert.quiescent_NormReferenceIdeal := fun m g _ =>
  (θ_run _ _ _).mono (fun r h => ⟨fun c => (h c).2, sem_eq_zero_of_no_sems rfl r.2⟩) (Cert.NormReferenceIdeal.Value.run m g)

/-- The kernel's value of the stream's norm is its reference's. -/
theorem norm_algebraic : Cert.algebraic_NormIdeal_NormReferenceIdeal := by
  pair_intro
  · run_from Cert.NormIdeal.Value.run_blocks m g
  · run_from Cert.NormReferenceIdeal.Value.run m' g'
    refine Eq.trans ?_ (Cert.NormIdeal.Value.array_eq m c).symm
    refine funext fun (y : Cert.NormReferenceIdeal.S8256x2048.Idx) => ?_
    idx_vars y
    exact Cert.NormReferenceIdeal.Value.whole_at _ _ y0 y1

/-- The real program of the attention's preparation runs and leaves its arguments. -/
theorem prep_frame_real : Cert.quiescent_Prep := fun m g _ => Cert.Prep.Gen.frame m g

/-- The idealized program of the attention's preparation runs and leaves its arguments. -/
theorem prep_frame_ideal : Cert.quiescent_PrepIdeal := fun m g _ => Cert.PrepIdeal.Gen.frame m g

/-- The reference of the attention's preparation runs and leaves its arguments. -/
theorem prep_frame_reference : Cert.quiescent_PrepReferenceIdeal := fun m g _ =>
  (θ_run _ _ _).mono (fun r h => ⟨fun c => (h c).2.2.2.2.2, sem_eq_zero_of_no_sems rfl r.2⟩) (Cert.PrepReferenceIdeal.Value.run m g)

/-- The kernel's values of the attention's preparation are its reference's. -/
theorem prep_algebraic : Cert.algebraic_PrepIdeal_PrepReferenceIdeal := by
  pair_intro
  · run_from Cert.PrepIdeal.Value.run_blocks m g
  · run_from Cert.PrepReferenceIdeal.Value.run m' g'
    · refine Eq.trans ?_ (Cert.PrepIdeal.Value.array5 m c).symm
      refine funext fun (y : Cert.PrepReferenceIdeal.S8192x1024.Idx) => ?_
      idx_vars y
      exact Cert.PrepReferenceIdeal.Value.queries_at _ _ y0 y1
    · refine Eq.trans ?_ (Cert.PrepIdeal.Value.array6 m c).symm
      refine funext fun (y : Cert.PrepReferenceIdeal.S8192x1024.Idx) => ?_
      idx_vars y
      exact Cert.PrepReferenceIdeal.Value.keys_at _ _ y0 y1
    · refine Eq.trans ?_ (Cert.PrepIdeal.Value.array7 m c).symm
      refine funext fun (y : Cert.PrepReferenceIdeal.S8192x1024.Idx) => ?_
      idx_vars y
      exact Cert.PrepReferenceIdeal.Value.keys_at _ _ y0 y1
    · refine Eq.trans ?_ (Cert.PrepIdeal.Value.array8 m c).symm
      refine funext fun (y : Cert.PrepReferenceIdeal.S8192x1024.Idx) => ?_
      idx_vars y
      exact Cert.PrepReferenceIdeal.Value.value_cols _ y0 y1
    · refine Eq.trans ?_ (Cert.PrepIdeal.Value.array9 m c).symm
      refine funext fun (y : Cert.PrepReferenceIdeal.S8192x1024.Idx) => ?_
      idx_vars y
      exact Cert.PrepReferenceIdeal.Value.value_cols _ y0 y1

end Cert.Mat

end
-- ==== Proof.TailValue.lean ====
/-
  The value of the attention's preparation on the sampled rows: every point's blocks are its head's queries and keys normed and
  its values (`queries_block`, `keys_block`, `values_block`); the blocks make up the five arrays (`array5` … `array9`).
-/
module

public import proofs.«01_k».proof.Proof.Gen.TailIdeal.Value
public import proofs.«01_k».proof.Proof.PrepValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Mat

/-- A sampled row as a row of the projections. -/
def trow (R : Fin 64) : Fin 8256 := ⟨8192 + R.val, by have := R.isLt; omega⟩

/-- The sampled rows' heads that begin at block `b` of the projections, normed. -/
def normedTail (b : Fin 47) (A : Shape.Idx ⟨2, ![8256, 6912]⟩ → EReal) (G : Shape.Idx ⟨1, ![128]⟩ → EReal) (R : Fin 64) (C : Fin 1024) : EReal :=
  normed headWidth (fun d => A (ix2 (trow R) (pcol b (mate C d)))) (fun d => G (ix1 d)) (lane C)

end Cert.Mat

namespace Cert.TailIdeal.Value

open Cert.TailIdeal Cert.TailIdeal.Gen Cert.Mat

/-- The queries stored, read. -/
theorem queries_stored (a : Vec Ideal S64x128 .f32) (g : Vec Ideal S1x128 .f32) (r : Fin 64) (x : Fin 128) :
    k0_pay1 (F := Ideal) a g (ix2 r x) = normed headWidth (fun d => a (ix2 r d)) (fun d => g (ix2 0 d)) x := by
  pointwise [k0_pay1, normed]

/-- The keys stored, read. -/
theorem keys_stored (a : Vec Ideal S64x128 .f32) (g : Vec Ideal S1x128 .f32) (r : Fin 64) (x : Fin 128) :
    k0_pay2 (F := Ideal) a g (ix2 r x) = normed headWidth (fun d => a (ix2 r d)) (fun d => g (ix2 0 d)) x := by
  pointwise [k0_pay2, normed]

variable (m : (ℓ : Loc nD τ sig) → Buf (Elt Ideal) ℓ) (c : Dev nD) (t : Fin cfg0.N)

/-- A grid point's number is below 8. -/
theorem point_lt : t.val < 8 := N_0 ▸ t.isLt

/-- The column of the results that a block's column is. -/
def col (x : Fin 128) : Fin 1024 := ⟨128 * t.val + x, by have := x.isLt; have := point_lt t; omega⟩

/-- The block of queries of a grid point. -/
theorem index0 : ∀ t : Fin cfg0.N, win0_0.index t = ![128, 30 + t.val] :=
  (by decide +kernel : ∀ t : Fin grid0.N, win0_0.index t = ![128, 30 + t.val])

/-- The block of keys of a grid point. -/
theorem index1 : ∀ t : Fin cfg0.N, win0_1.index t = ![128, 38 + t.val] :=
  (by decide +kernel : ∀ t : Fin grid0.N, win0_1.index t = ![128, 38 + t.val])

/-- The block of values of a grid point. -/
theorem index2 : ∀ t : Fin cfg0.N, win0_2.index t = ![128, 46 + t.val] :=
  (by decide +kernel : ∀ t : Fin grid0.N, win0_2.index t = ![128, 46 + t.val])

/-- The block of the queries' gains of a grid point. -/
theorem index3 : ∀ t : Fin cfg0.N, win0_3.index t = ![0, 0] :=
  (by decide +kernel : ∀ t : Fin grid0.N, win0_3.index t = ![0, 0])

/-- The block of the keys' gains of a grid point. -/
theorem index4 : ∀ t : Fin cfg0.N, win0_4.index t = ![0, 0] :=
  (by decide +kernel : ∀ t : Fin grid0.N, win0_4.index t = ![0, 0])

/-- The block of the normed queries of a grid point. -/
theorem index5 : ∀ t : Fin cfg0.N, win0_5.index t = ![0, t.val] :=
  (by decide +kernel : ∀ t : Fin grid0.N, win0_5.index t = ![0, t.val])

/-- The block of the normed keys of a grid point. -/
theorem index6 : ∀ t : Fin cfg0.N, win0_6.index t = ![0, t.val] :=
  (by decide +kernel : ∀ t : Fin grid0.N, win0_6.index t = ![0, t.val])

/-- The block of the normed keys given once more of a grid point. -/
theorem index7 : ∀ t : Fin cfg0.N, win0_7.index t = ![0, t.val] :=
  (by decide +kernel : ∀ t : Fin grid0.N, win0_7.index t = ![0, t.val])

/-- The block of the values left of a grid point. -/
theorem index8 : ∀ t : Fin cfg0.N, win0_8.index t = ![0, t.val] :=
  (by decide +kernel : ∀ t : Fin grid0.N, win0_8.index t = ![0, t.val])

/-- The block of the values given once more of a grid point. -/
theorem index9 : ∀ t : Fin cfg0.N, win0_9.index t = ![0, t.val] :=
  (by decide +kernel : ∀ t : Fin grid0.N, win0_9.index t = ![0, t.val])

/-- The projections. -/
abbrev proj : Vec Ideal S8256x6912 .f32 := m ((c.tc : Thread nD τ).loc main_arg0)

/-- The queries' gains. -/
abbrev qgains : Vec Ideal S128 .f32 := m ((c.tc : Thread nD τ).loc main_arg1)

/-- The keys' gains. -/
abbrev kgains : Vec Ideal S128 .f32 := m ((c.tc : Thread nD τ).loc main_arg2)

/-- The queries' gains as the one row the call takes. -/
theorem qgain_row : (V m c main_v0 : Vec Ideal S1x128 .f32) = shapeCast S1x128 (qgains m c) shapeCasts_S128_S1x128 := by
  unfold V
  after_results
  rfl

/-- The keys' gains as the one row the call takes. -/
theorem kgain_row : (V m c main_v1 : Vec Ideal S1x128 .f32) = shapeCast S1x128 (kgains m c) shapeCasts_S128_S1x128 := by
  unfold V
  after_results
  rfl

/-- The queries a grid point loads. -/
theorem queries_at (r : Fin 64) (x : Fin 128) : iblk m c 0 t (ix2 r x) = proj m c (ix2 (trow r) (pcol 30 (col t x))) := by
  unfold col trow pcol
  blk_ext [iblk, index0 t]

/-- The keys a grid point loads. -/
theorem keys_at (r : Fin 64) (x : Fin 128) : iblk m c 1 t (ix2 r x) = proj m c (ix2 (trow r) (pcol 38 (col t x))) := by
  unfold col trow pcol
  blk_ext [iblk, index1 t]

/-- The values a grid point loads. -/
theorem values_at (r : Fin 64) (x : Fin 128) : iblk m c 2 t (ix2 r x) = proj m c (ix2 (trow r) (pcol 46 (col t x))) := by
  unfold col trow pcol
  blk_ext [iblk, index2 t]

/-- The queries' gains a grid point loads. -/
theorem qgains_at (d : Fin 128) : iblk m c 3 t (ix2 0 d) = qgains m c (ix1 d) := by
  have e : iblk m c 3 t (ix2 0 d) = (V m c main_v0 : Vec Ideal S1x128 .f32) (ix2 0 d) := by blk_ext [iblk, index3 t]
  rw [e, qgain_row]
  pointwise

/-- The keys' gains a grid point loads. -/
theorem kgains_at (d : Fin 128) : iblk m c 4 t (ix2 0 d) = kgains m c (ix1 d) := by
  have e : iblk m c 4 t (ix2 0 d) = (V m c main_v1 : Vec Ideal S1x128 .f32) (ix2 0 d) := by blk_ext [iblk, index4 t]
  rw [e, kgain_row]
  pointwise

/-- The head of a block's column is the block. -/
theorem mate_col (x d : Fin 128) : mate (col t x) d = col t d := Fin.ext (by have := x.isLt; unfold mate col; dsimp only; omega)

/-- The place of a block's column in its head is its own. -/
theorem lane_col (x : Fin 128) : lane (col t x) = x := Fin.ext (by have := x.isLt; unfold lane col; dsimp only; omega)

/-- A point's block of normed queries. -/
theorem queries_block (r : Fin 64) (x : Fin 128) :
    out0_5 (iblk m c 0 t) (iblk m c 1 t) (iblk m c 2 t) (iblk m c 3 t) (iblk m c 4 t) (ix2 r x) = normedTail 30 (proj m c) (qgains m c) r (col t x) := by
  have e : out0_5 (iblk m c 0 t) (iblk m c 1 t) (iblk m c 2 t) (iblk m c 3 t) (iblk m c 4 t) = k0_pay1 (F := Ideal) (iblk m c 0 t) (iblk m c 3 t) := by frame_out
  rw [e, queries_stored]
  unfold normedTail
  simp only [queries_at, qgains_at, mate_col, lane_col]

/-- A point's block of normed keys. -/
theorem keys_block (r : Fin 64) (x : Fin 128) :
    out0_6 (iblk m c 0 t) (iblk m c 1 t) (iblk m c 2 t) (iblk m c 3 t) (iblk m c 4 t) (ix2 r x) = normedTail 38 (proj m c) (kgains m c) r (col t x) := by
  have e : out0_6 (iblk m c 0 t) (iblk m c 1 t) (iblk m c 2 t) (iblk m c 3 t) (iblk m c 4 t) = k0_pay2 (F := Ideal) (iblk m c 1 t) (iblk m c 4 t) := by frame_out
  rw [e, keys_stored]
  unfold normedTail
  simp only [keys_at, kgains_at, mate_col, lane_col]

/-- A point's block of normed keys given once more. -/
theorem rounded_block (r : Fin 64) (x : Fin 128) :
    out0_7 (iblk m c 0 t) (iblk m c 1 t) (iblk m c 2 t) (iblk m c 3 t) (iblk m c 4 t) (ix2 r x) = normedTail 38 (proj m c) (kgains m c) r (col t x) := by
  have e : out0_7 (iblk m c 0 t) (iblk m c 1 t) (iblk m c 2 t) (iblk m c 3 t) (iblk m c 4 t) = k0_pay2 (F := Ideal) (iblk m c 1 t) (iblk m c 4 t) := by frame_out
  rw [e, keys_stored]
  unfold normedTail
  simp only [keys_at, kgains_at, mate_col, lane_col]

/-- A point's block of values. -/
theorem values_block (r : Fin 64) (x : Fin 128) :
    out0_8 (iblk m c 0 t) (iblk m c 1 t) (iblk m c 2 t) (iblk m c 3 t) (iblk m c 4 t) (ix2 r x) = proj m c (ix2 (trow r) (pcol 46 (col t x))) := by
  have e : out0_8 (iblk m c 0 t) (iblk m c 1 t) (iblk m c 2 t) (iblk m c 3 t) (iblk m c 4 t) = iblk m c 2 t := by frame_out
  rw [e, values_at]

/-- A point's block of values given once more. -/
theorem lowered_block (r : Fin 64) (x : Fin 128) :
    out0_9 (iblk m c 0 t) (iblk m c 1 t) (iblk m c 2 t) (iblk m c 3 t) (iblk m c 4 t) (ix2 r x) = proj m c (ix2 (trow r) (pcol 46 (col t x))) := by
  have e : out0_9 (iblk m c 0 t) (iblk m c 1 t) (iblk m c 2 t) (iblk m c 3 t) (iblk m c 4 t) = iblk m c 2 t := by frame_out
  rw [e, values_at]

/-- The place in its array of the normed queries' block. -/
theorem emb5 (r : Fin 64) (x : Fin 128) : (win0_5.blk t).view.emb (ix2 r x) = ix2 r (col t x) := by
  unfold col
  blk_ext [index5 t]

/-- The place in its array of the normed keys' block. -/
theorem emb6 (r : Fin 64) (x : Fin 128) : (win0_6.blk t).view.emb (ix2 r x) = ix2 r (col t x) := by
  unfold col
  blk_ext [index6 t]

/-- The place in its array of the normed keys given once more' block. -/
theorem emb7 (r : Fin 64) (x : Fin 128) : (win0_7.blk t).view.emb (ix2 r x) = ix2 r (col t x) := by
  unfold col
  blk_ext [index7 t]

/-- The place in its array of the values' block. -/
theorem emb8 (r : Fin 64) (x : Fin 128) : (win0_8.blk t).view.emb (ix2 r x) = ix2 r (col t x) := by
  unfold col
  blk_ext [index8 t]

/-- The place in its array of the values given once more' block. -/
theorem emb9 (r : Fin 64) (x : Fin 128) : (win0_9.blk t).view.emb (ix2 r x) = ix2 r (col t x) := by
  unfold col
  blk_ext [index9 t]

/-- Heads normed, as an array. -/
def headsArray (b : Fin 47) (A : Vec Ideal S8256x6912 .f32) (G : Vec Ideal S128 .f32) : S64x1024.Idx → EReal := fun i =>
  normedTail b A G (i 0) (i 1)

/-- The values as an array. -/
def valuesArray (A : Vec Ideal S8256x6912 .f32) : S64x1024.Idx → EReal := fun i => A (ix2 (trow (i 0)) (pcol 46 (i 1)))

/-- The normed queries the kernel leaves. -/
theorem array5 : (dats m 0 c).arrAt 5 cfg0.N = headsArray 30 (proj m c) (qgains m c) := by
  refine (dats m 0 c).arrAt_eq_of_covers 5 _ (by decide +kernel) fun t hf' y => ?_
  idx_vars y
  blk_simp [index5 t]
  rw [after0_5]
  rw [emb5]
  exact queries_block m c t y0 y1

/-- The normed keys the kernel leaves. -/
theorem array6 : (dats m 0 c).arrAt 6 cfg0.N = headsArray 38 (proj m c) (kgains m c) := by
  refine (dats m 0 c).arrAt_eq_of_covers 6 _ (by decide +kernel) fun t hf' y => ?_
  idx_vars y
  blk_simp [index6 t]
  rw [after0_6]
  rw [emb6]
  exact keys_block m c t y0 y1

/-- The normed keys given once more the kernel leaves. -/
theorem array7 : (dats m 0 c).arrAt 7 cfg0.N = headsArray 38 (proj m c) (kgains m c) := by
  refine (dats m 0 c).arrAt_eq_of_covers 7 _ (by decide +kernel) fun t hf' y => ?_
  idx_vars y
  blk_simp [index7 t]
  rw [after0_7]
  rw [emb7]
  exact rounded_block m c t y0 y1

/-- The values the kernel leaves. -/
theorem array8 : (dats m 0 c).arrAt 8 cfg0.N = valuesArray (proj m c) := by
  refine (dats m 0 c).arrAt_eq_of_covers 8 _ (by decide +kernel) fun t hf' y => ?_
  idx_vars y
  blk_simp [index8 t]
  rw [after0_8]
  rw [emb8]
  exact values_block m c t y0 y1

/-- The values given once more the kernel leaves. -/
theorem array9 : (dats m 0 c).arrAt 9 cfg0.N = valuesArray (proj m c) := by
  refine (dats m 0 c).arrAt_eq_of_covers 9 _ (by decide +kernel) fun t hf' y => ?_
  idx_vars y
  blk_simp [index9 t]
  rw [after0_9]
  rw [emb9]
  exact lowered_block m c t y0 y1

end Cert.TailIdeal.Value

end
-- ==== Proof.TailRef.lean ====
/-
  The reference of the attention's preparation of the sampled rows read at an index: the normed queries and keys (`queries_at`,
  `keys_at`) and the values (`value_cols`).
-/
module

public import proofs.«01_k».proof.Proof.Gen.TailReferenceIdeal.Run
public import proofs.«01_k».proof.Proof.TailValue

@[expose] public section

set_option maxRecDepth 16384

noncomputable section

open Idealize.ShloMosaic Idealize.ShloMosaic.TcCoe Idealize.SL.Sem

namespace Cert.TailReferenceIdeal.Value

open Cert.TailReferenceIdeal Cert.TailReferenceIdeal.Gen Cert.Mat

/-- An array of heads, normed head by head. -/
def heads (X : FVec Ideal S64x1024 .f32) (G : FVec Ideal S128 .f32) : FVec Ideal S64x1024 .f32 :=
  shapeCast _ (mulf (mulf (shapeCast _ X shapeCasts_S64x1024_S64x8x128) (broadcastInDim S64x8x128 ![0, 1, 2] bcast_S64x8x1_S64x8x128_0_1_2 (Host.rsqrt (addf (Host.divf (broadcastInDim S64x8x1 ![0, 1] bcast_S64x8_S64x8x1_0_1 (Host.reduceAdd (mulf (shapeCast _ X shapeCasts_S64x1024_S64x8x128) (shapeCast _ X shapeCasts_S64x1024_S64x8x128)) (constant S_ .f32 0x00000000#32) reducesTo_S64x8x128_S64x8_d2 h_S_)) (broadcastInDim S64x8x1 ![] bcast_S_S64x8x1 (constant S_ .f32 0x43000000#32))) (broadcastInDim S64x8x1 ![] bcast_S_S64x8x1 (constant S_ .f32 0x358637BD#32)))))) (broadcastInDim S64x8x128 ![0, 1, 2] bcast_S1x1x128_S64x8x128_0_1_2 (broadcastInDim S1x1x128 ![2] bcast_S128_S1x1x128_2 G))) shapeCasts_S64x8x128_S64x1024

/-- An array of heads normed, read at an entry of a head. -/
theorem heads_at (X : FVec Ideal S64x1024 .f32) (G : FVec Ideal S128 .f32) (R : Fin 64) (C : Fin 1024) :
    heads X G (ix2 R C) = normed headWidth (fun d => X (ix2 R (mate C d))) (fun d => G (ix1 d)) (lane C) := by
  pointwise [heads, normed]
  rw [mate_lane]
  rfl

/-- The queries' columns, read. -/
theorem query_cols (A : FVec Ideal S8256x6912 .f32) (R : Fin 64) (C : Fin 1024) :
    extractStridedSlice S64x1024 ![8192, 3840] A slices_S8256x6912_S64x1024_8192_3840 (ix2 R C) = A (ix2 (trow R) (pcol 30 C)) := by
  pointwise
  rfl

/-- The keys' columns, read. -/
theorem key_cols (A : FVec Ideal S8256x6912 .f32) (R : Fin 64) (C : Fin 1024) :
    extractStridedSlice S64x1024 ![8192, 4864] A slices_S8256x6912_S64x1024_8192_4864 (ix2 R C) = A (ix2 (trow R) (pcol 38 C)) := by
  pointwise
  rfl

/-- The values' columns, read. -/
theorem value_cols (A : FVec Ideal S8256x6912 .f32) (R : Fin 64) (C : Fin 1024) :
    extractStridedSlice S64x1024 ![8192, 5888] A slices_S8256x6912_S64x1024_8192_5888 (ix2 R C) = A (ix2 (trow R) (pcol 46 C)) := by
  pointwise
  rfl

/-- The normed queries over the arguments. -/
def queries (A : FVec Ideal S8256x6912 .f32) (G : FVec Ideal S128 .f32) : FVec Ideal S64x1024 .f32 :=
  heads (extractStridedSlice S64x1024 ![8192, 3840] A slices_S8256x6912_S64x1024_8192_3840) G

/-- The normed keys over the arguments. -/
def keys (A : FVec Ideal S8256x6912 .f32) (G : FVec Ideal S128 .f32) : FVec Ideal S64x1024 .f32 :=
  heads (extractStridedSlice S64x1024 ![8192, 4864] A slices_S8256x6912_S64x1024_8192_4864) G

/-- The normed queries, read. -/
theorem queries_at (A : FVec Ideal S8256x6912 .f32) (G : FVec Ideal S128 .f32) (R : Fin 64) (C : Fin 1024) :
    queries A G (ix2 R C) = normedTail 30 A G R C := by
  refine (heads_at _ G R C).trans ?_
  unfold normedTail
  simp only [query_cols]

/-- The normed keys, read. -/
theorem keys_at (A : FVec Ideal S8256x6912 .f32) (G : FVec Ideal S128 .f32) (R : Fin 64) (C : Fin 1024) :
    keys A G (ix2 R C) = normedTail 38 A G R C := by
  refine (heads_at _ G R C).trans ?_
  unfold normedTail
  simp only [key_cols]

end Cert.TailReferenceIdeal.Value

end
-- ==== Proof.SmallSpec.lean ====
/-
  The norm with a small product: a row of finite numbers normed with finite gains is a row of real numbers
  (`normed_real`), and what rounding leaves of a real number is zero in exact arithmetic (`rest_real`).
-/
module

public import proofs.«01_k».proof.Proof.NormSpec
public import Mathlib.Data.EReal.Operations
public import Mathlib.Algebra.BigOperators.Ring.Finset

@[expose] public section

noncomputable section

open Idealize.ShloMosaic Idealize.SL.Sem

namespace Cert.Mat

/-- An extended real that is a real number. -/
def IsReal (x : EReal) : Prop := ∃ y : ℝ, x = y

/-- A real number less itself is zero. -/
theorem rest_real {x : EReal} (h : IsReal x) : x - x = 0 := by
  obtain ⟨y, rfl⟩ := h
  rw [← EReal.coe_sub, sub_self, EReal.coe_zero]

/-- A sum of squares of real numbers is a real number that is not negative. -/
theorem squares_real {K : ℕ} (x : Fin K → EReal) (h : ∀ d, IsReal (x d)) : ∃ s : ℝ, 0 ≤ s ∧ ∑ d : Fin K, x d * x d = s := by
  choose y hy using h
  refine ⟨∑ d, y d * y d, Finset.sum_nonneg fun d _ => mul_self_nonneg _, ?_⟩
  rw [show ((∑ d, y d * y d : ℝ) : EReal) = ∑ d, ((y d * y d : ℝ) : EReal) from map_sum (⟨⟨Real.toEReal, EReal.coe_zero⟩, EReal.coe_add⟩ : ℝ →+ EReal) _ _]
  refine Finset.sum_congr rfl fun d _ => ?_
  rw [hy d, EReal.coe_mul]

/-- The stream's width is 2048. -/
theorem width_eq : width = ((2048 : ℝ) : EReal) := by
  simp [width, Ideal.ofBits, Ideal.ieee]
  rw [← EReal.coe_mul]
  norm_num

/-- The epsilon is a real number greater than zero. -/
theorem eps_real : ∃ e : ℝ, 0 < e ∧ Ideal.ofBits .f32 0x358637BD#32 = e := by
  refine ⟨_, ?_, by simp [Ideal.ofBits, Ideal.ieee]; rfl⟩
  norm_num

/-- A normed row of real numbers with real gains is real. -/
theorem normed_real {K : ℕ} (x g : Fin K → EReal) (hx : ∀ d, IsReal (x d)) (hg : ∀ d, IsReal (g d)) (k : Fin K) : IsReal (normed width x g k) := by
  obtain ⟨s, hs, es⟩ := squares_real x hx
  obtain ⟨e, he, ee⟩ := eps_real
  obtain ⟨a, ha⟩ := hx k
  obtain ⟨b, hb⟩ := hg k
  unfold normed
  rw [es, ee, ha, hb, width_eq, Ideal.div_coe (by norm_num), ← EReal.coe_mul, ← EReal.coe_add, Ideal.rsqrt_coe]
  have hp : 0 < s * (1 / 2048) + e := by positivity
  rw [if_neg (not_lt.mpr hp.le), if_neg hp.ne', ← EReal.coe_mul, ← EReal.coe_mul]
  exact ⟨_, rfl⟩

/-- The small weights with columns of zeros after them. -/
def padded (w : Shape.Idx ⟨2, ![2048, 8]⟩ → EReal) (d : Fin 2048) (e : Fin 128) : EReal :=
  if h : e.val < 8 then w (ix2 d ⟨e.val, h⟩) else 0

/-- The weights with zeros after them are real where the weights are. -/
theorem padded_real (w : Shape.Idx ⟨2, ![2048, 8]⟩ → EReal) (h : ∀ i, IsReal (w i)) (d : Fin 2048) (e : Fin 128) : IsReal (padded w d e) := by
  unfold padded
  split
  · exact h _
  · exact ⟨0, rfl⟩

/-- The small product of the normed rows. -/
def smallOf (A : Shape.Idx ⟨2, ![8256, 2048]⟩ → EReal) (G : Shape.Idx ⟨1, ![2048]⟩ → EReal) (w : Shape.Idx ⟨2, ![2048, 8]⟩ → EReal)
    (R : Fin 8256) (e : Fin 128) : EReal :=
  ∑ d : Fin 2048, normed width (fun d => A (ix2 R d)) (fun d => G (ix1 d)) d * padded w d e

end Cert.Mat

end
-- ==== Proof.SmallValue.lean ====
/-
  The value of the norm with a small product: every point's blocks are its rows normed (`block_at`) and, where the arguments
  are finite, the product of these with the small weights (`small_block`); the blocks make up the two arrays (`array3`, `array4`).
-/
module

public import proofs.«01_k».proof.Proof.Gen.SmallIdeal.Value
public import proofs.«01_k».proof.Proof.SmallSpec
public import Idealize.ShloMosaic.Lib.Pipeline.ValueKit
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)
open Idealize.ShloMosaic.Routing (resultIdx?_ix2 scatter_set_hit scatter_set_miss)

namespace Cert.SmallIdeal.Value

open Cert.SmallIdeal Cert.SmallIdeal.Gen Cert.Mat

/-- The normed rows, read. -/
theorem exact_at (a : Vec Ideal S688x2048 .f32) (g : Vec Ideal S1x2048 .f32) (r : Fin 688) (x : Fin 2048) :
    k0_pay1 (F := Ideal) a g (ix2 r x) = normed width (fun d => a (ix2 r d)) (fun d => g (ix2 0 d)) x := by
  pointwise [k0_pay1, normed]

/-- The block of normed rows stored, read. -/
theorem stored_at (a : Vec Ideal S688x2048 .f32) (g : Vec Ideal S1x2048 .f32) (r : Fin 688) (x : Fin 2048) :
    k0_pay2 (F := Ideal) a g (ix2 r x) = k0_pay1 (F := Ideal) a g (ix2 r x) := by
  pointwise [k0_pay2]

/-- The block of the small product stored, read. -/
theorem small_stored (a : Vec Ideal S688x2048 .f32) (g : Vec Ideal S1x2048 .f32) (w : Vec Ideal S2048x128 .f32) (r : Fin 688) (e : Fin 128) :
    k0_pay3 (F := Ideal) a g w (ix2 r e)
      = (∑ d : Fin 2048, k0_pay1 (F := Ideal) a g (ix2 r d) * w (ix2 d e))
        + (∑ d : Fin 2048, k0_pay1 (F := Ideal) a g (ix2 r d) * (w (ix2 d e) - w (ix2 d e)))
        + ∑ d : Fin 2048, (k0_pay1 (F := Ideal) a g (ix2 r d) - k0_pay1 (F := Ideal) a g (ix2 r d)) * w (ix2 d e) := by
  pointwise [k0_pay3]

/-- The starting column of the small weights. -/
abbrev start : IVec S1 32 := broadcastInDim S1 ![] bcast_S_S1 (constantI S_ 32 0#32)

/-- The weights' array before the small weights are set in it. -/
abbrev empty : Vec Ideal S2048x128 .f32 := broadcastInDim S2048x128 ![] bcast_S_S2048x128 (constant (F := Ideal) S_ .f32 0x00000000#32)

/-- Where an entry of the small weights is set. -/
theorem lands (k d : Fin 2048) (l : Fin 8) (e : Fin 128) :
    scatter_S2048x128_S1_S2048x8_01_n_1_0.resultIdx? (ix2 k l) start = some (ix2 d e) ↔ k = d ∧ l.val = e.val := by
  refine (resultIdx?_ix2 _ _ _ _ _).trans ?_
  have h0 : scatter_S2048x128_S1_S2048x8_01_n_1_0.start (ix2 k l) start 0 = 0 := rfl
  have h1 : scatter_S2048x128_S1_S2048x8_01_n_1_0.start (ix2 k l) start 1 = 0 := rfl
  have h2 : scatter_S2048x128_S1_S2048x8_01_n_1_0.window (ix2 k l) 0 = k.val := rfl
  have h3 : scatter_S2048x128_S1_S2048x8_01_n_1_0.window (ix2 k l) 1 = l.val := rfl
  rw [h0, h1, h2, h3, Fin.ext_iff]
  omega

/-- The small weights set in the array of zeros, read. -/
theorem set_at (w : Vec Ideal S2048x8 .f32) (d : Fin 2048) (e : Fin 128) :
    Host.scatter scatter_S2048x128_S1_S2048x8_01_n_1_0 (fun _ b => b) empty start w (ix2 d e) = padded w d e := by
  unfold padded
  split
  · rename_i h
    refine scatter_set_hit _ _ _ _ _ _ (fun k hk => ?_) (ix2 d ⟨e.val, h⟩) ((lands _ _ _ _).2 ⟨rfl, rfl⟩)
    idx_vars k
    obtain ⟨h0, h1⟩ := (lands _ _ _ _).1 hk
    rw [h0, show k1 = ⟨e.val, h⟩ from Fin.ext h1]
  · rename_i h
    rw [scatter_set_miss _ _ _ _ _ fun k hk => ?_]
    · pointwise
    · idx_vars k
      exact h (((lands _ _ _ _).1 hk).2 ▸ k1.isLt)

variable (m : (ℓ : Loc nD τ sig) → Buf (Elt Ideal) ℓ) (c : Dev nD) (t : Fin cfg0.N)

/-- A grid point's number is below 12. -/
theorem point_lt : t.val < 12 := N_0 ▸ t.isLt

/-- The row of the array that a block's row is. -/
def row (r : Fin 688) : Fin 8256 := ⟨688 * t.val + r, by have := r.isLt; have := point_lt t; omega⟩

/-- The block of rows of a grid point. -/
theorem index0 : ∀ t : Fin cfg0.N, win0_0.index t = ![t.val, 0] :=
  (by decide +kernel : ∀ t : Fin grid0.N, win0_0.index t = ![t.val, 0])

/-- The block of gains of a grid point. -/
theorem index1 : ∀ t : Fin cfg0.N, win0_1.index t = ![0, 0] :=
  (by decide +kernel : ∀ t : Fin grid0.N, win0_1.index t = ![0, 0])

/-- The block of small weights of a grid point. -/
theorem index2 : ∀ t : Fin cfg0.N, win0_2.index t = ![0, 0] :=
  (by decide +kernel : ∀ t : Fin grid0.N, win0_2.index t = ![0, 0])

/-- The block of normed rows of a grid point. -/
theorem index3 : ∀ t : Fin cfg0.N, win0_3.index t = ![t.val, 0] :=
  (by decide +kernel : ∀ t : Fin grid0.N, win0_3.index t = ![t.val, 0])

/-- The block of the small product of a grid point. -/
theorem index4 : ∀ t : Fin cfg0.N, win0_4.index t = ![t.val, 0] :=
  (by decide +kernel : ∀ t : Fin grid0.N, win0_4.index t = ![t.val, 0])

/-- The rows. -/
abbrev rows : Vec Ideal S8256x2048 .f32 := m ((c.tc : Thread nD τ).loc main_arg0)

/-- The gains. -/
abbrev gains : Vec Ideal S2048 .f32 := m ((c.tc : Thread nD τ).loc main_arg1)

/-- The small weights. -/
abbrev weights : Vec Ideal S2048x8 .f32 := m ((c.tc : Thread nD τ).loc main_arg2)

/-- The gains as the one row the call takes. -/
theorem gain_row : (V m c main_v0 : Vec Ideal S1x2048 .f32) = shapeCast S1x2048 (gains m c) shapeCasts_S2048_S1x2048 := by
  unfold V
  after_results
  rfl

/-- The small weights as the array the call takes. -/
theorem weight_array : (V m c main_v3 : Vec Ideal S2048x128 .f32)
    = Host.scatter scatter_S2048x128_S1_S2048x8_01_n_1_0 (fun _ b => b) empty start (weights m c) := by
  unfold V
  after_results

/-- The place in its array of the small weights' block. -/
theorem emb2 (d : Fin 2048) (e : Fin 128) : (win0_2.blk t).view.emb (ix2 d e) = ix2 d e := by
  blk_ext [index2 t]

/-- The rows a grid point loads. -/
theorem rows_at (r : Fin 688) (d : Fin 2048) : iblk m c 0 t (ix2 r d) = rows m c (ix2 (row t r) d) := by
  unfold row
  blk_ext [iblk, index0 t]

/-- The gains a grid point loads. -/
theorem gains_at (d : Fin 2048) : iblk m c 1 t (ix2 0 d) = gains m c (ix1 d) := by
  have e : iblk m c 1 t (ix2 0 d) = (V m c main_v0 : Vec Ideal S1x2048 .f32) (ix2 0 d) := by blk_ext [iblk, index1 t]
  rw [e, gain_row]
  pointwise

/-- The small weights a grid point loads. -/
theorem weights_at (d : Fin 2048) (e : Fin 128) : iblk m c 2 t (ix2 d e) = padded (weights m c) d e := by
  have h : iblk m c 2 t (ix2 d e) = (V m c main_v3 : Vec Ideal S2048x128 .f32) (ix2 d e) := congrArg (V m c main_v3 : Vec Ideal S2048x128 .f32) (emb2 t d e)
  rw [h, weight_array, set_at]

/-- The place in its array of the normed rows' block. -/
theorem emb3 (r : Fin 688) (x : Fin 2048) : (win0_3.blk t).view.emb (ix2 r x) = ix2 (row t r) x := by
  unfold row
  blk_ext [index3 t]

/-- The place in its array of the small product's block. -/
theorem emb4 (r : Fin 688) (e : Fin 128) : (win0_4.blk t).view.emb (ix2 r e) = ix2 (row t r) e := by
  unfold row
  blk_ext [index4 t]

/-- A point's normed rows. -/
theorem exact_block (r : Fin 688) (x : Fin 2048) :
    k0_pay1 (F := Ideal) (iblk m c 0 t) (iblk m c 1 t) (ix2 r x) = normed width (fun d => rows m c (ix2 (row t r) d)) (fun d => gains m c (ix1 d)) x := by
  rw [exact_at]
  simp only [rows_at, gains_at]

/-- A point's block of normed rows. -/
theorem block_at (r : Fin 688) (x : Fin 2048) :
    out0_3 (iblk m c 0 t) (iblk m c 1 t) (iblk m c 2 t) (ix2 r x) = normed width (fun d => rows m c (ix2 (row t r) d)) (fun d => gains m c (ix1 d)) x := by
  have e : out0_3 (iblk m c 0 t) (iblk m c 1 t) (iblk m c 2 t) = k0_pay2 (F := Ideal) (iblk m c 0 t) (iblk m c 1 t) := by frame_out
  rw [e, stored_at, exact_block]

/-- A point's block of the small product, where the arguments are finite. -/
theorem small_block (hA : ∀ i, IsReal (rows m c i)) (hG : ∀ i, IsReal (gains m c i)) (hw : ∀ i, IsReal (weights m c i)) (r : Fin 688) (x : Fin 128) :
    out0_4 (iblk m c 0 t) (iblk m c 1 t) (iblk m c 2 t) (ix2 r x) = smallOf (rows m c) (gains m c) (weights m c) (row t r) x := by
  have e : out0_4 (iblk m c 0 t) (iblk m c 1 t) (iblk m c 2 t) = k0_pay3 (F := Ideal) (iblk m c 0 t) (iblk m c 1 t) (iblk m c 2 t) := by frame_out
  rw [e, small_stored]
  unfold smallOf
  have z1 : ∀ d : Fin 2048, padded (weights m c) d x - padded (weights m c) d x = 0 := fun d => rest_real (padded_real _ hw d x)
  have z2 : ∀ d : Fin 2048, normed width (fun d => rows m c (ix2 (row t r) d)) (fun d => gains m c (ix1 d)) d
      - normed width (fun d => rows m c (ix2 (row t r) d)) (fun d => gains m c (ix1 d)) d = 0 := fun d =>
    rest_real (normed_real _ _ (fun d => hA _) (fun d => hG _) d)
  simp only [exact_block, weights_at, z1, z2, mul_zero, zero_mul, Finset.sum_const_zero, add_zero]

/-- The normed rows as an array. -/
def normedArray (A : Vec Ideal S8256x2048 .f32) (G : Vec Ideal S2048 .f32) : Vec Ideal S8256x2048 .bf16 := fun i =>
  normed width (fun d => A (ix2 (i 0) d)) (fun d => G (ix1 d)) (i 1)

/-- The small product as an array. -/
def smallArray (A : Vec Ideal S8256x2048 .f32) (G : Vec Ideal S2048 .f32) (w : Vec Ideal S2048x8 .f32) : Vec Ideal S8256x128 .f32 := fun i =>
  smallOf A G w (i 0) (i 1)

/-- The normed rows the kernel leaves. -/
theorem array3 : (dats m 0 c).arrAt 3 cfg0.N = normedArray (rows m c) (gains m c) := by
  refine (dats m 0 c).arrAt_eq_of_covers 3 _ (by decide +kernel) fun t hf' y => ?_
  idx_vars y
  blk_simp [index3 t]
  rw [after0_3]
  rw [emb3]
  exact block_at m c t y0 y1

/-- The small product the kernel leaves, where the arguments are finite. -/
theorem array4 (hA : ∀ i, IsReal (rows m c i)) (hG : ∀ i, IsReal (gains m c i)) (hw : ∀ i, IsReal (weights m c i)) :
    (dats m 0 c).arrAt 4 cfg0.N = smallArray (rows m c) (gains m c) (weights m c) := by
  refine (dats m 0 c).arrAt_eq_of_covers 4 _ (by decide +kernel) fun t hf' y => ?_
  idx_vars y
  blk_simp [index4 t]
  rw [after0_4]
  rw [emb4]
  exact small_block m c t hA hG hw y0 y1

end Cert.SmallIdeal.Value

end
-- ==== Proof.SmallRef.lean ====
/-
  The reference of the norm with a small product read at an index (`normed_at`, `small_at`).
-/
module

public import proofs.«01_k».proof.Proof.Gen.SmallReferenceIdeal.Run
public import proofs.«01_k».proof.Proof.SmallSpec

@[expose] public section

set_option maxRecDepth 16384

noncomputable section

open Idealize.ShloMosaic Idealize.ShloMosaic.TcCoe Idealize.SL.Sem

namespace Cert.SmallReferenceIdeal.Value

open Cert.SmallReferenceIdeal Cert.SmallReferenceIdeal.Gen Cert.Mat

/-- The normed rows before they are rounded. -/
def exact (A : FVec Ideal S8256x2048 .f32) (G : FVec Ideal S2048 .f32) : FVec Ideal S8256x2048 .f32 :=
  mulf (mulf A (broadcastInDim S8256x2048 ![0, 1] bcast_S8256x1_S8256x2048_0_1 (Host.rsqrt (addf (Host.divf (broadcastInDim S8256x1 ![0] bcast_S8256_S8256x1_0 (Host.reduceAdd (mulf A A) (constant S_ .f32 0x00000000#32) reducesTo_S8256x2048_S8256_d1 h_S_)) (broadcastInDim S8256x1 ![] bcast_S_S8256x1 (constant S_ .f32 0x45000000#32))) (broadcastInDim S8256x1 ![] bcast_S_S8256x1 (constant S_ .f32 0x358637BD#32)))))) (broadcastInDim S8256x2048 ![0, 1] bcast_S1x2048_S8256x2048_0_1 (broadcastInDim S1x2048 ![1] bcast_S2048_S1x2048_1 G))

/-- The normed rows, read. -/
theorem exact_at (A : FVec Ideal S8256x2048 .f32) (G : FVec Ideal S2048 .f32) (R : Fin 8256) (C : Fin 2048) :
    exact A G (ix2 R C) = normed width (fun d => A (ix2 R d)) (fun d => G (ix1 d)) C := by
  pointwise [exact, normed]

/-- The small weights with columns of zeros after them. -/
def zeros (w : FVec Ideal S2048x8 .f32) : FVec Ideal S2048x128 .f32 :=
  pad S2048x128 ![0, 0] ![0, 120] ![0, 0] w (sitofp .f32 (constantI S_ 32 0#32)) pads_S2048x8_S2048x128_000_01200 h_S_

/-- The small weights with columns of zeros after them, read. -/
theorem zeros_at (w : FVec Ideal S2048x8 .f32) (d : Fin 2048) (e : Fin 128) : zeros w (ix2 d e) = padded w d e := by
  pointwise [zeros, padded]
  have z : (FloatOps.sitofp (F := Ideal) FTy.f32 (0#32 : BitVec 32) : EReal) = 0 := by simp [FloatOps.sitofp]
  rw [z]

/-- The small product over the arguments. -/
def small (A : FVec Ideal S8256x2048 .f32) (G : FVec Ideal S2048 .f32) (w : FVec Ideal S2048x8 .f32) : FVec Ideal S8256x128 .f32 :=
  Host.dotGeneral dot_S8256x2048_S2048x128_S8256x128_1_0_0_1_n_n none (exact A G) (zeros w)

/-- The small product, read. -/
theorem small_at (A : FVec Ideal S8256x2048 .f32) (G : FVec Ideal S2048 .f32) (w : FVec Ideal S2048x8 .f32) (R : Fin 8256) (e : Fin 128) :
    small A G w (ix2 R e) = smallOf A G w R e := by
  have h : small A G w (ix2 R e) = ∑ d : Fin 2048, exact A G (ix2 R d) * zeros w (ix2 d e) := by pointwise [small]
  rw [h]
  unfold smallOf
  simp only [exact_at, zeros_at]

end Cert.SmallReferenceIdeal.Value

end
-- ==== Proof.SmallClaim.lean ====
/-
  The claims of the attention's preparation of the sampled rows and of the norm with a small product: the real program, the
  idealized one and the reference run and leave their arguments, and the idealized program's results are the reference's.
-/
module

public import proofs.«01_k».proof.Defs
public import proofs.«01_k».proof.Proof.Gen.Tail
public import proofs.«01_k».proof.Proof.Gen.TailIdeal
public import proofs.«01_k».proof.Proof.Gen.TailReferenceIdeal
public import proofs.«01_k».proof.Proof.Gen.Tail.Frame
public import proofs.«01_k».proof.Proof.Gen.Small
public import proofs.«01_k».proof.Proof.Gen.SmallIdeal
public import proofs.«01_k».proof.Proof.Gen.SmallReferenceIdeal
public import proofs.«01_k».proof.Proof.Gen.Small.Frame
public import proofs.«01_k».proof.Proof.Gen.Pre_finite_norm
public import proofs.«01_k».proof.Proof.TailValue
public import proofs.«01_k».proof.Proof.TailRef
public import proofs.«01_k».proof.Proof.SmallValue
public import proofs.«01_k».proof.Proof.SmallRef
public import proofs.«01_k».proof.Proof.Finite
public import Idealize.ShloMosaic.Lib.ReduceAll
public import Idealize.ShloMosaic.Lib.Quiescent

@[expose] public section

noncomputable section

namespace Cert.Mat

open Idealize.ShloMosaic Idealize.ShloMosaic.TcCoe Idealize.SL.Sem

attribute [local instance] Cert.Tail.Gen.facts Cert.TailIdeal.Gen.facts Cert.TailReferenceIdeal.Gen.facts
  Cert.Small.Gen.facts Cert.SmallIdeal.Gen.facts Cert.SmallReferenceIdeal.Gen.facts Cert.Pre_finite_norm.Gen.facts

/-- The real program of the sampled rows' preparation runs and leaves its arguments. -/
theorem tail_frame_real : Cert.quiescent_Tail := fun m g _ => Cert.Tail.Gen.frame m g

/-- The idealized program of the sampled rows' preparation runs and leaves its arguments. -/
theorem tail_frame_ideal : Cert.quiescent_TailIdeal := fun m g _ => Cert.TailIdeal.Gen.frame m g

/-- The reference of the sampled rows' preparation runs and leaves its arguments. -/
theorem tail_frame_reference : Cert.quiescent_TailReferenceIdeal := fun m g _ =>
  (θ_run _ _ _).mono (fun r h => ⟨fun c => (h c).2.2.2.2.2, sem_eq_zero_of_no_sems rfl r.2⟩) (Cert.TailReferenceIdeal.Value.run m g)

/-- The kernel's values of the sampled rows' preparation are its reference's. -/
theorem tail_algebraic : Cert.algebraic_TailIdeal_TailReferenceIdeal := by
  pair_intro
  · run_from Cert.TailIdeal.Value.run_blocks m g
  · run_from Cert.TailReferenceIdeal.Value.run m' g'
    · refine Eq.trans ?_ (Cert.TailIdeal.Value.array5 m c).symm
      refine funext fun (y : Cert.TailReferenceIdeal.S64x1024.Idx) => ?_
      idx_vars y
      exact Cert.TailReferenceIdeal.Value.queries_at _ _ y0 y1
    · refine Eq.trans ?_ (Cert.TailIdeal.Value.array6 m c).symm
      refine funext fun (y : Cert.TailReferenceIdeal.S64x1024.Idx) => ?_
      idx_vars y
      exact Cert.TailReferenceIdeal.Value.keys_at _ _ y0 y1
    · refine Eq.trans ?_ (Cert.TailIdeal.Value.array7 m c).symm
      refine funext fun (y : Cert.TailReferenceIdeal.S64x1024.Idx) => ?_
      idx_vars y
      exact Cert.TailReferenceIdeal.Value.keys_at _ _ y0 y1
    · refine Eq.trans ?_ (Cert.TailIdeal.Value.array8 m c).symm
      refine funext fun (y : Cert.TailReferenceIdeal.S64x1024.Idx) => ?_
      idx_vars y
      exact Cert.TailReferenceIdeal.Value.value_cols _ y0 y1
    · refine Eq.trans ?_ (Cert.TailIdeal.Value.array9 m c).symm
      refine funext fun (y : Cert.TailReferenceIdeal.S64x1024.Idx) => ?_
      idx_vars y
      exact Cert.TailReferenceIdeal.Value.value_cols _ y0 y1

/-- The real program of the norm with a small product runs and leaves its arguments. -/
theorem small_frame_real : Cert.quiescent_Small := fun m g _ => Cert.Small.Gen.frame m g

/-- The idealized program of the norm with a small product runs and leaves its arguments. -/
theorem small_frame_ideal : Cert.quiescent_SmallIdeal := fun m g _ => Cert.SmallIdeal.Gen.frame m g

/-- The idealized program of the norm with a small product runs and leaves its arguments where these are finite. -/
theorem small_frame_ideal_finite : Cert.quiescent_SmallIdeal_pre_finite_norm := fun m g _ => Cert.SmallIdeal.Gen.frame m g

/-- The reference of the norm with a small product runs and leaves its arguments. -/
theorem small_frame_reference : Cert.quiescent_SmallReferenceIdeal := fun m g _ =>
  (θ_run _ _ _).mono (fun r h => ⟨fun c => (h c).2.2, sem_eq_zero_of_no_sems rfl r.2⟩) (Cert.SmallReferenceIdeal.Value.run m g)

/-- The reference of the norm with a small product runs and leaves its arguments where these are finite. -/
theorem small_frame_reference_finite : Cert.quiescent_SmallReferenceIdeal_pre_finite_norm := fun m g _ =>
  (θ_run _ _ _).mono (fun r h => ⟨fun c => (h c).2.2, sem_eq_zero_of_no_sems rfl r.2⟩) (Cert.SmallReferenceIdeal.Value.run m g)

/-- Under the precondition the rows, the gains and the small weights are real numbers. -/
theorem reals_of_finite_norm (m : (ℓ : Loc Cert.SmallIdeal.nD Cert.SmallIdeal.τ Cert.SmallIdeal.sig) → Buf (Elt Ideal) ℓ)
    (h : Cert.Pre_SmallIdeal_finite_norm m) (c : Dev Cert.SmallIdeal.nD) :
    (∀ i, IsReal (Cert.SmallIdeal.Value.rows m c i)) ∧ (∀ i, IsReal (Cert.SmallIdeal.Value.gains m c i))
      ∧ ∀ i, IsReal (Cert.SmallIdeal.Value.weights m c i) := by
  have e := congrFun (h c) ix0
  obtain ⟨e1, e3⟩ := IntOp.andi_eq_one.mp e
  obtain ⟨e1, e2⟩ := IntOp.andi_eq_one.mp e1
  haveI : Subsingleton (Cert.Pre_finite_norm.S_ : Shape).Idx := ⟨fun a b => funext fun k => k.elim0⟩
  exact ⟨fun i => Cert.Attn.real_of_abs_lt _ (Host.reduce_andi_all _ _ _ _ _ e1 i),
    fun i => Cert.Attn.real_of_abs_lt _ (Host.reduce_andi_all _ _ _ _ _ e2 i),
    fun i => Cert.Attn.real_of_abs_lt _ (Host.reduce_andi_all _ _ _ _ _ e3 i)⟩

/-- Where the arguments are finite, the kernel's values of the norm with a small product are its reference's. -/
theorem small_algebraic : Cert.algebraic_SmallIdeal_SmallReferenceIdeal_pre_finite_norm := by
  pair_intro
  · run_from Cert.SmallIdeal.Value.run_blocks m g
  · run_from Cert.SmallReferenceIdeal.Value.run m' g'
    · refine Eq.trans ?_ (Cert.SmallIdeal.Value.array3 m c).symm
      refine funext fun (y : Cert.SmallReferenceIdeal.S8256x2048.Idx) => ?_
      idx_vars y
      exact Cert.SmallReferenceIdeal.Value.exact_at _ _ y0 y1
    · obtain ⟨r0, r1, r2⟩ := reals_of_finite_norm m hpre c
      refine Eq.trans ?_ (Cert.SmallIdeal.Value.array4 m c r0 r1 r2).symm
      refine funext fun (y : Cert.SmallReferenceIdeal.S8256x128.Idx) => ?_
      idx_vars y
      exact Cert.SmallReferenceIdeal.Value.small_at _ _ _ y0 y1

end Cert.Mat

end
-- ==== Proof.ForgetSpec.lean ====
/-
  The log-forget values of the sampled rows: the logarithm of the sigmoid of a logit and a bias (`decay`) is real on real
  numbers (`decay_real`), and its running sum over a sequence of eight positions (`runningOf`).
-/
module

public import proofs.«01_k».proof.Proof.SmallSpec
public import proofs.«01_k».proof.Proof.TailValue

@[expose] public section

noncomputable section

open Idealize.ShloMosaic Idealize.SL.Sem

namespace Cert.Mat

/-- The logarithm of the sigmoid, by way of the softplus of the opposite number. -/
def decay (x : EReal) : EReal := -(max (-x) 0 + Ideal.log1p (Ideal.exp (-(max (-x) (- -x)))))

/-- The logarithm of the sigmoid of a real number is real. -/
theorem decay_real {x : EReal} (h : IsReal x) : IsReal (decay x) := by
  obtain ⟨y, rfl⟩ := h
  unfold decay
  have e0 : max (-(y : EReal)) 0 = ((max (-y) 0 : ℝ) : EReal) := by
    rw [← EReal.coe_neg, ← EReal.coe_zero]; exact (EReal.coe_strictMono.monotone.map_max).symm
  have e1 : max (-(y : EReal)) (- -(y : EReal)) = ((max (-y) (- -y) : ℝ) : EReal) := by
    rw [← EReal.coe_neg, ← EReal.coe_neg]; exact (EReal.coe_strictMono.monotone.map_max).symm
  rw [e0, e1, ← EReal.coe_neg]
  have e2 : ∀ z : ℝ, IsReal (Ideal.log1p (Ideal.exp (z : EReal))) := fun z => by
    unfold Ideal.log1p
    rw [Ideal.exp_coe, ← EReal.coe_one, ← EReal.coe_add]
    have := Real.exp_pos z
    rw [Ideal.log_coe, if_neg (not_le.mpr (by linarith))]
    exact ⟨_, rfl⟩
  obtain ⟨w, hw⟩ := e2 (-(max (-y) (- -y)))
  rw [hw, ← EReal.coe_add, ← EReal.coe_neg]
  exact ⟨_, rfl⟩

/-- A sum of two real numbers is real. -/
theorem add_real {x y : EReal} (hx : IsReal x) (hy : IsReal y) : IsReal (x + y) := by
  obtain ⟨a, rfl⟩ := hx
  obtain ⟨b, rfl⟩ := hy
  exact ⟨a + b, (EReal.coe_add a b).symm⟩

/-- One of the first eight lanes. -/
def eighth (x : Fin 8) : Fin 128 := ⟨x.val, by omega⟩

/-- The log-forget value of a sampled row. -/
def forgetOf (A : Shape.Idx ⟨2, ![8256, 128]⟩ → EReal) (b : Shape.Idx ⟨1, ![8]⟩ → EReal) (R : Fin 8256) (x : Fin 8) : EReal :=
  decay (A (ix2 R (eighth x)) + b (ix1 x))

/-- The comparison that keeps the positions up to one. -/
theorem upto_eq {α : Type} (r k : Fin 8) (a b : α) :
    Scalar.select (IntOp.cmpi .sge (BitVec.ofNat 32 r.val) (BitVec.ofNat 32 k.val)) a b = if k.val ≤ r.val then a else b := by
  have h : ∀ r k : Fin 8, IntOp.cmpi .sge (BitVec.ofNat 32 r.val) (BitVec.ofNat 32 k.val) = if k.val ≤ r.val then 1#1 else 0#1 := by decide
  rw [h]
  by_cases hk : k.val ≤ r.val
  · rw [if_pos hk, if_pos hk]; rfl
  · rw [if_neg hk, if_neg hk]; rfl

/-- A row of the same sequence of eight positions. -/
def seat (R : Fin 64) (k : Fin 8) : Fin 64 := ⟨R.val / 8 * 8 + k.val, by have := R.isLt; have := k.isLt; omega⟩

/-- A row's position in its sequence. -/
def turn (R : Fin 64) : Fin 8 := ⟨R.val % 8, by omega⟩

/-- The running sum of the log-forget values up to a sampled row. -/
def runningOf (A : Shape.Idx ⟨2, ![8256, 128]⟩ → EReal) (b : Shape.Idx ⟨1, ![8]⟩ → EReal) (R : Fin 64) (x : Fin 8) : EReal :=
  ∑ k : Fin 8, if k.val ≤ (turn R).val then forgetOf A b (trow (seat R k)) x else 0

end Cert.Mat

end
-- ==== Proof.ForgetValue.lean ====
/-
  The value of the log-forget values of the sampled rows: every point's blocks are the log-forget values of its sequence
  (`forget_block`) and, where the arguments are finite, their running sums (`running_block`); the blocks make up the two
  arrays (`array2`, `array3`).
-/
module

public import proofs.«01_k».proof.Proof.Gen.ForgetIdeal.Value
public import proofs.«01_k».proof.Proof.ForgetSpec
public import Idealize.ShloMosaic.Lib.Pipeline.ValueKit
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)
open Idealize.ShloMosaic.Routing (resultIdx?_ix2 scatter_set_hit)

namespace Cert.ForgetIdeal.Value

open Cert.ForgetIdeal Cert.ForgetIdeal.Gen Cert.Mat

/-- The log-forget values computed at a grid point, read. -/
theorem decay_at (a : Vec Ideal S8x128 .f32) (b : Vec Ideal S1x128 .f32) (r : Fin 8) (x : Fin 128) :
    k0_pay6 (F := Ideal) a b (ix2 r x) = decay (a (ix2 r x) + b (ix2 0 x)) := by
  pointwise [k0_pay6, decay]
  rw [if_neg (not_not.mpr rfl)]
  simp only [zero_sub]
  rfl

/-- Ones on and under the diagonal. -/
theorem ones_at (r k : Fin 8) : k0_pay7 (F := Ideal) (ix2 r k) = if k.val ≤ r.val then 1 else 0 := by
  pointwise [k0_pay7]
  exact upto_eq r k _ _

/-- The running sums computed at a grid point, read. -/
theorem sums_at (a : Vec Ideal S8x128 .f32) (b : Vec Ideal S1x128 .f32) (r : Fin 8) (x : Fin 8) :
    k0_pay4 (F := Ideal) (k0_pay7 (F := Ideal)) (k0_pay11 (F := Ideal) a b) (k0_pay12 (F := Ideal) a b) (k0_pay5 (F := Ideal)) (ix2 r x)
      = (∑ k : Fin 8, k0_pay7 (F := Ideal) (ix2 r k) * k0_pay6 (F := Ideal) a b (ix2 k (eighth x)))
        + (∑ k : Fin 8, k0_pay7 (F := Ideal) (ix2 r k) * (k0_pay6 (F := Ideal) a b (ix2 k (eighth x)) - k0_pay6 (F := Ideal) a b (ix2 k (eighth x))))
        + ∑ k : Fin 8, k0_pay7 (F := Ideal) (ix2 r k) * ((k0_pay6 (F := Ideal) a b (ix2 k (eighth x)) - k0_pay6 (F := Ideal) a b (ix2 k (eighth x))) - (k0_pay6 (F := Ideal) a b (ix2 k (eighth x)) - k0_pay6 (F := Ideal) a b (ix2 k (eighth x)))) := by
  pointwise [k0_pay4, k0_pay1, k0_pay12, k0_pay11, k0_pay10, k0_pay9, k0_pay8, k0_pay5]
  rfl

/-- Where an entry of the biases is set. -/
theorem lands (l : Fin 8) (r : Fin 1) (e : Fin 128) :
    scatter_S1x128_S2_S8_0_0_01_0.resultIdx? (ix1 l) (concatenate S2 0 [⟨S1, broadcastInDim S1 ![] bcast_S_S1 (constantI S_ 32 0#32)⟩, ⟨S1, broadcastInDim S1 ![] bcast_S_S1 (constantI S_ 32 0#32)⟩] concatenates_S1_S1_S2_d0) = some (ix2 r e) ↔ l.val = e.val := by
  refine (resultIdx?_ix2 _ _ _ _ _).trans ?_
  have h0 : scatter_S1x128_S2_S8_0_0_01_0.start (ix1 l) (concatenate S2 0 [⟨S1, broadcastInDim S1 ![] bcast_S_S1 (constantI S_ 32 0#32)⟩, ⟨S1, broadcastInDim S1 ![] bcast_S_S1 (constantI S_ 32 0#32)⟩] concatenates_S1_S1_S2_d0) 0 = 0 := rfl
  have h1 : scatter_S1x128_S2_S8_0_0_01_0.start (ix1 l) (concatenate S2 0 [⟨S1, broadcastInDim S1 ![] bcast_S_S1 (constantI S_ 32 0#32)⟩, ⟨S1, broadcastInDim S1 ![] bcast_S_S1 (constantI S_ 32 0#32)⟩] concatenates_S1_S1_S2_d0) 1 = 0 := rfl
  have h2 : scatter_S1x128_S2_S8_0_0_01_0.window (ix1 l) 0 = 0 := rfl
  have h3 : scatter_S1x128_S2_S8_0_0_01_0.window (ix1 l) 1 = l.val := rfl
  rw [h0, h1, h2, h3]
  have := r.isLt
  omega

variable (m : (ℓ : Loc nD τ sig) → Buf (Elt Ideal) ℓ) (c : Dev nD) (t : Fin cfg0.N)

/-- A grid point's number is below 8. -/
theorem point_lt : t.val < 8 := N_0 ▸ t.isLt

/-- The row of the results that a block's row is. -/
def place (r : Fin 8) : Fin 64 := ⟨8 * t.val + r, by have := r.isLt; have := point_lt t; omega⟩

/-- The block of logits of a grid point. -/
theorem index0 : ∀ t : Fin cfg0.N, win0_0.index t = ![1024 + t.val, 0] :=
  (by decide +kernel : ∀ t : Fin grid0.N, win0_0.index t = ![1024 + t.val, 0])

/-- The block of biases of a grid point. -/
theorem index1 : ∀ t : Fin cfg0.N, win0_1.index t = ![0, 0] :=
  (by decide +kernel : ∀ t : Fin grid0.N, win0_1.index t = ![0, 0])

/-- The block of log-forget values of a grid point. -/
theorem index2 : ∀ t : Fin cfg0.N, win0_2.index t = ![t.val, 0] :=
  (by decide +kernel : ∀ t : Fin grid0.N, win0_2.index t = ![t.val, 0])

/-- The block of running sums of a grid point. -/
theorem index3 : ∀ t : Fin cfg0.N, win0_3.index t = ![t.val, 0] :=
  (by decide +kernel : ∀ t : Fin grid0.N, win0_3.index t = ![t.val, 0])

/-- The logits. -/
abbrev logits : Vec Ideal S8256x128 .f32 := m ((c.tc : Thread nD τ).loc main_arg0)

/-- The biases. -/
abbrev biases : Vec Ideal S8 .f32 := m ((c.tc : Thread nD τ).loc main_arg1)

/-- The biases as the row the call takes. -/
theorem bias_row : (V m c main_v4 : Vec Ideal S1x128 .f32)
    = Host.scatter scatter_S1x128_S2_S8_0_0_01_0 (fun _ b => b) (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0) (biases m c) := by
  unfold V
  after_results

/-- The place in its array of the biases' block. -/
theorem emb1 (x : Fin 128) : (win0_1.blk t).view.emb (ix2 0 x) = ix2 0 x := by
  blk_ext [index1 t]

/-- The biases a grid point loads. -/
theorem biases_at (x : Fin 8) : iblk m c 1 t (ix2 0 (eighth x)) = biases m c (ix1 x) := by
  have h : iblk m c 1 t (ix2 0 (eighth x)) = (V m c main_v4 : Vec Ideal S1x128 .f32) (ix2 0 (eighth x)) :=
    congrArg (V m c main_v4 : Vec Ideal S1x128 .f32) (emb1 t (eighth x))
  rw [h, bias_row]
  refine scatter_set_hit _ _ _ _ _ _ (fun k hk => ?_) (ix1 x) ((lands _ _ _).2 rfl)
  idx_vars k
  rw [show k0 = x from Fin.ext ((lands _ _ _).1 hk)]

/-- The logits a grid point loads. -/
theorem logits_at (r : Fin 8) (x : Fin 128) : iblk m c 0 t (ix2 r x) = logits m c (ix2 (trow (place t r)) x) := by
  unfold trow place
  blk_ext [iblk, index0 t]

/-- A point's log-forget values. -/
theorem decay_block (r x : Fin 8) :
    k0_pay6 (F := Ideal) (iblk m c 0 t) (iblk m c 1 t) (ix2 r (eighth x)) = forgetOf (logits m c) (biases m c) (trow (place t r)) x := by
  rw [decay_at, logits_at, biases_at]
  rfl

/-- The log-forget values a grid point stores. -/
theorem stored2 : (outsAt0 m c t).1 = k0_pay3 (F := Ideal) (k0_pay6 (F := Ideal) (iblk m c 0 t) (iblk m c 1 t)) := by
  unfold outsAt0
  frame_out

/-- The running sums a grid point stores. -/
theorem stored3 : (outsAt0 m c t).2 = k0_pay4 (F := Ideal) (k0_pay7 (F := Ideal)) (k0_pay11 (F := Ideal) (iblk m c 0 t) (iblk m c 1 t))
    (k0_pay12 (F := Ideal) (iblk m c 0 t) (iblk m c 1 t)) (k0_pay5 (F := Ideal)) := by
  unfold outsAt0
  frame_out

/-- A point's block of log-forget values. -/
theorem forget_block (r x : Fin 8) : (outsAt0 m c t).1 (ix2 r x) = forgetOf (logits m c) (biases m c) (trow (place t r)) x := by
  rw [stored2]
  have e : k0_pay3 (F := Ideal) (k0_pay6 (F := Ideal) (iblk m c 0 t) (iblk m c 1 t)) (ix2 r x)
      = k0_pay6 (F := Ideal) (iblk m c 0 t) (iblk m c 1 t) (ix2 r (eighth x)) := by
    pointwise [k0_pay3]
    rfl
  rw [e, decay_block]

/-- The positions of a point's sequence. -/
theorem seat_place (r k : Fin 8) : seat (place t r) k = place t k := Fin.ext (by have := r.isLt; unfold seat place; dsimp only; omega)

/-- A row's position in its point's sequence. -/
theorem turn_place (r : Fin 8) : turn (place t r) = r := Fin.ext (by have := r.isLt; unfold turn place; dsimp only; omega)

/-- A point's block of running sums, where the arguments are finite. -/
theorem running_block (hA : ∀ i, IsReal (logits m c i)) (hb : ∀ i, IsReal (biases m c i)) (r x : Fin 8) :
    (outsAt0 m c t).2 (ix2 r x) = runningOf (logits m c) (biases m c) (place t r) x := by
  have z : ∀ k : Fin 8, forgetOf (logits m c) (biases m c) (trow (place t k)) x - forgetOf (logits m c) (biases m c) (trow (place t k)) x = 0 :=
    fun k => rest_real (decay_real (add_real (hA _) (hb _)))
  rw [stored3, sums_at]
  unfold runningOf
  simp only [decay_block, z, sub_zero, mul_zero, Finset.sum_const_zero, add_zero, seat_place, turn_place, ones_at, ite_mul, one_mul, zero_mul]

/-- The place in its array of the log-forget values' block. -/
theorem emb2 (r x : Fin 8) : (win0_2.blk t).view.emb (ix2 r x) = ix2 (place t r) x := by
  unfold place
  blk_ext [index2 t]

/-- The place in its array of the running sums' block. -/
theorem emb3 (r x : Fin 8) : (win0_3.blk t).view.emb (ix2 r x) = ix2 (place t r) x := by
  unfold place
  blk_ext [index3 t]

/-- The log-forget values as an array. -/
def forgetArray (A : Vec Ideal S8256x128 .f32) (b : Vec Ideal S8 .f32) : Vec Ideal S64x8 .f32 := fun i => forgetOf A b (trow (i 0)) (i 1)

/-- The running sums as an array. -/
def runningArray (A : Vec Ideal S8256x128 .f32) (b : Vec Ideal S8 .f32) : Vec Ideal S64x8 .f32 := fun i => runningOf A b (i 0) (i 1)

/-- The log-forget values the kernel leaves. -/
theorem array2 : (dats m 0 c).arrAt 2 cfg0.N = forgetArray (logits m c) (biases m c) := by
  refine (dats m 0 c).arrAt_eq_of_covers 2 _ (by decide +kernel) fun t hf' y => ?_
  idx_vars y
  blk_simp [index2 t]
  rw [after0_2]
  rw [emb2]
  exact forget_block m c t y0 y1

/-- The running sums the kernel leaves, where the arguments are finite. -/
theorem array3 (hA : ∀ i, IsReal (logits m c i)) (hb : ∀ i, IsReal (biases m c i)) :
    (dats m 0 c).arrAt 3 cfg0.N = runningArray (logits m c) (biases m c) := by
  refine (dats m 0 c).arrAt_eq_of_covers 3 _ (by decide +kernel) fun t hf' y => ?_
  idx_vars y
  blk_simp [index3 t]
  rw [after0_3]
  rw [emb3]
  exact running_block m c t hA hb y0 y1

end Cert.ForgetIdeal.Value

end
-- ==== Proof.ForgetRef.lean ====
/-
  The reference of the log-forget values of the sampled rows read at an index (`forgets_at`, `running_at`).
-/
module

public import proofs.«01_k».proof.Proof.Gen.ForgetReferenceIdeal.Run
public import proofs.«01_k».proof.Proof.ForgetSpec

@[expose] public section

set_option maxRecDepth 16384

noncomputable section

open Idealize.ShloMosaic Idealize.ShloMosaic.TcCoe Idealize.SL.Sem

namespace Cert.ForgetReferenceIdeal.Value

open Cert.ForgetReferenceIdeal Cert.ForgetReferenceIdeal.Gen Cert.Mat

/-- The opposite logits with their biases. -/
def opposite (A : FVec Ideal S8256x128 .f32) (b : FVec Ideal S8 .f32) : FVec Ideal S64x8 .f32 :=
  Host.negf (addf (extractStridedSlice S64x8 ![8192, 0] A slices_S8256x128_S64x8_8192_0) (broadcastInDim S64x8 ![0, 1] bcast_S1x8_S64x8_0_1 (broadcastInDim S1x8 ![1] bcast_S8_S1x8_1 b)))

/-- Zeros. -/
def zeros : FVec Ideal S64x8 .f32 := broadcastInDim S64x8 ![] bcast_S_S64x8 (constant S_ .f32 0x00000000#32)

/-- The log-forget values over the arguments. -/
def forgets (A : FVec Ideal S8256x128 .f32) (b : FVec Ideal S8 .f32) : FVec Ideal S64x8 .f32 :=
  Host.negf (select (cmpf .une (subf (opposite A b) zeros) (subf (opposite A b) zeros)) (addf (opposite A b) zeros)
    (addf (maximumf (opposite A b) zeros) (Host.log1p (Host.exp (Host.negf (Host.absf (subf (opposite A b) zeros)))))))

/-- The opposite logits, read. -/
theorem opposite_at (A : FVec Ideal S8256x128 .f32) (b : FVec Ideal S8 .f32) (R : Fin 64) (x : Fin 8) :
    opposite A b (ix2 R x) = -(A (ix2 (trow R) (eighth x)) + b (ix1 x)) := by
  pointwise [opposite]
  rfl

/-- The log-forget values, read. -/
theorem forgets_at (A : FVec Ideal S8256x128 .f32) (b : FVec Ideal S8 .f32) (R : Fin 64) (x : Fin 8) :
    forgets A b (ix2 R x) = forgetOf A b (trow R) x := by
  unfold forgetOf decay
  rw [← opposite_at]
  pointwise [forgets, zeros]
  rw [if_neg (not_not.mpr rfl)]
  rfl

/-- The running sums of an array of log-forget values. -/
def sums (L : FVec Ideal S64x8 .f32) : FVec Ideal S64x8 .f32 :=
  shapeCast _ (Host.reduceAdd (select (broadcastInDim S8x8x8x8 ![0, 1, 2, 3] bcast_S1x8x8x1_S8x8x8x8_0_1_2_3 (broadcastInDim S1x8x8x1 ![1, 2] bcast_S8x8_S1x8x8x1_1_2 (cmpi .sge (broadcastInDim S8x8 ![0, 1] bcast_S8x1_S8x8_0_1 (broadcastInDim S8x1 ![0] bcast_S8_S8x1_0 (iotaInDim S8 32 0))) (broadcastInDim S8x8 ![0, 1] bcast_S1x8_S8x8_0_1 (broadcastInDim S1x8 ![1] bcast_S8_S1x8_1 (iotaInDim S8 32 0)))))) (broadcastInDim S8x8x8x8 ![0, 1, 2, 3] bcast_S8x1x8x8_S8x8x8x8_0_1_2_3 (shapeCast _ L shapeCasts_S64x8_S8x1x8x8)) (broadcastInDim S8x8x8x8 ![] bcast_S_S8x8x8x8 (id (constant S_ .f32 0x00000000#32)))) (constant S_ .f32 0x00000000#32) reducesTo_S8x8x8x8_S8x8x8_d2 h_S_) shapeCasts_S8x8x8_S64x8

/-- The running sums, read. -/
theorem sums_at (L : FVec Ideal S64x8 .f32) (R : Fin 64) (x : Fin 8) :
    sums L (ix2 R x) = ∑ k : Fin 8, if k.val ≤ (turn R).val then L (ix2 (seat R k) x) else 0 := by
  pointwise [sums]
  refine Finset.sum_congr rfl fun k _ => ?_
  refine (upto_eq (turn R) k _ _).trans ?_
  have z : id (constant (F := Ideal) S_ .f32 0x00000000#32) ix0 = (0 : EReal) := by
    show (constant (F := Ideal) S_ .f32 0x00000000#32) ix0 = (0 : EReal)
    pointwise
  rw [z]
  rfl

/-- The running sums over the arguments, read. -/
theorem running_at (A : FVec Ideal S8256x128 .f32) (b : FVec Ideal S8 .f32) (R : Fin 64) (x : Fin 8) :
    sums (forgets A b) (ix2 R x) = runningOf A b R x := by
  rw [sums_at]
  unfold runningOf
  simp only [forgets_at]

end Cert.ForgetReferenceIdeal.Value

end
-- ==== Proof.ForgetClaim.lean ====
/-
  The claims of the log-forget values of the sampled rows: the real program, the idealized one and the reference run and leave
  their arguments, and where these are finite the idealized program's results are the reference's.
-/
module

public import proofs.«01_k».proof.Defs
public import proofs.«01_k».proof.Proof.Gen.Forget
public import proofs.«01_k».proof.Proof.Gen.ForgetIdeal
public import proofs.«01_k».proof.Proof.Gen.ForgetReferenceIdeal
public import proofs.«01_k».proof.Proof.Gen.Forget.Frame
public import proofs.«01_k».proof.Proof.Gen.Pre_finite_logits
public import proofs.«01_k».proof.Proof.ForgetValue
public import proofs.«01_k».proof.Proof.ForgetRef
public import proofs.«01_k».proof.Proof.Finite
public import Idealize.ShloMosaic.Lib.ReduceAll
public import Idealize.ShloMosaic.Lib.Quiescent

@[expose] public section

noncomputable section

namespace Cert.Mat

open Idealize.ShloMosaic Idealize.ShloMosaic.TcCoe Idealize.SL.Sem

attribute [local instance] Cert.Forget.Gen.facts Cert.ForgetIdeal.Gen.facts Cert.ForgetReferenceIdeal.Gen.facts Cert.Pre_finite_logits.Gen.facts

/-- The real program of the log-forget values runs and leaves its arguments. -/
theorem forget_frame_real : Cert.quiescent_Forget := fun m g _ => Cert.Forget.Gen.frame m g

/-- The idealized program of the log-forget values runs and leaves its arguments. -/
theorem forget_frame_ideal : Cert.quiescent_ForgetIdeal := fun m g _ => Cert.ForgetIdeal.Gen.frame m g

/-- The idealized program of the log-forget values runs and leaves its arguments where these are finite. -/
theorem forget_frame_ideal_finite : Cert.quiescent_ForgetIdeal_pre_finite_logits := fun m g _ => Cert.ForgetIdeal.Gen.frame m g

/-- The reference of the log-forget values runs and leaves its arguments. -/
theorem forget_frame_reference : Cert.quiescent_ForgetReferenceIdeal := fun m g _ =>
  (θ_run _ _ _).mono (fun r h => ⟨fun c => (h c).2.2, sem_eq_zero_of_no_sems rfl r.2⟩) (Cert.ForgetReferenceIdeal.Value.run m g)

/-- The reference of the log-forget values runs and leaves its arguments where these are finite. -/
theorem forget_frame_reference_finite : Cert.quiescent_ForgetReferenceIdeal_pre_finite_logits := fun m g _ =>
  (θ_run _ _ _).mono (fun r h => ⟨fun c => (h c).2.2, sem_eq_zero_of_no_sems rfl r.2⟩) (Cert.ForgetReferenceIdeal.Value.run m g)

/-- Under the precondition the logits and the biases are real numbers. -/
theorem reals_of_finite_logits (m : (ℓ : Loc Cert.ForgetIdeal.nD Cert.ForgetIdeal.τ Cert.ForgetIdeal.sig) → Buf (Elt Ideal) ℓ)
    (h : Cert.Pre_ForgetIdeal_finite_logits m) (c : Dev Cert.ForgetIdeal.nD) :
    (∀ i, IsReal (Cert.ForgetIdeal.Value.logits m c i)) ∧ ∀ i, IsReal (Cert.ForgetIdeal.Value.biases m c i) := by
  have e := congrFun (h c) ix0
  obtain ⟨e1, e2⟩ := IntOp.andi_eq_one.mp e
  haveI : Subsingleton (Cert.Pre_finite_logits.S_ : Shape).Idx := ⟨fun a b => funext fun k => k.elim0⟩
  exact ⟨fun i => Cert.Attn.real_of_abs_lt _ (Host.reduce_andi_all _ _ _ _ _ e1 i),
    fun i => Cert.Attn.real_of_abs_lt _ (Host.reduce_andi_all _ _ _ _ _ e2 i)⟩

/-- Where the arguments are finite, the kernel's log-forget values and running sums are its reference's. -/
theorem forget_algebraic : Cert.algebraic_ForgetIdeal_ForgetReferenceIdeal_pre_finite_logits := by
  pair_intro
  · run_from Cert.ForgetIdeal.Value.run_blocks m g
  · run_from Cert.ForgetReferenceIdeal.Value.run m' g'
    · refine Eq.trans ?_ (Cert.ForgetIdeal.Value.array2 m c).symm
      refine funext fun (y : Cert.ForgetReferenceIdeal.S64x8.Idx) => ?_
      idx_vars y
      exact Cert.ForgetReferenceIdeal.Value.forgets_at _ _ y0 y1
    · obtain ⟨r0, r1⟩ := reals_of_finite_logits m hpre c
      refine Eq.trans ?_ (Cert.ForgetIdeal.Value.array3 m c r0 r1).symm
      refine funext fun (y : Cert.ForgetReferenceIdeal.S64x8.Idx) => ?_
      idx_vars y
      exact Cert.ForgetReferenceIdeal.Value.running_at _ _ y0 y1

end Cert.Mat

end
-- ==== Proof.DecaySpec.lean ====
/-
  The log-forget values of the prompt: their running sums over a sequence of 2048 positions as sums over an initial stretch
  (`stretchSum`), and a sum over a tile with a comparison as such a sum (`tile_sum`).
-/
module

public import proofs.«01_k».proof.Proof.ForgetSpec
public import Idealize.ShloMosaic.Lib.WordCmp
public import Mathlib.Algebra.BigOperators.Intervals

@[expose] public section

noncomputable section

open Idealize.ShloMosaic Idealize.ShloMosaic.WordCmp Idealize.SL.Sem

namespace Cert.Mat

/-- A number below 2^31 as a signed word. -/
theorem word_toInt (n : ℕ) (h : n < 2 ^ 31) : (BitVec.ofNat 32 n).toInt = (n : ℤ) := toInt_ofNat_of_lt h

/-- The comparison that keeps the positions up to one, at any length. -/
theorem upto_long {α : Type} (r k : ℕ) (hr : r < 2 ^ 31) (hk : k < 2 ^ 31) (a b : α) :
    Scalar.select (IntOp.cmpi .sge (BitVec.ofNat 32 r) (BitVec.ofNat 32 k)) a b = if k ≤ r then a else b := by
  rw [show IntOp.cmpi .sge (BitVec.ofNat 32 r) (BitVec.ofNat 32 k) = BitVec.ofBool (decide ((BitVec.ofNat 32 k).toInt ≤ (BitVec.ofNat 32 r).toInt)) from rfl,
    word_toInt r hr, word_toInt k hk]
  by_cases h : k ≤ r
  · rw [if_pos h, decide_eq_true (by omega)]; rfl
  · rw [if_neg h, decide_eq_false (by omega)]; rfl

/-- A sum over a tile that keeps the positions up to one is a sum over an initial stretch. -/
theorem tile_sum (N r : ℕ) (hr : r < N) (f : ℕ → EReal) :
    (∑ k : Fin N, if k.val ≤ r then f k.val else 0) = ∑ k ∈ Finset.range (r + 1), f k := by
  rw [Fin.sum_univ_eq_sum_range (fun k => if k ≤ r then f k else 0) N, ← Finset.sum_filter]
  refine Finset.sum_congr (Finset.ext fun k => ?_) fun _ _ => rfl
  simp only [Finset.mem_filter, Finset.mem_range]
  omega

/-- A row of the prompt among all rows. -/
def front (R : Fin 8192) : Fin 8256 := ⟨R.val, by have := R.isLt; omega⟩

/-- The log-forget value at a position of a sequence of the prompt. -/
def stretch (A : Shape.Idx ⟨2, ![8256, 128]⟩ → EReal) (b : Shape.Idx ⟨1, ![8]⟩ → EReal) (x : Fin 8) (s n : ℕ) : EReal :=
  if h : 2048 * s + n < 8192 then forgetOf A b (front ⟨2048 * s + n, h⟩) x else 0

/-- The log-forget value of a row by its sequence and position. -/
theorem stretch_eq (A : Shape.Idx ⟨2, ![8256, 128]⟩ → EReal) (b : Shape.Idx ⟨1, ![8]⟩ → EReal) (x : Fin 8) (s n : ℕ) (R : Fin 8192)
    (h : R.val = 2048 * s + n) : forgetOf A b (front R) x = stretch A b x s n := by
  unfold stretch
  rw [dif_pos (h ▸ R.isLt)]
  exact congrArg (fun Q => forgetOf A b (front Q) x) (Fin.ext h)

/-- The sum of the log-forget values of a sequence's first positions. -/
def stretchSum (A : Shape.Idx ⟨2, ![8256, 128]⟩ → EReal) (b : Shape.Idx ⟨1, ![8]⟩ → EReal) (x : Fin 8) (s n : ℕ) : EReal :=
  ∑ k ∈ Finset.range n, stretch A b x s k

/-- Positions added after a first stretch. -/
theorem stretchSum_add (A : Shape.Idx ⟨2, ![8256, 128]⟩ → EReal) (b : Shape.Idx ⟨1, ![8]⟩ → EReal) (x : Fin 8) (s n k : ℕ) :
    stretchSum A b x s (n + k) = stretchSum A b x s n + ∑ i ∈ Finset.range k, stretch A b x s (n + i) := by
  unfold stretchSum
  exact Finset.sum_range_add _ _ _

end Cert.Mat

end
-- ==== Proof.DecayValue.lean ====
/-
  The value of the log-forget values of the prompt: every point's blocks are the log-forget values of its tile (`forget_block`)
  and, where the arguments are finite, their running sums (`running_block`), since the scratch holds the sum over the tiles of
  the sequence so far (`held`); the blocks make up the two arrays (`array2`, `array3`).
-/
module

public import proofs.«01_k».proof.Proof.Gen.DecayIdeal.Value
public import proofs.«01_k».proof.Proof.DecaySpec
public import Idealize.ShloMosaic.Lib.Pipeline.ValueKit
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)
open Idealize.ShloMosaic.Routing (resultIdx?_ix2 scatter_set_hit)

namespace Cert.DecayIdeal.Value

open Cert.DecayIdeal Cert.DecayIdeal.Gen Cert.Mat

/-- The log-forget values computed at a grid point, read. -/
theorem decay_at (a : Vec Ideal S512x128 .f32) (b : Vec Ideal S1x128 .f32) (r : Fin 512) (x : Fin 128) :
    k0_pay6 (F := Ideal) a b (ix2 r x) = decay (a (ix2 r x) + b (ix2 0 x)) := by
  pointwise [k0_pay6, decay]
  rw [if_neg (not_not.mpr rfl)]
  simp only [zero_sub]
  rfl

/-- Ones on and under the diagonal. -/
theorem ones_at (r k : Fin 512) : k0_pay7 (F := Ideal) (ix2 r k) = if k.val ≤ r.val then 1 else 0 := by
  pointwise [k0_pay7]
  exact upto_long r.val k.val (by have := r.isLt; omega) (by have := k.isLt; omega) _ _

/-- The running sums computed at a grid point over what the scratch held. -/
abbrev total (a : Vec Ideal S512x128 .f32) (b w : Vec Ideal S1x128 .f32) : Vec Ideal S512x128 .f32 :=
  k0_pay1 (F := Ideal) (k0_pay7 (F := Ideal)) (k0_pay11 (F := Ideal) a b) (k0_pay12 (F := Ideal) a b) w

/-- The running sums computed at a grid point, read. -/
theorem total_at (a : Vec Ideal S512x128 .f32) (b w : Vec Ideal S1x128 .f32) (r : Fin 512) (x : Fin 128) :
    total a b w (ix2 r x)
      = (∑ k : Fin 512, k0_pay7 (F := Ideal) (ix2 r k) * k0_pay6 (F := Ideal) a b (ix2 k x))
        + (∑ k : Fin 512, k0_pay7 (F := Ideal) (ix2 r k) * (k0_pay6 (F := Ideal) a b (ix2 k x) - k0_pay6 (F := Ideal) a b (ix2 k x)))
        + (∑ k : Fin 512, k0_pay7 (F := Ideal) (ix2 r k) * ((k0_pay6 (F := Ideal) a b (ix2 k x) - k0_pay6 (F := Ideal) a b (ix2 k x)) - (k0_pay6 (F := Ideal) a b (ix2 k x) - k0_pay6 (F := Ideal) a b (ix2 k x))))
        + w (ix2 0 x) := by
  pointwise [total, k0_pay1, k0_pay12, k0_pay11, k0_pay10, k0_pay9, k0_pay8]

/-- Where an entry of the biases is set. -/
theorem lands (l : Fin 8) (r : Fin 1) (e : Fin 128) :
    scatter_S1x128_S2_S8_0_0_01_0.resultIdx? (ix1 l) (concatenate S2 0 [⟨S1, broadcastInDim S1 ![] bcast_S_S1 (constantI S_ 32 0#32)⟩, ⟨S1, broadcastInDim S1 ![] bcast_S_S1 (constantI S_ 32 0#32)⟩] concatenates_S1_S1_S2_d0) = some (ix2 r e) ↔ l.val = e.val := by
  refine (resultIdx?_ix2 _ _ _ _ _).trans ?_
  have h0 : scatter_S1x128_S2_S8_0_0_01_0.start (ix1 l) (concatenate S2 0 [⟨S1, broadcastInDim S1 ![] bcast_S_S1 (constantI S_ 32 0#32)⟩, ⟨S1, broadcastInDim S1 ![] bcast_S_S1 (constantI S_ 32 0#32)⟩] concatenates_S1_S1_S2_d0) 0 = 0 := rfl
  have h1 : scatter_S1x128_S2_S8_0_0_01_0.start (ix1 l) (concatenate S2 0 [⟨S1, broadcastInDim S1 ![] bcast_S_S1 (constantI S_ 32 0#32)⟩, ⟨S1, broadcastInDim S1 ![] bcast_S_S1 (constantI S_ 32 0#32)⟩] concatenates_S1_S1_S2_d0) 1 = 0 := rfl
  have h2 : scatter_S1x128_S2_S8_0_0_01_0.window (ix1 l) 0 = 0 := rfl
  have h3 : scatter_S1x128_S2_S8_0_0_01_0.window (ix1 l) 1 = l.val := rfl
  rw [h0, h1, h2, h3]
  have := r.isLt
  omega

variable (m : (ℓ : Loc nD τ sig) → Buf (Elt Ideal) ℓ) (c : Dev nD) (t : Fin cfg0.N)

/-- A grid point's number is below 16. -/
theorem point_lt : t.val < 16 := N_0 ▸ t.isLt

/-- The row of the results that a block's row is. -/
def place (r : Fin 512) : Fin 8192 := ⟨512 * t.val + r, by have := r.isLt; have := point_lt t; omega⟩

/-- The block of logits of a grid point. -/
theorem index0 : ∀ t : Fin cfg0.N, win0_0.index t = ![t.val, 0] :=
  (by decide +kernel : ∀ t : Fin grid0.N, win0_0.index t = ![t.val, 0])

/-- The block of biases of a grid point. -/
theorem index1 : ∀ t : Fin cfg0.N, win0_1.index t = ![0, 0] :=
  (by decide +kernel : ∀ t : Fin grid0.N, win0_1.index t = ![0, 0])

/-- The block of log-forget values of a grid point. -/
theorem index2 : ∀ t : Fin cfg0.N, win0_2.index t = ![t.val, 0] :=
  (by decide +kernel : ∀ t : Fin grid0.N, win0_2.index t = ![t.val, 0])

/-- The block of running sums of a grid point. -/
theorem index3 : ∀ t : Fin cfg0.N, win0_3.index t = ![t.val, 0] :=
  (by decide +kernel : ∀ t : Fin grid0.N, win0_3.index t = ![t.val, 0])

/-- The logits. -/
abbrev logits : Vec Ideal S8256x128 .f32 := m ((c.tc : Thread nD τ).loc main_arg0)

/-- The biases. -/
abbrev biases : Vec Ideal S8 .f32 := m ((c.tc : Thread nD τ).loc main_arg1)

/-- The biases as the row the call takes. -/
theorem bias_row : (V m c main_v4 : Vec Ideal S1x128 .f32)
    = Host.scatter scatter_S1x128_S2_S8_0_0_01_0 (fun _ b => b) (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0) (biases m c) := by
  unfold V
  after_results

/-- The place in its array of the biases' block. -/
theorem emb1 (x : Fin 128) : (win0_1.blk t).view.emb (ix2 0 x) = ix2 0 x := by
  blk_ext [index1 t]

/-- The biases a grid point loads. -/
theorem biases_at (x : Fin 8) : iblk m c 1 t (ix2 0 (eighth x)) = biases m c (ix1 x) := by
  have h : iblk m c 1 t (ix2 0 (eighth x)) = (V m c main_v4 : Vec Ideal S1x128 .f32) (ix2 0 (eighth x)) :=
    congrArg (V m c main_v4 : Vec Ideal S1x128 .f32) (emb1 t (eighth x))
  rw [h, bias_row]
  refine scatter_set_hit _ _ _ _ _ _ (fun k hk => ?_) (ix1 x) ((lands _ _ _).2 rfl)
  idx_vars k
  rw [show k0 = x from Fin.ext ((lands _ _ _).1 hk)]

/-- The logits a grid point loads. -/
theorem logits_at (r : Fin 512) (x : Fin 128) : X0_0 m c t (ix2 r x) = logits m c (ix2 (front (place t r)) x) := by
  unfold X0_0 Pipeline.Window.fill
  rw [dif_pos (moved0_0 t _)]
  unfold front place
  refine congrArg (logits m c) (funext fun a => Fin.ext ?_)
  match a with
  | ⟨0, _⟩ =>
    show win0_0.index t (0 : Fin 2) * 512 + 1 * r.val = 512 * t.val + r.val
    rw [show win0_0.index t (0 : Fin 2) = t.val from congrFun (index0 t) 0]
    omega
  | ⟨1, _⟩ =>
    show win0_0.index t (1 : Fin 2) * 128 + 1 * x.val = x.val
    rw [show win0_0.index t (1 : Fin 2) = 0 from congrFun (index0 t) 1]
    omega

/-- A point's log-forget values. -/
theorem decay_block (r : Fin 512) (x : Fin 8) :
    k0_pay6 (F := Ideal) (X0_0 m c t) (iblk m c 1 t) (ix2 r (eighth x)) = forgetOf (logits m c) (biases m c) (front (place t r)) x := by
  rw [decay_at, logits_at, biases_at]
  rfl

/-- A point's running sums over what the scratch held, where the arguments are finite. -/
theorem total_block (hA : ∀ i, IsReal (logits m c i)) (hb : ∀ i, IsReal (biases m c i)) (w : Vec Ideal S1x128 .f32) (r : Fin 512) (x : Fin 8)
    (hw : w (ix2 0 (eighth x)) = stretchSum (logits m c) (biases m c) x (t.val / 4) (512 * (t.val % 4))) :
    total (X0_0 m c t) (iblk m c 1 t) w (ix2 r (eighth x))
      = stretchSum (logits m c) (biases m c) x (t.val / 4) (512 * (t.val % 4) + (r.val + 1)) := by
  have z : ∀ k : Fin 512, forgetOf (logits m c) (biases m c) (front (place t k)) x - forgetOf (logits m c) (biases m c) (front (place t k)) x = 0 :=
    fun k => rest_real (decay_real (add_real (hA _) (hb _)))
  rw [total_at, hw, stretchSum_add]
  simp only [decay_block, z, sub_zero, mul_zero, Finset.sum_const_zero, add_zero, ones_at, ite_mul, one_mul, zero_mul]
  rw [add_comm]
  refine congrArg (fun y => stretchSum (logits m c) (biases m c) x (t.val / 4) (512 * (t.val % 4)) + y) ?_
  refine Eq.trans ?_ (tile_sum 512 r.val r.isLt fun k => stretch (logits m c) (biases m c) x (t.val / 4) (512 * (t.val % 4) + k))
  refine Finset.sum_congr rfl fun k _ => ?_
  rw [stretch_eq _ _ x (t.val / 4) (512 * (t.val % 4) + k.val) (place t k) (by unfold place; dsimp only; omega)]

variable {t}

/-- There is a point before one that isn't a first. -/
theorem before_lt : t.val - 1 < cfg0.N := by have := t.isLt; omega

/-- The log-forget values a grid point stores. -/
theorem stored2 : (outsAt0 m c t.val t.isLt).1 = k0_pay3 (F := Ideal) (k0_pay6 (F := Ideal) (X0_0 m c t) (iblk m c 1 t)) := by
  by_cases h0 : t.val % 4 = 0
  · rw [outsAt0_A m c t h0]; frame_out
  · rw [outsAt0_B m c t h0]; frame_out

/-- What the scratch held before a point that adds to it: zeros at a sequence's first, else what the point before left. -/
def before (t : Fin cfg0.N) : Vec Ideal S1x128 .f32 := if t.val % 4 = 0 then k0_pay5 (F := Ideal) else (outsAt0 m c (t.val - 1) before_lt).2.2

/-- The running sums a grid point stores. -/
theorem stored3 : (outsAt0 m c t.val t.isLt).2.1 = k0_pay4 (F := Ideal) (k0_pay7 (F := Ideal)) (k0_pay11 (F := Ideal) (X0_0 m c t) (iblk m c 1 t))
    (k0_pay12 (F := Ideal) (X0_0 m c t) (iblk m c 1 t)) (before m c t) := by
  unfold before
  by_cases h0 : t.val % 4 = 0
  · rw [if_pos h0, outsAt0_A m c t h0]; frame_out
  · rw [if_neg h0, outsAt0_B m c t h0]; frame_out; simp only [(Memref.isWhole_whole _).read_unread]

/-- What a grid point leaves in the scratch. -/
theorem left : (outsAt0 m c t.val t.isLt).2.2 = k0_pay2 (F := Ideal) (k0_pay7 (F := Ideal)) (k0_pay11 (F := Ideal) (X0_0 m c t) (iblk m c 1 t))
    (k0_pay12 (F := Ideal) (X0_0 m c t) (iblk m c 1 t)) (before m c t) := by
  unfold before
  by_cases h0 : t.val % 4 = 0
  · rw [if_pos h0, outsAt0_A m c t h0]; frame_out
  · rw [if_neg h0, outsAt0_B m c t h0]; frame_out; simp only [(Memref.isWhole_whole _).read_unread]

/-- The last row of the running sums is what is left in the scratch. -/
theorem left_at (a : Vec Ideal S512x128 .f32) (b w : Vec Ideal S1x128 .f32) (x : Fin 128) :
    k0_pay2 (F := Ideal) (k0_pay7 (F := Ideal)) (k0_pay11 (F := Ideal) a b) (k0_pay12 (F := Ideal) a b) w (ix2 0 x) = total a b w (ix2 511 x) := by
  pointwise [k0_pay2]

/-- The first eight lanes of the running sums are stored. -/
theorem kept_at (a : Vec Ideal S512x128 .f32) (b w : Vec Ideal S1x128 .f32) (r : Fin 512) (x : Fin 8) :
    k0_pay4 (F := Ideal) (k0_pay7 (F := Ideal)) (k0_pay11 (F := Ideal) a b) (k0_pay12 (F := Ideal) a b) w (ix2 r x) = total a b w (ix2 r (eighth x)) := by
  pointwise [k0_pay4]
  rfl

/-- What the scratch held before a point: the sum over the sequence's tiles before, where the arguments are finite. -/
theorem held (hA : ∀ i, IsReal (logits m c i)) (hb : ∀ i, IsReal (biases m c i)) (x : Fin 8) (n : ℕ) (hn : n < cfg0.N) :
    before m c ⟨n, hn⟩ (ix2 0 (eighth x)) = stretchSum (logits m c) (biases m c) x (n / 4) (512 * (n % 4)) := by
  have first : ∀ (n : ℕ) (hn : n < cfg0.N), n % 4 = 0 →
      before m c ⟨n, hn⟩ (ix2 0 (eighth x)) = stretchSum (logits m c) (biases m c) x (n / 4) (512 * (n % 4)) := fun n hn h0 => by
    unfold before
    rw [if_pos h0, h0]
    unfold stretchSum
    rw [show Finset.range (512 * 0) = ∅ from rfl, Finset.sum_empty]
    pointwise [k0_pay5]
  induction n with
  | zero => exact first 0 hn rfl
  | succ k ih =>
    by_cases h0 : (k + 1) % 4 = 0
    · exact first (k + 1) hn h0
    · have hk : k < cfg0.N := Nat.lt_of_succ_lt hn
      have e : before m c ⟨k + 1, hn⟩ = (outsAt0 m c k hk).2.2 := by
        unfold before
        exact if_neg h0
      rw [e, left m c (t := ⟨k, hk⟩), left_at]
      refine (total_block m c ⟨k, hk⟩ hA hb _ 511 x (ih hk)).trans ?_
      rw [show (⟨k, hk⟩ : Fin cfg0.N).val = k from rfl, show k / 4 = (k + 1) / 4 by omega]
      refine congrArg (stretchSum (logits m c) (biases m c) x ((k + 1) / 4)) ?_
      show 512 * (k % 4) + (511 + 1) = 512 * ((k + 1) % 4)
      omega

variable (t)

/-- A point's block of log-forget values. -/
theorem forget_block (r : Fin 512) (x : Fin 8) :
    (outsAt0 m c t.val t.isLt).1 (ix2 r x) = forgetOf (logits m c) (biases m c) (front (place t r)) x := by
  rw [stored2]
  have e : k0_pay3 (F := Ideal) (k0_pay6 (F := Ideal) (X0_0 m c t) (iblk m c 1 t)) (ix2 r x)
      = k0_pay6 (F := Ideal) (X0_0 m c t) (iblk m c 1 t) (ix2 r (eighth x)) := by
    pointwise [k0_pay3]
    rfl
  rw [e, decay_block]

/-- A point's block of running sums, where the arguments are finite. -/
theorem running_block (hA : ∀ i, IsReal (logits m c i)) (hb : ∀ i, IsReal (biases m c i)) (r : Fin 512) (x : Fin 8) :
    (outsAt0 m c t.val t.isLt).2.1 (ix2 r x)
      = stretchSum (logits m c) (biases m c) x ((place t r).val / 2048) ((place t r).val % 2048 + 1) := by
  rw [stored3, kept_at, total_block m c t hA hb _ r x (held m c hA hb x t.val t.isLt)]
  have := r.isLt
  rw [show (place t r).val / 2048 = t.val / 4 by unfold place; dsimp only; omega,
    show (place t r).val % 2048 + 1 = 512 * (t.val % 4) + (r.val + 1) by unfold place; dsimp only; omega]

/-- The place in its array of the log-forget values' block. -/
theorem emb2 (r : Fin 512) (x : Fin 8) : (win0_2.blk t).view.emb (ix2 r x) = ix2 (place t r) x := by
  unfold place
  blk_ext [index2 t]

/-- The place in its array of the running sums' block. -/
theorem emb3 (r : Fin 512) (x : Fin 8) : (win0_3.blk t).view.emb (ix2 r x) = ix2 (place t r) x := by
  unfold place
  blk_ext [index3 t]

/-- The log-forget values as an array. -/
def forgetArray (A : Vec Ideal S8256x128 .f32) (b : Vec Ideal S8 .f32) : Vec Ideal S8192x8 .f32 := fun i => forgetOf A b (front (i 0)) (i 1)

/-- A running sum by its row. -/
def runningAt (A : Vec Ideal S8256x128 .f32) (b : Vec Ideal S8 .f32) (R : Fin 8192) (x : Fin 8) : EReal :=
  stretchSum A b x (R.val / 2048) (R.val % 2048 + 1)

/-- The running sums as an array. -/
def runningArray (A : Vec Ideal S8256x128 .f32) (b : Vec Ideal S8 .f32) : Vec Ideal S8192x8 .f32 := fun i => runningAt A b (i 0) (i 1)

/-- The log-forget values the kernel leaves. -/
theorem array2 : (dats m 0 c).arrAt 2 cfg0.N = forgetArray (logits m c) (biases m c) := by
  refine (dats m 0 c).arrAt_eq_of_covers 2 _ (by decide +kernel) fun t hf' y => ?_
  idx_vars y
  blk_simp [index2 t]
  rw [after0_2]
  rw [emb2]
  exact forget_block m c t y0 y1

/-- The running sums the kernel leaves, where the arguments are finite. -/
theorem array3 (hA : ∀ i, IsReal (logits m c i)) (hb : ∀ i, IsReal (biases m c i)) :
    (dats m 0 c).arrAt 3 cfg0.N = runningArray (logits m c) (biases m c) := by
  refine (dats m 0 c).arrAt_eq_of_covers 3 _ (by decide +kernel) fun t hf' y => ?_
  idx_vars y
  blk_simp [index3 t]
  rw [after0_3]
  rw [emb3]
  exact running_block m c t hA hb y0 y1

end Cert.DecayIdeal.Value

end
-- ==== Proof.DecayRef.lean ====
/-
  The reference of the log-forget values of the prompt read at an index (`forgets_at`, `running_at`).
-/
module

public import proofs.«01_k».proof.Proof.Gen.DecayReferenceIdeal.Run
public import proofs.«01_k».proof.Proof.DecaySpec

@[expose] public section

set_option maxRecDepth 16384

noncomputable section

open Idealize.ShloMosaic Idealize.ShloMosaic.TcCoe Idealize.SL.Sem

namespace Cert.DecayReferenceIdeal.Value

open Cert.DecayReferenceIdeal Cert.DecayReferenceIdeal.Gen Cert.Mat

/-- The opposite logits with their biases. -/
def opposite (A : FVec Ideal S8256x128 .f32) (b : FVec Ideal S8 .f32) : FVec Ideal S8192x8 .f32 :=
  Host.negf (addf (extractStridedSlice S8192x8 ![0, 0] A slices_S8256x128_S8192x8_0_0) (broadcastInDim S8192x8 ![0, 1] bcast_S1x8_S8192x8_0_1 (broadcastInDim S1x8 ![1] bcast_S8_S1x8_1 b)))

/-- Zeros. -/
def zeros : FVec Ideal S8192x8 .f32 := broadcastInDim S8192x8 ![] bcast_S_S8192x8 (constant S_ .f32 0x00000000#32)

/-- The log-forget values over the arguments. -/
def forgets (A : FVec Ideal S8256x128 .f32) (b : FVec Ideal S8 .f32) : FVec Ideal S8192x8 .f32 :=
  Host.negf (select (cmpf .une (subf (opposite A b) zeros) (subf (opposite A b) zeros)) (addf (opposite A b) zeros)
    (addf (maximumf (opposite A b) zeros) (Host.log1p (Host.exp (Host.negf (Host.absf (subf (opposite A b) zeros)))))))

/-- The opposite logits, read. -/
theorem opposite_at (A : FVec Ideal S8256x128 .f32) (b : FVec Ideal S8 .f32) (R : Fin 8192) (x : Fin 8) :
    opposite A b (ix2 R x) = -(A (ix2 (front R) (eighth x)) + b (ix1 x)) := by
  pointwise [opposite]
  rfl

/-- The log-forget values, read. -/
theorem forgets_at (A : FVec Ideal S8256x128 .f32) (b : FVec Ideal S8 .f32) (R : Fin 8192) (x : Fin 8) :
    forgets A b (ix2 R x) = forgetOf A b (front R) x := by
  unfold forgetOf decay
  rw [← opposite_at]
  pointwise [forgets, zeros]
  rw [if_neg (not_not.mpr rfl)]
  rfl

/-- The running sums of an array of log-forget values. -/
def sums (L : FVec Ideal S8192x8 .f32) : FVec Ideal S8192x8 .f32 :=
  shapeCast _ (Host.reduceAdd (select (broadcastInDim S4x2048x2048x8 ![0, 1, 2, 3] bcast_S1x2048x2048x1_S4x2048x2048x8_0_1_2_3 (broadcastInDim S1x2048x2048x1 ![1, 2] bcast_S2048x2048_S1x2048x2048x1_1_2 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))) (broadcastInDim S4x2048x2048x8 ![0, 1, 2, 3] bcast_S4x1x2048x8_S4x2048x2048x8_0_1_2_3 (shapeCast _ L shapeCasts_S8192x8_S4x1x2048x8)) (broadcastInDim S4x2048x2048x8 ![] bcast_S_S4x2048x2048x8 (id (constant S_ .f32 0x00000000#32)))) (constant S_ .f32 0x00000000#32) reducesTo_S4x2048x2048x8_S4x2048x8_d2 h_S_) shapeCasts_S4x2048x8_S8192x8

/-- The row at a position of a row's sequence. -/
def seat (R : Fin 8192) (k : Fin 2048) : Fin 8192 := ⟨R.val / 2048 * 2048 + k.val, by have := R.isLt; have := k.isLt; omega⟩

/-- The running sums, read. -/
theorem sums_at (L : FVec Ideal S8192x8 .f32) (R : Fin 8192) (x : Fin 8) :
    sums L (ix2 R x) = ∑ k : Fin 2048, if k.val ≤ R.val % 2048 then L (ix2 (seat R k) x) else 0 := by
  pointwise [sums]
  refine Finset.sum_congr rfl fun k _ => ?_
  refine (upto_long (R.val % 2048) k.val (by omega) (by have := k.isLt; omega) _ _).trans ?_
  have z : id (constant (F := Ideal) S_ .f32 0x00000000#32) ix0 = (0 : EReal) := by
    show (constant (F := Ideal) S_ .f32 0x00000000#32) ix0 = (0 : EReal)
    pointwise
  rw [z]
  rfl

/-- The running sums over the arguments, read. -/
theorem running_at (A : FVec Ideal S8256x128 .f32) (b : FVec Ideal S8 .f32) (R : Fin 8192) (x : Fin 8) :
    sums (forgets A b) (ix2 R x) = stretchSum A b x (R.val / 2048) (R.val % 2048 + 1) := by
  rw [sums_at]
  unfold stretchSum
  rw [← tile_sum 2048 (R.val % 2048) (by omega)]
  refine Finset.sum_congr rfl fun k _ => ?_
  rw [forgets_at, stretch_eq A b x (R.val / 2048) k.val (seat R k) (by unfold seat; dsimp only; omega)]

end Cert.DecayReferenceIdeal.Value

end
-- ==== Proof.DecayClaim.lean ====
/-
  The claims of the log-forget values of the prompt: the real program, the idealized one and the reference run and leave
  their arguments, and where these are finite the idealized program's results are the reference's.
-/
module

public import proofs.«01_k».proof.Defs
public import proofs.«01_k».proof.Proof.Gen.Decay
public import proofs.«01_k».proof.Proof.Gen.DecayIdeal
public import proofs.«01_k».proof.Proof.Gen.DecayReferenceIdeal
public import proofs.«01_k».proof.Proof.Gen.Decay.Frame
public import proofs.«01_k».proof.Proof.Gen.Pre_finite_logits
public import proofs.«01_k».proof.Proof.DecayValue
public import proofs.«01_k».proof.Proof.DecayRef
public import proofs.«01_k».proof.Proof.Finite
public import Idealize.ShloMosaic.Lib.ReduceAll
public import Idealize.ShloMosaic.Lib.Quiescent

@[expose] public section

noncomputable section

namespace Cert.Mat

open Idealize.ShloMosaic Idealize.ShloMosaic.TcCoe Idealize.SL.Sem

attribute [local instance] Cert.Decay.Gen.facts Cert.DecayIdeal.Gen.facts Cert.DecayReferenceIdeal.Gen.facts Cert.Pre_finite_logits.Gen.facts

/-- The real program of the prompt's log-forget values runs and leaves its arguments. -/
theorem decay_frame_real : Cert.quiescent_Decay := fun m g _ => Cert.Decay.Gen.frame m g

/-- The idealized program of the prompt's log-forget values runs and leaves its arguments. -/
theorem decay_frame_ideal : Cert.quiescent_DecayIdeal := fun m g _ => Cert.DecayIdeal.Gen.frame m g

/-- The idealized program of the prompt's log-forget values runs and leaves its arguments where these are finite. -/
theorem decay_frame_ideal_finite : Cert.quiescent_DecayIdeal_pre_finite_logits := fun m g _ => Cert.DecayIdeal.Gen.frame m g

/-- The reference of the prompt's log-forget values runs and leaves its arguments. -/
theorem decay_frame_reference : Cert.quiescent_DecayReferenceIdeal := fun m g _ =>
  (θ_run _ _ _).mono (fun r h => ⟨fun c => (h c).2.2, sem_eq_zero_of_no_sems rfl r.2⟩) (Cert.DecayReferenceIdeal.Value.run m g)

/-- The reference of the prompt's log-forget values runs and leaves its arguments where these are finite. -/
theorem decay_frame_reference_finite : Cert.quiescent_DecayReferenceIdeal_pre_finite_logits := fun m g _ =>
  (θ_run _ _ _).mono (fun r h => ⟨fun c => (h c).2.2, sem_eq_zero_of_no_sems rfl r.2⟩) (Cert.DecayReferenceIdeal.Value.run m g)

/-- Under the precondition the logits and the biases are real numbers. -/
theorem reals_of_finite_prompt (m : (ℓ : Loc Cert.DecayIdeal.nD Cert.DecayIdeal.τ Cert.DecayIdeal.sig) → Buf (Elt Ideal) ℓ)
    (h : Cert.Pre_DecayIdeal_finite_logits m) (c : Dev Cert.DecayIdeal.nD) :
    (∀ i, IsReal (Cert.DecayIdeal.Value.logits m c i)) ∧ ∀ i, IsReal (Cert.DecayIdeal.Value.biases m c i) := by
  have e := congrFun (h c) ix0
  obtain ⟨e1, e2⟩ := IntOp.andi_eq_one.mp e
  haveI : Subsingleton (Cert.Pre_finite_logits.S_ : Shape).Idx := ⟨fun a b => funext fun k => k.elim0⟩
  exact ⟨fun i => Cert.Attn.real_of_abs_lt _ (Host.reduce_andi_all _ _ _ _ _ e1 i),
    fun i => Cert.Attn.real_of_abs_lt _ (Host.reduce_andi_all _ _ _ _ _ e2 i)⟩

/-- Where the arguments are finite, the kernel's log-forget values of the prompt and running sums are its reference's. -/
theorem decay_algebraic : Cert.algebraic_DecayIdeal_DecayReferenceIdeal_pre_finite_logits := by
  pair_intro
  · run_from Cert.DecayIdeal.Value.run_blocks m g
  · run_from Cert.DecayReferenceIdeal.Value.run m' g'
    · refine Eq.trans ?_ (Cert.DecayIdeal.Value.array2 m c).symm
      refine funext fun (y : Cert.DecayReferenceIdeal.S8192x8.Idx) => ?_
      idx_vars y
      exact Cert.DecayReferenceIdeal.Value.forgets_at _ _ y0 y1
    · obtain ⟨r0, r1⟩ := reals_of_finite_prompt m hpre c
      refine Eq.trans ?_ (Cert.DecayIdeal.Value.array3 m c r0 r1).symm
      refine funext fun (y : Cert.DecayReferenceIdeal.S8192x8.Idx) => ?_
      idx_vars y
      exact Cert.DecayReferenceIdeal.Value.running_at _ _ y0 y1

end Cert.Mat

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Value
public import proofs.«01_k».proof.Proof.Ref
public import proofs.«01_k».proof.Proof.Finite
public import proofs.«01_k».proof.Proof.Gen.Up
public import proofs.«01_k».proof.Proof.Gen.Up.Skeleton
public import proofs.«01_k».proof.Proof.Gen.Up.Launch
public import proofs.«01_k».proof.Proof.Gen.Up.Flash.Runs
public import proofs.«01_k».proof.Proof.Gen.UpIdeal.Skeleton
public import proofs.«01_k».proof.Proof.Gen.UpIdeal.Launch
public import proofs.«01_k».proof.Proof.Gen.UpIdeal.Flash.Runs
public import proofs.«01_k».proof.Proof.Gen.UpReferenceIdeal.Run
public import proofs.«01_k».proof.Proof.Gen.Pre_up_experts
public import proofs.«01_k».proof.Proof.Gen.UpIdeal
public import proofs.«01_k».proof.Proof.Gen.UpReferenceIdeal
public import proofs.«01_k».proof.Proof.UpClaim
public import proofs.«01_k».proof.Proof.DownClaim
public import proofs.«01_k».proof.Proof.MatClaim
public import proofs.«01_k».proof.Proof.RiseClaim
public import proofs.«01_k».proof.Proof.NormClaim
public import proofs.«01_k».proof.Proof.SmallClaim
public import proofs.«01_k».proof.Proof.ForgetClaim
public import proofs.«01_k».proof.Proof.DecayClaim
public import proofs.«01_k».proof.Proof.Gen.Down
public import proofs.«01_k».proof.Proof.Gen.Down.Skeleton
public import proofs.«01_k».proof.Proof.Gen.Down.Launch
public import proofs.«01_k».proof.Proof.Gen.Down.Flash.Runs
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Flash.Runs
public import proofs.«01_k».proof.Proof.Gen.DownReferenceIdeal
public import proofs.«01_k».proof.Proof.Gen.DownReferenceIdeal.Run
public import proofs.«01_k».proof.Proof.Gen.Pre_down_experts
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.Mixed
public import proofs.«01_k».proof.Proof.Gen.Mixed.Skeleton
public import proofs.«01_k».proof.Proof.Gen.Mixed.Launch
public import proofs.«01_k».proof.Proof.Gen.Mixed.Points
public import proofs.«01_k».proof.Proof.Gen.Mixed.Frame
public import proofs.«01_k».proof.Proof.Gen.MixedIdeal
public import proofs.«01_k».proof.Proof.Gen.MixedIdeal.Skeleton
public import proofs.«01_k».proof.Proof.Gen.MixedIdeal.Launch
public import proofs.«01_k».proof.Proof.Gen.MixedIdeal.Points
public import proofs.«01_k».proof.Proof.Gen.MixedIdeal.Frame
public import proofs.«01_k».proof.Proof.Gen.MixedIdeal.Value
public import proofs.«01_k».proof.Proof.Gen.MixedReferenceIdeal
public import proofs.«01_k».proof.Proof.Gen.MixedReferenceIdeal.Run
public import proofs.«01_k».proof.Proof.Gen.Fall
public import proofs.«01_k».proof.Proof.Gen.Fall.Skeleton
public import proofs.«01_k».proof.Proof.Gen.Fall.Launch
public import proofs.«01_k».proof.Proof.Gen.Fall.Points
public import proofs.«01_k».proof.Proof.Gen.Fall.Frame
public import proofs.«01_k».proof.Proof.Gen.FallIdeal
public import proofs.«01_k».proof.Proof.Gen.FallIdeal.Skeleton
public import proofs.«01_k».proof.Proof.Gen.FallIdeal.Launch
public import proofs.«01_k».proof.Proof.Gen.FallIdeal.Points
public import proofs.«01_k».proof.Proof.Gen.FallIdeal.Frame
public import proofs.«01_k».proof.Proof.Gen.FallIdeal.Value
public import proofs.«01_k».proof.Proof.Gen.FallReferenceIdeal
public import proofs.«01_k».proof.Proof.Gen.FallReferenceIdeal.Run
public import proofs.«01_k».proof.Proof.Gen.Rise
public import proofs.«01_k».proof.Proof.Gen.Rise.Skeleton
public import proofs.«01_k».proof.Proof.Gen.Rise.Launch
public import proofs.«01_k».proof.Proof.Gen.Rise.Points
public import proofs.«01_k».proof.Proof.Gen.Rise.Frame
public import proofs.«01_k».proof.Proof.Gen.RiseIdeal
public import proofs.«01_k».proof.Proof.Gen.RiseIdeal.Skeleton
public import proofs.«01_k».proof.Proof.Gen.RiseIdeal.Launch
public import proofs.«01_k».proof.Proof.Gen.RiseIdeal.Points
public import proofs.«01_k».proof.Proof.Gen.RiseIdeal.Frame
public import proofs.«01_k».proof.Proof.Gen.RiseReferenceIdeal
public import proofs.«01_k».proof.Proof.Gen.RiseReferenceIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.TailReferenceIdeal
public import proofs.«01_k».proof.Proof.Gen.TailReferenceIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallIdeal.Value
public import proofs.«01_k».proof.Proof.Gen.SmallReferenceIdeal
public import proofs.«01_k».proof.Proof.Gen.SmallReferenceIdeal.Run
public import proofs.«01_k».proof.Proof.Gen.Pre_finite_norm
public import proofs.«01_k».proof.Proof.Gen.Forget
public import proofs.«01_k».proof.Proof.Gen.Forget.Skeleton
public import proofs.«01_k».proof.Proof.Gen.Forget.Launch
public import proofs.«01_k».proof.Proof.Gen.Forget.Points
public import proofs.«01_k».proof.Proof.Gen.Forget.Frame
public import proofs.«01_k».proof.Proof.Gen.ForgetIdeal
public import proofs.«01_k».proof.Proof.Gen.ForgetIdeal.Skeleton
public import proofs.«01_k».proof.Proof.Gen.ForgetIdeal.Launch
public import proofs.«01_k».proof.Proof.Gen.ForgetIdeal.Points
public import proofs.«01_k».proof.Proof.Gen.ForgetIdeal.Frame
public import proofs.«01_k».proof.Proof.Gen.ForgetIdeal.Value
public import proofs.«01_k».proof.Proof.Gen.ForgetReferenceIdeal
public import proofs.«01_k».proof.Proof.Gen.ForgetReferenceIdeal.Run
public import proofs.«01_k».proof.Proof.Gen.Pre_finite_logits
public import proofs.«01_k».proof.Proof.Gen.Decay
public import proofs.«01_k».proof.Proof.Gen.Decay.Skeleton
public import proofs.«01_k».proof.Proof.Gen.Decay.Launch
public import proofs.«01_k».proof.Proof.Gen.Decay.Points
public import proofs.«01_k».proof.Proof.Gen.Decay.Frame
public import proofs.«01_k».proof.Proof.Gen.DecayIdeal
public import proofs.«01_k».proof.Proof.Gen.DecayIdeal.Skeleton
public import proofs.«01_k».proof.Proof.Gen.DecayIdeal.Launch
public import proofs.«01_k».proof.Proof.Gen.DecayIdeal.Points
public import proofs.«01_k».proof.Proof.Gen.DecayIdeal.Frame
public import proofs.«01_k».proof.Proof.Gen.DecayIdeal.Value
public import proofs.«01_k».proof.Proof.Gen.DecayReferenceIdeal
public import proofs.«01_k».proof.Proof.Gen.DecayReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_finite.Gen.facts

/-- The reference's result is the attention of the kernel's arguments. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = Cert.KernelIdeal.Value.queries m c)
    (h1 : m' ((c.tc : Thread Cert.ReferenceIdeal.nD Cert.ReferenceIdeal.τ).loc Cert.ReferenceIdeal.main_arg1) = Cert.KernelIdeal.Value.keys m c)
    (h2 : m' ((c.tc : Thread Cert.ReferenceIdeal.nD Cert.ReferenceIdeal.τ).loc Cert.ReferenceIdeal.main_arg2) = Cert.KernelIdeal.Value.values m c)
    (h3 : m' ((c.tc : Thread Cert.ReferenceIdeal.nD Cert.ReferenceIdeal.τ).loc Cert.ReferenceIdeal.main_arg3) = Cert.KernelIdeal.Value.forgets m c) :
    Cert.ReferenceIdeal.Value.res_main_v38 m' c = Cert.KernelIdeal.Value.attnArray (Cert.KernelIdeal.Value.queries m c)
      (Cert.KernelIdeal.Value.keys m c) (Cert.KernelIdeal.Value.values m c) (Cert.KernelIdeal.Value.forgets m c) := by
  funext i
  obtain ⟨b, h, p, d, rfl⟩ := Cert.KernelIdeal.Value.wide_cases i
  refine (Cert.ReferenceIdeal.Value.res_at m' c b h p d).trans ?_
  rw [h0, h1, h2, h3]
  exact (Cert.KernelIdeal.Value.attnArray_at _ _ _ _ b h p d).symm

/-- The kernel's result and the reference's are the attention of the same arguments. -/
theorem algebraic : Cert.algebraic_KernelIdeal_ReferenceIdeal_pre_finite := by
  pair_intro
  · run_from Cert.KernelIdeal.Value.run_blocks m g
  · run_from Cert.ReferenceIdeal.Value.run m' g'
    obtain ⟨r0, r1, r3⟩ := Cert.Attn.real_of_finite m hpre c
    exact (reference_eq m m' c (hagree c).1 (hagree c).2.1 (hagree c).2.2.1 (hagree c).2.2.2).trans
      (Cert.KernelIdeal.Value.array_eq m c (Cert.Attn.scores_of_real r0 r1 r3)).symm

/-- The reference runs and leaves its arguments. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems rfl r.2⟩) (Cert.ReferenceIdeal.Value.run m g)

theorem claim : Cert.Claim := ⟨Cert.Kernel.Gen.facts, Cert.KernelIdeal.Gen.facts, Cert.ReferenceIdeal.Gen.facts, Cert.Up.Gen.facts,
    Cert.UpIdeal.Gen.facts, Cert.UpReferenceIdeal.Gen.facts, Cert.Down.Gen.facts, Cert.DownIdeal.Gen.facts, Cert.DownReferenceIdeal.Gen.facts,
    Cert.In.Gen.facts, Cert.InIdeal.Gen.facts, Cert.InReferenceIdeal.Gen.facts, Cert.Mixed.Gen.facts, Cert.MixedIdeal.Gen.facts,
    Cert.MixedReferenceIdeal.Gen.facts, Cert.Fall.Gen.facts, Cert.FallIdeal.Gen.facts, Cert.FallReferenceIdeal.Gen.facts,
    Cert.Rise.Gen.facts, Cert.RiseIdeal.Gen.facts, Cert.RiseReferenceIdeal.Gen.facts,
    Cert.Norm.Gen.facts, Cert.NormIdeal.Gen.facts, Cert.NormReferenceIdeal.Gen.facts,
    Cert.Prep.Gen.facts, Cert.PrepIdeal.Gen.facts, Cert.PrepReferenceIdeal.Gen.facts,
    Cert.Tail.Gen.facts, Cert.TailIdeal.Gen.facts, Cert.TailReferenceIdeal.Gen.facts,
    Cert.Small.Gen.facts, Cert.SmallIdeal.Gen.facts, Cert.SmallReferenceIdeal.Gen.facts,
    Cert.Forget.Gen.facts, Cert.ForgetIdeal.Gen.facts, Cert.ForgetReferenceIdeal.Gen.facts,
    Cert.Decay.Gen.facts, Cert.DecayIdeal.Gen.facts, Cert.DecayReferenceIdeal.Gen.facts,
    Cert.Pre_finite.Gen.facts, Cert.Pre_up_experts.Gen.facts, Cert.Pre_down_experts.Gen.facts, Cert.Pre_finite_norm.Gen.facts,
    Cert.Pre_finite_logits.Gen.facts, by
  refine ⟨?_, ?_, ?_, ?_, ?_, Cert.Moe.frame_real, Cert.Moe.frame_ideal, Cert.Moe.frame_reference,
    Cert.Moe.down_frame_real, Cert.Moe.down_frame_ideal, Cert.Moe.down_frame_reference,
    Cert.Mat.input_frame_real, Cert.Mat.input_frame_ideal, Cert.Mat.input_frame_reference,
    Cert.Mat.mixed_frame_real, Cert.Mat.mixed_frame_ideal, Cert.Mat.mixed_frame_reference,
    Cert.Mat.fall_frame_real, Cert.Mat.fall_frame_ideal, Cert.Mat.fall_frame_reference,
    Cert.Mat.rise_frame_real, Cert.Mat.rise_frame_ideal, Cert.Mat.rise_frame_reference,
    Cert.Mat.norm_frame_real, Cert.Mat.norm_frame_ideal, Cert.Mat.norm_frame_reference,
    Cert.Mat.prep_frame_real, Cert.Mat.prep_frame_ideal, Cert.Mat.prep_frame_reference,
    Cert.Mat.tail_frame_real, Cert.Mat.tail_frame_ideal, Cert.Mat.tail_frame_reference,
    Cert.Mat.small_frame_real, Cert.Mat.small_frame_ideal, Cert.Mat.small_frame_ideal_finite,
    Cert.Mat.small_frame_reference, Cert.Mat.small_frame_reference_finite,
    Cert.Mat.forget_frame_real, Cert.Mat.forget_frame_ideal, Cert.Mat.forget_frame_ideal_finite,
    Cert.Mat.forget_frame_reference, Cert.Mat.forget_frame_reference_finite,
    Cert.Mat.decay_frame_real, Cert.Mat.decay_frame_ideal, Cert.Mat.decay_frame_ideal_finite,
    Cert.Mat.decay_frame_reference, Cert.Mat.decay_frame_reference_finite,
    ?_, algebraic, ?_, Cert.Moe.algebraic, ?_, Cert.Moe.down_algebraic,
    ?_, Cert.Mat.input_algebraic, ?_, Cert.Mat.mixed_algebraic, ?_, Cert.Mat.fall_algebraic, ?_, Cert.Mat.rise_algebraic,
    ?_, Cert.Mat.norm_algebraic, ?_, Cert.Mat.prep_algebraic, ?_, Cert.Mat.tail_algebraic, ?_, Cert.Mat.small_algebraic,
    ?_, Cert.Mat.forget_algebraic, ?_, Cert.Mat.decay_algebraic⟩
  · intro m g _; exact Cert.Kernel.Gen.frame m g
  · intro m g _; exact Cert.KernelIdeal.Gen.frame m g
  · intro m g _; exact Cert.KernelIdeal.Gen.frame m g
  · intro m g _; exact reference_frame m g
  · intro m g _; exact reference_frame m g
  all_goals trivial⟩

end Cert.Proof

end
